-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_scores [hPre_finite_scores : Cert.Pre_finite_scores.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_scores.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_scores [hPre_finite_scores : Cert.Pre_finite_scores.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_scores.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_scores [hKernel11Ideal : Cert.Kernel11Ideal.Facts] [hPre_finite_scores : Cert.Pre_finite_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_scores m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_scores [hReference11Ideal : Cert.Reference11Ideal.Facts] [hPre_finite_scores : Cert.Pre_finite_scores.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_scores m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v82) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v16)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v16)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v16) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v16)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v16) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "mask" .f32 0xF149F2CA#32 ⊥

def algebraic_Kernel11Ideal_Reference11Ideal_pre_finite_scores [hKernel11Ideal : Cert.Kernel11Ideal.Facts] [hReference11Ideal : Cert.Reference11Ideal.Facts] [hPre_finite_scores : Cert.Pre_finite_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_scores m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v62) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v16)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v16) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v12)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v12) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v12)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v12) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)) (v2 : (c : Dev Cert.Kernel18Ideal.nD) → Buf (Elt Ideal) ((c.tc : Thread Cert.Kernel18Ideal.nD Cert.Kernel18Ideal.τ).loc Cert.Kernel18Ideal.main_v2_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_v2_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_v29) = v1 c
          ∧ r.2.mem ((c.tc : Thread Cert.Reference18Ideal.nD Cert.Reference18Ideal.τ).loc Cert.Reference18Ideal.main_v30) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v40_0)) (v1 : (c : Dev Cert.Kernel22Ideal.nD) → Buf (Elt Ideal) ((c.tc : Thread Cert.Kernel22Ideal.nD Cert.Kernel22Ideal.τ).loc Cert.Kernel22Ideal.main_v40_1)) (v2 : (c : Dev Cert.Kernel22Ideal.nD) → Buf (Elt Ideal) ((c.tc : Thread Cert.Kernel22Ideal.nD Cert.Kernel22Ideal.τ).loc Cert.Kernel22Ideal.main_v40_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v40_0) = v0 c
          ∧ r.2.mem ((c.tc : Thread Cert.Kernel22Ideal.nD Cert.Kernel22Ideal.τ).loc Cert.Kernel22Ideal.main_v40_1) = v1 c
          ∧ r.2.mem ((c.tc : Thread Cert.Kernel22Ideal.nD Cert.Kernel22Ideal.τ).loc Cert.Kernel22Ideal.main_v40_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v97) = v0 c
          ∧ r.2.mem ((c.tc : Thread Cert.Reference22Ideal.nD Cert.Reference22Ideal.τ).loc Cert.Reference22Ideal.main_v99) = v1 c
          ∧ r.2.mem ((c.tc : Thread Cert.Reference22Ideal.nD Cert.Reference22Ideal.τ).loc Cert.Reference22Ideal.main_v101) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v40_0)) (v1 : (c : Dev Cert.Kernel23Ideal.nD) → Buf (Elt Ideal) ((c.tc : Thread Cert.Kernel23Ideal.nD Cert.Kernel23Ideal.τ).loc Cert.Kernel23Ideal.main_v40_1)) (v2 : (c : Dev Cert.Kernel23Ideal.nD) → Buf (Elt Ideal) ((c.tc : Thread Cert.Kernel23Ideal.nD Cert.Kernel23Ideal.τ).loc Cert.Kernel23Ideal.main_v40_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v40_0) = v0 c
          ∧ r.2.mem ((c.tc : Thread Cert.Kernel23Ideal.nD Cert.Kernel23Ideal.τ).loc Cert.Kernel23Ideal.main_v40_1) = v1 c
          ∧ r.2.mem ((c.tc : Thread Cert.Kernel23Ideal.nD Cert.Kernel23Ideal.τ).loc Cert.Kernel23Ideal.main_v40_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v101) = v0 c
          ∧ r.2.mem ((c.tc : Thread Cert.Reference23Ideal.nD Cert.Reference23Ideal.τ).loc Cert.Reference23Ideal.main_v103) = v1 c
          ∧ r.2.mem ((c.tc : Thread Cert.Reference23Ideal.nD Cert.Reference23Ideal.τ).loc Cert.Reference23Ideal.main_v105) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_scores (hKernel11Ideal := hKernel11Ideal) (hPre_finite_scores := hPre_finite_scores)
    ∧ quiescent_Reference11Ideal (hReference11Ideal := hReference11Ideal)
    ∧ quiescent_Reference11Ideal_pre_finite_scores (hReference11Ideal := hReference11Ideal) (hPre_finite_scores := hPre_finite_scores)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_scores (hKernel11Ideal := hKernel11Ideal) (hReference11Ideal := hReference11Ideal) (hPre_finite_scores := hPre_finite_scores)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite_scores.lean ====
abbrev S16384x2048 : Shape := ⟨2, ![16384, 2048]⟩
abbrev S16384x1024 : Shape := ⟨2, ![16384, 1024]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .bf16) (main_arg1 : FVec F S16384x2048 .bf16) (main_arg2 : FVec F S16384x1024 .bf16) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  main_v10
-- ==== Kernel.lean ====
abbrev S16384x3072 : Shape := ⟨2, ![16384, 3072]⟩
abbrev S256x128 : Shape := ⟨2, ![256, 128]⟩
abbrev S32x512x3072 : Shape := ⟨3, ![32, 512, 3072]⟩
abbrev S16384x1024 : Shape := ⟨2, ![16384, 1024]⟩
abbrev S512x128 : Shape := ⟨2, ![512, 128]⟩
abbrev S32x512x128 : Shape := ⟨3, ![32, 512, 128]⟩
abbrev S512x1 : Shape := ⟨2, ![512, 1]⟩
abbrev S1x512x128 : Shape := ⟨3, ![1, 512, 128]⟩
abbrev S512x512 : Shape := ⟨2, ![512, 512]⟩
abbrev S512x256 : Shape := ⟨2, ![512, 256]⟩

abbrev nBuf : Space → Nat
  | .hbm => 4
  | .vmem => 11
  | .smem => 0
  | _ => 0

abbrev bufTy : (tb : Table) → Fin (tcTables nBuf tb) → BufTy
  | .hbm, ⟨0, _⟩ => ⟨S16384x3072, .bf16⟩
  | .hbm, ⟨1, _⟩ => ⟨S256x128, .bf16⟩
  | .hbm, ⟨2, _⟩ => ⟨S32x512x3072, .bf16⟩
  | .hbm, ⟨3, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S32x512x128, .bf16⟩
  | .local _ .vmem, ⟨3, _⟩ => ⟨S32x512x128, .bf16⟩
  | .local _ .vmem, ⟨4, _⟩ => ⟨S32x512x128, .bf16⟩
  | .local _ .vmem, ⟨5, _⟩ => ⟨S32x512x128, .bf16⟩
  | .local _ .vmem, ⟨6, _⟩ => ⟨S256x128, .bf16⟩
  | .local _ .vmem, ⟨7, _⟩ => ⟨S512x128, .bf16⟩
  | .local _ .vmem, ⟨8, _⟩ => ⟨S512x128, .bf16⟩
  | .local _ .vmem, ⟨9, _⟩ => ⟨S512x1, .f32⟩
  | .local _ .vmem, ⟨10, _⟩ => ⟨S512x128, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_off1 (i : grid0.Coords) : Fin 3 → Nat :=
  let arg1 : BitVec 32 := BitVec.ofNat 32 (i 1).val
  let v12 : Index := Scalar.indexCast arg1
  let c0_8 : Index := 0#32
  let c0_9 : Index := 0#32
  ![v12.toNat, 0, 0]
@[reducible] def k0_t1_loop (i : grid0.Coords) : Scf.Loop 32 :=
  let c0_i32_56 : BitVec 32 := 0#32
  let arg1 : BitVec 32 := BitVec.ofNat 32 (i 1).val
  let v168 : BitVec 32 := Scalar.subi arg1 c0_i32_56
  let c1_i32 : BitVec 32 := 1#32
  let v170 : BitVec 32 := Scalar.divsi v168 c1_i32
  let v171 : BitVec 32 := Scalar.muli v170 c1_i32
  let v172 : BitVec 32 := Scalar.addi c0_i32_56 v171
  let c1_i32_57 : BitVec 32 := 1#32
  ⟨c0_i32_56, v172, c1_i32_57⟩
def k0_off2 (i : grid0.Coords) (k0_t1 : Fin (k0_t1_loop i).trips) : Fin 3 → Nat :=
  let arg1 : BitVec 32 := BitVec.ofNat 32 (i 1).val
  let c1_i32_63 : BitVec 32 := 1#32
  let v176 : BitVec 32 := Scalar.subi arg1 c1_i32_63
  let c0_i32_56 : BitVec 32 := 0#32
  let c1_i32_57 : BitVec 32 := 1#32
  let arg9 : BitVec 32 := Scf.iv c0_i32_56 c1_i32_57 k0_t1
  let v177 : BitVec 32 := Scalar.subi v176 arg9
  let v178 : Index := Scalar.indexCast v177
  let c0_64 : Index := 0#32
  let c0_65 : Index := 0#32
  ![v178.toNat, 0, 0]
@[reducible] def k0_t2_loop (i : grid0.Coords) : Scf.Loop 32 :=
  let c0_i32_56 : BitVec 32 := 0#32
  let arg1 : BitVec 32 := BitVec.ofNat 32 (i 1).val
  let v168 : BitVec 32 := Scalar.subi arg1 c0_i32_56
  let c1_i32 : BitVec 32 := 1#32
  let v170 : BitVec 32 := Scalar.divsi v168 c1_i32
  let v171 : BitVec 32 := Scalar.muli v170 c1_i32
  let v172 : BitVec 32 := Scalar.addi c0_i32_56 v171
  let v169 : BitVec 32 := Scalar.addi c0_i32_56 v168
  let c1_i32_58 : BitVec 32 := 1#32
  ⟨v172, v169, c1_i32_58⟩
def k0_off3 (i : grid0.Coords) (k0_t2 : Fin (k0_t2_loop i).trips) : Fin 3 → Nat :=
  let arg1 : BitVec 32 := BitVec.ofNat 32 (i 1).val
  let c1_i32_63 : BitVec 32 := 1#32
  let v176 : BitVec 32 := Scalar.subi arg1 c1_i32_63
  let c0_i32_56 : BitVec 32 := 0#32
  let v168 : BitVec 32 := Scalar.subi arg1 c0_i32_56
  let c1_i32 : BitVec 32 := 1#32
  let v170 : BitVec 32 := Scalar.divsi v168 c1_i32
  let v171 : BitVec 32 := Scalar.muli v170 c1_i32
  let v172 : BitVec 32 := Scalar.addi c0_i32_56 v171
  let c1_i32_58 : BitVec 32 := 1#32
  let arg9 : BitVec 32 := Scf.iv v172 c1_i32_58 k0_t2
  let v177 : BitVec 32 := Scalar.subi v176 arg9
  let v178 : Index := Scalar.indexCast v177
  let c0_64 : Index := 0#32
  let c0_65 : Index := 0#32
  ![v178.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x3072 : Shape := ⟨2, ![16384, 3072]⟩
abbrev S16384x1024 : Shape := ⟨2, ![16384, 1024]⟩
abbrev S1x16384x8x128 : Shape := ⟨4, ![1, 16384, 8, 128]⟩
abbrev S16384 : Shape := ⟨1, ![16384]⟩
abbrev S1x8x16384x16384 : Shape := ⟨4, ![1, 8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S1x8x128x16384 : Shape := ⟨4, ![1, 8, 128, 16384]⟩

abbrev nBuf : Space → Nat
  | .hbm => 61
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S1x16384x8x128, .f32⟩
  | .hbm, ⟨6, _⟩ => ⟨S16384x1024, .f32⟩
  | .hbm, ⟨7, _⟩ => ⟨S1x16384x8x128, .f32⟩
  | .hbm, ⟨8, _⟩ => ⟨S16384x1024, .f32⟩
  | .hbm, ⟨9, _⟩ => ⟨S1x16384x8x128, .f32⟩
  | .hbm, ⟨10, _⟩ => ⟨S16384, .i32⟩
  | .hbm, ⟨11, _⟩ => ⟨S1x8x16384x16384, .f32⟩
  | .hbm, ⟨12, _⟩ => ⟨S_, .f32⟩
  | .hbm, ⟨13, _⟩ => ⟨S1x8x16384x16384, .f32⟩
  | .hbm, ⟨14, _⟩ => ⟨S1x8x16384x16384, .f32⟩
  | .hbm, ⟨15, _⟩ => ⟨S1x16384, .i32⟩
  | .hbm, ⟨16, _⟩ => ⟨S16384x1, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S1x8x16384x16384, .f32⟩
  | .hbm, ⟨21, _⟩ => ⟨S1x8x16384x16384, .f32⟩
  | .hbm, ⟨22, _⟩ => ⟨S_, .f32⟩
  | .hbm, ⟨23, _⟩ => ⟨S1x8x16384x16384, .f32⟩
  | .hbm, ⟨24, _⟩ => ⟨S1x8x16384x16384, .f32⟩
  | .hbm, ⟨25, _⟩ => ⟨S1x8x16384x16384, .f32⟩
  | .hbm, ⟨26, _⟩ => ⟨S1x8x16384x16384, .f32⟩
  | .hbm, ⟨27, _⟩ => ⟨S1x8x16384x16384, .i1⟩
  | .hbm, ⟨28, _⟩ => ⟨S1x8x16384x16384, .f32⟩
  | .hbm, ⟨29, _⟩ => ⟨S1x8x16384x16384, .f32⟩
  | .hbm, ⟨30, _⟩ => ⟨S1x8x16384x16384, .f32⟩
  | .hbm, ⟨31, _⟩ => ⟨S1x8x16384x16384, .f32⟩
  | .hbm, ⟨32, _⟩ => ⟨S1x8x16384x16384, .f32⟩
  | .hbm, ⟨33, _⟩ => ⟨S1x8x16384x16384, .f32⟩
  | .hbm, ⟨34, _⟩ => ⟨S1x8x16384x16384, .f32⟩
  | .hbm, ⟨35, _⟩ => ⟨S1x8x16384x16384, .f32⟩
  | .hbm, ⟨36, _⟩ => ⟨S1x8x16384x16384, .f32⟩
  | .hbm, ⟨37, _⟩ => ⟨S_, .f32⟩
  | .hbm, ⟨38, _⟩ => ⟨S_, .f32⟩
  | .hbm, ⟨39, _⟩ => ⟨S1x8x16384x16384, .i1⟩
  | .hbm, ⟨40, _⟩ => ⟨S1x8x16384x16384, .f32⟩
  | .hbm, ⟨41, _⟩ => ⟨S1x8x16384x16384, .f32⟩
  | .hbm, ⟨42, _⟩ => ⟨S_, .f32⟩
  | .hbm, ⟨43, _⟩ => ⟨S_, .f32⟩
  | .hbm, ⟨44, _⟩ => ⟨S1x8x16384x16384, .f32⟩
  | .hbm, ⟨45, _⟩ => ⟨S1x8x16384x16384, .f32⟩
  | .hbm, ⟨46, _⟩ => ⟨S_, .f32⟩
  | .hbm, ⟨47, _⟩ => ⟨S1x8x16384x16384, .f32⟩
  | .hbm, ⟨48, _⟩ => ⟨S1x8x16384x16384, .f32⟩
  | .hbm, ⟨49, _⟩ => ⟨S1x8x16384x16384, .f32⟩
  | .hbm, ⟨50, _⟩ => ⟨S_, .f32⟩
  | .hbm, ⟨51, _⟩ => ⟨S_, .f32⟩
  | .hbm, ⟨52, _⟩ => ⟨S1x8x16384x16384, .i1⟩
  | .hbm, ⟨53, _⟩ => ⟨S1x8x16384x16384, .f32⟩
  | .hbm, ⟨54, _⟩ => ⟨S1x8x16384x16384, .f32⟩
  | .hbm, ⟨55, _⟩ => ⟨S1x8x16384x16384, .bf16⟩
  | .hbm, ⟨56, _⟩ => ⟨S1x8x16384x16384, .f32⟩
  | .hbm, ⟨57, _⟩ => ⟨S1x8x128x16384, .f32⟩
  | .hbm, ⟨58, _⟩ => ⟨S1x16384x8x128, .f32⟩
  | .hbm, ⟨59, _⟩ => ⟨S16384x1024, .f32⟩
  | .hbm, ⟨60, _⟩ => ⟨S16384x1024, .bf16⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_call2_cst : Ref sig .tc := ⟨.hbm, 42, rfl⟩
abbrev main_call2_v0 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_call3_v0 : Ref sig .tc := ⟨.hbm, 51, rfl⟩
abbrev main_call3_v1 : Ref sig .tc := ⟨.hbm, 52, rfl⟩
abbrev main_call3_v2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]
-- ==== Kernel2.lean ====
abbrev S16384x4096 : Shape := ⟨2, ![16384, 4096]⟩
abbrev S1x4096x14336 : Shape := ⟨3, ![1, 4096, 14336]⟩
abbrev S16384x14336 : Shape := ⟨2, ![16384, 14336]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x14336, .f32⟩
  | .hbm, ⟨2, _⟩ => ⟨S1x4096x14336, .f32⟩
  | .hbm, ⟨3, _⟩ => ⟨S1x4096x14336, .bf16⟩
  | .hbm, ⟨4, _⟩ => ⟨S1x4096x14336, .bf16⟩
  | .hbm, ⟨5, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .bf16⟩
  | .local _ .vmem, ⟨7, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.divsi arg1 c28_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg1 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.divsi arg1 c28_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg1 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S1x4096x14336 : Shape := ⟨3, ![1, 4096, 14336]⟩
abbrev S4096x14336 : Shape := ⟨2, ![4096, 14336]⟩
abbrev S16384x14336 : Shape := ⟨2, ![16384, 14336]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x14336, .f32⟩
  | .hbm, ⟨2, _⟩ => ⟨S1x4096x14336, .f32⟩
  | .hbm, ⟨3, _⟩ => ⟨S16384x4096, .f32⟩
  | .hbm, ⟨4, _⟩ => ⟨S4096x14336, .f32⟩
  | .hbm, ⟨5, _⟩ => ⟨S16384x14336, .f32⟩
  | .hbm, ⟨6, _⟩ => ⟨S16384x14336, .f32⟩
  | .hbm, ⟨7, _⟩ => ⟨S16384x14336, .f32⟩
  | .hbm, ⟨8, _⟩ => ⟨S_, .f32⟩
  | .hbm, ⟨9, _⟩ => ⟨S16384x14336, .f32⟩
  | .hbm, ⟨10, _⟩ => ⟨S16384x14336, .f32⟩
  | .hbm, ⟨11, _⟩ => ⟨S_, .f32⟩
  | .hbm, ⟨12, _⟩ => ⟨S16384x14336, .f32⟩
  | .hbm, ⟨13, _⟩ => ⟨S16384x14336, .f32⟩
  | .hbm, ⟨14, _⟩ => ⟨S16384x14336, .f32⟩
  | .hbm, ⟨15, _⟩ => ⟨S4096x14336, .f32⟩
  | .hbm, ⟨16, _⟩ => ⟨S16384x14336, .f32⟩
  | .hbm, ⟨17, _⟩ => ⟨S16384x14336, .f32⟩
  | .hbm, ⟨18, _⟩ => ⟨S16384x14336, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel3.lean ====
abbrev S16384x4096 : Shape := ⟨2, ![16384, 4096]⟩
abbrev S8x4096x1792 : Shape := ⟨3, ![8, 4096, 1792]⟩
abbrev S16384x128 : Shape := ⟨2, ![16384, 128]⟩
abbrev S16384x14336 : Shape := ⟨2, ![16384, 14336]⟩
abbrev S1024x4096 : Shape := ⟨2, ![1024, 4096]⟩
abbrev S1x4096x256 : Shape := ⟨3, ![1, 4096, 256]⟩
abbrev S1024x128 : Shape := ⟨2, ![1024, 128]⟩
abbrev S1024x256 : Shape := ⟨2, ![1024, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S8x4096x1792, .f32⟩
  | .hbm, ⟨2, _⟩ => ⟨S8x4096x1792, .f32⟩
  | .hbm, ⟨3, _⟩ => ⟨S16384x128, .f32⟩
  | .hbm, ⟨4, _⟩ => ⟨S8x4096x1792, .bf16⟩
  | .hbm, ⟨5, _⟩ => ⟨S8x4096x1792, .bf16⟩
  | .hbm, ⟨6, _⟩ => ⟨S16384x14336, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1024x128, .f32⟩
  | .local _ .vmem, ⟨7, _⟩ => ⟨S1024x128, .f32⟩
  | .local _ .vmem, ⟨8, _⟩ => ⟨S1024x256, .bf16⟩
  | .local _ .vmem, ⟨9, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16384x4096 : Shape := ⟨2, ![16384, 4096]⟩
abbrev S8x4096x1792 : Shape := ⟨3, ![8, 4096, 1792]⟩
abbrev S16384x128 : Shape := ⟨2, ![16384, 128]⟩
abbrev S16384x1 : Shape := ⟨2, ![16384, 1]⟩
abbrev S1x4096x1792 : Shape := ⟨3, ![1, 4096, 1792]⟩
abbrev S4096x1792 : Shape := ⟨2, ![4096, 1792]⟩
abbrev S16384x1792 : Shape := ⟨2, ![16384, 1792]⟩
abbrev S_ : Shape := ⟨0, ![]⟩
abbrev S16384x14336 : Shape := ⟨2, ![16384, 14336]⟩

abbrev nBuf : Space → Nat
  | .hbm => 159
  | .vmem => 0
  | .smem => 0
  | _ => 0

abbrev hbmTy0_0 (i : Nat) : BufTy := match i % 128 with
  | 0 => ⟨S16384x4096, .bf16⟩
  | 1 => ⟨S8x4096x1792, .f32⟩
  | 2 => ⟨S8x4096x1792, .f32⟩
  | 3 => ⟨S16384x128, .f32⟩
  | 4 => ⟨S16384x4096, .f32⟩
  | 5 => ⟨S16384x1, .f32⟩
  | 6 => ⟨S1x4096x1792, .f32⟩
  | 7 => ⟨S4096x1792, .f32⟩
  | 8 => ⟨S16384x1792, .f32⟩
  | 9 => ⟨S16384x1792, .f32⟩
  | 10 => ⟨S16384x1792, .f32⟩
  | 11 => ⟨S_, .f32⟩
  | 12 => ⟨S16384x1792, .f32⟩
  | 13 => ⟨S16384x1792, .f32⟩
  | 14 => ⟨S_, .f32⟩
  | 15 => ⟨S16384x1792, .f32⟩
  | 16 => ⟨S16384x1792, .f32⟩
  | 17 => ⟨S16384x1792, .f32⟩
  | 18 => ⟨S1x4096x1792, .f32⟩
  | 19 => ⟨S4096x1792, .f32⟩
  | 20 => ⟨S16384x1792, .f32⟩
  | 21 => ⟨S16384x1792, .f32⟩
  | 22 => ⟨S16384x1792, .f32⟩
  | 23 => ⟨S16384x1792, .f32⟩
  | 24 => ⟨S16384x1, .f32⟩
  | 25 => ⟨S1x4096x1792, .f32⟩
  | 26 => ⟨S4096x1792, .f32⟩
  | 27 => ⟨S16384x1792, .f32⟩
  | 28 => ⟨S16384x1792, .f32⟩
  | 29 => ⟨S16384x1792, .f32⟩
  | 30 => ⟨S_, .f32⟩
  | 31 => ⟨S16384x1792, .f32⟩
  | 32 => ⟨S16384x1792, .f32⟩
  | 33 => ⟨S_, .f32⟩
  | 34 => ⟨S16384x1792, .f32⟩
  | 35 => ⟨S16384x1792, .f32⟩
  | 36 => ⟨S16384x1792, .f32⟩
  | 37 => ⟨S1x4096x1792, .f32⟩
  | 38 => ⟨S4096x1792, .f32⟩
  | 39 => ⟨S16384x1792, .f32⟩
  | 40 => ⟨S16384x1792, .f32⟩
  | 41 => ⟨S16384x1792, .f32⟩
  | 42 => ⟨S16384x1792, .f32⟩
  | 43 => ⟨S16384x1, .f32⟩
  | 44 => ⟨S1x4096x1792, .f32⟩
  | 45 => ⟨S4096x1792, .f32⟩
  | 46 => ⟨S16384x1792, .f32⟩
  | 47 => ⟨S16384x1792, .f32⟩
  | 48 => ⟨S16384x1792, .f32⟩
  | 49 => ⟨S_, .f32⟩
  | 50 => ⟨S16384x1792, .f32⟩
  | 51 => ⟨S16384x1792, .f32⟩
  | 52 => ⟨S_, .f32⟩
  | 53 => ⟨S16384x1792, .f32⟩
  | 54 => ⟨S16384x1792, .f32⟩
  | 55 => ⟨S16384x1792, .f32⟩
  | 56 => ⟨S1x4096x1792, .f32⟩
  | 57 => ⟨S4096x1792, .f32⟩
  | 58 => ⟨S16384x1792, .f32⟩
  | 59 => ⟨S16384x1792, .f32⟩
  | 60 => ⟨S16384x1792, .f32⟩
  | 61 => ⟨S16384x1792, .f32⟩
  | 62 => ⟨S16384x1, .f32⟩
  | 63 => ⟨S1x4096x1792, .f32⟩
  | 64 => ⟨S4096x1792, .f32⟩
  | 65 => ⟨S16384x1792, .f32⟩
  | 66 => ⟨S16384x1792, .f32⟩
  | 67 => ⟨S16384x1792, .f32⟩
  | 68 => ⟨S_, .f32⟩
  | 69 => ⟨S16384x1792, .f32⟩
  | 70 => ⟨S16384x1792, .f32⟩
  | 71 => ⟨S_, .f32⟩
  | 72 => ⟨S16384x1792, .f32⟩
  | 73 => ⟨S16384x1792, .f32⟩
  | 74 => ⟨S16384x1792, .f32⟩
  | 75 => ⟨S1x4096x1792, .f32⟩
  | 76 => ⟨S4096x1792, .f32⟩
  | 77 => ⟨S16384x1792, .f32⟩
  | 78 => ⟨S16384x1792, .f32⟩
  | 79 => ⟨S16384x1792, .f32⟩
  | 80 => ⟨S16384x1792, .f32⟩
  | 81 => ⟨S16384x1, .f32⟩
  | 82 => ⟨S1x4096x1792, .f32⟩
  | 83 => ⟨S4096x1792, .f32⟩
  | 84 => ⟨S16384x1792, .f32⟩
  | 85 => ⟨S16384x1792, .f32⟩
  | 86 => ⟨S16384x1792, .f32⟩
  | 87 => ⟨S_, .f32⟩
  | 88 => ⟨S16384x1792, .f32⟩
  | 89 => ⟨S16384x1792, .f32⟩
  | 90 => ⟨S_, .f32⟩
  | 91 => ⟨S16384x1792, .f32⟩
  | 92 => ⟨S16384x1792, .f32⟩
  | 93 => ⟨S16384x1792, .f32⟩
  | 94 => ⟨S1x4096x1792, .f32⟩
  | 95 => ⟨S4096x1792, .f32⟩
  | 96 => ⟨S16384x1792, .f32⟩
  | 97 => ⟨S16384x1792, .f32⟩
  | 98 => ⟨S16384x1792, .f32⟩
  | 99 => ⟨S16384x1792, .f32⟩
  | 100 => ⟨S16384x1, .f32⟩
  | 101 => ⟨S1x4096x1792, .f32⟩
  | 102 => ⟨S4096x1792, .f32⟩
  | 103 => ⟨S16384x1792, .f32⟩
  | 104 => ⟨S16384x1792, .f32⟩
  | 105 => ⟨S16384x1792, .f32⟩
  | 106 => ⟨S_, .f32⟩
  | 107 => ⟨S16384x1792, .f32⟩
  | 108 => ⟨S16384x1792, .f32⟩
  | 109 => ⟨S_, .f32⟩
  | 110 => ⟨S16384x1792, .f32⟩
  | 111 => ⟨S16384x1792, .f32⟩
  | 112 => ⟨S16384x1792, .f32⟩
  | 113 => ⟨S1x4096x1792, .f32⟩
  | 114 => ⟨S4096x1792, .f32⟩
  | 115 => ⟨S16384x1792, .f32⟩
  | 116 => ⟨S16384x1792, .f32⟩
  | 117 => ⟨S16384x1792, .f32⟩
  | 118 => ⟨S16384x1792, .f32⟩
  | 119 => ⟨S16384x1, .f32⟩
  | 120 => ⟨S1x4096x1792, .f32⟩
  | 121 => ⟨S4096x1792, .f32⟩
  | 122 => ⟨S16384x1792, .f32⟩
  | 123 => ⟨S16384x1792, .f32⟩
  | 124 => ⟨S16384x1792, .f32⟩
  | 125 => ⟨S_, .f32⟩
  | 126 => ⟨S16384x1792, .f32⟩
  | 127 => ⟨S16384x1792, .f32⟩
  | _ => ⟨S16384x4096, .bf16⟩

abbrev hbmTy0_1 (i : Nat) : BufTy := match i % 128 with
  | 0 => ⟨S_, .f32⟩
  | 1 => ⟨S16384x1792, .f32⟩
  | 2 => ⟨S16384x1792, .f32⟩
  | 3 => ⟨S16384x1792, .f32⟩
  | 4 => ⟨S1x4096x1792, .f32⟩
  | 5 => ⟨S4096x1792, .f32⟩
  | 6 => ⟨S16384x1792, .f32⟩
  | 7 => ⟨S16384x1792, .f32⟩
  | 8 => ⟨S16384x1792, .f32⟩
  | 9 => ⟨S16384x1792, .f32⟩
  | 10 => ⟨S16384x1, .f32⟩
  | 11 => ⟨S1x4096x1792, .f32⟩
  | 12 => ⟨S4096x1792, .f32⟩
  | 13 => ⟨S16384x1792, .f32⟩
  | 14 => ⟨S16384x1792, .f32⟩
  | 15 => ⟨S16384x1792, .f32⟩
  | 16 => ⟨S_, .f32⟩
  | 17 => ⟨S16384x1792, .f32⟩
  | 18 => ⟨S16384x1792, .f32⟩
  | 19 => ⟨S_, .f32⟩
  | 20 => ⟨S16384x1792, .f32⟩
  | 21 => ⟨S16384x1792, .f32⟩
  | 22 => ⟨S16384x1792, .f32⟩
  | 23 => ⟨S1x4096x1792, .f32⟩
  | 24 => ⟨S4096x1792, .f32⟩
  | 25 => ⟨S16384x1792, .f32⟩
  | 26 => ⟨S16384x1792, .f32⟩
  | 27 => ⟨S16384x1792, .f32⟩
  | 28 => ⟨S16384x1792, .f32⟩
  | 29 => ⟨S16384x14336, .f32⟩
  | 30 => ⟨S16384x14336, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call4_v0 : Ref sig .tc := ⟨.hbm, 85, rfl⟩
abbrev main_call4_v1 : Ref sig .tc := ⟨.hbm, 86, rfl⟩
abbrev main_call4_cst : Ref sig .tc := ⟨.hbm, 87, rfl⟩
abbrev main_call4_v2 : Ref sig .tc := ⟨.hbm, 88, rfl⟩
abbrev main_call4_v3 : Ref sig .tc := ⟨.hbm, 89, rfl⟩
abbrev main_call4_cst_0 : Ref sig .tc := ⟨.hbm, 90, rfl⟩
abbrev main_call4_v4 : Ref sig .tc := ⟨.hbm, 91, rfl⟩
abbrev main_call4_v5 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_call5_v0 : Ref sig .tc := ⟨.hbm, 104, rfl⟩
abbrev main_call5_v1 : Ref sig .tc := ⟨.hbm, 105, rfl⟩
abbrev main_call5_cst : Ref sig .tc := ⟨.hbm, 106, rfl⟩
abbrev main_call5_v2 : Ref sig .tc := ⟨.hbm, 107, rfl⟩
abbrev main_call5_v3 : Ref sig .tc := ⟨.hbm, 108, rfl⟩
abbrev main_call5_cst_0 : Ref sig .tc := ⟨.hbm, 109, rfl⟩
abbrev main_call5_v4 : Ref sig .tc := ⟨.hbm, 110, rfl⟩
abbrev main_call5_v5 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_call7_v0 : Ref sig .tc := ⟨.hbm, 142, rfl⟩
abbrev main_call7_v1 : Ref sig .tc := ⟨.hbm, 143, rfl⟩
abbrev main_call7_cst : Ref sig .tc := ⟨.hbm, 144, rfl⟩
abbrev main_call7_v2 : Ref sig .tc := ⟨.hbm, 145, rfl⟩
abbrev main_call7_v3 : Ref sig .tc := ⟨.hbm, 146, rfl⟩
abbrev main_call7_cst_0 : Ref sig .tc := ⟨.hbm, 147, rfl⟩
abbrev main_call7_v4 : Ref sig .tc := ⟨.hbm, 148, rfl⟩
abbrev main_call7_v5 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩

abbrev nD : Nat := 1
abbrev τ : Topo := Topo.v7x

variable {F : FTy → Type} [FloatOps F]
-- ==== Kernel4.lean ====
abbrev S16384x14336 : Shape := ⟨2, ![16384, 14336]⟩
abbrev S1x14336x4096 : Shape := ⟨3, ![1, 14336, 4096]⟩
abbrev S16384x4096 : Shape := ⟨2, ![16384, 4096]⟩
abbrev S14336x4096 : Shape := ⟨2, ![14336, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x14336, .bf16⟩
  | .hbm, ⟨1, _⟩ => ⟨S1x14336x4096, .f32⟩
  | .hbm, ⟨2, _⟩ => ⟨S16384x4096, .f32⟩
  | .hbm, ⟨3, _⟩ => ⟨S14336x4096, .f32⟩
  | .hbm, ⟨4, _⟩ => ⟨S14336x4096, .bf16⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 7], ![false, false, false]⟩

def k0_cond3 (i : grid0.Coords) : BitVec 1 :=
  let arg2 : BitVec 32 := BitVec.ofNat 32 (i 2).val
  let c6_i32 : BitVec 32 := 6#32
  let v10 : BitVec 1 := Scalar.cmpi .eq arg2 c6_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S16384x14336 : Shape := ⟨2, ![16384, 14336]⟩
abbrev S1x14336x4096 : Shape := ⟨3, ![1, 14336, 4096]⟩
abbrev S16384x4096 : Shape := ⟨2, ![16384, 4096]⟩
abbrev S14336x4096 : Shape := ⟨2, ![14336, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x14336, .bf16⟩
  | .hbm, ⟨1, _⟩ => ⟨S1x14336x4096, .f32⟩
  | .hbm, ⟨2, _⟩ => ⟨S16384x4096, .f32⟩
  | .hbm, ⟨3, _⟩ => ⟨S16384x14336, .f32⟩
  | .hbm, ⟨4, _⟩ => ⟨S14336x4096, .f32⟩
  | .hbm, ⟨5, _⟩ => ⟨S16384x4096, .f32⟩
  | .hbm, ⟨6, _⟩ => ⟨S16384x4096, .f32⟩
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S16384x256 : Shape := ⟨2, ![16384, 256]⟩
abbrev S16384x1024 : Shape := ⟨2, ![16384, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S4x1x4096 : Shape := ⟨3, ![4, 1, 4096]⟩
abbrev S16384x4096 : Shape := ⟨2, ![16384, 4096]⟩
abbrev S1024x256 : Shape := ⟨2, ![1024, 256]⟩
abbrev S1024x1024 : Shape := ⟨2, ![1024, 1024]⟩
abbrev S4x256x512 : Shape := ⟨3, ![4, 256, 512]⟩
abbrev S4x1x512 : Shape := ⟨3, ![4, 1, 512]⟩
abbrev S4x1024x512 : Shape := ⟨3, ![4, 1024, 512]⟩
abbrev S1024x512 : Shape := ⟨2, ![1024, 512]⟩
abbrev S1x256x512 : Shape := ⟨3, ![1, 256, 512]⟩
abbrev S256x512 : Shape := ⟨2, ![256, 512]⟩
abbrev S1x1x512 : Shape := ⟨3, ![1, 1, 512]⟩
abbrev S1x512 : Shape := ⟨2, ![1, 512]⟩
abbrev S1x1024x512 : Shape := ⟨3, ![1, 1024, 512]⟩

abbrev nBuf : Space → Nat
  | .hbm => 12
  | .vmem => 18
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4x256x4096, .f32⟩
  | .hbm, ⟨6, _⟩ => ⟨S4x4096, .f32⟩
  | .hbm, ⟨7, _⟩ => ⟨S4x1024x4096, .f32⟩
  | .hbm, ⟨8, _⟩ => ⟨S4x256x4096, .bf16⟩
  | .hbm, ⟨9, _⟩ => ⟨S4x1024x4096, .bf16⟩
  | .hbm, ⟨10, _⟩ => ⟨S4x1x4096, .f32⟩
  | .hbm, ⟨11, _⟩ => ⟨S16384x4096, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S4x256x512, .bf16⟩
  | .local _ .vmem, ⟨11, _⟩ => ⟨S4x256x512, .bf16⟩
  | .local _ .vmem, ⟨12, _⟩ => ⟨S4x1x512, .f32⟩
  | .local _ .vmem, ⟨13, _⟩ => ⟨S4x1x512, .f32⟩
  | .local _ .vmem, ⟨14, _⟩ => ⟨S4x1024x512, .bf16⟩
  | .local _ .vmem, ⟨15, _⟩ => ⟨S4x1024x512, .bf16⟩
  | .local _ .vmem, ⟨16, _⟩ => ⟨S1024x512, .bf16⟩
  | .local _ .vmem, ⟨17, _⟩ => ⟨S1024x512, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16384x256 : Shape := ⟨2, ![16384, 256]⟩
abbrev S16384x1024 : Shape := ⟨2, ![16384, 1024]⟩
abbrev S4x256x4096 : Shape := ⟨3, ![4, 256, 4096]⟩
abbrev S4x4096 : Shape := ⟨2, ![4, 4096]⟩
abbrev S4x1024x4096 : Shape := ⟨3, ![4, 1024, 4096]⟩
abbrev S_ : Shape := ⟨0, ![]⟩
abbrev S16384x4096 : Shape := ⟨2, ![16384, 4096]⟩
abbrev S1x256x4096 : Shape := ⟨3, ![1, 256, 4096]⟩
abbrev S256x4096 : Shape := ⟨2, ![256, 4096]⟩
abbrev S1x4096 : Shape := ⟨2, ![1, 4096]⟩
abbrev S4096 : Shape := ⟨1, ![4096]⟩
abbrev S1x1024x4096 : Shape := ⟨3, ![1, 1024, 4096]⟩
abbrev S1024x4096 : Shape := ⟨2, ![1024, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S4x256x4096, .f32⟩
  | .hbm, ⟨6, _⟩ => ⟨S4x4096, .f32⟩
  | .hbm, ⟨7, _⟩ => ⟨S4x1024x4096, .f32⟩
  | .hbm, ⟨8, _⟩ => ⟨S16384x256, .f32⟩
  | .hbm, ⟨9, _⟩ => ⟨S_, .f32⟩
  | .hbm, ⟨10, _⟩ => ⟨S16384x4096, .f32⟩
  | .hbm, ⟨11, _⟩ => ⟨S1x256x4096, .f32⟩
  | .hbm, ⟨12, _⟩ => ⟨S256x4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S1x1024x4096, .f32⟩
  | .hbm, ⟨29, _⟩ => ⟨S1024x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x256x4096, .f32⟩
  | .hbm, ⟨34, _⟩ => ⟨S256x4096, .f32⟩
  | .hbm, ⟨35, _⟩ => ⟨S16384x4096, .f32⟩
  | .hbm, ⟨36, _⟩ => ⟨S1x4096, .f32⟩
  | .hbm, ⟨37, _⟩ => ⟨S4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S1x1024x4096, .f32⟩
  | .hbm, ⟨51, _⟩ => ⟨S1024x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S1x256x4096, .f32⟩
  | .hbm, ⟨56, _⟩ => ⟨S256x4096, .f32⟩
  | .hbm, ⟨57, _⟩ => ⟨S16384x4096, .f32⟩
  | .hbm, ⟨58, _⟩ => ⟨S1x4096, .f32⟩
  | .hbm, ⟨59, _⟩ => ⟨S4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S_, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S16384x1024, .f32⟩
  | .hbm, ⟨72, _⟩ => ⟨S1x1024x4096, .f32⟩
  | .hbm, ⟨73, _⟩ => ⟨S1024x4096, .f32⟩
  | .hbm, ⟨74, _⟩ => ⟨S16384x4096, .f32⟩
  | .hbm, ⟨75, _⟩ => ⟨S16384x4096, .f32⟩
  | .hbm, ⟨76, _⟩ => ⟨S16384x4096, .f32⟩
  | .hbm, ⟨77, _⟩ => ⟨S1x256x4096, .f32⟩
  | .hbm, ⟨78, _⟩ => ⟨S256x4096, .f32⟩
  | .hbm, ⟨79, _⟩ => ⟨S16384x4096, .f32⟩
  | .hbm, ⟨80, _⟩ => ⟨S1x4096, .f32⟩
  | .hbm, ⟨81, _⟩ => ⟨S4096, .f32⟩
  | .hbm, ⟨82, _⟩ => ⟨S1x4096, .f32⟩
  | .hbm, ⟨83, _⟩ => ⟨S16384x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S_, .f32⟩
  | .hbm, ⟨88, _⟩ => ⟨S16384x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S16384x1024, .f32⟩
  | .hbm, ⟨94, _⟩ => ⟨S1x1024x4096, .f32⟩
  | .hbm, ⟨95, _⟩ => ⟨S1024x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Kernel6.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S16384x4096 : Shape := ⟨2, ![16384, 4096]⟩
abbrev S4096x9224 : Shape := ⟨2, ![4096, 9224]⟩
abbrev S4096x1216 : Shape := ⟨2, ![4096, 1216]⟩
abbrev S_ : Shape := ⟨0, ![]⟩
abbrev S4096x64 : Shape := ⟨2, ![4096, 64]⟩
abbrev S4096x1280 : Shape := ⟨2, ![4096, 1280]⟩
abbrev S4096x3072 : Shape := ⟨2, ![4096, 3072]⟩
abbrev S4096x576 : Shape := ⟨2, ![4096, 576]⟩
abbrev S4096x8 : Shape := ⟨2, ![4096, 8]⟩
abbrev S4096x120 : Shape := ⟨2, ![4096, 120]⟩
abbrev S4096x768 : Shape := ⟨2, ![4096, 768]⟩
abbrev S16384x1280 : Shape := ⟨2, ![16384, 1280]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S4096x1216, .f32⟩
  | .hbm, ⟨3, _⟩ => ⟨S_, .f32⟩
  | .hbm, ⟨4, _⟩ => ⟨S4096x64, .f32⟩
  | .hbm, ⟨5, _⟩ => ⟨S4096x1280, .f32⟩
  | .hbm, ⟨6, _⟩ => ⟨S4096x3072, .f32⟩
  | .hbm, ⟨7, _⟩ => ⟨S4096x3072, .f32⟩
  | .hbm, ⟨8, _⟩ => ⟨S4096x1280, .f32⟩
  | .hbm, ⟨9, _⟩ => ⟨S4096x576, .f32⟩
  | .hbm, ⟨10, _⟩ => ⟨S_, .f32⟩
  | .hbm, ⟨11, _⟩ => ⟨S4096x64, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x768, .f32⟩
  | .hbm, ⟨16, _⟩ => ⟨S4096x1280, .bf16⟩
  | .hbm, ⟨17, _⟩ => ⟨S4096x3072, .bf16⟩
  | .hbm, ⟨18, _⟩ => ⟨S4096x3072, .bf16⟩
  | .hbm, ⟨19, _⟩ => ⟨S4096x1280, .bf16⟩
  | .hbm, ⟨20, _⟩ => ⟨S4096x768, .bf16⟩
  | .hbm, ⟨21, _⟩ => ⟨S16384x1280, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x4096 : Shape := ⟨2, ![16384, 4096]⟩
abbrev S4096x9224 : Shape := ⟨2, ![4096, 9224]⟩
abbrev S16384x9224 : Shape := ⟨2, ![16384, 9224]⟩
abbrev S16384x1216 : Shape := ⟨2, ![16384, 1216]⟩
abbrev S_ : Shape := ⟨0, ![]⟩
abbrev S16384x1280 : Shape := ⟨2, ![16384, 1280]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S16384x4096, .f32⟩
  | .hbm, ⟨3, _⟩ => ⟨S16384x9224, .f32⟩
  | .hbm, ⟨4, _⟩ => ⟨S16384x1216, .f32⟩
  | .hbm, ⟨5, _⟩ => ⟨S_, .i32⟩
  | .hbm, ⟨6, _⟩ => ⟨S_, .f32⟩
  | .hbm, ⟨7, _⟩ => ⟨S16384x1280, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel8.lean ====
abbrev S16384x4096 : Shape := ⟨2, ![16384, 4096]⟩
abbrev S4096x9224 : Shape := ⟨2, ![4096, 9224]⟩
abbrev S4096x1216 : Shape := ⟨2, ![4096, 1216]⟩
abbrev S_ : Shape := ⟨0, ![]⟩
abbrev S4096x64 : Shape := ⟨2, ![4096, 64]⟩
abbrev S4096x1280 : Shape := ⟨2, ![4096, 1280]⟩
abbrev S4096x3072 : Shape := ⟨2, ![4096, 3072]⟩
abbrev S4096x576 : Shape := ⟨2, ![4096, 576]⟩
abbrev S4096x8 : Shape := ⟨2, ![4096, 8]⟩
abbrev S4096x120 : Shape := ⟨2, ![4096, 120]⟩
abbrev S4096x768 : Shape := ⟨2, ![4096, 768]⟩
abbrev S16384x3072 : Shape := ⟨2, ![16384, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S4096x1216, .f32⟩
  | .hbm, ⟨3, _⟩ => ⟨S_, .f32⟩
  | .hbm, ⟨4, _⟩ => ⟨S4096x64, .f32⟩
  | .hbm, ⟨5, _⟩ => ⟨S4096x1280, .f32⟩
  | .hbm, ⟨6, _⟩ => ⟨S4096x3072, .f32⟩
  | .hbm, ⟨7, _⟩ => ⟨S4096x3072, .f32⟩
  | .hbm, ⟨8, _⟩ => ⟨S4096x1280, .f32⟩
  | .hbm, ⟨9, _⟩ => ⟨S4096x576, .f32⟩
  | .hbm, ⟨10, _⟩ => ⟨S_, .f32⟩
  | .hbm, ⟨11, _⟩ => ⟨S4096x64, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x768, .f32⟩
  | .hbm, ⟨16, _⟩ => ⟨S4096x1280, .bf16⟩
  | .hbm, ⟨17, _⟩ => ⟨S4096x3072, .bf16⟩
  | .hbm, ⟨18, _⟩ => ⟨S4096x3072, .bf16⟩
  | .hbm, ⟨19, _⟩ => ⟨S4096x1280, .bf16⟩
  | .hbm, ⟨20, _⟩ => ⟨S4096x768, .bf16⟩
  | .hbm, ⟨21, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x4096 : Shape := ⟨2, ![16384, 4096]⟩
abbrev S4096x9224 : Shape := ⟨2, ![4096, 9224]⟩
abbrev S16384x9224 : Shape := ⟨2, ![16384, 9224]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S16384x4096, .f32⟩
  | .hbm, ⟨3, _⟩ => ⟨S16384x9224, .f32⟩
  | .hbm, ⟨4, _⟩ => ⟨S16384x3072, .f32⟩
  | .hbm, ⟨5, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x4096 : Shape := ⟨2, ![16384, 4096]⟩
abbrev S4096x9224 : Shape := ⟨2, ![4096, 9224]⟩
abbrev S4096x1216 : Shape := ⟨2, ![4096, 1216]⟩
abbrev S_ : Shape := ⟨0, ![]⟩
abbrev S4096x64 : Shape := ⟨2, ![4096, 64]⟩
abbrev S4096x1280 : Shape := ⟨2, ![4096, 1280]⟩
abbrev S4096x3072 : Shape := ⟨2, ![4096, 3072]⟩
abbrev S4096x576 : Shape := ⟨2, ![4096, 576]⟩
abbrev S4096x8 : Shape := ⟨2, ![4096, 8]⟩
abbrev S4096x120 : Shape := ⟨2, ![4096, 120]⟩
abbrev S4096x768 : Shape := ⟨2, ![4096, 768]⟩
abbrev S16384x3072 : Shape := ⟨2, ![16384, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S4096x1216, .f32⟩
  | .hbm, ⟨3, _⟩ => ⟨S_, .f32⟩
  | .hbm, ⟨4, _⟩ => ⟨S4096x64, .f32⟩
  | .hbm, ⟨5, _⟩ => ⟨S4096x1280, .f32⟩
  | .hbm, ⟨6, _⟩ => ⟨S4096x3072, .f32⟩
  | .hbm, ⟨7, _⟩ => ⟨S4096x3072, .f32⟩
  | .hbm, ⟨8, _⟩ => ⟨S4096x1280, .f32⟩
  | .hbm, ⟨9, _⟩ => ⟨S4096x576, .f32⟩
  | .hbm, ⟨10, _⟩ => ⟨S_, .f32⟩
  | .hbm, ⟨11, _⟩ => ⟨S4096x64, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x768, .f32⟩
  | .hbm, ⟨16, _⟩ => ⟨S4096x1280, .bf16⟩
  | .hbm, ⟨17, _⟩ => ⟨S4096x3072, .bf16⟩
  | .hbm, ⟨18, _⟩ => ⟨S4096x3072, .bf16⟩
  | .hbm, ⟨19, _⟩ => ⟨S4096x1280, .bf16⟩
  | .hbm, ⟨20, _⟩ => ⟨S4096x768, .bf16⟩
  | .hbm, ⟨21, _⟩ => ⟨S16384x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x4096 : Shape := ⟨2, ![16384, 4096]⟩
abbrev S4096x9224 : Shape := ⟨2, ![4096, 9224]⟩
abbrev S16384x9224 : Shape := ⟨2, ![16384, 9224]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S16384x4096, .f32⟩
  | .hbm, ⟨3, _⟩ => ⟨S16384x9224, .f32⟩
  | .hbm, ⟨4, _⟩ => ⟨S16384x3072, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S16384x4096 : Shape := ⟨2, ![16384, 4096]⟩
abbrev S4096x9224 : Shape := ⟨2, ![4096, 9224]⟩
abbrev S4096x1216 : Shape := ⟨2, ![4096, 1216]⟩
abbrev S_ : Shape := ⟨0, ![]⟩
abbrev S4096x64 : Shape := ⟨2, ![4096, 64]⟩
abbrev S4096x1280 : Shape := ⟨2, ![4096, 1280]⟩
abbrev S4096x3072 : Shape := ⟨2, ![4096, 3072]⟩
abbrev S4096x576 : Shape := ⟨2, ![4096, 576]⟩
abbrev S4096x8 : Shape := ⟨2, ![4096, 8]⟩
abbrev S4096x120 : Shape := ⟨2, ![4096, 120]⟩
abbrev S4096x768 : Shape := ⟨2, ![4096, 768]⟩
abbrev S16384x1280 : Shape := ⟨2, ![16384, 1280]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S4096x1216, .f32⟩
  | .hbm, ⟨3, _⟩ => ⟨S_, .f32⟩
  | .hbm, ⟨4, _⟩ => ⟨S4096x64, .f32⟩
  | .hbm, ⟨5, _⟩ => ⟨S4096x1280, .f32⟩
  | .hbm, ⟨6, _⟩ => ⟨S4096x3072, .f32⟩
  | .hbm, ⟨7, _⟩ => ⟨S4096x3072, .f32⟩
  | .hbm, ⟨8, _⟩ => ⟨S4096x1280, .f32⟩
  | .hbm, ⟨9, _⟩ => ⟨S4096x576, .f32⟩
  | .hbm, ⟨10, _⟩ => ⟨S_, .f32⟩
  | .hbm, ⟨11, _⟩ => ⟨S4096x64, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x768, .f32⟩
  | .hbm, ⟨16, _⟩ => ⟨S4096x1280, .bf16⟩
  | .hbm, ⟨17, _⟩ => ⟨S4096x3072, .bf16⟩
  | .hbm, ⟨18, _⟩ => ⟨S4096x3072, .bf16⟩
  | .hbm, ⟨19, _⟩ => ⟨S4096x1280, .bf16⟩
  | .hbm, ⟨20, _⟩ => ⟨S4096x768, .bf16⟩
  | .hbm, ⟨21, _⟩ => ⟨S16384x1280, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x4096 : Shape := ⟨2, ![16384, 4096]⟩
abbrev S4096x9224 : Shape := ⟨2, ![4096, 9224]⟩
abbrev S16384x9224 : Shape := ⟨2, ![16384, 9224]⟩
abbrev S16384x1280 : Shape := ⟨2, ![16384, 1280]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S16384x4096, .f32⟩
  | .hbm, ⟨3, _⟩ => ⟨S16384x9224, .f32⟩
  | .hbm, ⟨4, _⟩ => ⟨S16384x1280, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S16384x2048 : Shape := ⟨2, ![16384, 2048]⟩
abbrev S16384x1024 : Shape := ⟨2, ![16384, 1024]⟩
abbrev S32x512x2048 : Shape := ⟨3, ![32, 512, 2048]⟩
abbrev S32x512x1024 : Shape := ⟨3, ![32, 512, 1024]⟩
abbrev S512x256 : Shape := ⟨2, ![512, 256]⟩
abbrev S32x512x256 : Shape := ⟨3, ![32, 512, 256]⟩
abbrev S32x512x128 : Shape := ⟨3, ![32, 512, 128]⟩
abbrev S512x128 : Shape := ⟨2, ![512, 128]⟩
abbrev S512x1 : Shape := ⟨2, ![512, 1]⟩
abbrev S1x512x256 : Shape := ⟨3, ![1, 512, 256]⟩
abbrev S512x512 : Shape := ⟨2, ![512, 512]⟩
abbrev S1x512x128 : Shape := ⟨3, ![1, 512, 128]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S32x512x2048, .bf16⟩
  | .hbm, ⟨4, _⟩ => ⟨S32x512x1024, .bf16⟩
  | .hbm, ⟨5, _⟩ => ⟨S16384x1024, .bf16⟩
  | .local _ .vmem, ⟨0, _⟩ => ⟨S512x256, .bf16⟩
  | .local _ .vmem, ⟨1, _⟩ => ⟨S512x256, .bf16⟩
  | .local _ .vmem, ⟨2, _⟩ => ⟨S32x512x256, .bf16⟩
  | .local _ .vmem, ⟨3, _⟩ => ⟨S32x512x256, .bf16⟩
  | .local _ .vmem, ⟨4, _⟩ => ⟨S32x512x128, .bf16⟩
  | .local _ .vmem, ⟨5, _⟩ => ⟨S32x512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

@[reducible] def k0_t1_loop (i : grid0.Coords) : Scf.Loop 32 :=
  let c0_i32_9 : BitVec 32 := 0#32
  let arg1 : BitVec 32 := BitVec.ofNat 32 (i 1).val
  let v13 : BitVec 32 := Scalar.subi arg1 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_10 : BitVec 32 := 1#32
  ⟨c0_i32_9, v17, c1_i32_10⟩
def k0_off1 (i : grid0.Coords) (k0_t1 : Fin (k0_t1_loop i).trips) : Fin 3 → Nat :=
  let c0_i32_9 : BitVec 32 := 0#32
  let c1_i32_10 : BitVec 32 := 1#32
  let arg9 : BitVec 32 := Scf.iv c0_i32_9 c1_i32_10 k0_t1
  let v65 : Index := Scalar.indexCast arg9
  let c0_39 : Index := 0#32
  let c0_40 : Index := 0#32
  ![v65.toNat, 0, 0]
def k0_off2 (i : grid0.Coords) (k0_t1 : Fin (k0_t1_loop i).trips) : Fin 3 → Nat :=
  let c0_i32_9 : BitVec 32 := 0#32
  let c1_i32_10 : BitVec 32 := 1#32
  let arg9 : BitVec 32 := Scf.iv c0_i32_9 c1_i32_10 k0_t1
  let v69 : Index := Scalar.indexCast arg9
  let c0_42 : Index := 0#32
  let c0_43 : Index := 0#32
  ![v69.toNat, 0, 0]
@[reducible] def k0_t2_loop (i : grid0.Coords) : Scf.Loop 32 :=
  let c0_i32_9 : BitVec 32 := 0#32
  let arg1 : BitVec 32 := BitVec.ofNat 32 (i 1).val
  let v13 : BitVec 32 := Scalar.subi arg1 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let v14 : BitVec 32 := Scalar.addi c0_i32_9 v13
  let c1_i32_11 : BitVec 32 := 1#32
  ⟨v17, v14, c1_i32_11⟩
def k0_off3 (i : grid0.Coords) (k0_t2 : Fin (k0_t2_loop i).trips) : Fin 3 → Nat :=
  let c0_i32_9 : BitVec 32 := 0#32
  let arg1 : BitVec 32 := BitVec.ofNat 32 (i 1).val
  let v13 : BitVec 32 := Scalar.subi arg1 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg9 : BitVec 32 := Scf.iv v17 c1_i32_11 k0_t2
  let v65 : Index := Scalar.indexCast arg9
  let c0_39 : Index := 0#32
  let c0_40 : Index := 0#32
  ![v65.toNat, 0, 0]
def k0_off4 (i : grid0.Coords) (k0_t2 : Fin (k0_t2_loop i).trips) : Fin 3 → Nat :=
  let c0_i32_9 : BitVec 32 := 0#32
  let arg1 : BitVec 32 := BitVec.ofNat 32 (i 1).val
  let v13 : BitVec 32 := Scalar.subi arg1 c0_i32_9
  let c1_i32 : BitVec 32 := 1#32
  let v15 : BitVec 32 := Scalar.divsi v13 c1_i32
  let v16 : BitVec 32 := Scalar.muli v15 c1_i32
  let v17 : BitVec 32 := Scalar.addi c0_i32_9 v16
  let c1_i32_11 : BitVec 32 := 1#32
  let arg9 : BitVec 32 := Scf.iv v17 c1_i32_11 k0_t2
  let v69 : Index := Scalar.indexCast arg9
  let c0_42 : Index := 0#32
  let c0_43 : Index := 0#32
  ![v69.toNat, 0, 0]
def k0_off5 (i : grid0.Coords) : Fin 3 → Nat :=
  let arg1 : BitVec 32 := BitVec.ofNat 32 (i 1).val
  let v18 : Index := Scalar.indexCast arg1
  let c0_12 : Index := 0#32
  let c0_13 : Index := 0#32
  ![v18.toNat, 0, 0]
def k0_off6 (i : grid0.Coords) : Fin 3 → Nat :=
  let arg1 : BitVec 32 := BitVec.ofNat 32 (i 1).val
  let v27 : Index := Scalar.indexCast arg1
  let c0_16 : Index := 0#32
  let c0_17 : Index := 0#32
  ![v27.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel11Ideal.lean ====
variable {F : FTy → Type} [FloatOps F] [Named F]
def κ : String → Option EReal := fun
  | "mask" => some ⊥
  | _ => none
-- ==== Reference11Ideal.lean ====
abbrev S16384x2048 : Shape := ⟨2, ![16384, 2048]⟩
abbrev S16384x1024 : Shape := ⟨2, ![16384, 1024]⟩
abbrev S1x16384x8x256 : Shape := ⟨4, ![1, 16384, 8, 256]⟩
abbrev S1x16384x8x128 : Shape := ⟨4, ![1, 16384, 8, 128]⟩
abbrev S16384 : Shape := ⟨1, ![16384]⟩
abbrev S1x8x16384x16384 : Shape := ⟨4, ![1, 8, 16384, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S1x8x16384 : Shape := ⟨3, ![1, 8, 16384]⟩
abbrev S1x8x16384x1 : Shape := ⟨4, ![1, 8, 16384, 1]⟩
abbrev S1x8x128x16384 : Shape := ⟨4, ![1, 8, 128, 16384]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S16384x2048, .f32⟩
  | .hbm, ⟨4, _⟩ => ⟨S1x16384x8x256, .f32⟩
  | .hbm, ⟨5, _⟩ => ⟨S16384x2048, .f32⟩
  | .hbm, ⟨6, _⟩ => ⟨S1x16384x8x256, .f32⟩
  | .hbm, ⟨7, _⟩ => ⟨S16384x1024, .f32⟩
  | .hbm, ⟨8, _⟩ => ⟨S1x16384x8x128, .f32⟩
  | .hbm, ⟨9, _⟩ => ⟨S16384, .i32⟩
  | .hbm, ⟨10, _⟩ => ⟨S1x8x16384x16384, .f32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S_, .f32⟩
  | .hbm, ⟨17, _⟩ => ⟨S_, .f32⟩
  | .hbm, ⟨18, _⟩ => ⟨S1x8x16384x16384, .i1⟩
  | .hbm, ⟨19, _⟩ => ⟨S1x8x16384x16384, .f32⟩
  | .hbm, ⟨20, _⟩ => ⟨S1x8x16384x16384, .f32⟩
  | .hbm, ⟨21, _⟩ => ⟨S_, .f32⟩
  | .hbm, ⟨22, _⟩ => ⟨S1x8x16384, .f32⟩
  | .hbm, ⟨23, _⟩ => ⟨S_, .f32⟩
  | .hbm, ⟨24, _⟩ => ⟨S1x8x16384, .f32⟩
  | .hbm, ⟨25, _⟩ => ⟨S1x8x16384, .f32⟩
  | .hbm, ⟨26, _⟩ => ⟨S1x8x16384x1, .f32⟩
  | .hbm, ⟨27, _⟩ => ⟨S1x8x16384x16384, .f32⟩
  | .hbm, ⟨28, _⟩ => ⟨S1x8x16384x16384, .f32⟩
  | .hbm, ⟨29, _⟩ => ⟨S1x8x16384x16384, .f32⟩
  | .hbm, ⟨30, _⟩ => ⟨S_, .f32⟩
  | .hbm, ⟨31, _⟩ => ⟨S1x8x16384, .f32⟩
  | .hbm, ⟨32, _⟩ => ⟨S1x8x16384x1, .f32⟩
  | .hbm, ⟨33, _⟩ => ⟨S1x8x16384x16384, .f32⟩
  | .hbm, ⟨34, _⟩ => ⟨S1x8x16384x16384, .f32⟩
  | .hbm, ⟨35, _⟩ => ⟨S1x8x16384x16384, .bf16⟩
  | .hbm, ⟨36, _⟩ => ⟨S1x8x16384x16384, .f32⟩
  | .hbm, ⟨37, _⟩ => ⟨S1x8x128x16384, .f32⟩
  | .hbm, ⟨38, _⟩ => ⟨S1x16384x8x128, .f32⟩
  | .hbm, ⟨39, _⟩ => ⟨S16384x1024, .f32⟩
  | .hbm, ⟨40, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel12.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S256x512 : Shape := ⟨2, ![256, 512]⟩
abbrev S512x4096 : Shape := ⟨2, ![512, 4096]⟩
abbrev S1x4096 : Shape := ⟨2, ![1, 4096]⟩
abbrev S1x128 : Shape := ⟨2, ![1, 128]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S256x512, .f32⟩
  | .hbm, ⟨5, _⟩ => ⟨S128, .f32⟩
  | .hbm, ⟨6, _⟩ => ⟨S256x512, .bf16⟩
  | .hbm, ⟨7, _⟩ => ⟨S512x4096, .f32⟩
  | .hbm, ⟨8, _⟩ => ⟨S4096x512, .bf16⟩
  | .hbm, ⟨9, _⟩ => ⟨S512x4096, .bf16⟩
  | .hbm, ⟨10, _⟩ => ⟨S1x4096, .f32⟩
  | .hbm, ⟨11, _⟩ => ⟨S1x128, .f32⟩
  | .hbm, ⟨12, _⟩ => ⟨S1x128, .f32⟩
  | .hbm, ⟨13, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x128, .f32⟩
  | .local _ .vmem, ⟨5, _⟩ => ⟨S256x512, .f32⟩
  | .local _ .vmem, ⟨6, _⟩ => ⟨S1x128, .f32⟩
  | .local _ .vmem, ⟨7, _⟩ => ⟨S256x512, .bf16⟩
  | .local _ .vmem, ⟨8, _⟩ => ⟨S512x4096, .bf16⟩
  | .local _ .vmem, ⟨9, _⟩ => ⟨S256x4096, .f32⟩
  | .local _ .vmem, ⟨10, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S256x512 : Shape := ⟨2, ![256, 512]⟩
abbrev S512x4096 : Shape := ⟨2, ![512, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S256x4x128 : Shape := ⟨3, ![256, 4, 128]⟩
abbrev S256x4 : Shape := ⟨2, ![256, 4]⟩
abbrev S256x4x1 : Shape := ⟨3, ![256, 4, 1]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 84
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S256x512, .f32⟩
  | .hbm, ⟨5, _⟩ => ⟨S128, .f32⟩
  | .hbm, ⟨6, _⟩ => ⟨S256x512, .bf16⟩
  | .hbm, ⟨7, _⟩ => ⟨S512x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S16384x512, .f32⟩
  | .hbm, ⟨25, _⟩ => ⟨S16384x4x128, .f32⟩
  | .hbm, ⟨26, _⟩ => ⟨S16384x4x128, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x128, .f32⟩
  | .hbm, ⟨38, _⟩ => ⟨S16384x4x128, .f32⟩
  | .hbm, ⟨39, _⟩ => ⟨S1x1x128, .f32⟩
  | .hbm, ⟨40, _⟩ => ⟨S16384x4x128, .f32⟩
  | .hbm, ⟨41, _⟩ => ⟨S16384x4x128, .f32⟩
  | .hbm, ⟨42, _⟩ => ⟨S256x4x128, .f32⟩
  | .hbm, ⟨43, _⟩ => ⟨S256x4x128, .f32⟩
  | .hbm, ⟨44, _⟩ => ⟨S_, .f32⟩
  | .hbm, ⟨45, _⟩ => ⟨S256x4, .f32⟩
  | .hbm, ⟨46, _⟩ => ⟨S256x4x1, .f32⟩
  | .hbm, ⟨47, _⟩ => ⟨S_, .f32⟩
  | .hbm, ⟨48, _⟩ => ⟨S256x4x1, .f32⟩
  | .hbm, ⟨49, _⟩ => ⟨S256x4x1, .f32⟩
  | .hbm, ⟨50, _⟩ => ⟨S_, .f32⟩
  | .hbm, ⟨51, _⟩ => ⟨S256x4x1, .f32⟩
  | .hbm, ⟨52, _⟩ => ⟨S256x4x1, .f32⟩
  | .hbm, ⟨53, _⟩ => ⟨S256x4x1, .f32⟩
  | .hbm, ⟨54, _⟩ => ⟨S256x4x128, .f32⟩
  | .hbm, ⟨55, _⟩ => ⟨S256x4x128, .f32⟩
  | .hbm, ⟨56, _⟩ => ⟨S1x1x128, .f32⟩
  | .hbm, ⟨57, _⟩ => ⟨S256x4x128, .f32⟩
  | .hbm, ⟨58, _⟩ => ⟨S256x4x128, .f32⟩
  | .hbm, ⟨59, _⟩ => ⟨S256x512, .f32⟩
  | .hbm, ⟨60, _⟩ => ⟨S256x4x128, .f32⟩
  | .hbm, ⟨61, _⟩ => ⟨S4x16384x256, .f32⟩
  | .hbm, ⟨62, _⟩ => ⟨S_, .f32⟩
  | .hbm, ⟨63, _⟩ => ⟨S4x16384x256, .f32⟩
  | .hbm, ⟨64, _⟩ => ⟨S4x16384x256, .f32⟩
  | .hbm, ⟨65, _⟩ => ⟨S_, .f32⟩
  | .hbm, ⟨66, _⟩ => ⟨S4x16384, .f32⟩
  | .hbm, ⟨67, _⟩ => ⟨S_, .f32⟩
  | .hbm, ⟨68, _⟩ => ⟨S4x16384, .f32⟩
  | .hbm, ⟨69, _⟩ => ⟨S4x16384, .f32⟩
  | .hbm, ⟨70, _⟩ => ⟨S4x16384x1, .f32⟩
  | .hbm, ⟨71, _⟩ => ⟨S4x16384x256, .f32⟩
  | .hbm, ⟨72, _⟩ => ⟨S4x16384x256, .f32⟩
  | .hbm, ⟨73, _⟩ => ⟨S4x16384x256, .f32⟩
  | .hbm, ⟨74, _⟩ => ⟨S_, .f32⟩
  | .hbm, ⟨75, _⟩ => ⟨S4x16384, .f32⟩
  | .hbm, ⟨76, _⟩ => ⟨S4x16384x1, .f32⟩
  | .hbm, ⟨77, _⟩ => ⟨S4x16384x256, .f32⟩
  | .hbm, ⟨78, _⟩ => ⟨S4x16384x256, .f32⟩
  | .hbm, ⟨79, _⟩ => ⟨S4x128x16384, .f32⟩
  | .hbm, ⟨80, _⟩ => ⟨S16384x4x128, .f32⟩
  | .hbm, ⟨81, _⟩ => ⟨S16384x512, .f32⟩
  | .hbm, ⟨82, _⟩ => ⟨S16384x4096, .f32⟩
  | .hbm, ⟨83, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Kernel13.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S16384x4096 : Shape := ⟨2, ![16384, 4096]⟩
abbrev S4096x9224 : Shape := ⟨2, ![4096, 9224]⟩
abbrev S4096x1216 : Shape := ⟨2, ![4096, 1216]⟩
abbrev S_ : Shape := ⟨0, ![]⟩
abbrev S4096x64 : Shape := ⟨2, ![4096, 64]⟩
abbrev S4096x1280 : Shape := ⟨2, ![4096, 1280]⟩
abbrev S4096x3072 : Shape := ⟨2, ![4096, 3072]⟩
abbrev S4096x576 : Shape := ⟨2, ![4096, 576]⟩
abbrev S4096x8 : Shape := ⟨2, ![4096, 8]⟩
abbrev S4096x120 : Shape := ⟨2, ![4096, 120]⟩
abbrev S4096x768 : Shape := ⟨2, ![4096, 768]⟩
abbrev S16384x768 : Shape := ⟨2, ![16384, 768]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 22
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S4096x1216, .f32⟩
  | .hbm, ⟨3, _⟩ => ⟨S_, .f32⟩
  | .hbm, ⟨4, _⟩ => ⟨S4096x64, .f32⟩
  | .hbm, ⟨5, _⟩ => ⟨S4096x1280, .f32⟩
  | .hbm, ⟨6, _⟩ => ⟨S4096x3072, .f32⟩
  | .hbm, ⟨7, _⟩ => ⟨S4096x3072, .f32⟩
  | .hbm, ⟨8, _⟩ => ⟨S4096x1280, .f32⟩
  | .hbm, ⟨9, _⟩ => ⟨S4096x576, .f32⟩
  | .hbm, ⟨10, _⟩ => ⟨S_, .f32⟩
  | .hbm, ⟨11, _⟩ => ⟨S4096x64, .f32⟩
  | .hbm, ⟨12, _⟩ => ⟨S4096x8, .f32⟩
  | .hbm, ⟨13, _⟩ => ⟨S_, .f32⟩
  | .hbm, ⟨14, _⟩ => ⟨S4096x120, .f32⟩
  | .hbm, ⟨15, _⟩ => ⟨S4096x768, .f32⟩
  | .hbm, ⟨16, _⟩ => ⟨S4096x1280, .bf16⟩
  | .hbm, ⟨17, _⟩ => ⟨S4096x3072, .bf16⟩
  | .hbm, ⟨18, _⟩ => ⟨S4096x3072, .bf16⟩
  | .hbm, ⟨19, _⟩ => ⟨S4096x1280, .bf16⟩
  | .hbm, ⟨20, _⟩ => ⟨S4096x768, .bf16⟩
  | .hbm, ⟨21, _⟩ => ⟨S16384x768, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | .local _ .vmem, ⟨5, _⟩ => ⟨S1024x256, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S16384x4096 : Shape := ⟨2, ![16384, 4096]⟩
abbrev S4096x9224 : Shape := ⟨2, ![4096, 9224]⟩
abbrev S16384x9224 : Shape := ⟨2, ![16384, 9224]⟩
abbrev S16384x576 : Shape := ⟨2, ![16384, 576]⟩
abbrev S_ : Shape := ⟨0, ![]⟩
abbrev S16384x640 : Shape := ⟨2, ![16384, 640]⟩
abbrev S16384x8 : Shape := ⟨2, ![16384, 8]⟩
abbrev S16384x128 : Shape := ⟨2, ![16384, 128]⟩
abbrev S16384x768 : Shape := ⟨2, ![16384, 768]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9224, .f32⟩
  | .hbm, ⟨2, _⟩ => ⟨S16384x4096, .f32⟩
  | .hbm, ⟨3, _⟩ => ⟨S16384x9224, .f32⟩
  | .hbm, ⟨4, _⟩ => ⟨S16384x576, .f32⟩
  | .hbm, ⟨5, _⟩ => ⟨S_, .i32⟩
  | .hbm, ⟨6, _⟩ => ⟨S_, .f32⟩
  | .hbm, ⟨7, _⟩ => ⟨S16384x640, .f32⟩
  | .hbm, ⟨8, _⟩ => ⟨S16384x8, .f32⟩
  | .hbm, ⟨9, _⟩ => ⟨S_, .i32⟩
  | .hbm, ⟨10, _⟩ => ⟨S_, .f32⟩
  | .hbm, ⟨11, _⟩ => ⟨S16384x128, .f32⟩
  | .hbm, ⟨12, _⟩ => ⟨S16384x768, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel15.lean ====
abbrev S16384x4096 : Shape := ⟨2, ![16384, 4096]⟩
abbrev S4096x256 : Shape := ⟨2, ![4096, 256]⟩
abbrev S16384x256 : Shape := ⟨2, ![16384, 256]⟩
abbrev S1024x4096 : Shape := ⟨2, ![1024, 4096]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x256, .f32⟩
  | .hbm, ⟨2, _⟩ => ⟨S4096x256, .bf16⟩
  | .hbm, ⟨3, _⟩ => ⟨S16384x256, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x4096 : Shape := ⟨2, ![16384, 4096]⟩
abbrev S4096x256 : Shape := ⟨2, ![4096, 256]⟩
abbrev S16384x256 : Shape := ⟨2, ![16384, 256]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x256, .f32⟩
  | .hbm, ⟨2, _⟩ => ⟨S16384x4096, .f32⟩
  | .hbm, ⟨3, _⟩ => ⟨S16384x256, .f32⟩
  | .hbm, ⟨4, _⟩ => ⟨S16384x256, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S16384x896 : Shape := ⟨2, ![16384, 896]⟩
abbrev S896x1536 : Shape := ⟨2, ![896, 1536]⟩
abbrev S256x2048 : Shape := ⟨2, ![256, 2048]⟩
abbrev S896x8x192 : Shape := ⟨3, ![896, 8, 192]⟩
abbrev S_ : Shape := ⟨0, ![]⟩
abbrev S896x8x64 : Shape := ⟨3, ![896, 8, 64]⟩
abbrev S896x8x256 : Shape := ⟨3, ![896, 8, 256]⟩
abbrev S256x8x256 : Shape := ⟨3, ![256, 8, 256]⟩
abbrev S256x8x128 : Shape := ⟨3, ![256, 8, 128]⟩
abbrev S256x1024 : Shape := ⟨2, ![256, 1024]⟩
abbrev S896x2048 : Shape := ⟨2, ![896, 2048]⟩
abbrev S16384x2048 : Shape := ⟨2, ![16384, 2048]⟩
abbrev S1024x896 : Shape := ⟨2, ![1024, 896]⟩
abbrev S896x512 : Shape := ⟨2, ![896, 512]⟩
abbrev S1024x512 : Shape := ⟨2, ![1024, 512]⟩

abbrev nBuf : Space → Nat
  | .hbm => 17
  | .vmem => 6
  | .smem => 0
  | _ => 0

abbrev bufTy : (tb : Table) → Fin (tcTables nBuf tb) → BufTy
  | .hbm, ⟨0, _⟩ => ⟨S16384x896, .bf16⟩
  | .hbm, ⟨1, _⟩ => ⟨S896x1536, .f32⟩
  | .hbm, ⟨2, _⟩ => ⟨S256x2048, .f32⟩
  | .hbm, ⟨3, _⟩ => ⟨S896x8x192, .f32⟩
  | .hbm, ⟨4, _⟩ => ⟨S_, .f32⟩
  | .hbm, ⟨5, _⟩ => ⟨S896x8x64, .f32⟩
  | .hbm, ⟨6, _⟩ => ⟨S896x8x256, .f32⟩
  | .hbm, ⟨7, _⟩ => ⟨S256x8x256, .f32⟩
  | .hbm, ⟨8, _⟩ => ⟨S256x8x128, .f32⟩
  | .hbm, ⟨9, _⟩ => ⟨S256x1024, .f32⟩
  | .hbm, ⟨10, _⟩ => ⟨S256x8x128, .f32⟩
  | .hbm, ⟨11, _⟩ => ⟨S256x1024, .f32⟩
  | .hbm, ⟨12, _⟩ => ⟨S256x2048, .f32⟩
  | .hbm, ⟨13, _⟩ => ⟨S896x2048, .f32⟩
  | .hbm, ⟨14, _⟩ => ⟨S896x2048, .bf16⟩
  | .hbm, ⟨15, _⟩ => ⟨S256x2048, .bf16⟩
  | .hbm, ⟨16, _⟩ => ⟨S16384x2048, .f32⟩
  | .local _ .vmem, ⟨0, _⟩ => ⟨S1024x896, .bf16⟩
  | .local _ .vmem, ⟨1, _⟩ => ⟨S1024x896, .bf16⟩
  | .local _ .vmem, ⟨2, _⟩ => ⟨S896x512, .bf16⟩
  | .local _ .vmem, ⟨3, _⟩ => ⟨S896x512, .bf16⟩
  | .local _ .vmem, ⟨4, _⟩ => ⟨S1024x512, .f32⟩
  | .local _ .vmem, ⟨5, _⟩ => ⟨S1024x512, .f32⟩
  | _, _ => ⟨S16384x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S16384x896 : Shape := ⟨2, ![16384, 896]⟩
abbrev S896x1536 : Shape := ⟨2, ![896, 1536]⟩
abbrev S256x2048 : Shape := ⟨2, ![256, 2048]⟩
abbrev S16384x1536 : Shape := ⟨2, ![16384, 1536]⟩
abbrev S16384x8x192 : Shape := ⟨3, ![16384, 8, 192]⟩
abbrev S_ : Shape := ⟨0, ![]⟩
abbrev S16384x8x256 : Shape := ⟨3, ![16384, 8, 256]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x896, .bf16⟩
  | .hbm, ⟨1, _⟩ => ⟨S896x1536, .f32⟩
  | .hbm, ⟨2, _⟩ => ⟨S256x2048, .f32⟩
  | .hbm, ⟨3, _⟩ => ⟨S16384x896, .f32⟩
  | .hbm, ⟨4, _⟩ => ⟨S16384x1536, .f32⟩
  | .hbm, ⟨5, _⟩ => ⟨S16384x8x192, .f32⟩
  | .hbm, ⟨6, _⟩ => ⟨S_, .i32⟩
  | .hbm, ⟨7, _⟩ => ⟨S_, .f32⟩
  | .hbm, ⟨8, _⟩ => ⟨S16384x8x256, .f32⟩
  | .hbm, ⟨9, _⟩ => ⟨S16384x2048, .f32⟩
  | _, _ => ⟨S16384x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel17.lean ====
abbrev S16384x256 : Shape := ⟨2, ![16384, 256]⟩
abbrev S896x1536 : Shape := ⟨2, ![896, 1536]⟩
abbrev S256x2048 : Shape := ⟨2, ![256, 2048]⟩
abbrev S896x8x192 : Shape := ⟨3, ![896, 8, 192]⟩
abbrev S_ : Shape := ⟨0, ![]⟩
abbrev S896x8x64 : Shape := ⟨3, ![896, 8, 64]⟩
abbrev S896x8x256 : Shape := ⟨3, ![896, 8, 256]⟩
abbrev S256x8x256 : Shape := ⟨3, ![256, 8, 256]⟩
abbrev S256x8x128 : Shape := ⟨3, ![256, 8, 128]⟩
abbrev S256x1024 : Shape := ⟨2, ![256, 1024]⟩
abbrev S896x2048 : Shape := ⟨2, ![896, 2048]⟩
abbrev S16384x2048 : Shape := ⟨2, ![16384, 2048]⟩
abbrev S1024x256 : Shape := ⟨2, ![1024, 256]⟩
abbrev S256x512 : Shape := ⟨2, ![256, 512]⟩
abbrev S1024x512 : Shape := ⟨2, ![1024, 512]⟩

abbrev nBuf : Space → Nat
  | .hbm => 17
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S896x1536, .f32⟩
  | .hbm, ⟨2, _⟩ => ⟨S256x2048, .f32⟩
  | .hbm, ⟨3, _⟩ => ⟨S896x8x192, .f32⟩
  | .hbm, ⟨4, _⟩ => ⟨S_, .f32⟩
  | .hbm, ⟨5, _⟩ => ⟨S896x8x64, .f32⟩
  | .hbm, ⟨6, _⟩ => ⟨S896x8x256, .f32⟩
  | .hbm, ⟨7, _⟩ => ⟨S256x8x256, .f32⟩
  | .hbm, ⟨8, _⟩ => ⟨S256x8x128, .f32⟩
  | .hbm, ⟨9, _⟩ => ⟨S256x1024, .f32⟩
  | .hbm, ⟨10, _⟩ => ⟨S256x8x128, .f32⟩
  | .hbm, ⟨11, _⟩ => ⟨S256x1024, .f32⟩
  | .hbm, ⟨12, _⟩ => ⟨S256x2048, .f32⟩
  | .hbm, ⟨13, _⟩ => ⟨S896x2048, .f32⟩
  | .hbm, ⟨14, _⟩ => ⟨S896x2048, .bf16⟩
  | .hbm, ⟨15, _⟩ => ⟨S256x2048, .bf16⟩
  | .hbm, ⟨16, _⟩ => ⟨S16384x2048, .f32⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S256x512, .bf16⟩
  | .local _ .vmem, ⟨4, _⟩ => ⟨S1024x512, .f32⟩
  | .local _ .vmem, ⟨5, _⟩ => ⟨S1024x512, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x256 : Shape := ⟨2, ![16384, 256]⟩
abbrev S896x1536 : Shape := ⟨2, ![896, 1536]⟩
abbrev S256x2048 : Shape := ⟨2, ![256, 2048]⟩
abbrev S16384x2048 : Shape := ⟨2, ![16384, 2048]⟩
abbrev S16384x8x256 : Shape := ⟨3, ![16384, 8, 256]⟩
abbrev S16384x8x128 : Shape := ⟨3, ![16384, 8, 128]⟩
abbrev S16384x1024 : Shape := ⟨2, ![16384, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S896x1536, .f32⟩
  | .hbm, ⟨2, _⟩ => ⟨S256x2048, .f32⟩
  | .hbm, ⟨3, _⟩ => ⟨S16384x256, .f32⟩
  | .hbm, ⟨4, _⟩ => ⟨S16384x2048, .f32⟩
  | .hbm, ⟨5, _⟩ => ⟨S16384x8x256, .f32⟩
  | .hbm, ⟨6, _⟩ => ⟨S16384x8x128, .f32⟩
  | .hbm, ⟨7, _⟩ => ⟨S16384x1024, .f32⟩
  | .hbm, ⟨8, _⟩ => ⟨S16384x8x128, .f32⟩
  | .hbm, ⟨9, _⟩ => ⟨S16384x1024, .f32⟩
  | .hbm, ⟨10, _⟩ => ⟨S16384x2048, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S16384x1280 : Shape := ⟨2, ![16384, 1280]⟩
abbrev S896 : Shape := ⟨1, ![896]⟩
abbrev S256 : Shape := ⟨1, ![256]⟩
abbrev S1x896 : Shape := ⟨2, ![1, 896]⟩
abbrev S1x256 : Shape := ⟨2, ![1, 256]⟩
abbrev S16384x896 : Shape := ⟨2, ![16384, 896]⟩
abbrev S16384x256 : Shape := ⟨2, ![16384, 256]⟩
abbrev S16384x128 : Shape := ⟨2, ![16384, 128]⟩
abbrev S512x1280 : Shape := ⟨2, ![512, 1280]⟩
abbrev S512x896 : Shape := ⟨2, ![512, 896]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1280, .f32⟩
  | .hbm, ⟨1, _⟩ => ⟨S896, .f32⟩
  | .hbm, ⟨2, _⟩ => ⟨S256, .f32⟩
  | .hbm, ⟨3, _⟩ => ⟨S1x896, .f32⟩
  | .hbm, ⟨4, _⟩ => ⟨S1x256, .f32⟩
  | .hbm, ⟨5, _⟩ => ⟨S16384x896, .bf16⟩
  | .hbm, ⟨6, _⟩ => ⟨S16384x256, .bf16⟩
  | .hbm, ⟨7, _⟩ => ⟨S16384x128, .f32⟩
  | .local _ .vmem, ⟨0, _⟩ => ⟨S512x1280, .f32⟩
  | .local _ .vmem, ⟨1, _⟩ => ⟨S512x1280, .f32⟩
  | .local _ .vmem, ⟨2, _⟩ => ⟨S1x896, .f32⟩
  | .local _ .vmem, ⟨3, _⟩ => ⟨S1x256, .f32⟩
  | .local _ .vmem, ⟨4, _⟩ => ⟨S512x896, .bf16⟩
  | .local _ .vmem, ⟨5, _⟩ => ⟨S512x896, .bf16⟩
  | .local _ .vmem, ⟨6, _⟩ => ⟨S512x256, .bf16⟩
  | .local _ .vmem, ⟨7, _⟩ => ⟨S512x256, .bf16⟩
  | .local _ .vmem, ⟨8, _⟩ => ⟨S512x128, .f32⟩
  | .local _ .vmem, ⟨9, _⟩ => ⟨S512x128, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S16384x1280 : Shape := ⟨2, ![16384, 1280]⟩
abbrev S896 : Shape := ⟨1, ![896]⟩
abbrev S256 : Shape := ⟨1, ![256]⟩
abbrev S16384x896 : Shape := ⟨2, ![16384, 896]⟩
abbrev S_ : Shape := ⟨0, ![]⟩
abbrev S16384 : Shape := ⟨1, ![16384]⟩
abbrev S16384x1 : Shape := ⟨2, ![16384, 1]⟩
abbrev S1x896 : Shape := ⟨2, ![1, 896]⟩
abbrev S16384x256 : Shape := ⟨2, ![16384, 256]⟩
abbrev S1x256 : Shape := ⟨2, ![1, 256]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S896, .f32⟩
  | .hbm, ⟨2, _⟩ => ⟨S256, .f32⟩
  | .hbm, ⟨3, _⟩ => ⟨S16384x896, .f32⟩
  | .hbm, ⟨4, _⟩ => ⟨S16384x896, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x896, .f32⟩
  | .hbm, ⟨16, _⟩ => ⟨S16384x896, .f32⟩
  | .hbm, ⟨17, _⟩ => ⟨S1x896, .f32⟩
  | .hbm, ⟨18, _⟩ => ⟨S16384x896, .f32⟩
  | .hbm, ⟨19, _⟩ => ⟨S16384x896, .f32⟩
  | .hbm, ⟨20, _⟩ => ⟨S16384x896, .bf16⟩
  | .hbm, ⟨21, _⟩ => ⟨S16384x256, .f32⟩
  | .hbm, ⟨22, _⟩ => ⟨S16384x256, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x256, .f32⟩
  | .hbm, ⟨34, _⟩ => ⟨S16384x256, .f32⟩
  | .hbm, ⟨35, _⟩ => ⟨S1x256, .f32⟩
  | .hbm, ⟨36, _⟩ => ⟨S16384x256, .f32⟩
  | .hbm, ⟨37, _⟩ => ⟨S16384x256, .f32⟩
  | .hbm, ⟨38, _⟩ => ⟨S16384x256, .bf16⟩
  | .hbm, ⟨39, _⟩ => ⟨S16384x128, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel19.lean ====
abbrev S256x4096 : Shape := ⟨2, ![256, 4096]⟩
abbrev S4096x512 : Shape := ⟨2, ![4096, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S4096x512, .bf16⟩
  | .hbm, ⟨3, _⟩ => ⟨S256x512, .f32⟩
  | .local _ .vmem, ⟨0, _⟩ => ⟨S256x4096, .bf16⟩
  | .local _ .vmem, ⟨1, _⟩ => ⟨S4096x512, .bf16⟩
  | .local _ .vmem, ⟨2, _⟩ => ⟨S256x512, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S256x4096 : Shape := ⟨2, ![256, 4096]⟩
abbrev S4096x512 : Shape := ⟨2, ![4096, 512]⟩
abbrev S256x512 : Shape := ⟨2, ![256, 512]⟩

abbrev nBuf : Space → Nat
  | .hbm => 4
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S256x4096, .f32⟩
  | .hbm, ⟨3, _⟩ => ⟨S256x512, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel20.lean ====
abbrev S256x4096 : Shape := ⟨2, ![256, 4096]⟩
abbrev S4096x512 : Shape := ⟨2, ![4096, 512]⟩
abbrev S256x512 : Shape := ⟨2, ![256, 512]⟩

abbrev nBuf : Space → Nat
  | .hbm => 4
  | .vmem => 3
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S4096x512, .bf16⟩
  | .hbm, ⟨3, _⟩ => ⟨S256x512, .bf16⟩
  | .local _ .vmem, ⟨0, _⟩ => ⟨S256x4096, .bf16⟩
  | .local _ .vmem, ⟨1, _⟩ => ⟨S4096x512, .bf16⟩
  | .local _ .vmem, ⟨2, _⟩ => ⟨S256x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S256x4096 : Shape := ⟨2, ![256, 4096]⟩
abbrev S4096x512 : Shape := ⟨2, ![4096, 512]⟩
abbrev S256x512 : Shape := ⟨2, ![256, 512]⟩

abbrev nBuf : Space → Nat
  | .hbm => 5
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4096x512, .f32⟩
  | .hbm, ⟨2, _⟩ => ⟨S256x4096, .f32⟩
  | .hbm, ⟨3, _⟩ => ⟨S256x512, .f32⟩
  | .hbm, ⟨4, _⟩ => ⟨S256x512, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S256x4096 : Shape := ⟨2, ![256, 4096]⟩
abbrev S4096 : Shape := ⟨1, ![4096]⟩
abbrev S1x4096 : Shape := ⟨2, ![1, 4096]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S1x4096, .f32⟩
  | .hbm, ⟨3, _⟩ => ⟨S256x4096, .bf16⟩
  | .local _ .vmem, ⟨0, _⟩ => ⟨S256x4096, .f32⟩
  | .local _ .vmem, ⟨1, _⟩ => ⟨S1x4096, .f32⟩
  | .local _ .vmem, ⟨2, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference21Ideal.lean ====
abbrev S256x4096 : Shape := ⟨2, ![256, 4096]⟩
abbrev S4096 : Shape := ⟨1, ![4096]⟩
abbrev S_ : Shape := ⟨0, ![]⟩
abbrev S256 : Shape := ⟨1, ![256]⟩
abbrev S256x1 : Shape := ⟨2, ![256, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096, .f32⟩
  | .hbm, ⟨2, _⟩ => ⟨S256x4096, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x4096, .f32⟩
  | .hbm, ⟨14, _⟩ => ⟨S256x4096, .f32⟩
  | .hbm, ⟨15, _⟩ => ⟨S1x4096, .f32⟩
  | .hbm, ⟨16, _⟩ => ⟨S256x4096, .f32⟩
  | .hbm, ⟨17, _⟩ => ⟨S256x4096, .f32⟩
  | .hbm, ⟨18, _⟩ => ⟨S256x4096, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel22.lean ====
abbrev S16384x1280 : Shape := ⟨2, ![16384, 1280]⟩
abbrev S128 : Shape := ⟨1, ![128]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S1x16384x1x128 : Shape := ⟨4, ![1, 16384, 1, 128]⟩
abbrev S1x16384x128 : Shape := ⟨3, ![1, 16384, 128]⟩
abbrev S3x16384x128 : Shape := ⟨3, ![3, 16384, 128]⟩
abbrev S1x128 : Shape := ⟨2, ![1, 128]⟩
abbrev S8x16384x128 : Shape := ⟨3, ![8, 16384, 128]⟩
abbrev S256x1280 : Shape := ⟨2, ![256, 1280]⟩
abbrev S3x256x128 : Shape := ⟨3, ![3, 256, 128]⟩
abbrev S8x256x128 : Shape := ⟨3, ![8, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 53
  | .vmem => 12
  | .smem => 0
  | _ => 0

abbrev bufTy : (tb : Table) → Fin (tcTables nBuf tb) → BufTy
  | .hbm, ⟨0, _⟩ => ⟨S16384x1280, .f32⟩
  | .hbm, ⟨1, _⟩ => ⟨S128, .f32⟩
  | .hbm, ⟨2, _⟩ => ⟨S128, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16384, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S_, .f32⟩
  | .hbm, ⟨28, _⟩ => ⟨S16384x96, .f32⟩
  | .hbm, ⟨29, _⟩ => ⟨S_, .f32⟩
  | .hbm, ⟨30, _⟩ => ⟨S16384x16, .f32⟩
  | .hbm, ⟨31, _⟩ => ⟨S16384x128, .f32⟩
  | .hbm, ⟨32, _⟩ => ⟨S16384x16, .f32⟩
  | .hbm, ⟨33, _⟩ => ⟨S16384x128, .f32⟩
  | .hbm, ⟨34, _⟩ => ⟨S16384x128, .f32⟩
  | .hbm, ⟨35, _⟩ => ⟨S1x16384x1x128, .f32⟩
  | .hbm, ⟨36, _⟩ => ⟨S1x16384x1x128, .f32⟩
  | .hbm, ⟨37, _⟩ => ⟨S16384x128, .f32⟩
  | .hbm, ⟨38, _⟩ => ⟨S1x16384x1x128, .f32⟩
  | .hbm, ⟨39, _⟩ => ⟨S1x16384x1x128, .f32⟩
  | .hbm, ⟨40, _⟩ => ⟨S16384x128, .f32⟩
  | .hbm, ⟨41, _⟩ => ⟨S1x16384x1x128, .f32⟩
  | .hbm, ⟨42, _⟩ => ⟨S1x16384x1x128, .f32⟩
  | .hbm, ⟨43, _⟩ => ⟨S16384x128, .f32⟩
  | .hbm, ⟨44, _⟩ => ⟨S1x16384x128, .f32⟩
  | .hbm, ⟨45, _⟩ => ⟨S1x16384x128, .f32⟩
  | .hbm, ⟨46, _⟩ => ⟨S1x16384x128, .f32⟩
  | .hbm, ⟨47, _⟩ => ⟨S3x16384x128, .f32⟩
  | .hbm, ⟨48, _⟩ => ⟨S1x128, .f32⟩
  | .hbm, ⟨49, _⟩ => ⟨S1x128, .f32⟩
  | .hbm, ⟨50, _⟩ => ⟨S8x16384x128, .bf16⟩
  | .hbm, ⟨51, _⟩ => ⟨S16384x128, .bf16⟩
  | .hbm, ⟨52, _⟩ => ⟨S16384x128, .bf16⟩
  | .local _ .vmem, ⟨0, _⟩ => ⟨S256x1280, .f32⟩
  | .local _ .vmem, ⟨1, _⟩ => ⟨S256x1280, .f32⟩
  | .local _ .vmem, ⟨2, _⟩ => ⟨S1x128, .f32⟩
  | .local _ .vmem, ⟨3, _⟩ => ⟨S1x128, .f32⟩
  | .local _ .vmem, ⟨4, _⟩ => ⟨S3x256x128, .f32⟩
  | .local _ .vmem, ⟨5, _⟩ => ⟨S3x256x128, .f32⟩
  | .local _ .vmem, ⟨6, _⟩ => ⟨S8x256x128, .bf16⟩
  | .local _ .vmem, ⟨7, _⟩ => ⟨S8x256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S16384x1280 : Shape := ⟨2, ![16384, 1280]⟩
abbrev S128 : Shape := ⟨1, ![128]⟩
abbrev S16384x1024 : Shape := ⟨2, ![16384, 1024]⟩
abbrev S16384 : Shape := ⟨1, ![16384]⟩
abbrev S16384x1 : Shape := ⟨2, ![16384, 1]⟩
abbrev S16 : Shape := ⟨1, ![16]⟩
abbrev S_ : Shape := ⟨0, ![]⟩
abbrev S1x16 : Shape := ⟨2, ![1, 16]⟩
abbrev S16384x16 : Shape := ⟨2, ![16384, 16]⟩
abbrev S16384x1x16 : Shape := ⟨3, ![16384, 1, 16]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x16 : Shape := ⟨3, ![16384, 8, 16]⟩
abbrev S16384x8x96 : Shape := ⟨3, ![16384, 8, 96]⟩
abbrev S16384x128 : Shape := ⟨2, ![16384, 128]⟩
abbrev S16384x1x128 : Shape := ⟨3, ![16384, 1, 128]⟩
abbrev S16384x1x1 : Shape := ⟨3, ![16384, 1, 1]⟩
abbrev S16384x1x96 : Shape := ⟨3, ![16384, 1, 96]⟩
abbrev S8x16384x128 : Shape := ⟨3, ![8, 16384, 128]⟩

abbrev nBuf : Space → Nat
  | .hbm => 120
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S128, .f32⟩
  | .hbm, ⟨2, _⟩ => ⟨S128, .f32⟩
  | .hbm, ⟨3, _⟩ => ⟨S16384x1024, .f32⟩
  | .hbm, ⟨4, _⟩ => ⟨S16384, .f32⟩
  | .hbm, ⟨5, _⟩ => ⟨S16384x1, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x1x16, .f32⟩
  | .hbm, ⟨26, _⟩ => ⟨S16384x16, .f32⟩
  | .hbm, ⟨27, _⟩ => ⟨S16384x1x16, .f32⟩
  | .hbm, ⟨28, _⟩ => ⟨S16384x8x128, .f32⟩
  | .hbm, ⟨29, _⟩ => ⟨S16384x8x128, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x1, .f32⟩
  | .hbm, ⟨40, _⟩ => ⟨S16384x8x128, .f32⟩
  | .hbm, ⟨41, _⟩ => ⟨S16384x8x128, .f32⟩
  | .hbm, ⟨42, _⟩ => ⟨S1x1x128, .f32⟩
  | .hbm, ⟨43, _⟩ => ⟨S16384x8x128, .f32⟩
  | .hbm, ⟨44, _⟩ => ⟨S16384x8x128, .f32⟩
  | .hbm, ⟨45, _⟩ => ⟨S16384x8x16, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x16, .f32⟩
  | .hbm, ⟨50, _⟩ => ⟨S16384x8x16, .f32⟩
  | .hbm, ⟨51, _⟩ => ⟨S16384x8x16, .f32⟩
  | .hbm, ⟨52, _⟩ => ⟨S16384x8x16, .f32⟩
  | .hbm, ⟨53, _⟩ => ⟨S16384x8x16, .f32⟩
  | .hbm, ⟨54, _⟩ => ⟨S16384x8x16, .f32⟩
  | .hbm, ⟨55, _⟩ => ⟨S16384x8x16, .f32⟩
  | .hbm, ⟨56, _⟩ => ⟨S16384x8x16, .f32⟩
  | .hbm, ⟨57, _⟩ => ⟨S16384x8x96, .f32⟩
  | .hbm, ⟨58, _⟩ => ⟨S16384x8x128, .f32⟩
  | .hbm, ⟨59, _⟩ => ⟨S_, .f32⟩
  | .hbm, ⟨60, _⟩ => ⟨S16384x8x128, .f32⟩
  | .hbm, ⟨61, _⟩ => ⟨S16384x8x128, .f32⟩
  | .hbm, ⟨62, _⟩ => ⟨S16384x128, .f32⟩
  | .hbm, ⟨63, _⟩ => ⟨S16384, .f32⟩
  | .hbm, ⟨64, _⟩ => ⟨S16384x1, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S1x16, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S16384x16, .f32⟩
  | .hbm, ⟨84, _⟩ => ⟨S16384x1x16, .f32⟩
  | .hbm, ⟨85, _⟩ => ⟨S16384x16, .f32⟩
  | .hbm, ⟨86, _⟩ => ⟨S16384x1x16, .f32⟩
  | .hbm, ⟨87, _⟩ => ⟨S16384x1x128, .f32⟩
  | .hbm, ⟨88, _⟩ => ⟨S16384x1x128, .f32⟩
  | .hbm, ⟨89, _⟩ => ⟨S_, .f32⟩
  | .hbm, ⟨90, _⟩ => ⟨S16384x1, .f32⟩
  | .hbm, ⟨91, _⟩ => ⟨S16384x1x1, .f32⟩
  | .hbm, ⟨92, _⟩ => ⟨S_, .f32⟩
  | .hbm, ⟨93, _⟩ => ⟨S16384x1x1, .f32⟩
  | .hbm, ⟨94, _⟩ => ⟨S16384x1x1, .f32⟩
  | .hbm, ⟨95, _⟩ => ⟨S_, .f32⟩
  | .hbm, ⟨96, _⟩ => ⟨S16384x1x1, .f32⟩
  | .hbm, ⟨97, _⟩ => ⟨S16384x1x1, .f32⟩
  | .hbm, ⟨98, _⟩ => ⟨S16384x1x1, .f32⟩
  | .hbm, ⟨99, _⟩ => ⟨S16384x1x128, .f32⟩
  | .hbm, ⟨100, _⟩ => ⟨S16384x1x128, .f32⟩
  | .hbm, ⟨101, _⟩ => ⟨S1x1x128, .f32⟩
  | .hbm, ⟨102, _⟩ => ⟨S16384x1x128, .f32⟩
  | .hbm, ⟨103, _⟩ => ⟨S16384x1x128, .f32⟩
  | .hbm, ⟨104, _⟩ => ⟨S16384x1x16, .f32⟩
  | .hbm, ⟨105, _⟩ => ⟨S16384x1x16, .f32⟩
  | .hbm, ⟨106, _⟩ => ⟨S16384x1x16, .f32⟩
  | .hbm, ⟨107, _⟩ => ⟨S16384x1x16, .f32⟩
  | .hbm, ⟨108, _⟩ => ⟨S16384x1x16, .f32⟩
  | .hbm, ⟨109, _⟩ => ⟨S16384x1x16, .f32⟩
  | .hbm, ⟨110, _⟩ => ⟨S16384x1x16, .f32⟩
  | .hbm, ⟨111, _⟩ => ⟨S16384x1x16, .f32⟩
  | .hbm, ⟨112, _⟩ => ⟨S16384x1x96, .f32⟩
  | .hbm, ⟨113, _⟩ => ⟨S16384x1x128, .f32⟩
  | .hbm, ⟨114, _⟩ => ⟨S8x16384x128, .f32⟩
  | .hbm, ⟨115, _⟩ => ⟨S8x16384x128, .bf16⟩
  | .hbm, ⟨116, _⟩ => ⟨S16384x128, .f32⟩
  | .hbm, ⟨117, _⟩ => ⟨S16384x128, .bf16⟩
  | .hbm, ⟨118, _⟩ => ⟨S16384x128, .f32⟩
  | .hbm, ⟨119, _⟩ => ⟨S16384x128, .bf16⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_cst_12 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩

abbrev nD : Nat := 1
abbrev τ : Topo := Topo.v7x

variable {F : FTy → Type} [FloatOps F]
-- ==== Kernel23.lean ====
abbrev S16384x3072 : Shape := ⟨2, ![16384, 3072]⟩
abbrev S128 : Shape := ⟨1, ![128]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S1x16384x1x128 : Shape := ⟨4, ![1, 16384, 1, 128]⟩
abbrev S1x16384x128 : Shape := ⟨3, ![1, 16384, 128]⟩
abbrev S3x16384x128 : Shape := ⟨3, ![3, 16384, 128]⟩
abbrev S1x128 : Shape := ⟨2, ![1, 128]⟩
abbrev S16384x1024 : Shape := ⟨2, ![16384, 1024]⟩
abbrev S256x3072 : Shape := ⟨2, ![256, 3072]⟩
abbrev S3x256x128 : Shape := ⟨3, ![3, 256, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 53
  | .vmem => 12
  | .smem => 0
  | _ => 0

abbrev bufTy : (tb : Table) → Fin (tcTables nBuf tb) → BufTy
  | .hbm, ⟨0, _⟩ => ⟨S16384x3072, .f32⟩
  | .hbm, ⟨1, _⟩ => ⟨S128, .f32⟩
  | .hbm, ⟨2, _⟩ => ⟨S128, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16384, .f32⟩
  | .hbm, ⟨18, _⟩ => ⟨S16384x1, .f32⟩
  | .hbm, ⟨19, _⟩ => ⟨S1x16, .f32⟩
  | .hbm, ⟨20, _⟩ => ⟨S16384x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x96, .f32⟩
  | .hbm, ⟨27, _⟩ => ⟨S_, .f32⟩
  | .hbm, ⟨28, _⟩ => ⟨S16384x96, .f32⟩
  | .hbm, ⟨29, _⟩ => ⟨S_, .f32⟩
  | .hbm, ⟨30, _⟩ => ⟨S16384x16, .f32⟩
  | .hbm, ⟨31, _⟩ => ⟨S16384x128, .f32⟩
  | .hbm, ⟨32, _⟩ => ⟨S16384x16, .f32⟩
  | .hbm, ⟨33, _⟩ => ⟨S16384x128, .f32⟩
  | .hbm, ⟨34, _⟩ => ⟨S16384x128, .f32⟩
  | .hbm, ⟨35, _⟩ => ⟨S1x16384x1x128, .f32⟩
  | .hbm, ⟨36, _⟩ => ⟨S1x16384x1x128, .f32⟩
  | .hbm, ⟨37, _⟩ => ⟨S16384x128, .f32⟩
  | .hbm, ⟨38, _⟩ => ⟨S1x16384x1x128, .f32⟩
  | .hbm, ⟨39, _⟩ => ⟨S1x16384x1x128, .f32⟩
  | .hbm, ⟨40, _⟩ => ⟨S16384x128, .f32⟩
  | .hbm, ⟨41, _⟩ => ⟨S1x16384x1x128, .f32⟩
  | .hbm, ⟨42, _⟩ => ⟨S1x16384x1x128, .f32⟩
  | .hbm, ⟨43, _⟩ => ⟨S16384x128, .f32⟩
  | .hbm, ⟨44, _⟩ => ⟨S1x16384x128, .f32⟩
  | .hbm, ⟨45, _⟩ => ⟨S1x16384x128, .f32⟩
  | .hbm, ⟨46, _⟩ => ⟨S1x16384x128, .f32⟩
  | .hbm, ⟨47, _⟩ => ⟨S3x16384x128, .f32⟩
  | .hbm, ⟨48, _⟩ => ⟨S1x128, .f32⟩
  | .hbm, ⟨49, _⟩ => ⟨S1x128, .f32⟩
  | .hbm, ⟨50, _⟩ => ⟨S16384x1024, .bf16⟩
  | .hbm, ⟨51, _⟩ => ⟨S16384x1024, .bf16⟩
  | .hbm, ⟨52, _⟩ => ⟨S16384x1024, .bf16⟩
  | .local _ .vmem, ⟨0, _⟩ => ⟨S256x3072, .f32⟩
  | .local _ .vmem, ⟨1, _⟩ => ⟨S256x3072, .f32⟩
  | .local _ .vmem, ⟨2, _⟩ => ⟨S1x128, .f32⟩
  | .local _ .vmem, ⟨3, _⟩ => ⟨S1x128, .f32⟩
  | .local _ .vmem, ⟨4, _⟩ => ⟨S3x256x128, .f32⟩
  | .local _ .vmem, ⟨5, _⟩ => ⟨S3x256x128, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S16384x3072 : Shape := ⟨2, ![16384, 3072]⟩
abbrev S128 : Shape := ⟨1, ![128]⟩
abbrev S16384x1024 : Shape := ⟨2, ![16384, 1024]⟩
abbrev S16384 : Shape := ⟨1, ![16384]⟩
abbrev S16384x1 : Shape := ⟨2, ![16384, 1]⟩
abbrev S16 : Shape := ⟨1, ![16]⟩
abbrev S_ : Shape := ⟨0, ![]⟩
abbrev S1x16 : Shape := ⟨2, ![1, 16]⟩
abbrev S16384x16 : Shape := ⟨2, ![16384, 16]⟩
abbrev S16384x1x16 : Shape := ⟨3, ![16384, 1, 16]⟩
abbrev S16384x8x128 : Shape := ⟨3, ![16384, 8, 128]⟩
abbrev S16384x8 : Shape := ⟨2, ![16384, 8]⟩
abbrev S16384x8x1 : Shape := ⟨3, ![16384, 8, 1]⟩
abbrev S1x1x128 : Shape := ⟨3, ![1, 1, 128]⟩
abbrev S16384x8x16 : Shape := ⟨3, ![16384, 8, 16]⟩
abbrev S16384x8x96 : Shape := ⟨3, ![16384, 8, 96]⟩

abbrev nBuf : Space → Nat
  | .hbm => 124
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S128, .f32⟩
  | .hbm, ⟨2, _⟩ => ⟨S128, .f32⟩
  | .hbm, ⟨3, _⟩ => ⟨S16384x1024, .f32⟩
  | .hbm, ⟨4, _⟩ => ⟨S16384, .f32⟩
  | .hbm, ⟨5, _⟩ => ⟨S16384x1, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x1x16, .f32⟩
  | .hbm, ⟨26, _⟩ => ⟨S16384x16, .f32⟩
  | .hbm, ⟨27, _⟩ => ⟨S16384x1x16, .f32⟩
  | .hbm, ⟨28, _⟩ => ⟨S16384x8x128, .f32⟩
  | .hbm, ⟨29, _⟩ => ⟨S16384x8x128, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x1, .f32⟩
  | .hbm, ⟨40, _⟩ => ⟨S16384x8x128, .f32⟩
  | .hbm, ⟨41, _⟩ => ⟨S16384x8x128, .f32⟩
  | .hbm, ⟨42, _⟩ => ⟨S1x1x128, .f32⟩
  | .hbm, ⟨43, _⟩ => ⟨S16384x8x128, .f32⟩
  | .hbm, ⟨44, _⟩ => ⟨S16384x8x128, .f32⟩
  | .hbm, ⟨45, _⟩ => ⟨S16384x8x16, .f32⟩
  | .hbm, ⟨46, _⟩ => ⟨S16384x8x16, .f32⟩
  | .hbm, ⟨47, _⟩ => ⟨S16384x8x16, .f32⟩
  | .hbm, ⟨48, _⟩ => ⟨S16384x8x16, .f32⟩
  | .hbm, ⟨49, _⟩ => ⟨S16384x8x16, .f32⟩
  | .hbm, ⟨50, _⟩ => ⟨S16384x8x16, .f32⟩
  | .hbm, ⟨51, _⟩ => ⟨S16384x8x16, .f32⟩
  | .hbm, ⟨52, _⟩ => ⟨S16384x8x16, .f32⟩
  | .hbm, ⟨53, _⟩ => ⟨S16384x8x16, .f32⟩
  | .hbm, ⟨54, _⟩ => ⟨S16384x8x16, .f32⟩
  | .hbm, ⟨55, _⟩ => ⟨S16384x8x16, .f32⟩
  | .hbm, ⟨56, _⟩ => ⟨S16384x8x16, .f32⟩
  | .hbm, ⟨57, _⟩ => ⟨S16384x8x96, .f32⟩
  | .hbm, ⟨58, _⟩ => ⟨S16384x8x128, .f32⟩
  | .hbm, ⟨59, _⟩ => ⟨S_, .f32⟩
  | .hbm, ⟨60, _⟩ => ⟨S16384x8x128, .f32⟩
  | .hbm, ⟨61, _⟩ => ⟨S16384x8x128, .f32⟩
  | .hbm, ⟨62, _⟩ => ⟨S16384x1024, .f32⟩
  | .hbm, ⟨63, _⟩ => ⟨S16384, .f32⟩
  | .hbm, ⟨64, _⟩ => ⟨S16384x1, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S_, .f32⟩
  | .hbm, ⟨77, _⟩ => ⟨S16, .f32⟩
  | .hbm, ⟨78, _⟩ => ⟨S16, .f32⟩
  | .hbm, ⟨79, _⟩ => ⟨S1x16, .f32⟩
  | .hbm, ⟨80, _⟩ => ⟨S16384x16, .f32⟩
  | .hbm, ⟨81, _⟩ => ⟨S16384x16, .f32⟩
  | .hbm, ⟨82, _⟩ => ⟨S16384x16, .f32⟩
  | .hbm, ⟨83, _⟩ => ⟨S16384x16, .f32⟩
  | .hbm, ⟨84, _⟩ => ⟨S16384x1x16, .f32⟩
  | .hbm, ⟨85, _⟩ => ⟨S16384x16, .f32⟩
  | .hbm, ⟨86, _⟩ => ⟨S16384x1x16, .f32⟩
  | .hbm, ⟨87, _⟩ => ⟨S16384x8x128, .f32⟩
  | .hbm, ⟨88, _⟩ => ⟨S16384x8x128, .f32⟩
  | .hbm, ⟨89, _⟩ => ⟨S_, .f32⟩
  | .hbm, ⟨90, _⟩ => ⟨S16384x8, .f32⟩
  | .hbm, ⟨91, _⟩ => ⟨S16384x8x1, .f32⟩
  | .hbm, ⟨92, _⟩ => ⟨S_, .f32⟩
  | .hbm, ⟨93, _⟩ => ⟨S16384x8x1, .f32⟩
  | .hbm, ⟨94, _⟩ => ⟨S16384x8x1, .f32⟩
  | .hbm, ⟨95, _⟩ => ⟨S_, .f32⟩
  | .hbm, ⟨96, _⟩ => ⟨S16384x8x1, .f32⟩
  | .hbm, ⟨97, _⟩ => ⟨S16384x8x1, .f32⟩
  | .hbm, ⟨98, _⟩ => ⟨S16384x8x1, .f32⟩
  | .hbm, ⟨99, _⟩ => ⟨S16384x8x128, .f32⟩
  | .hbm, ⟨100, _⟩ => ⟨S16384x8x128, .f32⟩
  | .hbm, ⟨101, _⟩ => ⟨S1x1x128, .f32⟩
  | .hbm, ⟨102, _⟩ => ⟨S16384x8x128, .f32⟩
  | .hbm, ⟨103, _⟩ => ⟨S16384x8x128, .f32⟩
  | .hbm, ⟨104, _⟩ => ⟨S16384x8x16, .f32⟩
  | .hbm, ⟨105, _⟩ => ⟨S16384x8x16, .f32⟩
  | .hbm, ⟨106, _⟩ => ⟨S16384x8x16, .f32⟩
  | .hbm, ⟨107, _⟩ => ⟨S16384x8x16, .f32⟩
  | .hbm, ⟨108, _⟩ => ⟨S16384x8x16, .f32⟩
  | .hbm, ⟨109, _⟩ => ⟨S16384x8x16, .f32⟩
  | .hbm, ⟨110, _⟩ => ⟨S16384x8x16, .f32⟩
  | .hbm, ⟨111, _⟩ => ⟨S16384x8x16, .f32⟩
  | .hbm, ⟨112, _⟩ => ⟨S16384x8x16, .f32⟩
  | .hbm, ⟨113, _⟩ => ⟨S16384x8x16, .f32⟩
  | .hbm, ⟨114, _⟩ => ⟨S16384x8x16, .f32⟩
  | .hbm, ⟨115, _⟩ => ⟨S16384x8x16, .f32⟩
  | .hbm, ⟨116, _⟩ => ⟨S16384x8x96, .f32⟩
  | .hbm, ⟨117, _⟩ => ⟨S16384x8x128, .f32⟩
  | .hbm, ⟨118, _⟩ => ⟨S16384x1024, .f32⟩
  | .hbm, ⟨119, _⟩ => ⟨S16384x1024, .bf16⟩
  | .hbm, ⟨120, _⟩ => ⟨S16384x1024, .f32⟩
  | .hbm, ⟨121, _⟩ => ⟨S16384x1024, .bf16⟩
  | .hbm, ⟨122, _⟩ => ⟨S16384x1024, .f32⟩
  | .hbm, ⟨123, _⟩ => ⟨S16384x1024, .bf16⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_cst_8 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_11 : Ref sig .tc := ⟨.hbm, 89, rfl⟩
abbrev main_v74 : Ref sig .tc := ⟨.hbm, 90, rfl⟩
abbrev main_v75 : Ref sig .tc := ⟨.hbm, 91, rfl⟩
abbrev main_cst_12 : Ref sig .tc := ⟨.hbm, 92, rfl⟩
abbrev main_v76 : Ref sig .tc := ⟨.hbm, 93, rfl⟩
abbrev main_v77 : Ref sig .tc := ⟨.hbm, 94, rfl⟩
abbrev main_cst_13 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩

abbrev nD : Nat := 1
abbrev τ : Topo := Topo.v7x

variable {F : FTy → Type} [FloatOps F]
-- ==== Proof.SbRun.lean ====
/-
  What one grid point of the stick-breaking kernel leaves in its output block, as a recursion over the key blocks: the
  carry `cA` and the accumulator `cB` after the diagonal block and `n` trips of the loop, trip `n` reading the key and
  value block `i − 1 − n` (`kv`). The second loop of the body runs no trips.
-/
module

public import proofs.«01_k».proof.Proof.Gen.KernelIdeal.Value
public import Idealize.ShloMosaic.Lib.Pointwise
public import Idealize.ShloMosaic.Lib.Pipeline.ValueKit
public import Idealize.ShloMosaic.Lib.VecWindow

@[expose] public section

set_option maxRecDepth 16384

noncomputable section

namespace Cert.KernelIdeal.Sb

open Cert.KernelIdeal Cert.KernelIdeal.Gen Idealize.ShloMosaic Idealize.ShloMosaic.TcCoe Idealize.SL.Sem

variable {F : FTy → Type} [FloatOps F]

/-- Block `n` of the keys (or of the values). -/
def kv (x : Vec F S32x512x128 .bf16) (n : ℕ) : Vec F S1x512x128 .bf16 :=
  fun y => x (ix3 (⟨n % 32, Nat.mod_lt _ (by decide)⟩ : Fin 32) (y 1) (y 2))

/-- The carry after a trip over the key block `kb`, from the one before. -/
def stA (v0 : Vec F S512x128 .bf16) (v1 : Vec F S256x128 .bf16) (kb : Vec F S1x512x128 .bf16) (A : Vec F S512x1 .f32) :
    Vec F S512x1 .f32 :=
  k0_pay2 v1 (k0_pay22 v1 (k0_pay8 v0 kb) (k0_pay12 v0 v1 kb A) (k0_pay14 v0 kb) (k0_pay15 v0 kb) k0_pay16)
    (k0_pay23 (k0_pay8 v0 kb)) (k0_pay24 (k0_pay8 v0 kb))

/-- The accumulator after a trip over the key block `kb` and the value block `vb`. -/
def stB (v0 : Vec F S512x128 .bf16) (v1 : Vec F S256x128 .bf16) (kb vb : Vec F S1x512x128 .bf16) (A : Vec F S512x1 .f32)
    (B : Vec F S512x128 .f32) : Vec F S512x128 .f32 :=
  k0_pay3 v1 (k0_pay11 v0 v1 kb A)
    (k0_pay18 v1 (k0_pay12 v0 v1 kb A) (k0_pay13 v0 kb) (k0_pay14 v0 kb) (k0_pay15 v0 kb) k0_pay16)
    (k0_pay21 v1 (k0_pay8 v0 kb) (k0_pay12 v0 v1 kb A) (k0_pay14 v0 kb) (k0_pay15 v0 kb) k0_pay16)
    (k0_pay22 v1 (k0_pay8 v0 kb) (k0_pay12 v0 v1 kb A) (k0_pay14 v0 kb) (k0_pay15 v0 kb) k0_pay16)
    (k0_pay23 (k0_pay8 v0 kb)) (k0_pay24 (k0_pay8 v0 kb)) B vb

theorem trips1_nat : ∀ n < 32, Scf.trips 0#32
    (Scalar.addi 0#32 (Scalar.muli (Scalar.divsi (Scalar.subi (BitVec.ofNat 32 n) 0#32) 1#32) 1#32)) 1#32 = n := by
  decide +kernel

theorem trips2_nat : ∀ n < 32, Scf.trips
    (Scalar.addi 0#32 (Scalar.muli (Scalar.divsi (Scalar.subi (BitVec.ofNat 32 n) 0#32) 1#32) 1#32))
    (Scalar.addi 0#32 (Scalar.subi (BitVec.ofNat 32 n) 0#32)) 1#32 = 0 := by
  decide +kernel

theorem off2_nat : ∀ n < 32, ∀ k < n,
    (Scalar.indexCast (Scalar.subi (Scalar.subi (BitVec.ofNat 32 n) 1#32) (Scf.iv 0#32 1#32 k))).toNat = n - 1 - k := by
  decide +kernel

theorem off1_nat : ∀ n < 32, BitVec.toNat (Scalar.indexCast (BitVec.ofNat 32 n)) = n := by decide +kernel

/-- Query block `i` makes one trip per earlier key block, -/
theorem trips1 (i : grid0.Coords) : (k0_t1_loop i).trips = (i 1).val := trips1_nat _ (i 1).isLt

/-- none of the remainder loop, -/
theorem trips2 (i : grid0.Coords) : (k0_t2_loop i).trips = 0 := trips2_nat _ (i 1).isLt

/-- and trip `k` reads key block `i − 1 − k`. -/
theorem off2_val (i : grid0.Coords) (k : Fin (k0_t1_loop i).trips) : k0_off2 i k = ![(i 1).val - 1 - k.val, 0, 0] := by
  have h := off2_nat _ (i 1).isLt k.val (lt_of_lt_of_eq k.isLt (trips1 i))
  exact congrArg (fun n : ℕ => ![n, 0, 0]) h

/-- The two index grids the diagonal's masks compare. -/
abbrev it0 : IVec S512x128 32 := iota Kind.tc S512x128 32 [0] iota_S512x128_d0_w32
abbrev it1 : IVec S512x128 32 := iota Kind.tc S512x128 32 [1] iota_S512x128_d1_w32

/-- The second 128 columns' reversed sums of the diagonal block (from the right). -/
def dg2 (v0 : Vec F S512x128 .bf16) (v1 : Vec F S256x128 .bf16) (kb : Vec F S1x512x128 .bf16) : FVec F S512x128 .f32 :=
  k0_pay52 v1 it0 it1 (k0_pay44 v0 kb) k0_pay42 (k0_pay46 v0 kb) k0_pay47

/-- The carry after the diagonal block. -/
def dgA (v0 : Vec F S512x128 .bf16) (v1 : Vec F S256x128 .bf16) (kb : Vec F S1x512x128 .bf16) : Vec F S512x1 .f32 :=
  k0_pay65 v1 it0 it1 (k0_pay59 v1 it0 it1 (k0_pay44 v0 kb) (dg2 v0 v1 kb)) (k0_pay61 (k0_pay44 v0 kb)) (k0_pay62 (k0_pay44 v0 kb))

/-- The accumulator after the diagonal block. -/
def dgB (v0 : Vec F S512x128 .bf16) (v1 : Vec F S256x128 .bf16) (kb vb : Vec F S1x512x128 .bf16) : Vec F S512x128 .f32 :=
  k0_pay66 v1 it0 it1 (k0_pay49 v1 k0_pay42 (k0_pay45 v0 kb) (k0_pay46 v0 kb) k0_pay47)
    (k0_pay54 (k0_pay51 it0 it1) (k0_pay53 v1 it0 it1 (k0_pay44 v0 kb) k0_pay42 (k0_pay46 v0 kb) k0_pay47))
    (k0_pay58 v1 it0 it1 (k0_pay44 v0 kb) (dg2 v0 v1 kb)) (k0_pay59 v1 it0 it1 (k0_pay44 v0 kb) (dg2 v0 v1 kb))
    (k0_pay60 (k0_pay44 v0 kb)) (k0_pay61 (k0_pay44 v0 kb)) (k0_pay62 (k0_pay44 v0 kb)) k0_pay43 vb

section
variable (𝒱 : Variants) (c : Dev nD) (bd : Option 𝒱.V) (i : grid0.Coords) (arg2 : Memref sig .tc .vmem S512x128 .bf16) (harg2 : arg2.IsWhole) (arg3 : Memref sig .tc .vmem S32x512x128 .bf16) (harg3 : arg3.IsWhole) (arg4 : Memref sig .tc .vmem S32x512x128 .bf16) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x128 .f32) (harg8 : arg8.IsWhole)
  (arg1 : BitVec 32) (v0 : Vec F S512x128 .bf16) (v1 : Vec F S256x128 .bf16) (c0 : BitVec 32)
  (X3 : BufTy.Contents (Elt F) arg3.view.ty) (X4 : BufTy.Contents (Elt F) arg4.view.ty)

/-- A load of block `n` of the keys reads `kv`. -/
theorem ld_kv (x : Vec F S32x512x128 .bf16) (off : Fin 3 → ℕ) (n : ℕ) (hn : n < 32) (h : off = ![n, 0, 0])
    (inb : ∀ a, off a + S1x512x128.size a ≤ S32x512x128.size a) :
    View.ld (Val := Elt F) (S := S32x512x128) (e' := .bf16) x (Rect.unit (s := S32x512x128) off S1x512x128.size inb) = kv x n := by
  subst h
  funext y
  unfold kv
  refine congrArg x ?_
  funext a
  refine Fin.ext ?_
  have h0 : (y 0).val = 0 := by have := (y 0).isLt; change (y 0).val < 1 at this; omega
  fin_cases a
  · show n + 1 * (y 0).val = n % 32
    rw [h0, Nat.mod_eq_of_lt hn]; rfl
  · show 0 + 1 * (y 1).val = (y 1).val
    omega
  · show 0 + 1 * (y 2).val = (y 2).val
    omega

theorem trip_eq (k : Fin (k0_t1_loop i).trips) (f7 : BufTy.Contents (Elt F) arg7.view.ty) (f8 : BufTy.Contents (Elt F) arg8.view.ty)
    (A : Vec F S512x1 .f32) (B : Vec F S512x128 .f32) (hA : arg7.view.read (Elt F) f7 = A) (hB : arg8.view.read (Elt F) f8 = B) :
    tripL_k0_t1 (F := F) 𝒱 c bd i arg2 harg2 arg3 harg3 arg4 harg4 arg5 harg5 arg6 harg6 arg7 harg7 arg8 harg8 arg1 v0 v1 c0 X3 X4 k f7 f8
      = ([⟨Rect.unit ![0, 0] S512x1.size inb_S512x1_S512x1_0_0,
            stA v0 v1 (kv (arg3.view.read (Elt F) X3) ((i 1).val - 1 - k.val)) A⟩],
          [⟨Rect.unit ![0, 0] S512x128.size inb_S512x128_S512x128_0_0,
            stB v0 v1 (kv (arg3.view.read (Elt F) X3) ((i 1).val - 1 - k.val))
              (kv (arg4.view.read (Elt F) X4) ((i 1).val - 1 - k.val)) A B⟩]) := by
  have hz : (![0, 0] : Fin 2 → Nat) = fun _ => 0 := funext fun a => by fin_cases a <;> rfl
  have hk : (i 1).val - 1 - k.val < 32 := by have := (i 1).isLt; change (i 1).val < 32 at this; omega
  unfold tripL_k0_t1 trip_k0_t1
  dsimp only
  unfold trip_k0_t1.sl.r_1 trip_k0_t1.sl.r_6 trip_k0_t1.sl.r_7 trip_k0_t1.sl.r_8 trip_k0_t1.sl.r_9 trip_k0_t1.sl.r_10
  unfold trip_k0_t1.sl.r trip_k0_t1.sl.r_2 trip_k0_t1.sl.r_3 trip_k0_t1.sl.r_4 trip_k0_t1.sl.r_5
  simp only [View.readAt_eq_ld]
  rw [View.ld_unit_zero (S := S512x1) hz, View.ld_unit_zero (S := S512x128) hz, hA, hB,
    ld_kv (arg3.view.read (Elt F) X3) _ _ hk (off2_val i k), ld_kv (arg4.view.read (Elt F) X4) _ _ hk (off2_val i k)]
  rfl

/-- The carry and the accumulator after `n` trips, from what they were before the loop. -/
def st (x1 x2 : Vec F S32x512x128 .bf16) (A : Vec F S512x1 .f32) (B : Vec F S512x128 .f32) : ℕ → Vec F S512x1 .f32 × Vec F S512x128 .f32
  | 0 => (A, B)
  | n + 1 =>
    (stA v0 v1 (kv x1 ((i 1).val - 1 - n)) (st x1 x2 A B n).1,
      stB v0 v1 (kv x1 ((i 1).val - 1 - n)) (kv x2 ((i 1).val - 1 - n)) (st x1 x2 A B n).1 (st x1 x2 A B n).2)

theorem loop_eq (G7 : BufTy.Contents (Elt F) arg7.view.ty) (G8 : BufTy.Contents (Elt F) arg8.view.ty)
    (A : Vec F S512x1 .f32) (B : Vec F S512x128 .f32) (hA : arg7.view.read (Elt F) G7 = A) (hB : arg8.view.read (Elt F) G8 = B) :
    ∀ n, n ≤ (k0_t1_loop i).trips →
      arg7.view.read (Elt F) (arg7.view.writes (Elt F) G7
        (pb_k0_t1 (F := F) 𝒱 c bd i arg2 harg2 arg3 harg3 arg4 harg4 arg5 harg5 arg6 harg6 arg7 harg7 arg8 harg8 arg1 v0 v1 c0 X3 X4 G7 G8 n).1)
        = (st i v0 v1 (arg3.view.read (Elt F) X3) (arg4.view.read (Elt F) X4) A B n).1
      ∧ arg8.view.read (Elt F) (arg8.view.writes (Elt F) G8
        (pb_k0_t1 (F := F) 𝒱 c bd i arg2 harg2 arg3 harg3 arg4 harg4 arg5 harg5 arg6 harg6 arg7 harg7 arg8 harg8 arg1 v0 v1 c0 X3 X4 G7 G8 n).2)
        = (st i v0 v1 (arg3.view.read (Elt F) X3) (arg4.view.read (Elt F) X4) A B n).2
  | 0, _ => ⟨by rw [show (pb_k0_t1 (F := F) 𝒱 c bd i arg2 harg2 arg3 harg3 arg4 harg4 arg5 harg5 arg6 harg6 arg7 harg7 arg8 harg8 arg1 v0 v1 c0 X3 X4 G7 G8 0) = ([], []) from rfl]; exact hA,
      by rw [show (pb_k0_t1 (F := F) 𝒱 c bd i arg2 harg2 arg3 harg3 arg4 harg4 arg5 harg5 arg6 harg6 arg7 harg7 arg8 harg8 arg1 v0 v1 c0 X3 X4 G7 G8 0) = ([], []) from rfl]; exact hB⟩
  | n + 1, h => by
    obtain ⟨ih1, ih2⟩ := loop_eq G7 G8 A B hA hB n (by omega)
    rw [pb_k0_t1_succ 𝒱 c bd i arg2 harg2 arg3 harg3 arg4 harg4 arg5 harg5 arg6 harg6 arg7 harg7 arg8 harg8 arg1 v0 v1 c0 X3 X4 G7 G8 ⟨n, h⟩,
      trip_eq 𝒱 c bd i arg2 harg2 arg3 harg3 arg4 harg4 arg5 harg5 arg6 harg6 arg7 harg7 arg8 harg8 arg1 v0 v1 c0 X3 X4 ⟨n, h⟩ _ _ _ _ ih1 ih2]
    exact ⟨View.read_writes_full arg7.view _ _ _ _, View.read_writes_full arg8.view _ _ _ _⟩

end

section
variable (c : Dev nD) (i : grid0.Coords) (arg2 : Memref sig .tc .vmem S512x128 .bf16) (harg2 : arg2.IsWhole) (arg3 : Memref sig .tc .vmem S32x512x128 .bf16) (harg3 : arg3.IsWhole) (arg4 : Memref sig .tc .vmem S32x512x128 .bf16) (harg4 : arg4.IsWhole) (arg5 : Memref sig .tc .vmem S256x128 .bf16) (harg5 : arg5.IsWhole) (arg6 : Memref sig .tc .vmem S512x128 .bf16) (harg6 : arg6.IsWhole) (arg7 : Memref sig .tc .vmem S512x1 .f32) (harg7 : arg7.IsWhole) (arg8 : Memref sig .tc .vmem S512x128 .f32) (harg8 : arg8.IsWhole)
    (x0 : Vec F S512x128 .bf16) (x1 : Vec F S32x512x128 .bf16) (x2 : Vec F S32x512x128 .bf16) (x3 : Vec F S256x128 .bf16)

/-- THE BLOCK: the accumulator after the diagonal and all earlier key blocks, rounded. -/
theorem run_block : out0_A_4 c i arg2 harg2 arg3 harg3 arg4 harg4 arg5 harg5 arg6 harg6 arg7 harg7 arg8 harg8 x0 x1 x2 x3
    = k0_pay7 (st i x0 x3 x1 x2 (dgA x0 x3 (kv x1 (i 1).val)) (dgB x0 x3 (kv x1 (i 1).val) (kv x2 (i 1).val)) (i 1).val).2 := by
  have hz : (![0, 0] : Fin 2 → Nat) = fun _ => 0 := funext fun a => by fin_cases a <;> rfl
  unfold out0_A_4
  rw [View.read_writes_eq_canon _ _ _ (cover0_A_4 c i arg2 harg2 arg3 harg3 arg4 harg4 arg5 harg5 arg6 harg6 arg7 harg7 arg8 harg8 x0 x1 x2 x3)]
  unfold kernelRun0_A
  dsimp only
  rw [View.canon_unit_zero hz]
  unfold kernelRun0_A.sl.v173
  rw [show Scf.trips (k0_t2_loop i).lb (k0_t2_loop i).ub (k0_t2_loop i).st = 0 from trips2 i,
    show Scf.trips (k0_t1_loop i).lb (k0_t1_loop i).ub (k0_t1_loop i).st = (i 1).val from trips1 i]
  rw [pb_k0_t2.eq_1, List.nil_append]
  unfold View.readCov
  rw [View.writes_append, View.readAt_eq_ld, View.ld_unit_zero (S := S512x128) hz]
  rw [(loop_eq _ c _ i arg2 harg2 arg3 harg3 arg4 harg4 arg5 harg5 arg6 harg6 arg7 harg7 arg8 harg8 _ _ _ _ _ _ _ _ _ _ rfl rfl (i 1).val (le_of_eq (trips1 i).symm)).2]
  rw [harg3.read_unread, harg4.read_unread]
  unfold kernelRun0_A.sl.HS0_2 kernelRun0_A.sl.HS1_2
  rw [View.read_writes_full, View.read_writes_full]
  sl_unfold_words
  simp only [View.readAt_eq_ld, harg2.read_unread, harg3.read_unread, harg4.read_unread, harg5.read_unread,
    View.ld_unit_zero (S := S512x128) hz, View.ld_unit_zero (S := S256x128) hz]
  have h7 := View.readCov_unit_zero (Val := Elt F) (S := S512x1) (e := .f32) arg7.view hz inb_S512x1_S512x1_0_0 (k0_pay42 (F := F))
  have h8 := View.readCov_unit_zero (Val := Elt F) (S := S512x128) (e := .f32) arg8.view hz inb_S512x128_S512x128_0_0 (k0_pay43 (F := F))
  have hoff : k0_off1 i = ![(i 1).val, 0, 0] := congrArg (fun n : ℕ => ![n, 0, 0]) (off1_nat _ (i 1).isLt)
  rw [h7, h8, ← ld_kv x1 (k0_off1 i) (i 1).val (i 1).isLt hoff (k0_off1_inb i),
    ← ld_kv x2 (k0_off1 i) (i 1).val (i 1).isLt hoff (k0_off1_inb i)]
  unfold dgA dgB dg2
  rfl

end

end Cert.KernelIdeal.Sb

end
-- ==== Proof.SbMath.lean ====
/-
  The scalar facts of stick-breaking attention over the extended reals: the log of the probability of passing a key by,
  written the kernel's way (`ls`) and the reference's way (`ls_ref`), is never positive (`ls_le`), so splitting it
  into a rounded part and the rest loses nothing (`hi_add_lo`). Then the weights of a query's keys (`rowf`, `wt`), as sums
  over the keys after each.
-/
module

public import Idealize.ShloMosaic.Lib.Pointwise

@[expose] public section

noncomputable section

namespace Cert.Sb

open Idealize.ShloMosaic

/-- `log σ(−z)` as the kernel computes it: `min (−z) 0 − log (1 + exp (−|z|))`. -/
def ls (z : EReal) : EReal := min (0 - z) 0 - Ideal.log (1 + Ideal.exp (0 - max z (-z)))

theorem exp_nonneg_coe (r : ℝ) : Ideal.exp (r : EReal) = (Real.exp r : EReal) := rfl

/-- `log (1 + exp r)` at a real is the real number of that name. -/
theorem log_one_add_exp (r : ℝ) : Ideal.log (1 + Ideal.exp (r : EReal)) = ((Real.log (1 + Real.exp r) : ℝ) : EReal) := by
  have h : (1 : EReal) + Ideal.exp (r : EReal) = ((1 + Real.exp r : ℝ) : EReal) := by
    rw [exp_nonneg_coe]; push_cast; rfl
  rw [h]
  show (if 1 + Real.exp r ≤ 0 then (⊥ : EReal) else _) = _
  rw [if_neg (by have := Real.exp_pos r; linarith)]

theorem coe_max' (a b : ℝ) : max (a : EReal) b = ((max a b : ℝ) : EReal) := (EReal.coe_strictMono.monotone.map_max).symm

theorem coe_min' (a b : ℝ) : min (a : EReal) b = ((min a b : ℝ) : EReal) := (EReal.coe_strictMono.monotone.map_min).symm

theorem log_one_add_exp_bot : Ideal.log (1 + Ideal.exp ⊥) = 0 := by
  have h : (1 : EReal) + Ideal.exp ⊥ = ((1 : ℝ) : EReal) := by
    show (1 : EReal) + 0 = _
    simp
  rw [h]
  show (if (1 : ℝ) ≤ 0 then (⊥ : EReal) else _) = _
  rw [if_neg (by norm_num)]; simp

theorem ls_bot : ls ⊥ = 0 := by
  unfold ls
  rw [show (0 : EReal) - max ⊥ (-⊥) = ⊥ by simp, log_one_add_exp_bot]
  simp

theorem ls_top : ls ⊤ = ⊥ := by
  unfold ls
  rw [show (0 : EReal) - max ⊤ (-⊤) = ⊥ by simp, log_one_add_exp_bot]
  simp

theorem ls_coe (r : ℝ) : ls (r : EReal) = ((min (-r) 0 - Real.log (1 + Real.exp (-|r|)) : ℝ) : EReal) := by
  unfold ls
  have h : (0 : EReal) - max (r : EReal) (-(r : EReal)) = ((-|r| : ℝ) : EReal) := by
    rw [zero_sub, abs, ← EReal.coe_neg, coe_max', EReal.coe_neg]
  rw [h, log_one_add_exp, zero_sub, ← EReal.coe_neg, ← EReal.coe_zero, coe_min', ← EReal.coe_sub]

/-- It is never positive: it is the log of a probability. -/
theorem ls_le (z : EReal) : ls z ≤ 0 := by
  induction z with
  | bot => rw [ls_bot]
  | top => rw [ls_top]; exact bot_le
  | coe r =>
    rw [ls_coe, ← EReal.coe_zero, EReal.coe_le_coe_iff]
    have h1 : min (-r) 0 ≤ 0 := min_le_right _ _
    have h2 : 0 ≤ Real.log (1 + Real.exp (-|r|)) := Real.log_nonneg (by have := Real.exp_pos (-|r|); linarith)
    linarith

/-- and the reference's spelling, `−(max z 0 + log1p (exp (−|z|)))` with `z` negated twice, is the same number. -/
theorem ls_ref (z : EReal) :
    -(max (-(-z)) 0 + Ideal.log1p (Ideal.exp (-(max (-(-z) - 0) (-(-(-z) - 0)))))) = ls z := by
  rw [neg_neg, sub_zero]
  unfold Ideal.log1p
  induction z with
  | bot =>
    rw [ls_bot, show -max (⊥ : EReal) (-⊥) = ⊥ by simp, log_one_add_exp_bot]; simp
  | top =>
    rw [ls_top, show -max (⊤ : EReal) (-⊤) = ⊥ by simp, log_one_add_exp_bot]; simp
  | coe r =>
    have h : -max (r : EReal) (-(r : EReal)) = ((-|r| : ℝ) : EReal) := by
      rw [abs, ← EReal.coe_neg, coe_max', EReal.coe_neg]
    rw [ls_coe, h, log_one_add_exp, ← EReal.coe_zero, coe_max', ← EReal.coe_add, ← EReal.coe_neg,
      EReal.coe_eq_coe_iff]
    have h1 : min (-r) 0 = -max r 0 := by rw [max_neg_neg_zero_aux]
    rw [h1]; ring
where
  max_neg_neg_zero_aux {r : ℝ} : min (-r) 0 = -max r 0 := by
    rcases le_total r 0 with h | h
    · rw [max_eq_right h, min_eq_right (by linarith), neg_zero]
    · rw [max_eq_left h, min_eq_left (by linarith)]

/-- A number that is not `⊤` is its rounding (here: itself) plus what the rounding left over. -/
theorem hi_add_lo {x : EReal} (h : x ≤ 0) : x + (x - x) = x := by
  induction x with
  | bot => simp
  | top => exact absurd h (by simp)
  | coe r => rw [← EReal.coe_sub, ← EReal.coe_add, EReal.coe_eq_coe_iff]; ring

/-- A sum over the columns from `s` on of a tile is the tail of the sum over the naturals. -/
theorem sum_ge_eq_Ico (n : ℕ) (f : ℕ → EReal) (s : ℕ) (hs : s ≤ n) :
    (∑ j : Fin n, if s ≤ j.val then f j.val else 0) = ∑ j ∈ Finset.Ico s n, f j := by
  rw [Fin.sum_univ_eq_sum_range (fun j => if s ≤ j then f j else 0) n, ← Finset.sum_filter]
  refine Finset.sum_congr ?_ fun _ _ => rfl
  ext j; simp only [Finset.mem_filter, Finset.mem_range, Finset.mem_Ico]; omega

/-- The log-probability that query `q` passes key `k` by, none for a key not before the query. -/
def rowf (q : ℕ) (Z : ℕ → EReal) (k : ℕ) : EReal := if k < q then ls (Z k) else 0

/-- The weight of key `k` for query `q`, the sums running up to key `E`. -/
def wt (q : ℕ) (Z : ℕ → EReal) (E k : ℕ) : EReal :=
  if k < q then Ideal.exp (min (Z k + ∑ j ∈ Finset.Ico k E, rowf q Z j) 0) else 0

theorem rowf_le (q : ℕ) (Z : ℕ → EReal) (k : ℕ) : rowf q Z k ≤ 0 := by
  unfold rowf
  split
  · exact ls_le _
  · exact le_rfl

/-- A sum over a tile of `n` from `b` on. -/
theorem sum_fin_Ico (n b : ℕ) (f : ℕ → EReal) : (∑ c : Fin n, f (b + c.val)) = ∑ k ∈ Finset.Ico b (b + n), f k := by
  rw [Finset.sum_Ico_eq_sum_range, Nat.add_sub_cancel_left, Fin.sum_univ_eq_sum_range (fun c => f (b + c)) n]

/-- The columns from `s` on of a tile at `b`, and everything after the tile. -/
theorem sum_tail (n b E s : ℕ) (hs : s ≤ n) (hE : b + n ≤ E) (f : ℕ → EReal) :
    (∑ j : Fin n, if s ≤ j.val then f (b + j.val) else 0) + ∑ k ∈ Finset.Ico (b + n) E, f k
      = ∑ k ∈ Finset.Ico (b + s) E, f k := by
  rw [sum_ge_eq_Ico n (fun j => f (b + j)) s hs, Finset.sum_Ico_add f s n b, Nat.add_comm s b, Nat.add_comm n b]
  exact Finset.sum_Ico_consecutive f (by omega) hE

/-- Keys not before the query change nothing: the sums may run on to any later key. -/
theorem wt_sum_ext (q : ℕ) (Z : ℕ → EReal) (V : ℕ → EReal) (E E' : ℕ) (h : q ≤ E) (h' : E ≤ E') :
    (∑ k ∈ Finset.Ico 0 E', wt q Z E' k * V k) = ∑ k ∈ Finset.Ico 0 E, wt q Z E k * V k := by
  rw [← Finset.sum_Ico_consecutive _ (Nat.zero_le E) h']
  have h0 : (∑ k ∈ Finset.Ico E E', wt q Z E' k * V k) = 0 := Finset.sum_eq_zero fun k hk => by
    have := (Finset.mem_Ico.1 hk).1
    unfold wt
    rw [if_neg (by omega), zero_mul]
  rw [h0, add_zero]
  refine Finset.sum_congr rfl fun k hk => ?_
  have hk' := (Finset.mem_Ico.1 hk).2
  unfold wt
  have h1 : (∑ j ∈ Finset.Ico E E', rowf q Z j) = 0 := Finset.sum_eq_zero fun j hj => by
    have := (Finset.mem_Ico.1 hj).1
    unfold rowf
    rw [if_neg (by omega)]
  rw [← Finset.sum_Ico_consecutive (rowf q Z) (le_of_lt hk') h', h1, add_zero]

end Cert.Sb

end
-- ==== Proof.SbPure.lean ====
/-
  The stick-breaking kernel's payloads at an index, over the extended reals. The body treats a block of 512 keys as four
  runs of 128 columns, from the right: `lsv` is the log of the probability of passing a key by, `revv` adds up a run from
  each column on (a product with a triangular table, of the value and of what its rounding left) and the carry from the
  runs to the right, `av` the weight, `accv` the accumulator. The payloads of a loop trip (`stA_eq`, `stB_eq`) and of the
  diagonal block (`dgA_eq`, `dgB_eq`) are these, whatever way the body is cut into parts.
-/
module

public import proofs.«01_k».proof.Proof.SbRun
public import proofs.«01_k».proof.Proof.SbMath

@[expose] public section

set_option maxRecDepth 16384

noncomputable section

namespace Cert.KernelIdeal.Sb

open Cert.KernelIdeal Cert.KernelIdeal.Gen Idealize.ShloMosaic Idealize.ShloMosaic.TcCoe Idealize.SL.Sem
open Cert.Sb (ls ls_le hi_add_lo sum_ge_eq_Ico)

abbrev W := FVec Ideal S512x128 .f32

def zero : W := broadcast S512x128 (Scalar.ofBits .f32 0x00000000#32)

def lsv (z : W) : W :=
  subf (minimumf (subf zero z) zero)
    (log (addf (broadcast S512x128 (Scalar.ofBits .f32 0x3F800000#32)) (exp (subf zero (absf z)))))

def revv (u : FVec Ideal S256x128 .bf16) (l : W) (cr : FVec Ideal S512x1 .f32) : W :=
  addf (matmul dot_S512x256_S256x128_S512x128_1_0_0_1_n_n none
      (concatenate S512x256 1 [⟨S512x128, truncf .bf16 l bitsLt_bf16_f32⟩,
        ⟨S512x128, truncf .bf16 (subf l (extf .f32 (truncf .bf16 l bitsLt_bf16_f32) bitsLt_bf16_f32)) bitsLt_bf16_f32⟩]
        concatenates_S512x128_S512x128_S512x256_d1 : FVec Ideal S512x256 .bf16) u (constant S512x128 .f32 0x00000000#32))
    (broadcastTo S512x128 cr broadcasts_S512x1_S512x128)

def ev (z rv : W) : W := exp (minimumf (addf z rv) zero)

def col (rv : W) : FVec Ideal S512x1 .f32 := extractStridedSlice S512x1 ![0, 0] rv slices_S512x128_o0_0_S512x1

def bf (x : W) : FVec Ideal S512x128 .bf16 := truncf .bf16 x bitsLt_bf16_f32

/-- Column `c` of the block is before the query of the row, on the diagonal. -/
def maskv (c : BitVec 32) : IVec S512x128 1 := cmpi .slt (addi it1 (broadcast S512x128 c)) it0

def selv (m : IVec S512x128 1) (x : W) : W := select m x zero

def catv (a0 a1 a2 a3 : FVec Ideal S512x128 .bf16) : FVec Ideal S512x512 .bf16 :=
  concatenate S512x512 1 [⟨S512x128, a0⟩, ⟨S512x128, a1⟩, ⟨S512x128, a2⟩, ⟨S512x128, a3⟩]
    concatenates_S512x128_S512x128_S512x128_S512x128_S512x512_d1

def accv (B : W) (p : FVec Ideal S512x512 .bf16) (vb : FVec Ideal S1x512x128 .bf16) : W :=
  shapeCast S512x128 (addf B (matmul dot_S512x512_S512x128_S512x128_1_0_0_1_n_n none p
    (shapeCast S512x128 vb shapeCasts_S1x512x128_S512x128 : FVec Ideal S512x128 .bf16) (constant S512x128 .f32 0x00000000#32))) shapeCasts_S512x128_S512x128

def z0 (z : FVec Ideal S512x512 .f32) : W := extractStridedSlice S512x128 ![0, 0] z slices_S512x512_o0_0_S512x128
def z1 (z : FVec Ideal S512x512 .f32) : W := extractStridedSlice S512x128 ![0, 128] z slices_S512x512_o0_128_S512x128
def z2 (z : FVec Ideal S512x512 .f32) : W := extractStridedSlice S512x128 ![0, 256] z slices_S512x512_o0_256_S512x128
def z3 (z : FVec Ideal S512x512 .f32) : W := extractStridedSlice S512x128 ![0, 384] z slices_S512x512_o0_384_S512x128

section
variable (u : FVec Ideal S256x128 .bf16) (z : FVec Ideal S512x512 .f32) (A : FVec Ideal S512x1 .f32) (B : W)

def R3 : W := revv u (lsv (z3 z)) A
def R2 : W := revv u (lsv (z2 z)) (col (R3 u z A))
def R1 : W := revv u (lsv (z1 z)) (col (R2 u z A))
def R0 : W := revv u (lsv (z0 z)) (col (R1 u z A))
def P : FVec Ideal S512x512 .bf16 :=
  catv (bf (ev (z0 z) (R0 u z A))) (bf (ev (z1 z) (R1 u z A))) (bf (ev (z2 z) (R2 u z A))) (bf (ev (z3 z) (R3 u z A)))

def D3 : W := revv u (selv (maskv 384#32) (lsv (z3 z))) A
def D2 : W := revv u (selv (maskv 256#32) (lsv (z2 z))) (col (D3 u z A))
def D1 : W := revv u (selv (maskv 128#32) (lsv (z1 z))) (col (D2 u z A))
def D0 : W := revv u (selv (maskv 0#32) (lsv (z0 z))) (col (D1 u z A))
def Q : FVec Ideal S512x512 .bf16 :=
  catv (bf (selv (maskv 0#32) (ev (z0 z) (D0 u z A)))) (bf (selv (maskv 128#32) (ev (z1 z) (D1 u z A))))
    (bf (selv (maskv 256#32) (ev (z2 z) (D2 u z A)))) (bf (selv (maskv 384#32) (ev (z3 z) (D3 u z A))))
end

variable (v0 : FVec Ideal S512x128 .bf16) (v1 : FVec Ideal S256x128 .bf16) (kb vb : FVec Ideal S1x512x128 .bf16)
  (A : FVec Ideal S512x1 .f32) (B : W)

theorem stA_eq : stA (F := Ideal) v0 v1 kb A = shapeCast S512x1 (col (R0 v1 (k0_pay8 v0 kb) A)) shapeCasts_S512x1_S512x1 := rfl
theorem stB_eq : stB (F := Ideal) v0 v1 kb vb A B = accv B (P v1 (k0_pay8 v0 kb) A) vb := rfl
theorem dgA_eq : dgA (F := Ideal) v0 v1 kb = shapeCast S512x1 (col (D0 v1 (k0_pay44 v0 kb) k0_pay42)) shapeCasts_S512x1_S512x1 := rfl
theorem dgB_eq : dgB (F := Ideal) v0 v1 kb vb = accv k0_pay43 (Q v1 (k0_pay44 v0 kb) k0_pay42) vb := rfl

end Cert.KernelIdeal.Sb

end
-- ==== Proof.SbAt.lean ====
/-
  The kernel's vector functions of `SbPure` read at an index.
-/
module

public import proofs.«01_k».proof.Proof.SbPure

@[expose] public section

set_option maxRecDepth 16384

noncomputable section

namespace Cert.KernelIdeal.Sb

open Cert.KernelIdeal Cert.KernelIdeal.Gen Idealize.ShloMosaic Idealize.ShloMosaic.TcCoe Idealize.SL.Sem
open Cert.Sb (ls ls_le hi_add_lo sum_ge_eq_Ico)

theorem zero_at (r : Fin 512) (s : Fin 128) : zero (ix2 r s) = 0 := by
  pointwise [zero]

theorem lsv_at (z : W) (r : Fin 512) (s : Fin 128) : lsv z (ix2 r s) = ls (z (ix2 r s)) := by
  unfold lsv ls
  pointwise [zero]
  rfl

theorem ev_at (z rv : W) (r : Fin 512) (s : Fin 128) :
    ev z rv (ix2 r s) = Ideal.exp (min (z (ix2 r s) + rv (ix2 r s)) 0) := by
  pointwise [ev, zero]

theorem bf_at (x : W) (r : Fin 512) (s : Fin 128) : bf x (ix2 r s) = x (ix2 r s) := by
  pointwise [bf]

theorem col_at (x : W) (r : Fin 512) (s : Fin 1) : col x (ix2 r s) = x (ix2 r (0 : Fin 128)) := by
  pointwise [col]

/-- A selection by a comparison of two small numbers' words. -/
theorem select_slt (a b : ℕ) (ha : a < 2 ^ 31) (hb : b < 2 ^ 31) (x y : EReal) :
    Scalar.select (IntOp.cmpi .slt (BitVec.ofNat 32 a) (BitVec.ofNat 32 b)) x y = if a < b then x else y := by
  have h : IntOp.cmpi .slt (BitVec.ofNat 32 a) (BitVec.ofNat 32 b) = 1#1 ↔ a < b :=
    WordCmp.cmpi_slt_ofNat_eq_one_iff (w := 32) ha hb
  unfold Scalar.select
  by_cases hab : a < b
  · rw [if_pos hab]; exact if_pos (h.2 hab)
  · rw [if_neg hab]; exact if_neg fun e => hab (h.1 e)

theorem selv_at (c : ℕ) (hc : c < 512) (x : W) (r : Fin 512) (s : Fin 128) :
    selv (maskv (BitVec.ofNat 32 c)) x (ix2 r s) = if c + s.val < r.val then x (ix2 r s) else 0 := by
  pointwise [selv, maskv, zero, it0, it1]
  rw [show IntOp.addi (BitVec.ofNat 32 s.val) (BitVec.ofNat 32 c) = BitVec.ofNat 32 (c + s.val) by
    rw [Nat.add_comm, BitVec.ofNat_add]; rfl]
  exact select_slt _ _ (by omega) (by omega) _ _

theorem revv_at (u : FVec Ideal S256x128 .bf16) (hu : ∀ (j : Fin 256) (s : Fin 128), u (ix2 j s) = if s.val ≤ j.val % 128 then 1 else 0)
    (l : W) (hl : ∀ r s, l (ix2 r s) ≤ 0) (cr : FVec Ideal S512x1 .f32) (r : Fin 512) (s : Fin 128) :
    revv u l cr (ix2 r s) = (∑ j : Fin 128, if s.val ≤ j.val then l (ix2 r j) else 0) + cr (ix2 r (0 : Fin 1)) := by
  pointwise [revv]
  refine congrArg (· + cr (ix2 r (0 : Fin 1))) ?_
  rw [← Finset.sum_add_distrib]
  refine Finset.sum_congr rfl fun j _ => ?_
  rw [hu, hu]
  have h1 : j.val % 128 = j.val := Nat.mod_eq_of_lt j.isLt
  have h2 : (128 + j.val) % 128 = j.val := by omega
  simp only [h1, h2]
  by_cases h : s.val ≤ j.val
  · rw [if_pos h, if_pos h, mul_one, mul_one, hi_add_lo (hl r j)]
  · rw [if_neg h, if_neg h, mul_zero, mul_zero, add_zero]

theorem z0_at (z : FVec Ideal S512x512 .f32) (r : Fin 512) (s : Fin 128) :
    z0 z (ix2 r s) = z (ix2 r (⟨s.val, by omega⟩ : Fin 512)) := by pointwise [z0]
theorem z1_at (z : FVec Ideal S512x512 .f32) (r : Fin 512) (s : Fin 128) :
    z1 z (ix2 r s) = z (ix2 r (⟨128 + s.val, by omega⟩ : Fin 512)) := by pointwise [z1]
theorem z2_at (z : FVec Ideal S512x512 .f32) (r : Fin 512) (s : Fin 128) :
    z2 z (ix2 r s) = z (ix2 r (⟨256 + s.val, by omega⟩ : Fin 512)) := by pointwise [z2]
theorem z3_at (z : FVec Ideal S512x512 .f32) (r : Fin 512) (s : Fin 128) :
    z3 z (ix2 r s) = z (ix2 r (⟨384 + s.val, by omega⟩ : Fin 512)) := by pointwise [z3]

theorem catv_at (a0 a1 a2 a3 : FVec Ideal S512x128 .bf16) (r : Fin 512) (f : ℕ → EReal)
    (h0 : ∀ s : Fin 128, a0 (ix2 r s) = f s.val) (h1 : ∀ s : Fin 128, a1 (ix2 r s) = f (128 + s.val))
    (h2 : ∀ s : Fin 128, a2 (ix2 r s) = f (256 + s.val)) (h3 : ∀ s : Fin 128, a3 (ix2 r s) = f (384 + s.val))
    (c : Fin 512) : catv a0 a1 a2 a3 (ix2 r c) = f c.val := by
  pointwise [catv]
  by_cases c0 : c.val < 128
  · rw [dif_pos c0, h0]
  rw [dif_neg c0]
  by_cases c1 : c.val - 128 < 128
  · rw [dif_pos c1, h1]; exact congrArg f (by show 128 + (c.val - 128) = c.val; omega)
  rw [dif_neg c1]
  by_cases c2 : c.val - 128 - 128 < 128
  · rw [dif_pos c2, h2]; exact congrArg f (by show 256 + (c.val - 128 - 128) = c.val; omega)
  rw [dif_neg c2, h3]; exact congrArg f (by show 384 + (c.val - 128 - 128 - 128) = c.val; omega)

theorem accv_at (B : W) (p : FVec Ideal S512x512 .bf16) (vb : FVec Ideal S1x512x128 .bf16) (r : Fin 512) (d : Fin 128) :
    accv B p vb (ix2 r d) = B (ix2 r d) + ∑ c : Fin 512, p (ix2 r c) * vb (ix3 (0 : Fin 1) c d) := by
  pointwise [accv]

theorem pay8_at (q : FVec Ideal S512x128 .bf16) (kb : FVec Ideal S1x512x128 .bf16) (r c : Fin 512) :
    k0_pay8 (F := Ideal) q kb (ix2 r c) = (∑ d : Fin 128, q (ix2 r d) * kb (ix3 (0 : Fin 1) c d)) * Ideal.ofBits .f32 0x3DB504F3#32 := by
  pointwise [k0_pay8]

theorem pay44_eq (q : FVec Ideal S512x128 .bf16) (kb : FVec Ideal S1x512x128 .bf16) : k0_pay44 (F := Ideal) q kb = k0_pay8 (F := Ideal) q kb := rfl

theorem pay42_at (r : Fin 512) (s : Fin 1) : k0_pay42 (F := Ideal) (ix2 r s) = 0 := by pointwise [k0_pay42]
theorem pay43_at (r : Fin 512) (s : Fin 128) : k0_pay43 (F := Ideal) (ix2 r s) = 0 := by pointwise [k0_pay43]
theorem pay7_at (x : W) (r : Fin 512) (s : Fin 128) : k0_pay7 (F := Ideal) x (ix2 r s) = x (ix2 r s) := by pointwise [k0_pay7]
theorem cast_at (x : FVec Ideal S512x1 .f32) (r : Fin 512) (s : Fin 1) :
    shapeCast S512x1 x shapeCasts_S512x1_S512x1 (ix2 r s) = x (ix2 r s) := by pointwise

end Cert.KernelIdeal.Sb

end
-- ==== Proof.SbSums.lean ====
/-
  The recursion over the key blocks as sums over the keys: after the diagonal block and `n` trips the carry is the sum of
  the log-probabilities `rowf` from key `512·(i − n)` on, and the accumulator the sum of the weights `wt` times the
  values over the same keys; after all of them both start at key 0 (`block_at`).
-/
module

public import proofs.«01_k».proof.Proof.SbAt

@[expose] public section

set_option maxRecDepth 16384

noncomputable section

namespace Cert.KernelIdeal.Sb

open Cert.KernelIdeal Cert.KernelIdeal.Gen Idealize.ShloMosaic Idealize.ShloMosaic.TcCoe Idealize.SL.Sem
open Cert.Sb (ls ls_le rowf wt rowf_le sum_fin_Ico sum_tail)

variable {u : FVec Ideal S256x128 .bf16}
  (hu : ∀ (j : Fin 256) (s : Fin 128), u (ix2 j s) = if s.val ≤ j.val % 128 then 1 else 0)

include hu in
/-- A run of 128 columns at key `b`: from each key on, up to `E`. -/
theorem revv_run (l : W) (cr : FVec Ideal S512x1 .f32) (f : Fin 512 → ℕ → EReal) (hf : ∀ r k, f r k ≤ 0) (b E : ℕ)
    (hE : b + 128 ≤ E) (hl : ∀ r (s : Fin 128), l (ix2 r s) = f r (b + s.val))
    (hcr : ∀ r, cr (ix2 r (0 : Fin 1)) = ∑ k ∈ Finset.Ico (b + 128) E, f r k) (r : Fin 512) (s : Fin 128) :
    revv u l cr (ix2 r s) = ∑ k ∈ Finset.Ico (b + s.val) E, f r k := by
  rw [revv_at u hu l (fun r s => by rw [hl]; exact hf _ _) cr r s, hcr,
    ← sum_tail 128 b E s.val (by omega) hE (f r)]
  refine congrArg (· + _) (Finset.sum_congr rfl fun j _ => ?_)
  rw [hl]

/-- and what it hands on to the run on its left. -/
theorem col_run (rv : W) (f : Fin 512 → ℕ → EReal) (b E : ℕ)
    (h : ∀ r (s : Fin 128), rv (ix2 r s) = ∑ k ∈ Finset.Ico (b + s.val) E, f r k) (r : Fin 512) :
    col rv (ix2 r (0 : Fin 1)) = ∑ k ∈ Finset.Ico b E, f r k := by
  rw [col_at, h]; rfl

section Block
variable (z : FVec Ideal S512x512 .f32) (A : FVec Ideal S512x1 .f32) (q : Fin 512 → ℕ) (Z : Fin 512 → ℕ → EReal) (lo E : ℕ)
  (hz : ∀ r c : Fin 512, z (ix2 r c) = Z r (lo + c.val))
  (hE : lo + 512 ≤ E)
  (hA : ∀ r, A (ix2 r (0 : Fin 1)) = ∑ k ∈ Finset.Ico (lo + 512) E, rowf (q r) (Z r) k)

section Trip
variable (hq : ∀ r, lo + 512 ≤ q r)

include hz hq in
theorem lsv_trip (y : W) (b : ℕ) (hb : b + 128 ≤ 512) (hy : ∀ r (s : Fin 128), y (ix2 r s) = z (ix2 r (⟨b + s.val, by omega⟩ : Fin 512)))
    (r : Fin 512) (s : Fin 128) : lsv y (ix2 r s) = rowf (q r) (Z r) (lo + b + s.val) := by
  rw [lsv_at, hy, hz]
  unfold rowf
  rw [if_pos (by have := hq r; have := s.isLt; omega)]
  exact congrArg (fun k => ls (Z r k)) (by show lo + (b + s.val) = _; omega)

include hz hq in
theorem ev_trip (y rv : W) (b : ℕ) (hb : b + 128 ≤ 512) (hy : ∀ r (s : Fin 128), y (ix2 r s) = z (ix2 r (⟨b + s.val, by omega⟩ : Fin 512)))
    (hrv : ∀ r (s : Fin 128), rv (ix2 r s) = ∑ k ∈ Finset.Ico (lo + b + s.val) E, rowf (q r) (Z r) k)
    (r : Fin 512) (s : Fin 128) : bf (ev y rv) (ix2 r s) = wt (q r) (Z r) E (lo + (b + s.val)) := by
  rw [bf_at, ev_at, hy, hz, hrv]
  unfold wt
  rw [if_pos (by have := hq r; have := s.isLt; omega), Nat.add_assoc lo b]

include hu hz hE hA hq in
theorem trip_runs :
    (∀ r (s : Fin 128), R3 u z A (ix2 r s) = ∑ k ∈ Finset.Ico (lo + 384 + s.val) E, rowf (q r) (Z r) k)
    ∧ (∀ r (s : Fin 128), R2 u z A (ix2 r s) = ∑ k ∈ Finset.Ico (lo + 256 + s.val) E, rowf (q r) (Z r) k)
    ∧ (∀ r (s : Fin 128), R1 u z A (ix2 r s) = ∑ k ∈ Finset.Ico (lo + 128 + s.val) E, rowf (q r) (Z r) k)
    ∧ (∀ r (s : Fin 128), R0 u z A (ix2 r s) = ∑ k ∈ Finset.Ico (lo + 0 + s.val) E, rowf (q r) (Z r) k) := by
  have h3 := revv_run hu (lsv (z3 z)) A (fun r => rowf (q r) (Z r)) (fun r => rowf_le _ _) (lo + 384) E (by omega)
    (lsv_trip z q Z lo E hz hq (z3 z) 384 (by omega) (z3_at z)) hA
  have h2 := revv_run hu (lsv (z2 z)) _ (fun r => rowf (q r) (Z r)) (fun r => rowf_le _ _) (lo + 256) E (by omega)
    (lsv_trip z q Z lo E hz hq (z2 z) 256 (by omega) (z2_at z)) (col_run _ _ _ _ h3)
  have h1 := revv_run hu (lsv (z1 z)) _ (fun r => rowf (q r) (Z r)) (fun r => rowf_le _ _) (lo + 128) E (by omega)
    (lsv_trip z q Z lo E hz hq (z1 z) 128 (by omega) (z1_at z)) (col_run _ _ _ _ h2)
  have h0 := revv_run hu (lsv (z0 z)) _ (fun r => rowf (q r) (Z r)) (fun r => rowf_le _ _) (lo + 0) E (by omega)
    (lsv_trip z q Z lo E hz hq (z0 z) 0 (by omega) (fun r s => by rw [z0_at]; simp only [Nat.zero_add])) (col_run _ _ _ _ h1)
  exact ⟨h3, h2, h1, h0⟩

include hu hz hE hA hq in
theorem trip_P (r c : Fin 512) : P u z A (ix2 r c) = wt (q r) (Z r) E (lo + c.val) := by
  obtain ⟨h3, h2, h1, h0⟩ := trip_runs hu z A q Z lo E hz hE hA hq
  refine catv_at _ _ _ _ r (fun c => wt (q r) (Z r) E (lo + c)) ?_ ?_ ?_ ?_ c
  · intro s
    have := ev_trip z q Z lo E hz hq (z0 z) (R0 u z A) 0 (by omega) (fun r s => by rw [z0_at]; simp only [Nat.zero_add]) h0 r s
    rw [Nat.zero_add] at this; exact this
  · exact ev_trip z q Z lo E hz hq (z1 z) (R1 u z A) 128 (by omega) (z1_at z) h1 r
  · exact ev_trip z q Z lo E hz hq (z2 z) (R2 u z A) 256 (by omega) (z2_at z) h2 r
  · exact ev_trip z q Z lo E hz hq (z3 z) (R3 u z A) 384 (by omega) (z3_at z) h3 r

end Trip

section Diag
variable (hq : ∀ r : Fin 512, q r = lo + r.val)

include hz hq in
theorem lsv_diag (y : W) (b : ℕ) (hb : b + 128 ≤ 512) (hy : ∀ r (s : Fin 128), y (ix2 r s) = z (ix2 r (⟨b + s.val, by omega⟩ : Fin 512)))
    (r : Fin 512) (s : Fin 128) : selv (maskv (BitVec.ofNat 32 b)) (lsv y) (ix2 r s) = rowf (q r) (Z r) (lo + b + s.val) := by
  rw [selv_at b (by omega), lsv_at, hy, hz]
  unfold rowf
  rw [hq]
  by_cases h : b + s.val < r.val
  · rw [if_pos h, if_pos (by omega)]
    exact congrArg (fun k => ls (Z r k)) (by show lo + (b + s.val) = _; omega)
  · rw [if_neg h, if_neg (by omega)]

include hz hq in
theorem ev_diag (y rv : W) (b : ℕ) (hb : b + 128 ≤ 512) (hy : ∀ r (s : Fin 128), y (ix2 r s) = z (ix2 r (⟨b + s.val, by omega⟩ : Fin 512)))
    (hrv : ∀ r (s : Fin 128), rv (ix2 r s) = ∑ k ∈ Finset.Ico (lo + b + s.val) E, rowf (q r) (Z r) k)
    (r : Fin 512) (s : Fin 128) :
    bf (selv (maskv (BitVec.ofNat 32 b)) (ev y rv)) (ix2 r s) = wt (q r) (Z r) E (lo + (b + s.val)) := by
  rw [bf_at, selv_at b (by omega), ev_at, hy, hz, hrv]
  unfold wt
  by_cases h : b + s.val < r.val
  · rw [if_pos h, if_pos (by rw [hq]; omega), Nat.add_assoc lo b]
  · rw [if_neg h, if_neg (by rw [hq]; omega)]

include hu hz hE hA hq in
theorem diag_runs :
    (∀ r (s : Fin 128), D3 u z A (ix2 r s) = ∑ k ∈ Finset.Ico (lo + 384 + s.val) E, rowf (q r) (Z r) k)
    ∧ (∀ r (s : Fin 128), D2 u z A (ix2 r s) = ∑ k ∈ Finset.Ico (lo + 256 + s.val) E, rowf (q r) (Z r) k)
    ∧ (∀ r (s : Fin 128), D1 u z A (ix2 r s) = ∑ k ∈ Finset.Ico (lo + 128 + s.val) E, rowf (q r) (Z r) k)
    ∧ (∀ r (s : Fin 128), D0 u z A (ix2 r s) = ∑ k ∈ Finset.Ico (lo + 0 + s.val) E, rowf (q r) (Z r) k) := by
  have h3 := revv_run hu _ A (fun r => rowf (q r) (Z r)) (fun r => rowf_le _ _) (lo + 384) E (by omega)
    (lsv_diag z q Z lo E hz hq (z3 z) 384 (by omega) (z3_at z)) hA
  have h2 := revv_run hu _ _ (fun r => rowf (q r) (Z r)) (fun r => rowf_le _ _) (lo + 256) E (by omega)
    (lsv_diag z q Z lo E hz hq (z2 z) 256 (by omega) (z2_at z)) (col_run _ _ _ _ h3)
  have h1 := revv_run hu _ _ (fun r => rowf (q r) (Z r)) (fun r => rowf_le _ _) (lo + 128) E (by omega)
    (lsv_diag z q Z lo E hz hq (z1 z) 128 (by omega) (z1_at z)) (col_run _ _ _ _ h2)
  have h0 := revv_run hu _ _ (fun r => rowf (q r) (Z r)) (fun r => rowf_le _ _) (lo + 0) E (by omega)
    (lsv_diag z q Z lo E hz hq (z0 z) 0 (by omega) (fun r s => by rw [z0_at]; simp only [Nat.zero_add])) (col_run _ _ _ _ h1)
  exact ⟨h3, h2, h1, h0⟩

include hu hz hE hA hq in
theorem diag_Q (r c : Fin 512) : Q u z A (ix2 r c) = wt (q r) (Z r) E (lo + c.val) := by
  obtain ⟨h3, h2, h1, h0⟩ := diag_runs hu z A q Z lo E hz hE hA hq
  refine catv_at _ _ _ _ r (fun c => wt (q r) (Z r) E (lo + c)) ?_ ?_ ?_ ?_ c
  · intro s
    have := ev_diag z q Z lo E hz hq (z0 z) (D0 u z A) 0 (by omega) (fun r s => by rw [z0_at]; simp only [Nat.zero_add]) h0 r s
    rw [Nat.zero_add] at this; exact this
  · exact ev_diag z q Z lo E hz hq (z1 z) (D1 u z A) 128 (by omega) (z1_at z) h1 r
  · exact ev_diag z q Z lo E hz hq (z2 z) (D2 u z A) 256 (by omega) (z2_at z) h2 r
  · exact ev_diag z q Z lo E hz hq (z3 z) (D3 u z A) 384 (by omega) (z3_at z) h3 r

end Diag
end Block

/-- Row `k` of the keys (or of the values) of a head, as a sequence. -/
def kvN (x : FVec Ideal S32x512x128 .bf16) (k : ℕ) (d : Fin 128) : EReal :=
  x (ix3 (⟨k / 512 % 32, Nat.mod_lt _ (by decide)⟩ : Fin 32) (⟨k % 512, Nat.mod_lt _ (by decide)⟩ : Fin 512) d)

theorem kv_at (x : FVec Ideal S32x512x128 .bf16) (n : ℕ) (c : Fin 512) (d : Fin 128) :
    kv (F := Ideal) x n (ix3 (0 : Fin 1) c d) = kvN x (512 * n + c.val) d := by
  unfold kvN
  have h1 : (512 * n + c.val) / 512 = n := by omega
  have h2 : (512 * n + c.val) % 512 = c.val := by omega
  simp only [h1, h2]
  rfl

/-- The score of query row `r` of the block and key `k`. -/
def zN (x0 : FVec Ideal S512x128 .bf16) (x1 : FVec Ideal S32x512x128 .bf16) (r : Fin 512) (k : ℕ) : EReal :=
  (∑ d : Fin 128, x0 (ix2 r d) * kvN x1 k d) * Ideal.ofBits .f32 0x3DB504F3#32

theorem pay8_kv (x0 : FVec Ideal S512x128 .bf16) (x1 : FVec Ideal S32x512x128 .bf16) (n : ℕ) (r c : Fin 512) :
    k0_pay8 (F := Ideal) x0 (kv x1 n) (ix2 r c) = zN x0 x1 r (512 * n + c.val) := by
  rw [pay8_at]
  unfold zN
  refine congrArg (· * _) (Finset.sum_congr rfl fun d _ => ?_)
  rw [kv_at]

section State
variable (i : grid0.Coords) (x0 : FVec Ideal S512x128 .bf16) (x1 x2 : FVec Ideal S32x512x128 .bf16)

include hu in
theorem state_at : ∀ n, n ≤ (i 1).val →
    (∀ r, (st (F := Ideal) i x0 u x1 x2 (dgA x0 u (kv x1 (i 1).val)) (dgB x0 u (kv x1 (i 1).val) (kv x2 (i 1).val)) n).1 (ix2 r (0 : Fin 1))
        = ∑ k ∈ Finset.Ico (512 * ((i 1).val - n)) (512 * (i 1).val + 512), rowf (512 * (i 1).val + r.val) (zN x0 x1 r) k)
    ∧ (∀ r (d : Fin 128), (st (F := Ideal) i x0 u x1 x2 (dgA x0 u (kv x1 (i 1).val)) (dgB x0 u (kv x1 (i 1).val) (kv x2 (i 1).val)) n).2 (ix2 r d)
        = ∑ k ∈ Finset.Ico (512 * ((i 1).val - n)) (512 * (i 1).val + 512),
            wt (512 * (i 1).val + r.val) (zN x0 x1 r) (512 * (i 1).val + 512) k * kvN x2 k d)
  | 0, _ => by
    have hz : ∀ r c : Fin 512, k0_pay44 (F := Ideal) x0 (kv x1 (i 1).val) (ix2 r c) = zN x0 x1 r (512 * (i 1).val + c.val) :=
      fun r c => pay8_kv x0 x1 _ r c
    have hA : ∀ r : Fin 512, k0_pay42 (F := Ideal) (ix2 r (0 : Fin 1))
        = ∑ k ∈ Finset.Ico (512 * (i 1).val + 512) (512 * (i 1).val + 512), rowf (512 * (i 1).val + r.val) (zN x0 x1 r) k := by
      intro r; rw [pay42_at, Finset.Ico_self, Finset.sum_empty]
    refine ⟨fun r => ?_, fun r d => ?_⟩
    · show dgA (F := Ideal) x0 u (kv x1 (i 1).val) (ix2 r (0 : Fin 1)) = _
      rw [dgA_eq, cast_at, Nat.sub_zero]
      exact col_run _ (fun r => rowf (512 * (i 1).val + r.val) (zN x0 x1 r)) (512 * (i 1).val + 0) _
        (diag_runs hu _ _ (fun r => 512 * (i 1).val + r.val) (zN x0 x1) _ _ hz le_rfl hA fun r => rfl).2.2.2 r
    · show dgB (F := Ideal) x0 u (kv x1 (i 1).val) (kv x2 (i 1).val) (ix2 r d) = _
      rw [dgB_eq, accv_at, pay43_at, zero_add, Nat.sub_zero, ← sum_fin_Ico 512 (512 * (i 1).val)]
      refine Finset.sum_congr rfl fun c _ => ?_
      rw [kv_at, diag_Q hu _ _ (fun r => 512 * (i 1).val + r.val) (zN x0 x1) _ _ hz le_rfl hA fun r => rfl]
  | n + 1, h => by
    obtain ⟨ih1, ih2⟩ := state_at n (by omega)
    have e : 512 * ((i 1).val - n) = 512 * ((i 1).val - 1 - n) + 512 := by omega
    have e' : (i 1).val - (n + 1) = (i 1).val - 1 - n := by omega
    rw [e] at ih1 ih2
    have hq : ∀ r : Fin 512, 512 * ((i 1).val - 1 - n) + 512 ≤ 512 * (i 1).val + r.val := fun r => by omega
    have hE : 512 * ((i 1).val - 1 - n) + 512 ≤ 512 * (i 1).val + 512 := by omega
    refine ⟨fun r => ?_, fun r d => ?_⟩
    · rw [st, stA_eq]
      dsimp only
      rw [cast_at, e']
      exact col_run _ (fun r => rowf (512 * (i 1).val + r.val) (zN x0 x1 r)) (512 * ((i 1).val - 1 - n) + 0) _
        (trip_runs hu _ _ (fun r => 512 * (i 1).val + r.val) (zN x0 x1) _ _ (pay8_kv x0 x1 _) hE ih1 hq).2.2.2 r
    · rw [st, stB_eq]
      dsimp only
      rw [accv_at, ih2, e', add_comm,
        ← Finset.sum_Ico_consecutive _ (show 512 * ((i 1).val - 1 - n) ≤ 512 * ((i 1).val - 1 - n) + 512 by omega) hE,
        ← sum_fin_Ico 512 (512 * ((i 1).val - 1 - n))]
      refine congrArg (· + _) (Finset.sum_congr rfl fun c _ => ?_)
      rw [kv_at, trip_P hu _ _ (fun r => 512 * (i 1).val + r.val) (zN x0 x1) _ _ (pay8_kv x0 x1 _) hE ih1 hq]

include hu in
/-- The output block: the weighted sum of the values over the keys up to the end of the diagonal block. -/
theorem block_at (r : Fin 512) (d : Fin 128) :
    k0_pay7 (F := Ideal) (st (F := Ideal) i x0 u x1 x2 (dgA x0 u (kv x1 (i 1).val)) (dgB x0 u (kv x1 (i 1).val) (kv x2 (i 1).val)) (i 1).val).2 (ix2 r d)
      = ∑ k ∈ Finset.Ico 0 (512 * (i 1).val + 512),
          wt (512 * (i 1).val + r.val) (zN x0 x1 r) (512 * (i 1).val + 512) k * kvN x2 k d := by
  have h := (state_at hu i x0 x1 x2 (i 1).val le_rfl).2 r d
  rw [Nat.sub_self, Nat.mul_zero] at h
  rw [pay7_at]; exact h

end State

end Cert.KernelIdeal.Sb

end
-- ==== Proof.SbRef.lean ====
/-
  The reference's result at an index, over the extended reals: its operations one by one (`Zr` the scores, `Lr` the masked
  log-probabilities, `Cr` their reversed running sum, `Ar` the weights, `Or` the weighted sum of the values), then as
  sums over the keys.
-/
module

public import proofs.«01_k».proof.Proof.Gen.ReferenceIdeal.Run
public import proofs.«01_k».proof.Proof.SbMath
public import Idealize.ShloMosaic.Lib.Pointwise
public import Idealize.ShloMosaic.Lib.WordCmp

@[expose] public section

set_option maxRecDepth 16384

noncomputable section

namespace Cert.ReferenceIdeal.Sb

open Cert.ReferenceIdeal Cert.ReferenceIdeal.Gen Idealize.ShloMosaic Idealize.ShloMosaic.TcCoe Idealize.SL.Sem

abbrev T := FVec Ideal S1x8x16384x16384 .f32

variable (X : FVec Ideal S16384x3072 .bf16)

def Qr : FVec Ideal S1x16384x8x128 .f32 :=
  shapeCast _ (extf .f32 (extractStridedSlice S16384x1024 ![0, 0] X slices_S16384x3072_S16384x1024_0_0) bitsLt_bf16_f32) shapeCasts_S16384x1024_S1x16384x8x128
def Kr : FVec Ideal S1x16384x8x128 .f32 :=
  shapeCast _ (extf .f32 (extractStridedSlice S16384x1024 ![0, 1024] X slices_S16384x3072_S16384x1024_0_1024) bitsLt_bf16_f32) shapeCasts_S16384x1024_S1x16384x8x128
def Vr : FVec Ideal S1x16384x8x128 .f32 :=
  shapeCast _ (extf .f32 (extractStridedSlice S16384x1024 ![0, 2048] X slices_S16384x3072_S16384x1024_0_2048) bitsLt_bf16_f32) shapeCasts_S16384x1024_S1x16384x8x128

def Zr : T :=
  mulf (Host.dotGeneral dot_S1x16384x8x128_S1x16384x8x128_S1x8x16384x16384_3_3_1_1_02_02 none (Qr X) (Kr X))
    (broadcastInDim S1x8x16384x16384 ![] bcast_S_S1x8x16384x16384 (constant S_ .f32 0x3DB504F3#32))

def zeroT : T := broadcastInDim S1x8x16384x16384 ![] bcast_S_S1x8x16384x16384 (constant S_ .f32 0x00000000#32)

def past : IVec S1x8x16384x16384 1 :=
  broadcastInDim S1x8x16384x16384 ![2, 3] bcast_S16384x16384_S1x8x16384x16384_2_3 (cmpi .slt (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- `log σ(−z)`, as the library writes it. -/
def lsr (z : T) : T :=
  Host.negf (select (cmpf .une (subf (Host.negf (Host.negf z)) zeroT) (subf (Host.negf (Host.negf z)) zeroT))
    (addf (Host.negf (Host.negf z)) zeroT)
    (addf (maximumf (Host.negf (Host.negf z)) zeroT) (Host.log1p (Host.exp (Host.negf (Host.absf (subf (Host.negf (Host.negf z)) zeroT)))))))

def selr (x : T) : T :=
  select past x (broadcastInDim S1x8x16384x16384 ![] bcast_S_S1x8x16384x16384 (id (constant S_ .f32 0x00000000#32)))

def Cr (l : T) : T :=
  Host.reduceWindowAdd ![1, 1, 1, 16384] ![1, 1, 1, 1] ![0, 0, 0, 0] ![0, 0, 0, 16383] l (broadcastInDim S_ ![] bcast_S_S_ (constant S_ .f32 0x00000000#32)) reduceWindows_S1x8x16384x16384_S1x8x16384x16384_w1s1p0_0_w1s1p0_0_w1s1p0_0_w16384s1p0_16383 h_S_

def Ar (z : T) (c : T) : T :=
  extf .f32 (truncf .bf16 (selr (Host.exp (minimumf (addf z c) zeroT))) bitsLt_bf16_f32) bitsLt_bf16_f32

def Or (v : FVec Ideal S1x16384x8x128 .f32) (a : T) : FVec Ideal S16384x1024 .bf16 :=
  truncf .bf16 (shapeCast _ (transpose S1x16384x8x128 [0, 3, 1, 2] (Host.dotGeneral dot_S1x16384x8x128_S1x8x16384x16384_S1x8x128x16384_1_3_3_2_02_01 none v a) transposes_S1x8x128x16384_S1x16384x8x128_0_3_1_2) shapeCasts_S1x16384x8x128_S16384x1024) bitsLt_bf16_f32

/-- The reference's result as a function of its argument. -/
def REF : FVec Ideal S16384x1024 .bf16 := Or (Vr X) (Ar (Zr X) (Cr (selr (lsr (Zr X)))))

theorem res_eq (m : (ℓ : Loc nD τ sig) → Buf (Elt Ideal) ℓ) (c : Dev nD) :
    Value.res_out0 m c = REF (m ((c.tc : Thread nD τ).loc main_arg0)) := rfl

theorem Q_at (q : Fin 16384) (h : Fin 8) (d : Fin 128) :
    Qr X (ix4 (0 : Fin 1) q h d) = X (ix2 q (⟨128 * h.val + d.val, by omega⟩ : Fin 3072)) := by
  pointwise [Qr]
  exact congrArg X (congrArg (ix2 q) (Fin.ext (by dsimp only; omega)))

theorem K_at (k : Fin 16384) (h : Fin 8) (d : Fin 128) :
    Kr X (ix4 (0 : Fin 1) k h d) = X (ix2 k (⟨1024 + 128 * h.val + d.val, by omega⟩ : Fin 3072)) := by
  pointwise [Kr]
  exact congrArg X (congrArg (ix2 k) (Fin.ext (by dsimp only; omega)))

theorem V_at (k : Fin 16384) (h : Fin 8) (d : Fin 128) :
    Vr X (ix4 (0 : Fin 1) k h d) = X (ix2 k (⟨2048 + 128 * h.val + d.val, by omega⟩ : Fin 3072)) := by
  pointwise [Vr]
  exact congrArg X (congrArg (ix2 k) (Fin.ext (by dsimp only; omega)))

theorem Z_at (h : Fin 8) (q k : Fin 16384) :
    Zr X (ix4 (0 : Fin 1) h q k) = (∑ d : Fin 128, Qr X (ix4 (0 : Fin 1) q h d) * Kr X (ix4 (0 : Fin 1) k h d)) * Ideal.ofBits .f32 0x3DB504F3#32 := by
  pointwise [Zr]

theorem ls_at (z : T) (h : Fin 8) (q k : Fin 16384) :
    lsr z (ix4 (0 : Fin 1) h q k) = Cert.Sb.ls (z (ix4 (0 : Fin 1) h q k)) := by
  rw [← Cert.Sb.ls_ref]
  pointwise [lsr, zeroT]
  rw [if_neg (fun h => h rfl)]
  rfl

theorem sel_at (x : T) (h : Fin 8) (q k : Fin 16384) :
    selr x (ix4 (0 : Fin 1) h q k) = if k.val < q.val then x (ix4 (0 : Fin 1) h q k) else 0 := by
  pointwise [selr, past]
  rw [show (id (constant (F := Ideal) S_ .f32 0x00000000#32) : FVec Ideal S_ .f32) ix0 = 0 from Ideal.ofBits_zero_f32]
  unfold Scalar.select
  have e : IntOp.cmpi .slt (BitVec.ofNat 32 k.val) (BitVec.ofNat 32 q.val) = 1#1 ↔ k.val < q.val :=
    WordCmp.cmpi_slt_ofNat_eq_one_iff (w := 32) (lt_trans k.isLt (by norm_num)) (lt_trans q.isLt (by norm_num))
  by_cases hk : k.val < q.val
  · rw [if_pos hk]; exact if_pos (e.2 hk)
  · rw [if_neg hk]; exact if_neg fun h => hk (e.1 h)

theorem A_at (z c : T) (h : Fin 8) (q k : Fin 16384) :
    Ar z c (ix4 (0 : Fin 1) h q k) = if k.val < q.val then Ideal.exp (min (z (ix4 (0 : Fin 1) h q k) + c (ix4 (0 : Fin 1) h q k)) 0) else 0 := by
  rw [show Ar z c (ix4 (0 : Fin 1) h q k) = selr (Host.exp (minimumf (addf z c) zeroT)) (ix4 (0 : Fin 1) h q k) from rfl,
    sel_at]
  refine if_congr Iff.rfl ?_ rfl
  pointwise [zeroT]

theorem O_at (v : FVec Ideal S1x16384x8x128 .f32) (a : T) (q : Fin 16384) (h : Fin 8) (d : Fin 128) :
    Or v a (ix2 q (⟨128 * h.val + d.val, by omega⟩ : Fin 1024)) = ∑ k : Fin 16384, v (ix4 (0 : Fin 1) k h d) * a (ix4 (0 : Fin 1) h q k) := by
  pointwise [Or]

theorem foldl_add {α : Type} (l : List α) (f : α → EReal) (v : EReal) :
    l.foldl (fun r n => r + f n) v = v + (l.map f).sum := by
  induction l generalizing v with
  | nil => simp
  | cons a l ih => rw [List.foldl_cons, ih, List.map_cons, List.sum_cons, add_assoc]

/-- A window sum with nothing in the padding, as a sum over the window's positions. -/
theorem reduceWindow_eq_sum {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    Host.reduceWindow (· + ·) window strides lo hi x init h hu j
      = ∑ w : (⟨s.rank, window⟩ : Shape).Idx,
          if hin : ∀ a, lo a ≤ (j (a.cast h.1.symm)).val * strides a + (w a).val
              ∧ (j (a.cast h.1.symm)).val * strides a + (w a).val - lo a < s.size a then
            x (fun a => ⟨(j (a.cast h.1.symm)).val * strides a + (w a).val - lo a, (hin a).2⟩) else 0 := by
  unfold Host.reduceWindow
  dsimp only
  rw [h0, foldl_add, zero_add, ← Equiv.sum_comp (Shape.rowMajor (⟨s.rank, window⟩ : Shape)).symm, Fin.sum_univ_def]
  congr!

/-- A window that begins at `k` and is cut at the end is the tail from `k` on. -/
theorem sum_window_tail (n k : ℕ) (f : Fin n → EReal) (hk : k < n) :
    (∑ w : Fin n, if h : k + w.val < n then f ⟨k + w.val, h⟩ else 0) = ∑ j : Fin n, if k ≤ j.val then f j else 0 := by
  let g : ℕ → EReal := fun j => if h : j < n then f ⟨j, h⟩ else 0
  have e1 : (∑ w : Fin n, if h : k + w.val < n then f ⟨k + w.val, h⟩ else 0) = ∑ w ∈ Finset.range n, g (k + w) :=
    Fin.sum_univ_eq_sum_range (fun w => g (k + w)) n
  have e2 : (∑ j : Fin n, if k ≤ j.val then f j else 0) = ∑ j : Fin n, if k ≤ j.val then g j.val else 0 := by
    refine Finset.sum_congr rfl fun j _ => ?_
    rw [show g j.val = f j from dif_pos j.isLt]
  rw [e1, e2, Cert.Sb.sum_ge_eq_Ico n g k hk.le, Finset.sum_Ico_eq_sum_range]
  symm
  refine Finset.sum_subset (fun a ha => ?_) fun a ha hb => ?_
  · rw [Finset.mem_range] at ha ⊢; omega
  · rw [Finset.mem_range] at ha hb
    exact dif_neg (by omega)

/-- The reversed running sum: from each key on. -/
theorem C_at (l : T) (h : Fin 8) (q k : Fin 16384) :
    Cr l (ix4 (0 : Fin 1) h q k) = ∑ j : Fin 16384, if k.val ≤ j.val then l (ix4 (0 : Fin 1) h q j) else 0 := by
  have hv : (broadcastInDim S_ ![] bcast_S_S_ (constant (F := Ideal) S_ .f32 0x00000000#32) : FVec Ideal S_ .f32)
      (Shape.Idx.first h_S_) = 0 := Ideal.ofBits_zero_f32
  unfold Cr Host.reduceWindowAdd
  rw [hv, Ideal.hostReduceWindowAdd_def]
  unfold Ideal.hostReduceWindowAdd
  rw [reduceWindow_eq_sum _ _ _ _ _ _ _ _ rfl]
  rw [← sum_window_tail 16384 k.val (fun j => l (ix4 (0 : Fin 1) h q j)) k.isLt]
  refine (sum_idx4 (n0 := 1) (n1 := 1) (n2 := 1) (n3 := 16384) _).trans ?_
  rw [Fin.sum_univ_one, Fin.sum_univ_one, Fin.sum_univ_one]
  refine Finset.sum_congr rfl fun w _ => ?_
  by_cases hw : k.val + w.val < 16384
  · have hin : ∀ a : Fin 4, (![0, 0, 0, 0] : Fin 4 → ℕ) a ≤ (ix4 (0 : Fin 1) h q k a).val * (![1, 1, 1, 1] : Fin 4 → ℕ) a + (ix4 (0 : Fin 1) (0 : Fin 1) (0 : Fin 1) w a).val
        ∧ (ix4 (0 : Fin 1) h q k a).val * (![1, 1, 1, 1] : Fin 4 → ℕ) a + (ix4 (0 : Fin 1) (0 : Fin 1) (0 : Fin 1) w a).val - (![0, 0, 0, 0] : Fin 4 → ℕ) a < S1x8x16384x16384.size a := by
      intro a
      match a with
      | ⟨0, _⟩ => exact ⟨Nat.zero_le _, Nat.zero_lt_one⟩
      | ⟨1, _⟩ => exact ⟨Nat.zero_le _, (by have := h.isLt; omega : h.val * 1 + 0 - 0 < 8)⟩
      | ⟨2, _⟩ => exact ⟨Nat.zero_le _, (by have := q.isLt; omega : q.val * 1 + 0 - 0 < 16384)⟩
      | ⟨3, _⟩ => exact ⟨Nat.zero_le _, (by omega : k.val * 1 + w.val - 0 < 16384)⟩
    rw [dif_pos hw]
    refine (dif_pos hin).trans (congrArg l ?_)
    funext a
    match a with
    | ⟨0, _⟩ => exact Fin.ext (by rfl)
    | ⟨1, _⟩ => exact Fin.ext (by show h.val * 1 + 0 - 0 = h.val; omega)
    | ⟨2, _⟩ => exact Fin.ext (by show q.val * 1 + 0 - 0 = q.val; omega)
    | ⟨3, _⟩ => exact Fin.ext (by show k.val * 1 + w.val - 0 = k.val + w.val; omega)
  · rw [dif_neg hw]
    refine dif_neg fun hc => hw ?_
    have h3 : k.val * 1 + w.val - 0 < 16384 := (hc 3).2
    omega

/-- The scores of a query of a head, by key. -/
def zR (h : Fin 8) (q : Fin 16384) (k : ℕ) : EReal :=
  (∑ d : Fin 128, X (ix2 q ⟨128 * h.val + d.val, by omega⟩)
      * X (ix2 ⟨k % 16384, Nat.mod_lt _ (by norm_num)⟩ ⟨1024 + 128 * h.val + d.val, by omega⟩))
    * Ideal.ofBits .f32 0x3DB504F3#32

/-- The values of a head, by key. -/
def vR (h : Fin 8) (d : Fin 128) (k : ℕ) : EReal :=
  X (ix2 ⟨k % 16384, Nat.mod_lt _ (by norm_num)⟩ ⟨2048 + 128 * h.val + d.val, by omega⟩)

theorem REF_at (q : Fin 16384) (h : Fin 8) (d : Fin 128) :
    REF X (ix2 q ⟨128 * h.val + d.val, by omega⟩)
      = ∑ k ∈ Finset.Ico 0 16384, Cert.Sb.wt q.val (zR X h q) 16384 k * vR X h d k := by
  have hz : ∀ k : Fin 16384, Zr X (ix4 (0 : Fin 1) h q k) = zR X h q k.val := by
    intro k
    rw [Z_at]
    unfold zR
    congr 1
    refine Finset.sum_congr rfl fun d _ => ?_
    rw [Q_at, K_at]
    congr 3
    exact Fin.ext (Nat.mod_eq_of_lt k.isLt).symm
  have hr : ∀ k : Fin 16384, selr (lsr (Zr X)) (ix4 (0 : Fin 1) h q k) = Cert.Sb.rowf q.val (zR X h q) k.val := by
    intro k
    rw [sel_at, ls_at, hz]
    rfl
  have hc : ∀ k : Fin 16384, Cr (selr (lsr (Zr X))) (ix4 (0 : Fin 1) h q k)
      = ∑ j ∈ Finset.Ico k.val 16384, Cert.Sb.rowf q.val (zR X h q) j := by
    intro k
    rw [C_at, ← Cert.Sb.sum_ge_eq_Ico _ _ _ k.isLt.le]
    exact Finset.sum_congr rfl fun j _ => by rw [hr]
  unfold REF
  rw [O_at, ← Finset.range_eq_Ico, ← Fin.sum_univ_eq_sum_range]
  refine Finset.sum_congr rfl fun k _ => ?_
  rw [A_at, V_at, hz, hc, mul_comm]
  congr 1
  unfold vR
  congr 2
  exact Fin.ext (Nat.mod_eq_of_lt k.isLt).symm

end Cert.ReferenceIdeal.Sb

end
-- ==== Proof.SbTable0.lean ====
/-
  The words of the constant table, rows 0 to 63: one on or below the diagonal of a half, zero above it.
-/
module

public import proofs.«01_k».proof.KernelIdeal
public import Idealize.ShloMosaic.Lib.Pointwise

@[expose] public section

namespace Cert.KernelIdeal.Sb

open Cert.KernelIdeal Idealize.ShloMosaic

theorem rows0 : ∀ (j : Fin 8) (s : Fin 128), lit0t ((0 + j.val) * 128 + s.val)
    = if s.val ≤ (0 + j.val) % 128 then 0x3F80#16 else 0x0000#16 := by
  decide +kernel

theorem rows1 : ∀ (j : Fin 8) (s : Fin 128), lit0t ((8 + j.val) * 128 + s.val)
    = if s.val ≤ (8 + j.val) % 128 then 0x3F80#16 else 0x0000#16 := by
  decide +kernel

theorem rows2 : ∀ (j : Fin 8) (s : Fin 128), lit0t ((16 + j.val) * 128 + s.val)
    = if s.val ≤ (16 + j.val) % 128 then 0x3F80#16 else 0x0000#16 := by
  decide +kernel

theorem rows3 : ∀ (j : Fin 8) (s : Fin 128), lit0t ((24 + j.val) * 128 + s.val)
    = if s.val ≤ (24 + j.val) % 128 then 0x3F80#16 else 0x0000#16 := by
  decide +kernel

theorem rows4 : ∀ (j : Fin 8) (s : Fin 128), lit0t ((32 + j.val) * 128 + s.val)
    = if s.val ≤ (32 + j.val) % 128 then 0x3F80#16 else 0x0000#16 := by
  decide +kernel

theorem rows5 : ∀ (j : Fin 8) (s : Fin 128), lit0t ((40 + j.val) * 128 + s.val)
    = if s.val ≤ (40 + j.val) % 128 then 0x3F80#16 else 0x0000#16 := by
  decide +kernel

theorem rows6 : ∀ (j : Fin 8) (s : Fin 128), lit0t ((48 + j.val) * 128 + s.val)
    = if s.val ≤ (48 + j.val) % 128 then 0x3F80#16 else 0x0000#16 := by
  decide +kernel

theorem rows7 : ∀ (j : Fin 8) (s : Fin 128), lit0t ((56 + j.val) * 128 + s.val)
    = if s.val ≤ (56 + j.val) % 128 then 0x3F80#16 else 0x0000#16 := by
  decide +kernel

end Cert.KernelIdeal.Sb
-- ==== Proof.SbTable1.lean ====
/-
  The words of the constant table, rows 64 to 127: one on or below the diagonal of a half, zero above it.
-/
module

public import proofs.«01_k».proof.KernelIdeal
public import Idealize.ShloMosaic.Lib.Pointwise

@[expose] public section

namespace Cert.KernelIdeal.Sb

open Cert.KernelIdeal Idealize.ShloMosaic

theorem rows8 : ∀ (j : Fin 8) (s : Fin 128), lit0t ((64 + j.val) * 128 + s.val)
    = if s.val ≤ (64 + j.val) % 128 then 0x3F80#16 else 0x0000#16 := by
  decide +kernel

theorem rows9 : ∀ (j : Fin 8) (s : Fin 128), lit0t ((72 + j.val) * 128 + s.val)
    = if s.val ≤ (72 + j.val) % 128 then 0x3F80#16 else 0x0000#16 := by
  decide +kernel

theorem rows10 : ∀ (j : Fin 8) (s : Fin 128), lit0t ((80 + j.val) * 128 + s.val)
    = if s.val ≤ (80 + j.val) % 128 then 0x3F80#16 else 0x0000#16 := by
  decide +kernel

theorem rows11 : ∀ (j : Fin 8) (s : Fin 128), lit0t ((88 + j.val) * 128 + s.val)
    = if s.val ≤ (88 + j.val) % 128 then 0x3F80#16 else 0x0000#16 := by
  decide +kernel

theorem rows12 : ∀ (j : Fin 8) (s : Fin 128), lit0t ((96 + j.val) * 128 + s.val)
    = if s.val ≤ (96 + j.val) % 128 then 0x3F80#16 else 0x0000#16 := by
  decide +kernel

theorem rows13 : ∀ (j : Fin 8) (s : Fin 128), lit0t ((104 + j.val) * 128 + s.val)
    = if s.val ≤ (104 + j.val) % 128 then 0x3F80#16 else 0x0000#16 := by
  decide +kernel

theorem rows14 : ∀ (j : Fin 8) (s : Fin 128), lit0t ((112 + j.val) * 128 + s.val)
    = if s.val ≤ (112 + j.val) % 128 then 0x3F80#16 else 0x0000#16 := by
  decide +kernel

theorem rows15 : ∀ (j : Fin 8) (s : Fin 128), lit0t ((120 + j.val) * 128 + s.val)
    = if s.val ≤ (120 + j.val) % 128 then 0x3F80#16 else 0x0000#16 := by
  decide +kernel

end Cert.KernelIdeal.Sb
-- ==== Proof.SbTable2.lean ====
/-
  The words of the constant table, rows 128 to 191: one on or below the diagonal of a half, zero above it.
-/
module

public import proofs.«01_k».proof.KernelIdeal
public import Idealize.ShloMosaic.Lib.Pointwise

@[expose] public section

namespace Cert.KernelIdeal.Sb

open Cert.KernelIdeal Idealize.ShloMosaic

theorem rows16 : ∀ (j : Fin 8) (s : Fin 128), lit0t ((128 + j.val) * 128 + s.val)
    = if s.val ≤ (128 + j.val) % 128 then 0x3F80#16 else 0x0000#16 := by
  decide +kernel

theorem rows17 : ∀ (j : Fin 8) (s : Fin 128), lit0t ((136 + j.val) * 128 + s.val)
    = if s.val ≤ (136 + j.val) % 128 then 0x3F80#16 else 0x0000#16 := by
  decide +kernel

theorem rows18 : ∀ (j : Fin 8) (s : Fin 128), lit0t ((144 + j.val) * 128 + s.val)
    = if s.val ≤ (144 + j.val) % 128 then 0x3F80#16 else 0x0000#16 := by
  decide +kernel

theorem rows19 : ∀ (j : Fin 8) (s : Fin 128), lit0t ((152 + j.val) * 128 + s.val)
    = if s.val ≤ (152 + j.val) % 128 then 0x3F80#16 else 0x0000#16 := by
  decide +kernel

theorem rows20 : ∀ (j : Fin 8) (s : Fin 128), lit0t ((160 + j.val) * 128 + s.val)
    = if s.val ≤ (160 + j.val) % 128 then 0x3F80#16 else 0x0000#16 := by
  decide +kernel

theorem rows21 : ∀ (j : Fin 8) (s : Fin 128), lit0t ((168 + j.val) * 128 + s.val)
    = if s.val ≤ (168 + j.val) % 128 then 0x3F80#16 else 0x0000#16 := by
  decide +kernel

theorem rows22 : ∀ (j : Fin 8) (s : Fin 128), lit0t ((176 + j.val) * 128 + s.val)
    = if s.val ≤ (176 + j.val) % 128 then 0x3F80#16 else 0x0000#16 := by
  decide +kernel

theorem rows23 : ∀ (j : Fin 8) (s : Fin 128), lit0t ((184 + j.val) * 128 + s.val)
    = if s.val ≤ (184 + j.val) % 128 then 0x3F80#16 else 0x0000#16 := by
  decide +kernel

end Cert.KernelIdeal.Sb
-- ==== Proof.SbTable3.lean ====
/-
  The words of the constant table, rows 192 to 255: one on or below the diagonal of a half, zero above it.
-/
module

public import proofs.«01_k».proof.KernelIdeal
public import Idealize.ShloMosaic.Lib.Pointwise

@[expose] public section

namespace Cert.KernelIdeal.Sb

open Cert.KernelIdeal Idealize.ShloMosaic

theorem rows24 : ∀ (j : Fin 8) (s : Fin 128), lit0t ((192 + j.val) * 128 + s.val)
    = if s.val ≤ (192 + j.val) % 128 then 0x3F80#16 else 0x0000#16 := by
  decide +kernel

theorem rows25 : ∀ (j : Fin 8) (s : Fin 128), lit0t ((200 + j.val) * 128 + s.val)
    = if s.val ≤ (200 + j.val) % 128 then 0x3F80#16 else 0x0000#16 := by
  decide +kernel

theorem rows26 : ∀ (j : Fin 8) (s : Fin 128), lit0t ((208 + j.val) * 128 + s.val)
    = if s.val ≤ (208 + j.val) % 128 then 0x3F80#16 else 0x0000#16 := by
  decide +kernel

theorem rows27 : ∀ (j : Fin 8) (s : Fin 128), lit0t ((216 + j.val) * 128 + s.val)
    = if s.val ≤ (216 + j.val) % 128 then 0x3F80#16 else 0x0000#16 := by
  decide +kernel

theorem rows28 : ∀ (j : Fin 8) (s : Fin 128), lit0t ((224 + j.val) * 128 + s.val)
    = if s.val ≤ (224 + j.val) % 128 then 0x3F80#16 else 0x0000#16 := by
  decide +kernel

theorem rows29 : ∀ (j : Fin 8) (s : Fin 128), lit0t ((232 + j.val) * 128 + s.val)
    = if s.val ≤ (232 + j.val) % 128 then 0x3F80#16 else 0x0000#16 := by
  decide +kernel

theorem rows30 : ∀ (j : Fin 8) (s : Fin 128), lit0t ((240 + j.val) * 128 + s.val)
    = if s.val ≤ (240 + j.val) % 128 then 0x3F80#16 else 0x0000#16 := by
  decide +kernel

theorem rows31 : ∀ (j : Fin 8) (s : Fin 128), lit0t ((248 + j.val) * 128 + s.val)
    = if s.val ≤ (248 + j.val) % 128 then 0x3F80#16 else 0x0000#16 := by
  decide +kernel

end Cert.KernelIdeal.Sb
-- ==== Proof.SbTable.lean ====
/-
  The constant table of the kernel: two stacked 128×128 triangles of ones.
-/
module

public import proofs.«01_k».proof.Proof.SbTable0
public import proofs.«01_k».proof.Proof.SbTable1
public import proofs.«01_k».proof.Proof.SbTable2
public import proofs.«01_k».proof.Proof.SbTable3
public import Idealize.ShloMosaic.Lib.IdealHost

@[expose] public section

noncomputable section

namespace Cert.KernelIdeal.Sb

open Cert.KernelIdeal Idealize.ShloMosaic

/-- A statement about the multiples of eight below 256, from its instances. -/
theorem of_rows (P : ℕ → Prop) (h0 : P 0) (h1 : P 8) (h2 : P 16) (h3 : P 24) (h4 : P 32) (h5 : P 40) (h6 : P 48) (h7 : P 56) (h8 : P 64) (h9 : P 72) (h10 : P 80) (h11 : P 88) (h12 : P 96) (h13 : P 104) (h14 : P 112) (h15 : P 120) (h16 : P 128) (h17 : P 136) (h18 : P 144) (h19 : P 152) (h20 : P 160) (h21 : P 168) (h22 : P 176) (h23 : P 184) (h24 : P 192) (h25 : P 200) (h26 : P 208) (h27 : P 216) (h28 : P 224) (h29 : P 232) (h30 : P 240) (h31 : P 248) :
    ∀ b, b < 32 → P (8 * b) := by
  intro b hb
  interval_cases b <;> assumption

/-- The words of eight rows of the table from a row on. -/
def Rows (o : ℕ) : Prop := ∀ (j : Fin 8) (s : Fin 128), lit0t ((o + j.val) * 128 + s.val)
    = if s.val ≤ (o + j.val) % 128 then 0x3F80#16 else 0x0000#16

/-- Every word of the table: the word of one on or below the diagonal of its half, the word of zero elsewhere. -/
theorem lit_words (b : ℕ) (hb : b < 32) : Rows (8 * b) :=
  of_rows Rows rows0 rows1 rows2 rows3 rows4 rows5 rows6 rows7 rows8 rows9 rows10 rows11 rows12 rows13 rows14 rows15 rows16 rows17 rows18 rows19 rows20 rows21 rows22 rows23 rows24 rows25 rows26 rows27 rows28 rows29 rows30 rows31 b hb

/-- The table at a row and a column. -/
theorem table_at (j : Fin 256) (s : Fin 128) :
    Ideal.ofBits .bf16 (lit0 (S256x128.rowMajor (ix2 j s))) = if s.val ≤ j.val % 128 then 1 else 0 := by
  have e : (S256x128.rowMajor (ix2 j s)).val = j.val * 128 + s.val := by
    exact Shape.rowMajor_val_two (ix2 j s)
  have h : lit0 (S256x128.rowMajor (ix2 j s)) = if s.val ≤ j.val % 128 then 0x3F80#16 else 0x0000#16 := by
    show lit0t (S256x128.rowMajor (ix2 j s)).val = _
    have h1 := lit_words (j.val / 8) (by omega) ⟨j.val % 8, by omega⟩ s
    have h2 : 8 * (j.val / 8) + j.val % 8 = j.val := by omega
    rw [e]
    simpa only [h2] using h1
  rw [h]
  split
  · exact Ideal.ofBits_one_bf16
  · exact Ideal.ofBits_zero_bf16

end Cert.KernelIdeal.Sb

end
-- ==== Proof.SbFinal.lean ====
/-
  The kernel's output array: each block is written once, from the blocks of the argument, and is the reference's result.
-/
module

public import proofs.«01_k».proof.Proof.Gen.KernelIdeal.Value
public import proofs.«01_k».proof.Proof.SbRun
public import proofs.«01_k».proof.Proof.SbSums
public import proofs.«01_k».proof.Proof.SbRef
public import proofs.«01_k».proof.Proof.SbTable
public import Idealize.ShloMosaic.Lib.Pipeline.ValueKit
public import Idealize.ShloMosaic.Lib.Pipeline.Covers
public import Idealize.ShloMosaic.Lib.Claim

@[expose] public section

noncomputable section

namespace Cert.KernelIdeal.Sb

open Cert.KernelIdeal Cert.KernelIdeal.Gen Idealize.ShloMosaic Idealize.ShloMosaic.TcCoe Idealize.SL.Sem

variable (m : (ℓ : Loc nD τ sig) → Buf (Elt Ideal) ℓ) (c : Dev nD)

/-- Where the windows lie at each point. -/
theorem idx : ∀ t : Fin cfg0.N, win0_0.index t = ![(grid0.coords t 1).val, (grid0.coords t 0).val]
    ∧ win0_1.index t = ![0, 0, 8 + (grid0.coords t 0).val] ∧ win0_2.index t = ![0, 0, 16 + (grid0.coords t 0).val]
    ∧ win0_3.index t = ![0, 0] ∧ win0_4.index t = ![(grid0.coords t 1).val, (grid0.coords t 0).val] :=
  (by decide +kernel : ∀ t : Fin grid0.N, _)

/-- The argument array. -/
abbrev arg : FVec Ideal S16384x3072 .bf16 := m ((c : Thread nD τ).loc main_arg0)

theorem head_lt (t : Fin cfg0.N) : (grid0.coords t 0).val < 8 := (grid0.coords t 0).isLt
theorem blk_lt (t : Fin cfg0.N) : (grid0.coords t 1).val < 32 := (grid0.coords t 1).isLt

theorem q_blk (t : Fin cfg0.N) (r : Fin 512) (d : Fin 128) :
    (iblk m c 0 t : FVec Ideal S512x128 .bf16) (ix2 r d)
      = arg m c (ix2 ⟨512 * (grid0.coords t 1).val + r.val, by have := blk_lt t; omega⟩
          ⟨128 * (grid0.coords t 0).val + d.val, by have := head_lt t; omega⟩) := by
  blk_point [iblk, V, idx t]

theorem k_blk (t : Fin cfg0.N) (b : Fin 32) (r : Fin 512) (d : Fin 128) :
    (iblk m c 1 t : FVec Ideal S32x512x128 .bf16) (ix3 b r d)
      = arg m c (ix2 ⟨512 * b.val + r.val, by omega⟩
          ⟨1024 + 128 * (grid0.coords t 0).val + d.val, by have := head_lt t; omega⟩) := by
  blk_point [iblk, idx t]

theorem v_blk (t : Fin cfg0.N) (b : Fin 32) (r : Fin 512) (d : Fin 128) :
    (iblk m c 2 t : FVec Ideal S32x512x128 .bf16) (ix3 b r d)
      = arg m c (ix2 ⟨512 * b.val + r.val, by omega⟩
          ⟨2048 + 128 * (grid0.coords t 0).val + d.val, by have := head_lt t; omega⟩) := by
  blk_point [iblk, idx t]

theorem u_blk (t : Fin cfg0.N) (j : Fin 256) (s : Fin 128) :
    (iblk m c 3 t : FVec Ideal S256x128 .bf16) (ix2 j s) = if s.val ≤ j.val % 128 then (1 : EReal) else (0 : EReal) := by
  refine Eq.trans ?_ (table_at j s)
  blk_simp [iblk, idx t]
  entry_read
  refine congrArg (fun i => Ideal.ofBits .bf16 (lit0 (S256x128.rowMajor i))) ?_
  blk_ext [idx t]

/-- What a grid point leaves in the output block, at a row and a column. -/
theorem point (t : Fin cfg0.N) (r : Fin 512) (d : Fin 128) :
    (outsAt0 m c t : FVec Ideal S512x128 .bf16) (ix2 r d)
      = Cert.ReferenceIdeal.Sb.REF (arg m c) (ix2 ⟨512 * (grid0.coords t 1).val + r.val, by have := blk_lt t; omega⟩
          ⟨128 * (grid0.coords t 0).val + d.val, by have := head_lt t; omega⟩) := by
  have hb := blk_lt t
  have hz : zN (iblk m c 0 t) (iblk m c 1 t) r = Cert.ReferenceIdeal.Sb.zR (arg m c) (grid0.coords t 0)
      ⟨512 * (grid0.coords t 1).val + r.val, by omega⟩ := by
    funext k
    unfold zN Cert.ReferenceIdeal.Sb.zR
    congr 1
    refine Finset.sum_congr rfl fun e _ => ?_
    rw [q_blk, kvN, k_blk]
    congr 3
    exact Fin.ext (by dsimp only; omega)
  have hv : ∀ k, kvN (iblk m c 2 t) k d = Cert.ReferenceIdeal.Sb.vR (arg m c) (grid0.coords t 0) d k := by
    intro k
    unfold Cert.ReferenceIdeal.Sb.vR
    rw [kvN, v_blk]
    congr 2
    exact Fin.ext (by dsimp only; omega)
  simp only [outsAt0]
  rw [run_block, block_at (u_blk m c t)]
  refine Eq.trans ?_ (Cert.ReferenceIdeal.Sb.REF_at (arg m c) _ (grid0.coords t 0) d).symm
  rw [Cert.Sb.wt_sum_ext _ _ _ (512 * (grid0.coords t 1).val + 512) 16384 (by dsimp only; omega) (by omega), ← hz]
  exact Finset.sum_congr rfl fun k _ => by rw [hv]

/-- The output array after the run is the reference's result. -/
theorem final : (dats m 0 c).arrAt 4 (cfgs 0).N = Cert.ReferenceIdeal.Sb.REF (arg m c) := by
  refine (dats m 0 c).arrAt_eq_of_covers 4 _ (by decide +kernel) fun t _ y => ?_
  blk_simp
  rw [after0_4]
  idx_vars y
  refine (point m c t _ _).trans ?_
  refine congrArg _ ?_
  blk_ext [idx t]

end Cert.KernelIdeal.Sb

end
-- ==== Proof.SbClaim.lean ====
/-
  The stick-breaking attention: kernel and reference end with the same result over the extended reals.
-/
module

public import proofs.«01_k».proof.Defs
public import proofs.«01_k».proof.Proof.SbFinal
public import Idealize.ShloMosaic.Lib.Quiescent

@[expose] public section

noncomputable section

namespace Cert.Proof.SbClaim

open Idealize.ShloMosaic Idealize.SL.Sem

/-- The reference terminates, leaves its argument unchanged, and declares no semaphore. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals kernel and reference compute the same function. -/
theorem algebraic : Cert.algebraic_KernelIdeal_ReferenceIdeal := by
  intro m g m' g' _ hagree
  refine ⟨fun c => Cert.ReferenceIdeal.Sb.REF (Cert.KernelIdeal.Sb.arg m c), ?_, ?_⟩
  · exact (θ_run Cert.KernelIdeal.defs _ _).mono
      (fun _ h c => ⟨(h c).1.trans (Cert.KernelIdeal.Sb.final m c), (h c).2⟩) (Cert.KernelIdeal.Value.run_blocks (F := Ideal) m g)
  · refine (θ_run Cert.ReferenceIdeal.defs _ _).mono (fun _ h c => ⟨(h c).1.trans ?_, (h c).2⟩)
      (Cert.ReferenceIdeal.Value.run (F := Ideal) m' g')
    refine (Cert.ReferenceIdeal.Sb.res_eq m' c).trans ?_
    exact congrArg Cert.ReferenceIdeal.Sb.REF (hagree c)

end Cert.Proof.SbClaim

end
-- ==== Proof.Glu.lean ====
/-
  The dense feed-forward part, up: kernel and reference end with the same array over the extended reals. At a row and a
  column both are `g · σ(g) · u` with `g`, `u` the row's products with the column of the two weights.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Ffn

open Idealize.ShloMosaic

/-- `g · σ(g) · u`. -/
def glu (g u : EReal) : EReal := g * Ideal.logistic g * u

end Cert.Ffn

namespace Cert.Reference2Ideal.Glu

open Cert.Reference2Ideal Cert.Reference2Ideal.Gen Idealize.ShloMosaic Idealize.ShloMosaic.TcCoe Idealize.SL.Sem

variable (h : FVec Ideal S16384x4096 .bf16) (wg wu : FVec Ideal S1x4096x14336 .f32)

/-- The rows times one weight. -/
def dot (w : FVec Ideal S1x4096x14336 .f32) : FVec Ideal S16384x14336 .f32 :=
  Host.dotGeneral dot_S16384x4096_S4096x14336_S16384x14336_1_0_0_1_n_n none (extf .f32 h bitsLt_bf16_f32)
    (shapeCast _ w shapeCasts_S1x4096x14336_S4096x14336)

def ones : FVec Ideal S16384x14336 .f32 := broadcastInDim S16384x14336 ![] bcast_S_S16384x14336 (constant S_ .f32 0x3F800000#32)

/-- The reference's result as a function of its arguments. -/
def REF : FVec Ideal S16384x14336 .bf16 :=
  truncf .bf16 (mulf (mulf (dot h wg) (Host.divf ones (addf ones (Host.exp (Host.negf (dot h wg)))))) (dot h wu)) bitsLt_bf16_f32

theorem dot_at (w : FVec Ideal S1x4096x14336 .f32) (i : Fin 16384) (j : Fin 14336) :
    dot h w (ix2 i j) = ∑ k : Fin 4096, h (ix2 i k) * w (ix3 (0 : Fin 1) k j) := by
  pointwise [dot]

theorem REF_at (i : Fin 16384) (j : Fin 14336) :
    REF h wg wu (ix2 i j) = Cert.Ffn.glu (∑ k : Fin 4096, h (ix2 i k) * wg (ix3 (0 : Fin 1) k j))
      (∑ k : Fin 4096, h (ix2 i k) * wu (ix3 (0 : Fin 1) k j)) := by
  rw [← dot_at, ← dot_at]
  pointwise [REF, ones]
  rfl

end Cert.Reference2Ideal.Glu

namespace Cert.Kernel2Ideal.Glu

open Cert.Kernel2Ideal Cert.Kernel2Ideal.Gen Idealize.ShloMosaic Idealize.ShloMosaic.TcCoe Idealize.SL.Sem

theorem pay_at (a : FVec Ideal S1024x4096 .bf16) (g u : FVec Ideal S1x4096x512 .bf16) (r : Fin 1024) (d : Fin 512) :
    k0_pay1 (F := Ideal) a g u (ix2 r d) = Cert.Ffn.glu (∑ k : Fin 4096, a (ix2 r k) * g (ix3 (0 : Fin 1) k d))
      (∑ k : Fin 4096, a (ix2 r k) * u (ix3 (0 : Fin 1) k d)) := by
  pointwise [k0_pay1]
  rfl

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, 0, (grid0.coords t 1).val] ∧ win0_2.index t = ![0, 0, (grid0.coords t 1).val]
    ∧ win0_3.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S1x4096x14336 .f32 := m ((c : Thread nD τ).loc main_arg1)
abbrev arg2 : FVec Ideal S1x4096x14336 .f32 := m ((c : Thread nD τ).loc main_arg2)

theorem row_lt (t : Fin cfg0.N) : (grid0.coords t 0).val < 16 := (grid0.coords t 0).isLt
theorem col_lt (t : Fin cfg0.N) : (grid0.coords t 1).val < 28 := (grid0.coords t 1).isLt

theorem a_blk (t : Fin cfg0.N) (r : Fin 1024) (k : Fin 4096) :
    (iblk m c 0 t : FVec Ideal S1024x4096 .bf16) (ix2 r k)
      = arg0 m c (ix2 ⟨1024 * (grid0.coords t 0).val + r.val, by have := row_lt t; omega⟩ k) := by
  blk_point [iblk, V, idx t]

theorem g_blk (t : Fin cfg0.N) (k : Fin 4096) (d : Fin 512) :
    (iblk m c 1 t : FVec Ideal S1x4096x512 .bf16) (ix3 (0 : Fin 1) k d)
      = arg1 m c (ix3 (0 : Fin 1) k ⟨512 * (grid0.coords t 1).val + d.val, by have := col_lt t; omega⟩) := by
  blk_point [iblk, idx t]

theorem u_blk (t : Fin cfg0.N) (k : Fin 4096) (d : Fin 512) :
    (iblk m c 2 t : FVec Ideal S1x4096x512 .bf16) (ix3 (0 : Fin 1) k d)
      = arg2 m c (ix3 (0 : Fin 1) k ⟨512 * (grid0.coords t 1).val + d.val, by have := col_lt t; omega⟩) := by
  blk_point [iblk, idx t]

/-- What a grid point leaves in the output block, at a row and a column. -/
theorem point (t : Fin cfg0.N) (r : Fin 1024) (d : Fin 512) :
    (out0_3 (iblk m c 0 t) (iblk m c 1 t) (iblk m c 2 t) : FVec Ideal S1024x512 .bf16) (ix2 r d)
      = Cert.Reference2Ideal.Glu.REF (arg0 m c) (arg1 m c) (arg2 m c)
          (ix2 ⟨1024 * (grid0.coords t 0).val + r.val, by have := row_lt t; omega⟩
            ⟨512 * (grid0.coords t 1).val + d.val, by have := col_lt t; omega⟩) := by
  frame_out
  rw [pay_at, Cert.Reference2Ideal.Glu.REF_at]
  simp only [a_blk, g_blk, u_blk]

/-- The output array after the run is the reference's result. -/
theorem final : (dats m 0 c).arrAt 3 (cfgs 0).N = Cert.Reference2Ideal.Glu.REF (arg0 m c) (arg1 m c) (arg2 m c) := by
  refine (dats m 0 c).arrAt_eq_of_covers 3 _ (by decide +kernel) fun t _ y => ?_
  blk_simp
  rw [after0_3]
  idx_vars y
  refine (point m c t _ _).trans ?_
  refine congrArg _ ?_
  blk_ext [idx t]

end Cert.Kernel2Ideal.Glu

namespace Cert.Proof.Glu

open Idealize.ShloMosaic Idealize.SL.Sem

theorem reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Over the extended reals kernel and reference compute the same function. -/
theorem algebraic : Cert.algebraic_Kernel2Ideal_Reference2Ideal := by
  intro m g m' g' _ hagree
  refine ⟨fun c => Cert.Reference2Ideal.Glu.REF (Cert.Kernel2Ideal.Glu.arg0 m c) (Cert.Kernel2Ideal.Glu.arg1 m c)
    (Cert.Kernel2Ideal.Glu.arg2 m c), ?_, ?_⟩
  · exact (θ_run Cert.Kernel2Ideal.defs _ _).mono
      (fun _ h c => ⟨(h c).1.trans (Cert.Kernel2Ideal.Glu.final m c), (h c).2⟩) (Cert.Kernel2Ideal.Value.run_blocks (F := Ideal) m g)
  · refine (θ_run Cert.Reference2Ideal.defs _ _).mono (fun _ h c => ⟨(h c).1.trans ?_, (h c).2⟩)
      (Cert.Reference2Ideal.Value.run (F := Ideal) m' g')
    rw [(hagree c).1, (hagree c).2.1, (hagree c).2.2]
    rfl

end Cert.Proof.Glu

end
-- ==== Proof.GluGated.lean ====
/-
  The experts' feed-forward part, up: kernel and reference end with the same array over the extended reals. Column
  `1792·e + j` of the result is expert `e`'s `g · σ(g) · u`, times the row's gate for the expert.
-/
module

public import proofs.«01_k».proof.Defs
public import proofs.«01_k».proof.Proof.Glu
public import proofs.«01_k».proof.Proof.Gen.Kernel3Ideal.Value
public import proofs.«01_k».proof.Proof.Gen.Reference3Ideal.Run
public import Idealize.ShloMosaic.Lib.Pointwise
public import Idealize.ShloMosaic.Lib.WordCmp
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference3Ideal.Glu

open Cert.Reference3Ideal Cert.Reference3Ideal.Gen Idealize.ShloMosaic Idealize.ShloMosaic.TcCoe Idealize.SL.Sem

variable (h : FVec Ideal S16384x4096 .bf16) (wg wu : FVec Ideal S8x4096x1792 .f32) (gates : FVec Ideal S16384x128 .f32)

/-- The rows times one expert's weight. -/
def dot (w : FVec Ideal S8x4096x1792 .f32) (o : Fin 3 → ℕ) (ho : S8x4096x1792.Slices o S1x4096x1792) : FVec Ideal S16384x1792 .f32 :=
  Host.dotGeneral dot_S16384x4096_S4096x1792_S16384x1792_1_0_0_1_n_n none (extf .f32 h bitsLt_bf16_f32)
    (shapeCast _ (extractStridedSlice S1x4096x1792 o w ho) shapeCasts_S1x4096x1792_S4096x1792)

def ones : FVec Ideal S16384x1792 .f32 := broadcastInDim S16384x1792 ![] bcast_S_S16384x1792 (constant S_ .f32 0x3F800000#32)

/-- One expert's columns. -/
def piece (o2 : Fin 2 → ℕ) (h2 : S16384x128.Slices o2 S16384x1) (o : Fin 3 → ℕ) (ho : S8x4096x1792.Slices o S1x4096x1792) :
    FVec Ideal S16384x1792 .f32 :=
  mulf (broadcastInDim S16384x1792 ![0, 1] bcast_S16384x1_S16384x1792_0_1 (extractStridedSlice S16384x1 o2 gates h2))
    (mulf (mulf (dot h wg o ho) (Host.divf ones (addf ones (Host.exp (Host.negf (dot h wg o ho)))))) (dot h wu o ho))

/-- The pieces side by side. -/
def cat8 (p0 p1 p2 p3 p4 p5 p6 p7 : FVec Ideal S16384x1792 .f32) : FVec Ideal S16384x14336 .bf16 :=
  truncf .bf16 (concatenate S16384x14336 1 [⟨S16384x1792, p0⟩, ⟨S16384x1792, p1⟩, ⟨S16384x1792, p2⟩, ⟨S16384x1792, p3⟩,
    ⟨S16384x1792, p4⟩, ⟨S16384x1792, p5⟩, ⟨S16384x1792, p6⟩, ⟨S16384x1792, p7⟩]
    concatenates_S16384x1792_S16384x1792_S16384x1792_S16384x1792_S16384x1792_S16384x1792_S16384x1792_S16384x1792_S16384x14336_d1
    : FVec Ideal S16384x14336 .f32) bitsLt_bf16_f32

/-- The reference's result as a function of its arguments. -/
def REF : FVec Ideal S16384x14336 .bf16 :=
  cat8 (piece h wg wu gates ![0, 0] slices_S16384x128_S16384x1_0_0 ![0, 0, 0] slices_S8x4096x1792_S1x4096x1792_0_0_0)
    (piece h wg wu gates ![0, 1] slices_S16384x128_S16384x1_0_1 ![1, 0, 0] slices_S8x4096x1792_S1x4096x1792_1_0_0)
    (piece h wg wu gates ![0, 2] slices_S16384x128_S16384x1_0_2 ![2, 0, 0] slices_S8x4096x1792_S1x4096x1792_2_0_0)
    (piece h wg wu gates ![0, 3] slices_S16384x128_S16384x1_0_3 ![3, 0, 0] slices_S8x4096x1792_S1x4096x1792_3_0_0)
    (piece h wg wu gates ![0, 4] slices_S16384x128_S16384x1_0_4 ![4, 0, 0] slices_S8x4096x1792_S1x4096x1792_4_0_0)
    (piece h wg wu gates ![0, 5] slices_S16384x128_S16384x1_0_5 ![5, 0, 0] slices_S8x4096x1792_S1x4096x1792_5_0_0)
    (piece h wg wu gates ![0, 6] slices_S16384x128_S16384x1_0_6 ![6, 0, 0] slices_S8x4096x1792_S1x4096x1792_6_0_0)
    (piece h wg wu gates ![0, 7] slices_S16384x128_S16384x1_0_7 ![7, 0, 0] slices_S8x4096x1792_S1x4096x1792_7_0_0)

theorem res_eq (m : (ℓ : Loc nD τ sig) → Buf (Elt Ideal) ℓ) (c : Dev nD) :
    Value.res_out0 m c = REF (m ((c.tc : Thread nD τ).loc main_arg0)) (m ((c.tc : Thread nD τ).loc main_arg1))
      (m ((c.tc : Thread nD τ).loc main_arg2)) (m ((c.tc : Thread nD τ).loc main_arg3)) := rfl

/-- Expert `e`'s value at a row and one of its columns. -/
def val (e : Fin 8) (i : Fin 16384) (j : Fin 1792) : EReal :=
  gates (ix2 i ⟨e.val, by omega⟩) * Cert.Ffn.glu (∑ k : Fin 4096, h (ix2 i k) * wg (ix3 e k j)) (∑ k : Fin 4096, h (ix2 i k) * wu (ix3 e k j))

theorem dot_at (w : FVec Ideal S8x4096x1792 .f32) (e : Fin 8) (ho : S8x4096x1792.Slices ![e.val, 0, 0] S1x4096x1792)
    (i : Fin 16384) (j : Fin 1792) :
    dot h w ![e.val, 0, 0] ho (ix2 i j) = ∑ k : Fin 4096, h (ix2 i k) * w (ix3 e k j) := by
  pointwise [dot]

theorem piece_at (e : Fin 8) (h2 : S16384x128.Slices ![0, e.val] S16384x1) (ho : S8x4096x1792.Slices ![e.val, 0, 0] S1x4096x1792)
    (i : Fin 16384) (j : Fin 1792) :
    piece h wg wu gates ![0, e.val] h2 ![e.val, 0, 0] ho (ix2 i j) = val h wg wu gates e i j := by
  unfold val
  rw [← dot_at h wg e ho, ← dot_at h wu e ho]
  pointwise [piece, ones]
  rfl

theorem cat8_at (p0 p1 p2 p3 p4 p5 p6 p7 : FVec Ideal S16384x1792 .f32) (i : Fin 16384) (f : Fin 8 → Fin 1792 → EReal)
    (h0 : ∀ j, p0 (ix2 i j) = f ⟨0, by omega⟩ j) (h1 : ∀ j, p1 (ix2 i j) = f ⟨1, by omega⟩ j) (h2 : ∀ j, p2 (ix2 i j) = f ⟨2, by omega⟩ j)
    (h3 : ∀ j, p3 (ix2 i j) = f ⟨3, by omega⟩ j) (h4 : ∀ j, p4 (ix2 i j) = f ⟨4, by omega⟩ j) (h5 : ∀ j, p5 (ix2 i j) = f ⟨5, by omega⟩ j)
    (h6 : ∀ j, p6 (ix2 i j) = f ⟨6, by omega⟩ j) (h7 : ∀ j, p7 (ix2 i j) = f ⟨7, by omega⟩ j) (e : Fin 8) (j : Fin 1792) :
    cat8 p0 p1 p2 p3 p4 p5 p6 p7 (ix2 i ⟨1792 * e.val + j.val, by omega⟩) = f e j := by
  pointwise [cat8]
  simp only [h0, h1, h2, h3, h4, h5, h6, h7]
  split_ifs <;> exact congrArg₂ f (Fin.ext (by dsimp only; omega)) (Fin.ext (by dsimp only; omega))

theorem REF_at (i : Fin 16384) (e : Fin 8) (j : Fin 1792) :
    REF h wg wu gates (ix2 i ⟨1792 * e.val + j.val, by omega⟩) = val h wg wu gates e i j :=
  cat8_at _ _ _ _ _ _ _ _ i (fun e j => val h wg wu gates e i j) (piece_at h wg wu gates 0 _ _ i) (piece_at h wg wu gates 1 _ _ i)
    (piece_at h wg wu gates 2 _ _ i) (piece_at h wg wu gates 3 _ _ i) (piece_at h wg wu gates 4 _ _ i)
    (piece_at h wg wu gates 5 _ _ i) (piece_at h wg wu gates 6 _ _ i) (piece_at h wg wu gates 7 _ _ i) e j

end Cert.Reference3Ideal.Glu

namespace Cert.Kernel3Ideal.Glu

open Cert.Kernel3Ideal Cert.Kernel3Ideal.Gen Idealize.ShloMosaic Idealize.ShloMosaic.TcCoe Idealize.SL.Sem

/-- The expert of a column block, as the body computes it. -/
def expert (a : BitVec 32) : BitVec 32 :=
  Scalar.select
    (Scalar.andi
      (Scalar.cmpi .ne (Scalar.subi (Scalar.extui (Scalar.cmpi .sgt a 0#32) : BitVec 32) (Scalar.extui (Scalar.cmpi .slt a 0#32)))
        (Scalar.subi (Scalar.extui (Scalar.cmpi .sgt 7#32 0#32) : BitVec 32) (Scalar.extui (Scalar.cmpi .slt 7#32 0#32))))
      (Scalar.cmpi .ne (Scalar.remsi a 7#32) 0#32))
    (Scalar.subi (Scalar.divsi a 7#32) 1#32) (Scalar.divsi a 7#32)

theorem expert_eq : ∀ n : Fin 56, expert (BitVec.ofNat 32 n.val) = BitVec.ofNat 32 (n.val / 7) := by decide +kernel

/-- The gate column the body selects, summed over the lanes. -/
def gate (x : BitVec 32) (v : FVec Ideal S1024x128 .f32) : FVec Ideal S1024 .f32 :=
  multiReduction .add [1] S1024 (select (cmpi .eq (iota .tc S1024x128 32 [1] iota_S1024x128_d1_w32) (broadcast S1024x128 x)) v
    (broadcast S1024x128 (Scalar.ofBits .f32 0x00000000#32))) 0x00000000#32 reduces_S1024x128_S1024 (.inl rfl) rfl

theorem gate_sum (x : BitVec 32) (v : FVec Ideal S1024x128 .f32) (r : Fin 1024) :
    gate x v (ix1 r) = ∑ l : Fin 128, Scalar.select (IntOp.cmpi .eq (BitVec.ofNat 32 l.val) x) (v (ix2 r l)) (0 : EReal) := by
  pointwise [gate]

theorem gate_at (n : Fin 128) (v : FVec Ideal S1024x128 .f32) (r : Fin 1024) :
    gate (BitVec.ofNat 32 n.val) v (ix1 r) = v (ix2 r n) := by
  rw [gate_sum, Finset.sum_eq_single n]
  · unfold Scalar.select
    exact if_pos (by simp [IntOp.cmpi])
  · intro l _ hl
    unfold Scalar.select
    refine if_neg fun h => hl ?_
    have h' : BitVec.ofNat 32 l.val = BitVec.ofNat 32 n.val := by
      by_contra hn
      have hb : (BitVec.ofNat 32 l.val == BitVec.ofNat 32 n.val) = false := beq_eq_false_iff_ne.mpr hn
      simp [IntOp.cmpi, hb] at h
    have h2 := congrArg BitVec.toNat h'
    simp only [BitVec.toNat_ofNat] at h2
    exact Fin.ext (by omega)
  · intro h
    exact absurd (Finset.mem_univ n) h

theorem pay_at (i : grid0.Coords) (a : FVec Ideal S1024x4096 .bf16) (g u : FVec Ideal S1x4096x256 .bf16) (v : FVec Ideal S1024x128 .f32)
    (r : Fin 1024) (d : Fin 256) :
    k0_pay1 (F := Ideal) (k0_pay2 (F := Ideal) i a g u v) (ix2 r d)
      = Cert.Ffn.glu (∑ k : Fin 4096, a (ix2 r k) * g (ix3 (0 : Fin 1) k d)) (∑ k : Fin 4096, a (ix2 r k) * u (ix3 (0 : Fin 1) k d))
        * gate (expert (BitVec.ofNat 32 (i 1).val)) v (ix1 r) := by
  rw [gate_sum]
  pointwise [k0_pay1, k0_pay2]
  rfl

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![(grid0.coords t 1).val / 7, 0, (grid0.coords t 1).val % 7]
    ∧ win0_2.index t = ![(grid0.coords t 1).val / 7, 0, (grid0.coords t 1).val % 7]
    ∧ win0_3.index t = ![(grid0.coords t 0).val, 0]
    ∧ win0_4.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S8x4096x1792 .f32 := m ((c : Thread nD τ).loc main_arg1)
abbrev arg2 : FVec Ideal S8x4096x1792 .f32 := m ((c : Thread nD τ).loc main_arg2)
abbrev arg3 : FVec Ideal S16384x128 .f32 := m ((c : Thread nD τ).loc main_arg3)

theorem row_lt (t : Fin cfg0.N) : (grid0.coords t 0).val < 16 := (grid0.coords t 0).isLt
theorem col_lt (t : Fin cfg0.N) : (grid0.coords t 1).val < 56 := (grid0.coords t 1).isLt

/-- The expert of a point, and its column's place among the expert's. -/
abbrev ex (t : Fin cfg0.N) : Fin 8 := ⟨(grid0.coords t 1).val / 7, by have := col_lt t; omega⟩
abbrev pl (t : Fin cfg0.N) (d : Fin 256) : Fin 1792 := ⟨256 * ((grid0.coords t 1).val % 7) + d.val, by omega⟩

theorem a_blk (t : Fin cfg0.N) (r : Fin 1024) (k : Fin 4096) :
    (iblk m c 0 t : FVec Ideal S1024x4096 .bf16) (ix2 r k)
      = arg0 m c (ix2 ⟨1024 * (grid0.coords t 0).val + r.val, by have := row_lt t; omega⟩ k) := by
  blk_point [iblk, V, idx t]

theorem g_blk (t : Fin cfg0.N) (k : Fin 4096) (d : Fin 256) :
    (iblk m c 1 t : FVec Ideal S1x4096x256 .bf16) (ix3 (0 : Fin 1) k d) = arg1 m c (ix3 (ex t) k (pl t d)) := by
  blk_point [iblk, idx t]

theorem u_blk (t : Fin cfg0.N) (k : Fin 4096) (d : Fin 256) :
    (iblk m c 2 t : FVec Ideal S1x4096x256 .bf16) (ix3 (0 : Fin 1) k d) = arg2 m c (ix3 (ex t) k (pl t d)) := by
  blk_point [iblk, idx t]

theorem w_blk (t : Fin cfg0.N) (r : Fin 1024) (n : Fin 128) :
    (iblk m c 3 t : FVec Ideal S1024x128 .f32) (ix2 r n)
      = arg3 m c (ix2 ⟨1024 * (grid0.coords t 0).val + r.val, by have := row_lt t; omega⟩ n) := by
  blk_point [iblk, V, idx t]

/-- What a grid point leaves in the output block, at a row and a column. -/
theorem point (t : Fin cfg0.N) (r : Fin 1024) (d : Fin 256) :
    (out0_4 (grid0.coords t) (iblk m c 0 t) (iblk m c 1 t) (iblk m c 2 t) (iblk m c 3 t) : FVec Ideal S1024x256 .bf16) (ix2 r d)
      = Cert.Reference3Ideal.Glu.REF (arg0 m c) (arg1 m c) (arg2 m c) (arg3 m c)
          (ix2 ⟨1024 * (grid0.coords t 0).val + r.val, by have := row_lt t; omega⟩
            ⟨256 * (grid0.coords t 1).val + d.val, by have := col_lt t; omega⟩) := by
  have hc := col_lt t
  frame_out
  rw [pay_at, expert_eq ⟨(grid0.coords t 1).val, hc⟩, gate_at ⟨(grid0.coords t 1).val / 7, by omega⟩]
  refine Eq.trans ?_ ((Cert.Reference3Ideal.Glu.REF_at (arg0 m c) (arg1 m c) (arg2 m c) (arg3 m c) _ (ex t) (pl t d)).symm.trans
    (congrArg _ (congrArg (ix2 _) (Fin.ext (by dsimp only; omega)))))
  unfold Cert.Reference3Ideal.Glu.val
  simp only [a_blk, g_blk, u_blk, w_blk]
  exact mul_comm _ _

/-- The output array after the run is the reference's result. -/
theorem final : (dats m 0 c).arrAt 4 (cfgs 0).N = Cert.Reference3Ideal.Glu.REF (arg0 m c) (arg1 m c) (arg2 m c) (arg3 m c) := by
  refine (dats m 0 c).arrAt_eq_of_covers 4 _ (by decide +kernel) fun t _ y => ?_
  blk_simp
  rw [after0_4]
  idx_vars y
  refine (point m c t _ _).trans ?_
  refine congrArg _ ?_
  blk_ext [idx t]

end Cert.Kernel3Ideal.Glu

namespace Cert.Proof.GluGated

open Idealize.ShloMosaic Idealize.SL.Sem

theorem reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Over the extended reals kernel and reference compute the same function. -/
theorem algebraic : Cert.algebraic_Kernel3Ideal_Reference3Ideal := by
  intro m g m' g' _ hagree
  refine ⟨fun c => Cert.Reference3Ideal.Glu.REF (Cert.Kernel3Ideal.Glu.arg0 m c) (Cert.Kernel3Ideal.Glu.arg1 m c)
    (Cert.Kernel3Ideal.Glu.arg2 m c) (Cert.Kernel3Ideal.Glu.arg3 m c), ?_, ?_⟩
  · exact (θ_run Cert.Kernel3Ideal.defs _ _).mono
      (fun _ h c => ⟨(h c).1.trans (Cert.Kernel3Ideal.Glu.final m c), (h c).2⟩) (Cert.Kernel3Ideal.Value.run_blocks (F := Ideal) m g)
  · refine (θ_run Cert.Reference3Ideal.defs _ _).mono (fun _ h c => ⟨(h c).1.trans ?_, (h c).2⟩)
      (Cert.Reference3Ideal.Value.run (F := Ideal) m' g')
    refine (Cert.Reference3Ideal.Glu.res_eq m' c).trans ?_
    rw [(hagree c).1, (hagree c).2.1, (hagree c).2.2.1, (hagree c).2.2.2]

end Cert.Proof.GluGated

end
-- ==== Proof.Down.lean ====
/-
  The feed-forward part, down, onto the residual stream: kernel and reference end with the same array over the extended
  reals. The kernel adds the products over seven stretches of 2048 channels in an accumulator and then the residual; the
  reference sums over the 14336 channels at once.
-/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.Pipeline.ReadBack
public import Idealize.ShloMosaic.Lib.Pipeline.Covers
public import Idealize.ShloMosaic.Lib.Claim
public import Idealize.ShloMosaic.Lib.Quiescent

@[expose] public section

noncomputable section

namespace Cert.Reference4Ideal.Down

open Cert.Reference4Ideal Cert.Reference4Ideal.Gen Idealize.ShloMosaic Idealize.ShloMosaic.TcCoe Idealize.SL.Sem

variable (a : FVec Ideal S16384x14336 .bf16) (w : FVec Ideal S1x14336x4096 .f32) (x : FVec Ideal S16384x4096 .f32)

/-- The reference's result as a function of its arguments. -/
def REF : FVec Ideal S16384x4096 .f32 :=
  addf x (Host.dotGeneral dot_S16384x14336_S14336x4096_S16384x4096_1_0_0_1_n_n none (extf .f32 a bitsLt_bf16_f32)
    (shapeCast _ w shapeCasts_S1x14336x4096_S14336x4096))

/-- The product at a channel; nothing past the last. -/
def term (i : Fin 16384) (j : Fin 4096) (k : ℕ) : EReal :=
  if h : k < 14336 then a (ix2 i ⟨k, h⟩) * w (ix3 (0 : Fin 1) ⟨k, h⟩ j) else 0

theorem term_pos (i : Fin 16384) (j : Fin 4096) (k : ℕ) (h : k < 14336) :
    term a w i j k = a (ix2 i ⟨k, h⟩) * w (ix3 (0 : Fin 1) ⟨k, h⟩ j) := dif_pos h

theorem REF_at (i : Fin 16384) (j : Fin 4096) :
    REF a w x (ix2 i j) = x (ix2 i j) + ∑ k ∈ Finset.range 14336, term a w i j k := by
  rw [← Fin.sum_univ_eq_sum_range (term a w i j)]
  have e : ∀ k : Fin 14336, term a w i j k.val = a (ix2 i k) * w (ix3 (0 : Fin 1) k j) := fun k => dif_pos k.isLt
  simp only [e]
  pointwise [REF]

end Cert.Reference4Ideal.Down

namespace Cert.Kernel4Ideal.Down

open Cert.Kernel4Ideal Cert.Kernel4Ideal.Gen Idealize.ShloMosaic Idealize.ShloMosaic.TcCoe Idealize.SL.Sem

theorem pay1_at (a : FVec Ideal S1024x2048 .bf16) (w : FVec Ideal S2048x512 .bf16) (r : Fin 1024) (d : Fin 512) :
    k0_pay1 (F := Ideal) a w (ix2 r d) = ∑ k : Fin 2048, a (ix2 r k) * w (ix2 k d) := by
  pointwise [k0_pay1]

theorem pay2_at (a : FVec Ideal S1024x2048 .bf16) (w : FVec Ideal S2048x512 .bf16) (r : Fin 1024) (d : Fin 512) :
    k0_pay2 (F := Ideal) a w (ix2 r d) = ∑ k : Fin 2048, a (ix2 r k) * w (ix2 k d) := by
  rw [← pay1_at]
  pointwise [k0_pay2]

theorem pay3_at (a : FVec Ideal S1024x2048 .bf16) (w : FVec Ideal S2048x512 .bf16) (acc : FVec Ideal S1024x512 .f32) (r : Fin 1024) (d : Fin 512) :
    k0_pay3 (F := Ideal) a w acc (ix2 r d) = acc (ix2 r d) + ∑ k : Fin 2048, a (ix2 r k) * w (ix2 k d) := by
  rw [← pay1_at]
  pointwise [k0_pay3]

theorem pay4_at (acc x : FVec Ideal S1024x512 .f32) (r : Fin 1024) (d : Fin 512) :
    k0_pay4 (F := Ideal) acc x (ix2 r d) = x (ix2 r d) + acc (ix2 r d) := by
  pointwise [k0_pay4]

variable (m : (ℓ : Loc nD τ sig) → Buf (Elt Ideal) ℓ) (c : Dev nD)

/-- Where the windows lie at each point: row block `t / 56`, column block `t / 7 % 8`, stretch of channels `t % 7`. -/
theorem idx : ∀ t : Fin cfg0.N, win0_0.index t = ![t.val / 56, t.val % 7] ∧ win0_1.index t = ![t.val % 7, t.val / 7 % 8]
    ∧ win0_2.index t = ![t.val / 56, t.val / 7 % 8] ∧ win0_3.index t = ![t.val / 56, t.val / 7 % 8] :=
  (by decide +kernel : ∀ t : Fin grid0.N, _)

abbrev arg0 : FVec Ideal S16384x14336 .bf16 := m ((c : Thread nD τ).loc main_arg0)
abbrev arg1 : FVec Ideal S1x14336x4096 .f32 := m ((c : Thread nD τ).loc main_arg1)
abbrev arg2 : FVec Ideal S16384x4096 .f32 := m ((c : Thread nD τ).loc main_arg2)

theorem lt_N (t : Fin cfg0.N) : t.val < 896 := lt_of_lt_of_eq t.isLt N_0

abbrev row (t : Fin cfg0.N) (r : Fin 1024) : Fin 16384 := ⟨1024 * (t.val / 56) + r.val, by have := lt_N t; omega⟩
abbrev col (t : Fin cfg0.N) (d : Fin 512) : Fin 4096 := ⟨512 * (t.val / 7 % 8) + d.val, by omega⟩
abbrev chan (t : Fin cfg0.N) (k : Fin 2048) : Fin 14336 := ⟨2048 * (t.val % 7) + k.val, by omega⟩

theorem a_blk (t : Fin cfg0.N) (r : Fin 1024) (k : Fin 2048) :
    (iblk m c 0 t : FVec Ideal S1024x2048 .bf16) (ix2 r k) = arg0 m c (ix2 (row t r) (chan t k)) := by
  blk_point [iblk, V, idx t]

theorem w_blk (t : Fin cfg0.N) (k : Fin 2048) (d : Fin 512) :
    (iblk m c 1 t : FVec Ideal S2048x512 .bf16) (ix2 k d) = arg1 m c (ix3 (0 : Fin 1) (chan t k) (col t d)) := by
  blk_point [iblk, idx t]

theorem x_blk (t : Fin cfg0.N) (r : Fin 1024) (d : Fin 512) :
    (iblk m c 2 t : FVec Ideal S1024x512 .f32) (ix2 r d) = arg2 m c (ix2 (row t r) (col t d)) := by
  blk_point [iblk, V, idx t]

/-- The blocks of a point. -/
abbrev aB (t : Fin cfg0.N) : FVec Ideal S1024x2048 .bf16 := iblk m c 0 t
abbrev wB (t : Fin cfg0.N) : FVec Ideal S2048x512 .bf16 := iblk m c 1 t

/-- The product at a channel, for a point's row and column. -/
abbrev tm (t : Fin cfg0.N) (r : Fin 1024) (d : Fin 512) : ℕ → EReal :=
  Cert.Reference4Ideal.Down.term (arg0 m c) (arg1 m c) (row t r) (col t d)

/-- A point's own stretch of channels. -/
theorem part (t : Fin cfg0.N) (r : Fin 1024) (d : Fin 512) :
    (∑ k : Fin 2048, aB m c t (ix2 r k) * wB m c t (ix2 k d))
      = ∑ k ∈ Finset.range 2048, tm m c t r d (2048 * (t.val % 7) + k) := by
  rw [← Fin.sum_univ_eq_sum_range (fun k => tm m c t r d (2048 * (t.val % 7) + k))]
  refine Finset.sum_congr rfl fun k _ => ?_
  rw [show aB m c t (ix2 r k) = _ from a_blk m c t r k, show wB m c t (ix2 k d) = _ from w_blk m c t k d]
  exact (Cert.Reference4Ideal.Down.term_pos (arg0 m c) (arg1 m c) (row t r) (col t d) _ (by omega)).symm

/-- What the accumulator holds after each point: the channels up to the end of the point's stretch. -/
theorem acc_at : ∀ (n : ℕ) (hn : n < cfg0.N) (r : Fin 1024) (d : Fin 512),
    ((outsAt0 m c n hn).2 : FVec Ideal S1024x512 .f32) (ix2 r d)
      = ∑ k ∈ Finset.range (2048 * (n % 7) + 2048), tm m c ⟨n, hn⟩ r d k := by
  intro n
  induction n with
  | zero =>
    intro hn r d
    rw [outsAt0_A m c ⟨0, hn⟩ (Nat.zero_mod 7) (by dsimp only; omega) (by dsimp only; omega)]
    dsimp only
    frame_out
    rw [pay2_at, part]
    simp
  | succ n ih =>
    intro hn r d
    have hN := lt_of_lt_of_eq hn (show cfg0.N = 896 from N_0)
    by_cases h0 : (n + 1) % 7 = 0
    · rw [outsAt0_A m c ⟨n + 1, hn⟩ h0 (by dsimp only; omega) (by dsimp only; omega)]
      dsimp only
      frame_out
      rw [pay2_at, part]
      dsimp only
      rw [h0]
      simp
    · have step : ∀ f g : ℕ → EReal, f = g →
          (∑ k ∈ Finset.range (2048 * (n % 7) + 2048), f k) + ∑ k ∈ Finset.range 2048, g (2048 * ((n + 1) % 7) + k)
            = ∑ k ∈ Finset.range (2048 * ((n + 1) % 7) + 2048), g k := by
        rintro f _ rfl
        rw [Finset.sum_range_add f (2048 * ((n + 1) % 7)) 2048, show 2048 * (n % 7) + 2048 = 2048 * ((n + 1) % 7) by omega]
      have same : tm m c ⟨n, Nat.lt_of_succ_lt hn⟩ r d = tm m c ⟨n + 1, hn⟩ r d := by
        unfold tm
        congr 1
        · exact Fin.ext (by show 1024 * (n / 56) + r.val = 1024 * ((n + 1) / 56) + r.val; omega)
        · exact Fin.ext (by show 512 * (n / 7 % 8) + d.val = 512 * ((n + 1) / 7 % 8) + d.val; omega)
      by_cases h2 : (n + 1) % 7 = 6
      · rw [outsAt0_C m c ⟨n + 1, hn⟩ h0 (by dsimp only; omega) h2]
        dsimp only
        frame_out
        rw [pay3_at, part, read_unread_whole]
        refine Eq.trans (congrArg (· + _) (ih (Nat.lt_of_succ_lt hn) r d)) (step _ _ same)
      · rw [outsAt0_B m c ⟨n + 1, hn⟩ h0 (by dsimp only; omega) h2]
        dsimp only
        frame_out
        rw [pay3_at, part, read_unread_whole]
        refine Eq.trans (congrArg (· + _) (ih (Nat.lt_of_succ_lt hn) r d)) (step _ _ same)

/-- What the last point of a block leaves in the output block, at a row and a column. -/
theorem point (t : Fin cfg0.N) (h6 : t.val % 7 = 6) (r : Fin 1024) (d : Fin 512) :
    ((outsAt0 m c t.val t.isLt).1 : FVec Ideal S1024x512 .f32) (ix2 r d)
      = Cert.Reference4Ideal.Down.REF (arg0 m c) (arg1 m c) (arg2 m c) (ix2 (row t r) (col t d)) := by
  have e := acc_at m c t.val t.isLt r d
  rw [outsAt0_C m c t (by omega) (by omega) h6] at e ⊢
  dsimp only at e ⊢
  frame_out at e
  frame_out
  rw [pay4_at, e, x_blk, Cert.Reference4Ideal.Down.REF_at, h6]

/-- The output array after the run is the reference's result. -/
theorem final : (dats m 0 c).arrAt 3 (cfgs 0).N = Cert.Reference4Ideal.Down.REF (arg0 m c) (arg1 m c) (arg2 m c) := by
  refine (dats m 0 c).arrAt_eq_of_covers 3 _ (by decide +kernel) fun t hf y => ?_
  have h6 : t.val % 7 = 6 := (flush0_3 t).mp hf
  blk_simp
  rw [after0_3]
  idx_vars y
  refine (point m c t h6 _ _).trans ?_
  refine congrArg _ ?_
  blk_ext [idx t]

end Cert.Kernel4Ideal.Down

namespace Cert.Proof.Down

open Idealize.ShloMosaic Idealize.SL.Sem

theorem reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Over the extended reals kernel and reference compute the same function. -/
theorem algebraic : Cert.algebraic_Kernel4Ideal_Reference4Ideal := by
  intro m g m' g' _ hagree
  refine ⟨fun c => Cert.Reference4Ideal.Down.REF (Cert.Kernel4Ideal.Down.arg0 m c) (Cert.Kernel4Ideal.Down.arg1 m c)
    (Cert.Kernel4Ideal.Down.arg2 m c), ?_, ?_⟩
  · exact (θ_run Cert.Kernel4Ideal.defs _ _).mono
      (fun _ h c => ⟨(h c).1.trans (Cert.Kernel4Ideal.Down.final m c), (h c).2⟩) (Cert.Kernel4Ideal.Value.run_blocks (F := Ideal) m g)
  · refine (θ_run Cert.Reference4Ideal.defs _ _).mono (fun _ h c => ⟨(h c).1.trans ?_, (h c).2⟩)
      (Cert.Reference4Ideal.Value.run (F := Ideal) m' g')
    rw [(hagree c).1, (hagree c).2.1, (hagree c).2.2]
    rfl

end Cert.Proof.Down

end
-- ==== Proof.Merge.lean ====
/-
  The gated merge of the four branches: kernel and reference end with the same array over the extended reals. At a row and a
  column both are the sum over the branches of `σ(g · w + b)` times the branch's output through its weight.
-/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference5Ideal.Merge

open Cert.Reference5Ideal Cert.Reference5Ideal.Gen Idealize.ShloMosaic Idealize.ShloMosaic.TcCoe Idealize.SL.Sem

variable (g : FVec Ideal S16384x256 .bf16) (o0 o1 o2 o3 : FVec Ideal S16384x1024 .bf16) (wg : FVec Ideal S4x256x4096 .f32)
  (b : FVec Ideal S4x4096 .f32) (w : FVec Ideal S4x1024x4096 .f32)

def ones : FVec Ideal S16384x4096 .f32 := broadcastInDim S16384x4096 ![] bcast_S_S16384x4096 (constant S_ .f32 0x3F800000#32)

/-- One branch's gate before the sigmoid. -/
def pre (og : Fin 3 → ℕ) (hg : S4x256x4096.Slices og S1x256x4096) (ob : Fin 2 → ℕ) (hb : S4x4096.Slices ob S1x4096) :
    FVec Ideal S16384x4096 .f32 :=
  addf (Host.dotGeneral dot_S16384x256_S256x4096_S16384x4096_1_0_0_1_n_n none (extf .f32 g bitsLt_bf16_f32)
      (shapeCast _ (extractStridedSlice S1x256x4096 og wg hg) shapeCasts_S1x256x4096_S256x4096))
    (broadcastInDim S16384x4096 ![0, 1] bcast_S1x4096_S16384x4096_0_1 (broadcastInDim S1x4096 ![1] bcast_S4096_S1x4096_1
      (shapeCast _ (extractStridedSlice S1x4096 ob b hb) shapeCasts_S1x4096_S4096)))

/-- One branch's output through its weight. -/
def through (o : FVec Ideal S16384x1024 .bf16) (ow : Fin 3 → ℕ) (hw : S4x1024x4096.Slices ow S1x1024x4096) : FVec Ideal S16384x4096 .f32 :=
  Host.dotGeneral dot_S16384x1024_S1024x4096_S16384x4096_1_0_0_1_n_n none (extf .f32 o bitsLt_bf16_f32)
    (shapeCast _ (extractStridedSlice S1x1024x4096 ow w hw) shapeCasts_S1x1024x4096_S1024x4096)

/-- One branch. -/
def branch (o : FVec Ideal S16384x1024 .bf16) (og : Fin 3 → ℕ) (hg : S4x256x4096.Slices og S1x256x4096) (ob : Fin 2 → ℕ)
    (hb : S4x4096.Slices ob S1x4096) (ow : Fin 3 → ℕ) (hw : S4x1024x4096.Slices ow S1x1024x4096) : FVec Ideal S16384x4096 .f32 :=
  mulf (Host.divf ones (addf ones (Host.exp (Host.negf (pre g wg b og hg ob hb))))) (through w o ow hw)

/-- The branches one after the other, from zero. -/
def sum4 (p0 p1 p2 p3 : FVec Ideal S16384x4096 .f32) : FVec Ideal S16384x4096 .bf16 :=
  truncf .bf16 (addf (addf (addf (addf (broadcastInDim S16384x4096 ![] bcast_S_S16384x4096 (constant S_ .f32 0x00000000#32)) p0) p1) p2) p3)
    bitsLt_bf16_f32

/-- The reference's result as a function of its arguments. -/
def REF : FVec Ideal S16384x4096 .bf16 :=
  sum4
    (branch g wg b w o0 ![0, 0, 0] slices_S4x256x4096_S1x256x4096_0_0_0 ![0, 0] slices_S4x4096_S1x4096_0_0 ![0, 0, 0] slices_S4x1024x4096_S1x1024x4096_0_0_0)
    (branch g wg b w o1 ![1, 0, 0] slices_S4x256x4096_S1x256x4096_1_0_0 ![1, 0] slices_S4x4096_S1x4096_1_0 ![1, 0, 0] slices_S4x1024x4096_S1x1024x4096_1_0_0)
    (branch g wg b w o2 ![2, 0, 0] slices_S4x256x4096_S1x256x4096_2_0_0 ![2, 0] slices_S4x4096_S1x4096_2_0 ![2, 0, 0] slices_S4x1024x4096_S1x1024x4096_2_0_0)
    (branch g wg b w o3 ![3, 0, 0] slices_S4x256x4096_S1x256x4096_3_0_0 ![3, 0] slices_S4x4096_S1x4096_3_0 ![3, 0, 0] slices_S4x1024x4096_S1x1024x4096_3_0_0)

theorem res_eq (m : (ℓ : Loc nD τ sig) → Buf (Elt Ideal) ℓ) (c : Dev nD) :
    Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- Branch `n`'s value at a row and a column. -/
def val (n : Fin 4) (o : FVec Ideal S16384x1024 .bf16) (i : Fin 16384) (j : Fin 4096) : EReal :=
  Ideal.logistic ((∑ k : Fin 256, g (ix2 i k) * wg (ix3 n k j)) + b (ix2 n j)) * ∑ k : Fin 1024, o (ix2 i k) * w (ix3 n k j)

theorem pre_at (n : Fin 4) (hg : S4x256x4096.Slices ![n.val, 0, 0] S1x256x4096) (hb : S4x4096.Slices ![n.val, 0] S1x4096)
    (i : Fin 16384) (j : Fin 4096) :
    pre g wg b ![n.val, 0, 0] hg ![n.val, 0] hb (ix2 i j) = (∑ k : Fin 256, g (ix2 i k) * wg (ix3 n k j)) + b (ix2 n j) := by
  pointwise [pre]

theorem through_at (n : Fin 4) (o : FVec Ideal S16384x1024 .bf16) (hw : S4x1024x4096.Slices ![n.val, 0, 0] S1x1024x4096)
    (i : Fin 16384) (j : Fin 4096) :
    through w o ![n.val, 0, 0] hw (ix2 i j) = ∑ k : Fin 1024, o (ix2 i k) * w (ix3 n k j) := by
  pointwise [through]

theorem branch_at (n : Fin 4) (o : FVec Ideal S16384x1024 .bf16) (hg : S4x256x4096.Slices ![n.val, 0, 0] S1x256x4096)
    (hb : S4x4096.Slices ![n.val, 0] S1x4096) (hw : S4x1024x4096.Slices ![n.val, 0, 0] S1x1024x4096) (i : Fin 16384) (j : Fin 4096) :
    branch g wg b w o ![n.val, 0, 0] hg ![n.val, 0] hb ![n.val, 0, 0] hw (ix2 i j) = val g wg b w n o i j := by
  unfold val
  rw [← pre_at g wg b n hg hb, ← through_at w n o hw]
  pointwise [branch, ones]
  rfl

theorem sum4_at (p0 p1 p2 p3 : FVec Ideal S16384x4096 .f32) (i : Fin 16384) (j : Fin 4096) :
    sum4 p0 p1 p2 p3 (ix2 i j) = p0 (ix2 i j) + p1 (ix2 i j) + p2 (ix2 i j) + p3 (ix2 i j) := by
  pointwise [sum4]

theorem REF_at (i : Fin 16384) (j : Fin 4096) :
    REF g o0 o1 o2 o3 wg b w (ix2 i j)
      = val g wg b w 0 o0 i j + val g wg b w 1 o1 i j + val g wg b w 2 o2 i j + val g wg b w 3 o3 i j := by
  unfold REF
  refine (sum4_at _ _ _ _ i j).trans ?_
  exact congrArg₂ (· + ·) (congrArg₂ (· + ·) (congrArg₂ (· + ·) (branch_at g wg b w 0 o0 _ _ _ i j) (branch_at g wg b w 1 o1 _ _ _ i j))
    (branch_at g wg b w 2 o2 _ _ _ i j)) (branch_at g wg b w 3 o3 _ _ _ i j)

end Cert.Reference5Ideal.Merge

namespace Cert.Kernel5Ideal.Merge

open Cert.Kernel5Ideal Cert.Kernel5Ideal.Gen Idealize.ShloMosaic Idealize.ShloMosaic.TcCoe Idealize.SL.Sem

/-- One branch as the body computes it. -/
def branch (g : FVec Ideal S1024x256 .bf16) (wg : FVec Ideal S1x256x512 .bf16) (b : FVec Ideal S1x1x512 .f32)
    (o : FVec Ideal S1024x1024 .bf16) (w : FVec Ideal S1x1024x512 .bf16) : FVec Ideal S1024x512 .f32 :=
  mulf
    (logistic (addf
      (matmul dot_S1024x256_S256x512_S1024x512_1_0_0_1_n_n none g (shapeCast S256x512 wg shapeCasts_S1x256x512_S256x512 : FVec Ideal S256x512 .bf16)
        (constant S1024x512 .f32 0x00000000#32))
      (broadcastTo S1024x512 (shapeCast S1x512 b shapeCasts_S1x1x512_S1x512 : FVec Ideal S1x512 .f32) broadcasts_S1x512_S1024x512)))
    (matmul dot_S1024x1024_S1024x512_S1024x512_1_0_0_1_n_n none o (shapeCast S1024x512 w shapeCasts_S1x1024x512_S1024x512 : FVec Ideal S1024x512 .bf16)
      (constant S1024x512 .f32 0x00000000#32))

theorem branch_at (g : FVec Ideal S1024x256 .bf16) (wg : FVec Ideal S1x256x512 .bf16) (b : FVec Ideal S1x1x512 .f32)
    (o : FVec Ideal S1024x1024 .bf16) (w : FVec Ideal S1x1024x512 .bf16) (r : Fin 1024) (d : Fin 512) :
    branch g wg b o w (ix2 r d)
      = Ideal.logistic ((∑ k : Fin 256, g (ix2 r k) * wg (ix3 (0 : Fin 1) k d)) + b (ix3 (0 : Fin 1) (0 : Fin 1) d))
        * ∑ k : Fin 1024, o (ix2 r k) * w (ix3 (0 : Fin 1) k d) := by
  pointwise [branch]

theorem pay_eq (g : FVec Ideal S1024x256 .bf16) (wg0 wg1 wg2 wg3 : FVec Ideal S1x256x512 .bf16) (b0 b1 b2 b3 : FVec Ideal S1x1x512 .f32)
    (o0 o1 o2 o3 : FVec Ideal S1024x1024 .bf16) (w0 w1 w2 w3 : FVec Ideal S1x1024x512 .bf16) :
    k0_pay1 (F := Ideal) g (k0_pay2 (F := Ideal) g wg0 b0 o0 w0 wg1 b1 o1 w1) wg2 b2 o2 w2 wg3 b3 o3 w3
      = truncf .bf16 (addf (addf (addf (branch g wg0 b0 o0 w0) (branch g wg1 b1 o1 w1)) (branch g wg2 b2 o2 w2)) (branch g wg3 b3 o3 w3))
          bitsLt_bf16_f32 := rfl

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![(grid0.coords t 0).val, 0] ∧ win0_2.index t = ![(grid0.coords t 0).val, 0]
    ∧ win0_3.index t = ![(grid0.coords t 0).val, 0] ∧ win0_4.index t = ![(grid0.coords t 0).val, 0]
    ∧ win0_5.index t = ![0, 0, (grid0.coords t 1).val] ∧ win0_6.index t = ![0, 0, (grid0.coords t 1).val]
    ∧ win0_7.index t = ![0, 0, (grid0.coords t 1).val] ∧ win0_8.index t = ![(grid0.coords t 0).val, (grid0.coords t 1).val] :=
  (by decide +kernel : ∀ t : Fin grid0.N, _)

abbrev arg0 : FVec Ideal S16384x256 .bf16 := m ((c : Thread nD τ).loc main_arg0)
abbrev arg1 : FVec Ideal S16384x1024 .bf16 := m ((c : Thread nD τ).loc main_arg1)
abbrev arg2 : FVec Ideal S16384x1024 .bf16 := m ((c : Thread nD τ).loc main_arg2)
abbrev arg3 : FVec Ideal S16384x1024 .bf16 := m ((c : Thread nD τ).loc main_arg3)
abbrev arg4 : FVec Ideal S16384x1024 .bf16 := m ((c : Thread nD τ).loc main_arg4)
abbrev arg5 : FVec Ideal S4x256x4096 .f32 := m ((c : Thread nD τ).loc main_arg5)
abbrev arg6 : FVec Ideal S4x4096 .f32 := m ((c : Thread nD τ).loc main_arg6)
abbrev arg7 : FVec Ideal S4x1024x4096 .f32 := m ((c : Thread nD τ).loc main_arg7)

theorem row_lt (t : Fin cfg0.N) : (grid0.coords t 0).val < 16 := (grid0.coords t 0).isLt
theorem col_lt (t : Fin cfg0.N) : (grid0.coords t 1).val < 8 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 4096 := ⟨512 * (grid0.coords t 1).val + d.val, by have := col_lt t; omega⟩

theorem g_blk (t : Fin cfg0.N) (r : Fin 1024) (k : Fin 256) :
    (iblk m c 0 t : FVec Ideal S1024x256 .bf16) (ix2 r k) = arg0 m c (ix2 (row t r) k) := by blk_point [iblk, V, idx t]
theorem o0_blk (t : Fin cfg0.N) (r : Fin 1024) (k : Fin 1024) :
    (iblk m c 1 t : FVec Ideal S1024x1024 .bf16) (ix2 r k) = arg1 m c (ix2 (row t r) k) := by blk_point [iblk, V, idx t]
theorem o1_blk (t : Fin cfg0.N) (r : Fin 1024) (k : Fin 1024) :
    (iblk m c 2 t : FVec Ideal S1024x1024 .bf16) (ix2 r k) = arg2 m c (ix2 (row t r) k) := by blk_point [iblk, V, idx t]
theorem o2_blk (t : Fin cfg0.N) (r : Fin 1024) (k : Fin 1024) :
    (iblk m c 3 t : FVec Ideal S1024x1024 .bf16) (ix2 r k) = arg3 m c (ix2 (row t r) k) := by blk_point [iblk, V, idx t]
theorem o3_blk (t : Fin cfg0.N) (r : Fin 1024) (k : Fin 1024) :
    (iblk m c 4 t : FVec Ideal S1024x1024 .bf16) (ix2 r k) = arg4 m c (ix2 (row t r) k) := by blk_point [iblk, V, idx t]
theorem wg_blk (t : Fin cfg0.N) (n : Fin 4) (k : Fin 256) (d : Fin 512) :
    (iblk m c 5 t : FVec Ideal S4x256x512 .bf16) (ix3 n k d) = arg5 m c (ix3 n k (col t d)) := by blk_point [iblk, idx t]
theorem b_blk (t : Fin cfg0.N) (n : Fin 4) (d : Fin 512) :
    (iblk m c 6 t : FVec Ideal S4x1x512 .f32) (ix3 n (0 : Fin 1) d) = arg6 m c (ix2 n (col t d)) := by blk_point [iblk, idx t]
theorem w_blk (t : Fin cfg0.N) (n : Fin 4) (k : Fin 1024) (d : Fin 512) :
    (iblk m c 7 t : FVec Ideal S4x1024x512 .bf16) (ix3 n k d) = arg7 m c (ix3 n k (col t d)) := by blk_point [iblk, idx t]

/-- What a grid point leaves in the output block, at a row and a column. -/
theorem point (t : Fin cfg0.N) (r : Fin 1024) (d : Fin 512) :
    (out0_8 (iblk m c 0 t) (iblk m c 1 t) (iblk m c 2 t) (iblk m c 3 t) (iblk m c 4 t) (iblk m c 5 t) (iblk m c 6 t) (iblk m c 7 t)
        : FVec Ideal S1024x512 .bf16) (ix2 r d)
      = Cert.Reference5Ideal.Merge.REF (arg0 m c) (arg1 m c) (arg2 m c) (arg3 m c) (arg4 m c) (arg5 m c) (arg6 m c) (arg7 m c)
          (ix2 (row t r) (col t d)) := by
  frame_out
  rw [pay_eq, Cert.Reference5Ideal.Merge.REF_at]
  unfold Cert.Reference5Ideal.Merge.val
  pointwise []
  simp only [branch_at]
  pointwise [r0_1, r0_2, r0_4, r0_5, r0_6, r0_7, r0_8, r0_9, r0_10, r0_11, r0_12, r0_13]
  simp only [g_blk, o0_blk, o1_blk, o2_blk, o3_blk, wg_blk, b_blk, w_blk]

/-- The output array after the run is the reference's result. -/
theorem final : (dats m 0 c).arrAt 8 (cfgs 0).N
    = Cert.Reference5Ideal.Merge.REF (arg0 m c) (arg1 m c) (arg2 m c) (arg3 m c) (arg4 m c) (arg5 m c) (arg6 m c) (arg7 m c) := by
  refine (dats m 0 c).arrAt_eq_of_covers 8 _ (by decide +kernel) fun t _ y => ?_
  blk_simp
  rw [after0_8]
  idx_vars y
  refine (point m c t _ _).trans ?_
  refine congrArg _ ?_
  blk_ext [idx t]

end Cert.Kernel5Ideal.Merge

namespace Cert.Proof.Merge

open Idealize.ShloMosaic Idealize.SL.Sem

theorem reference_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Over the extended reals kernel and reference compute the same function. -/
theorem algebraic : Cert.algebraic_Kernel5Ideal_Reference5Ideal := by
  intro m g m' g' _ hagree
  refine ⟨fun c => Cert.Reference5Ideal.Merge.REF (Cert.Kernel5Ideal.Merge.arg0 m c) (Cert.Kernel5Ideal.Merge.arg1 m c)
    (Cert.Kernel5Ideal.Merge.arg2 m c) (Cert.Kernel5Ideal.Merge.arg3 m c) (Cert.Kernel5Ideal.Merge.arg4 m c)
    (Cert.Kernel5Ideal.Merge.arg5 m c) (Cert.Kernel5Ideal.Merge.arg6 m c) (Cert.Kernel5Ideal.Merge.arg7 m c), ?_, ?_⟩
  · exact (θ_run Cert.Kernel5Ideal.defs _ _).mono
      (fun _ h c => ⟨(h c).1.trans (Cert.Kernel5Ideal.Merge.final m c), (h c).2⟩) (Cert.Kernel5Ideal.Value.run_blocks (F := Ideal) m g)
  · refine (θ_run Cert.Reference5Ideal.defs _ _).mono (fun _ h c => ⟨(h c).1.trans ?_, (h c).2⟩)
      (Cert.Reference5Ideal.Value.run (F := Ideal) m' g')
    refine (Cert.Reference5Ideal.Merge.res_eq m' c).trans ?_
    obtain ⟨h0, h1, h2, h3, h4, h5, h6, h7⟩ := hagree c
    rw [h0, h1, h2, h3, h4, h5, h6, h7]

end Cert.Proof.Merge

end
-- ==== Proof.Out.lean ====
/-
  The output projection onto the residual stream: kernel and reference end with the same array over the extended reals.
-/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference6Ideal.Out

open Cert.Reference6Ideal Cert.Reference6Ideal.Gen Idealize.ShloMosaic Idealize.ShloMosaic.TcCoe Idealize.SL.Sem

variable (a : FVec Ideal S16384x4096 .bf16) (w : FVec Ideal S4096x4096 .f32) (x : FVec Ideal S16384x4096 .f32)

/-- The reference's result as a function of its arguments. -/
def REF : FVec Ideal S16384x4096 .f32 :=
  addf x (Host.dotGeneral dot_S16384x4096_S4096x4096_S16384x4096_1_0_0_1_n_n none (extf .f32 a bitsLt_bf16_f32) w)

theorem REF_at (i : Fin 16384) (j : Fin 4096) :
    REF a w x (ix2 i j) = x (ix2 i j) + ∑ k : Fin 4096, a (ix2 i k) * w (ix2 k j) := by
  pointwise [REF]

end Cert.Reference6Ideal.Out

namespace Cert.Kernel6Ideal.Out

open Cert.Kernel6Ideal Cert.Kernel6Ideal.Gen Idealize.ShloMosaic Idealize.ShloMosaic.TcCoe Idealize.SL.Sem

theorem pay_at (a : FVec Ideal S1024x4096 .bf16) (w : FVec Ideal S4096x512 .bf16) (x : FVec Ideal S1024x512 .f32) (r : Fin 1024) (d : Fin 512) :
    k0_pay1 (F := Ideal) a w x (ix2 r d) = x (ix2 r d) + ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val]
    ∧ win0_3.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x4096 .f32 := m ((c : Thread nD τ).loc main_arg1)
abbrev arg2 : FVec Ideal S16384x4096 .f32 := m ((c : Thread nD τ).loc main_arg2)

theorem row_lt (t : Fin cfg0.N) : (grid0.coords t 0).val < 16 := (grid0.coords t 0).isLt
theorem col_lt (t : Fin cfg0.N) : (grid0.coords t 1).val < 8 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 4096 := ⟨512 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]
theorem w_blk (t : Fin cfg0.N) (k : Fin 4096) (d : Fin 512) :
    (iblk m c 1 t : FVec Ideal S4096x512 .bf16) (ix2 k d) = arg1 m c (ix2 k (col t d)) := by blk_point [iblk, idx t]
theorem x_blk (t : Fin cfg0.N) (r : Fin 1024) (d : Fin 512) :
    (iblk m c 2 t : FVec Ideal S1024x512 .f32) (ix2 r d) = arg2 m c (ix2 (row t r) (col t d)) := by blk_point [iblk, V, idx t]

/-- What a grid point leaves in the output block, at a row and a column. -/
theorem point (t : Fin cfg0.N) (r : Fin 1024) (d : Fin 512) :
    (out0_3 (iblk m c 0 t) (iblk m c 1 t) (iblk m c 2 t) : FVec Ideal S1024x512 .f32) (ix2 r d)
      = Cert.Reference6Ideal.Out.REF (arg0 m c) (arg1 m c) (arg2 m c) (ix2 (row t r) (col t d)) := by
  frame_out
  rw [pay_at, Cert.Reference6Ideal.Out.REF_at]
  simp only [a_blk, w_blk, x_blk]

/-- The output array after the run is the reference's result. -/
theorem final : (dats m 0 c).arrAt 3 (cfgs 0).N = Cert.Reference6Ideal.Out.REF (arg0 m c) (arg1 m c) (arg2 m c) := by
  refine (dats m 0 c).arrAt_eq_of_covers 3 _ (by decide +kernel) fun t _ y => ?_
  blk_simp
  rw [after0_3]
  idx_vars y
  refine (point m c t _ _).trans ?_
  refine congrArg _ ?_
  blk_ext [idx t]

end Cert.Kernel6Ideal.Out

namespace Cert.Proof.Out

open Idealize.ShloMosaic Idealize.SL.Sem

theorem reference_frame : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Over the extended reals kernel and reference compute the same function. -/
theorem algebraic : Cert.algebraic_Kernel6Ideal_Reference6Ideal := by
  intro m g m' g' _ hagree
  refine ⟨fun c => Cert.Reference6Ideal.Out.REF (Cert.Kernel6Ideal.Out.arg0 m c) (Cert.Kernel6Ideal.Out.arg1 m c)
    (Cert.Kernel6Ideal.Out.arg2 m c), ?_, ?_⟩
  · exact (θ_run Cert.Kernel6Ideal.defs _ _).mono
      (fun _ h c => ⟨(h c).1.trans (Cert.Kernel6Ideal.Out.final m c), (h c).2⟩) (Cert.Kernel6Ideal.Value.run_blocks (F := Ideal) m g)
  · refine (θ_run Cert.Reference6Ideal.defs _ _).mono (fun _ h c => ⟨(h c).1.trans ?_, (h c).2⟩)
      (Cert.Reference6Ideal.Value.run (F := Ideal) m' g')
    rw [(hagree c).1, (hagree c).2.1, (hagree c).2.2]
    rfl

end Cert.Proof.Out

end
-- ==== Proof.ProjLat.lean ====
/-
  The latent mixer's columns of the input projection, padded: kernel and reference end with the same array over the extended reals.
-/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference7Ideal.Proj

open Cert.Reference7Ideal Cert.Reference7Ideal.Gen Idealize.ShloMosaic Idealize.ShloMosaic.TcCoe Idealize.SL.Sem

variable (a : FVec Ideal S16384x4096 .bf16) (w : FVec Ideal S4096x9224 .f32)

/-- The reference's result as a function of its arguments. -/
def REF : FVec Ideal S16384x1280 .f32 :=
  pad S16384x1280 ![0, 0] ![0, 64] ![0, 0] (extractStridedSlice S16384x1216 ![0, 0]
    (Host.dotGeneral dot_S16384x4096_S4096x9224_S16384x9224_1_0_0_1_n_n none (extf .f32 a bitsLt_bf16_f32) w)
    slices_S16384x9224_S16384x1216_0_0 : FVec Ideal S16384x1216 .f32)
    (sitofp .f32 (constantI S_ 32 0#32) : FVec Ideal S_ .f32) pads_S16384x1216_S16384x1280_000_0640 h_S_

theorem REF_at (i : Fin 16384) (j : Fin 1280) :
    REF a w (ix2 i j) = if h : j.val < 1216 then ∑ k : Fin 4096, a (ix2 i k) * w (ix2 k ⟨j.val, by omega⟩) else 0 := by
  pointwise [REF]
  exact congrArg (fun z : EReal => dite _ _ fun _ => z) (show (((0#32 : BitVec 32).toInt : ℝ) : EReal) = 0 by simp)

end Cert.Reference7Ideal.Proj

namespace Cert.Kernel7Ideal.Proj

open Cert.Kernel7Ideal Cert.Kernel7Ideal.Gen Idealize.ShloMosaic Idealize.ShloMosaic.TcCoe Idealize.SL.Sem

theorem pay_at (a : FVec Ideal S1024x4096 .bf16) (w : FVec Ideal S4096x256 .bf16) (r : Fin 1024) (d : Fin 256) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x9224 .f32 := m ((c : Thread nD τ).loc main_arg1)

theorem row_lt (t : Fin cfg0.N) : (grid0.coords t 0).val < 16 := (grid0.coords t 0).isLt
theorem col_lt (t : Fin cfg0.N) : (grid0.coords t 1).val < 5 := (grid0.coords t 1).isLt

abbrev row (t : Fin cfg0.N) (r : Fin 1024) : Fin 16384 := ⟨1024 * (grid0.coords t 0).val + r.val, by have := row_lt t; omega⟩
abbrev col (t : Fin cfg0.N) (d : Fin 256) : Fin 1280 := ⟨256 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]

/-- The weight the kernel reads: the projection's columns, then zeros. -/
abbrev wt : FVec Ideal S4096x1280 .bf16 := V m c main_v11

theorem wt_at (k : Fin 4096) (j : Fin 1280) :
    wt m c (ix2 k j) = if h : j.val < 1216 then arg1 m c (ix2 k ⟨j.val, by omega⟩) else 0 := by
  unfold wt
  entry_read
  pointwise

theorem w_blk (t : Fin cfg0.N) (k : Fin 4096) (d : Fin 256) :
    (iblk m c 1 t : FVec Ideal S4096x256 .bf16) (ix2 k d)
      = if h : (col t d).val < 1216 then arg1 m c (ix2 k ⟨(col t d).val, by omega⟩) else 0 := by
  have hc := col_lt t
  refine Eq.trans ?_ (wt_at m c k (col t d))
  blk_ext [iblk, idx t]

/-- What a grid point leaves in the output block, at a row and a column. -/
theorem point (t : Fin cfg0.N) (r : Fin 1024) (d : Fin 256) :
    (out0_2 (iblk m c 0 t) (iblk m c 1 t) : FVec Ideal S1024x256 .f32) (ix2 r d)
      = Cert.Reference7Ideal.Proj.REF (arg0 m c) (arg1 m c) (ix2 (row t r) (col t d)) := by
  frame_out
  rw [pay_at, Cert.Reference7Ideal.Proj.REF_at]
  simp only [a_blk, w_blk]
  by_cases h : (col t d).val < 1216
  · simp only [dif_pos h]
  · simp only [dif_neg h, mul_zero, Finset.sum_const_zero]

/-- The output array after the run is the reference's result. -/
theorem final : (dats m 0 c).arrAt 2 (cfgs 0).N = Cert.Reference7Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel7Ideal.Proj

namespace Cert.Proof.ProjLat

open Idealize.ShloMosaic Idealize.SL.Sem

theorem reference_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Over the extended reals kernel and reference compute the same function. -/
theorem algebraic : Cert.algebraic_Kernel7Ideal_Reference7Ideal := by
  intro m g m' g' _ hagree
  refine ⟨fun c => Cert.Reference7Ideal.Proj.REF (Cert.Kernel7Ideal.Proj.arg0 m c) (Cert.Kernel7Ideal.Proj.arg1 m c), ?_, ?_⟩
  · exact (θ_run Cert.Kernel7Ideal.defs _ _).mono
      (fun _ h c => ⟨(h c).1.trans (Cert.Kernel7Ideal.Proj.final m c), (h c).2⟩) (Cert.Kernel7Ideal.Value.run_blocks (F := Ideal) m g)
  · refine (θ_run Cert.Reference7Ideal.defs _ _).mono (fun _ h c => ⟨(h c).1.trans ?_, (h c).2⟩)
      (Cert.Reference7Ideal.Value.run (F := Ideal) m' g')
    rw [(hagree c).1, (hagree c).2]
    rfl

end Cert.Proof.ProjLat

end
-- ==== Proof.ProjSb.lean ====
/-
  The stick-breaking mixer's columns of the input projection: kernel and reference end with the same array over the extended reals.
-/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference8Ideal.Proj

open Cert.Reference8Ideal Cert.Reference8Ideal.Gen Idealize.ShloMosaic Idealize.ShloMosaic.TcCoe Idealize.SL.Sem

variable (a : FVec Ideal S16384x4096 .bf16) (w : FVec Ideal S4096x9224 .f32)

/-- The reference's result as a function of its arguments. -/
def REF : FVec Ideal S16384x3072 .bf16 :=
  truncf .bf16 (extractStridedSlice S16384x3072 ![0, 1216]
    (Host.dotGeneral dot_S16384x4096_S4096x9224_S16384x9224_1_0_0_1_n_n none (extf .f32 a bitsLt_bf16_f32) w)
    slices_S16384x9224_S16384x3072_0_1216 : FVec Ideal S16384x3072 .f32) bitsLt_bf16_f32

theorem REF_at (i : Fin 16384) (j : Fin 3072) :
    REF a w (ix2 i j) = ∑ k : Fin 4096, a (ix2 i k) * w (ix2 k ⟨1216 + j.val, by omega⟩) := by
  pointwise [REF]

end Cert.Reference8Ideal.Proj

namespace Cert.Kernel8Ideal.Proj

open Cert.Kernel8Ideal Cert.Kernel8Ideal.Gen Idealize.ShloMosaic Idealize.ShloMosaic.TcCoe Idealize.SL.Sem

theorem pay_at (a : FVec Ideal S1024x4096 .bf16) (w : FVec Ideal S4096x512 .bf16) (r : Fin 1024) (d : Fin 512) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x9224 .f32 := m ((c : Thread nD τ).loc main_arg1)

theorem row_lt (t : Fin cfg0.N) : (grid0.coords t 0).val < 16 := (grid0.coords t 0).isLt
theorem col_lt (t : Fin cfg0.N) : (grid0.coords t 1).val < 6 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 3072 := ⟨512 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]
theorem w_blk (t : Fin cfg0.N) (k : Fin 4096) (d : Fin 512) :
    (iblk m c 1 t : FVec Ideal S4096x512 .bf16) (ix2 k d) = arg1 m c (ix2 k ⟨1216 + (col t d).val, by omega⟩) := by
  blk_point [iblk, idx t]

/-- What a grid point leaves in the output block, at a row and a column. -/
theorem point (t : Fin cfg0.N) (r : Fin 1024) (d : Fin 512) :
    (out0_2 (iblk m c 0 t) (iblk m c 1 t) : FVec Ideal S1024x512 .bf16) (ix2 r d)
      = Cert.Reference8Ideal.Proj.REF (arg0 m c) (arg1 m c) (ix2 (row t r) (col t d)) := by
  frame_out
  rw [pay_at, Cert.Reference8Ideal.Proj.REF_at]
  simp only [a_blk, w_blk]

/-- The output array after the run is the reference's result. -/
theorem final : (dats m 0 c).arrAt 2 (cfgs 0).N = Cert.Reference8Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel8Ideal.Proj

namespace Cert.Proof.ProjSb

open Idealize.ShloMosaic Idealize.SL.Sem

theorem reference_frame : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- Over the extended reals kernel and reference compute the same function. -/
theorem algebraic : Cert.algebraic_Kernel8Ideal_Reference8Ideal := by
  intro m g m' g' _ hagree
  refine ⟨fun c => Cert.Reference8Ideal.Proj.REF (Cert.Kernel8Ideal.Proj.arg0 m c) (Cert.Kernel8Ideal.Proj.arg1 m c), ?_, ?_⟩
  · exact (θ_run Cert.Kernel8Ideal.defs _ _).mono
      (fun _ h c => ⟨(h c).1.trans (Cert.Kernel8Ideal.Proj.final m c), (h c).2⟩) (Cert.Kernel8Ideal.Value.run_blocks (F := Ideal) m g)
  · refine (θ_run Cert.Reference8Ideal.defs _ _).mono (fun _ h c => ⟨(h c).1.trans ?_, (h c).2⟩)
      (Cert.Reference8Ideal.Value.run (F := Ideal) m' g')
    rw [(hagree c).1, (hagree c).2]
    rfl

end Cert.Proof.ProjSb

end
-- ==== Proof.ProjDil.lean ====
/-
  The dilated mixer's columns of the input projection: kernel and reference end with the same array over the extended reals.
-/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference9Ideal.Proj

open Cert.Reference9Ideal Cert.Reference9Ideal.Gen Idealize.ShloMosaic Idealize.ShloMosaic.TcCoe Idealize.SL.Sem

variable (a : FVec Ideal S16384x4096 .bf16) (w : FVec Ideal S4096x9224 .f32)

/-- The reference's result as a function of its arguments. -/
def REF : FVec Ideal S16384x3072 .f32 :=
  extractStridedSlice S16384x3072 ![0, 4288]
    (Host.dotGeneral dot_S16384x4096_S4096x9224_S16384x9224_1_0_0_1_n_n none (extf .f32 a bitsLt_bf16_f32) w)
    slices_S16384x9224_S16384x3072_0_4288

theorem REF_at (i : Fin 16384) (j : Fin 3072) :
    REF a w (ix2 i j) = ∑ k : Fin 4096, a (ix2 i k) * w (ix2 k ⟨4288 + j.val, by omega⟩) := by
  pointwise [REF]

end Cert.Reference9Ideal.Proj

namespace Cert.Kernel9Ideal.Proj

open Cert.Kernel9Ideal Cert.Kernel9Ideal.Gen Idealize.ShloMosaic Idealize.ShloMosaic.TcCoe Idealize.SL.Sem

theorem pay_at (a : FVec Ideal S1024x4096 .bf16) (w : FVec Ideal S4096x512 .bf16) (r : Fin 1024) (d : Fin 512) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x9224 .f32 := m ((c : Thread nD τ).loc main_arg1)

theorem row_lt (t : Fin cfg0.N) : (grid0.coords t 0).val < 16 := (grid0.coords t 0).isLt
theorem col_lt (t : Fin cfg0.N) : (grid0.coords t 1).val < 6 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 3072 := ⟨512 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]
theorem w_blk (t : Fin cfg0.N) (k : Fin 4096) (d : Fin 512) :
    (iblk m c 1 t : FVec Ideal S4096x512 .bf16) (ix2 k d) = arg1 m c (ix2 k ⟨4288 + (col t d).val, by omega⟩) := by
  blk_point [iblk, idx t]

/-- What a grid point leaves in the output block, at a row and a column. -/
theorem point (t : Fin cfg0.N) (r : Fin 1024) (d : Fin 512) :
    (out0_2 (iblk m c 0 t) (iblk m c 1 t) : FVec Ideal S1024x512 .f32) (ix2 r d)
      = Cert.Reference9Ideal.Proj.REF (arg0 m c) (arg1 m c) (ix2 (row t r) (col t d)) := by
  frame_out
  rw [pay_at, Cert.Reference9Ideal.Proj.REF_at]
  simp only [a_blk, w_blk]

/-- The output array after the run is the reference's result. -/
theorem final : (dats m 0 c).arrAt 2 (cfgs 0).N = Cert.Reference9Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel9Ideal.Proj

namespace Cert.Proof.ProjDil

open Idealize.ShloMosaic Idealize.SL.Sem

theorem reference_frame : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- Over the extended reals kernel and reference compute the same function. -/
theorem algebraic : Cert.algebraic_Kernel9Ideal_Reference9Ideal := by
  intro m g m' g' _ hagree
  refine ⟨fun c => Cert.Reference9Ideal.Proj.REF (Cert.Kernel9Ideal.Proj.arg0 m c) (Cert.Kernel9Ideal.Proj.arg1 m c), ?_, ?_⟩
  · exact (θ_run Cert.Kernel9Ideal.defs _ _).mono
      (fun _ h c => ⟨(h c).1.trans (Cert.Kernel9Ideal.Proj.final m c), (h c).2⟩) (Cert.Kernel9Ideal.Value.run_blocks (F := Ideal) m g)
  · refine (θ_run Cert.Reference9Ideal.defs _ _).mono (fun _ h c => ⟨(h c).1.trans ?_, (h c).2⟩)
      (Cert.Reference9Ideal.Value.run (F := Ideal) m' g')
    rw [(hagree c).1, (hagree c).2]
    rfl

end Cert.Proof.ProjDil

end
-- ==== Proof.ProjDsa.lean ====
/-
  The indexed mixer's columns of the input projection: kernel and reference end with the same array over the extended reals.
-/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference10Ideal.Proj

open Cert.Reference10Ideal Cert.Reference10Ideal.Gen Idealize.ShloMosaic Idealize.ShloMosaic.TcCoe Idealize.SL.Sem

variable (a : FVec Ideal S16384x4096 .bf16) (w : FVec Ideal S4096x9224 .f32)

/-- The reference's result as a function of its arguments. -/
def REF : FVec Ideal S16384x1280 .f32 :=
  extractStridedSlice S16384x1280 ![0, 7360]
    (Host.dotGeneral dot_S16384x4096_S4096x9224_S16384x9224_1_0_0_1_n_n none (extf .f32 a bitsLt_bf16_f32) w)
    slices_S16384x9224_S16384x1280_0_7360

theorem REF_at (i : Fin 16384) (j : Fin 1280) :
    REF a w (ix2 i j) = ∑ k : Fin 4096, a (ix2 i k) * w (ix2 k ⟨7360 + j.val, by omega⟩) := by
  pointwise [REF]

end Cert.Reference10Ideal.Proj

namespace Cert.Kernel10Ideal.Proj

open Cert.Kernel10Ideal Cert.Kernel10Ideal.Gen Idealize.ShloMosaic Idealize.ShloMosaic.TcCoe Idealize.SL.Sem

theorem pay_at (a : FVec Ideal S1024x4096 .bf16) (w : FVec Ideal S4096x256 .bf16) (r : Fin 1024) (d : Fin 256) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x9224 .f32 := m ((c : Thread nD τ).loc main_arg1)

theorem row_lt (t : Fin cfg0.N) : (grid0.coords t 0).val < 16 := (grid0.coords t 0).isLt
theorem col_lt (t : Fin cfg0.N) : (grid0.coords t 1).val < 5 := (grid0.coords t 1).isLt

abbrev row (t : Fin cfg0.N) (r : Fin 1024) : Fin 16384 := ⟨1024 * (grid0.coords t 0).val + r.val, by have := row_lt t; omega⟩
abbrev col (t : Fin cfg0.N) (d : Fin 256) : Fin 1280 := ⟨256 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]
theorem w_blk (t : Fin cfg0.N) (k : Fin 4096) (d : Fin 256) :
    (iblk m c 1 t : FVec Ideal S4096x256 .bf16) (ix2 k d) = arg1 m c (ix2 k ⟨7360 + (col t d).val, by omega⟩) := by
  blk_point [iblk, idx t]

/-- What a grid point leaves in the output block, at a row and a column. -/
theorem point (t : Fin cfg0.N) (r : Fin 1024) (d : Fin 256) :
    (out0_2 (iblk m c 0 t) (iblk m c 1 t) : FVec Ideal S1024x256 .f32) (ix2 r d)
      = Cert.Reference10Ideal.Proj.REF (arg0 m c) (arg1 m c) (ix2 (row t r) (col t d)) := by
  frame_out
  rw [pay_at, Cert.Reference10Ideal.Proj.REF_at]
  simp only [a_blk, w_blk]

/-- The output array after the run is the reference's result. -/
theorem final : (dats m 0 c).arrAt 2 (cfgs 0).N = Cert.Reference10Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel10Ideal.Proj

namespace Cert.Proof.ProjDsa

open Idealize.ShloMosaic Idealize.SL.Sem

theorem reference_frame : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- Over the extended reals kernel and reference compute the same function. -/
theorem algebraic : Cert.algebraic_Kernel10Ideal_Reference10Ideal := by
  intro m g m' g' _ hagree
  refine ⟨fun c => Cert.Reference10Ideal.Proj.REF (Cert.Kernel10Ideal.Proj.arg0 m c) (Cert.Kernel10Ideal.Proj.arg1 m c), ?_, ?_⟩
  · exact (θ_run Cert.Kernel10Ideal.defs _ _).mono
      (fun _ h c => ⟨(h c).1.trans (Cert.Kernel10Ideal.Proj.final m c), (h c).2⟩) (Cert.Kernel10Ideal.Value.run_blocks (F := Ideal) m g)
  · refine (θ_run Cert.Reference10Ideal.defs _ _).mono (fun _ h c => ⟨(h c).1.trans ?_, (h c).2⟩)
      (Cert.Reference10Ideal.Value.run (F := Ideal) m' g')
    rw [(hagree c).1, (hagree c).2]
    rfl

end Cert.Proof.ProjDsa

end
-- ==== Proof.MlaRun.lean ====
/-
  What one grid point of the latent attention leaves in its output block, as a recursion over the key blocks: the largest
  score, the sum of exponentials and the accumulator (`St`) after the loop's trips, trip `n` reading the key and value
  block `n` (`kv`), then the diagonal block, then the quotient. The second loop of the body runs no trips.
-/
module

public import proofs.«01_k».proof.Proof.Gen.Kernel11Ideal.Value
public import Idealize.ShloMosaic.Lib.Pointwise
public import Idealize.ShloMosaic.Lib.Pipeline.ValueKit
public import Idealize.ShloMosaic.Lib.VecWindow

@[expose] public section

set_option maxRecDepth 16384

noncomputable section

namespace Cert.Kernel11Ideal.Mla

open Cert.Kernel11Ideal Cert.Kernel11Ideal.Gen Idealize.ShloMosaic Idealize.ShloMosaic.TcCoe Idealize.SL.Sem

variable {F : FTy → Type} [FloatOps F] [Named F]

/-- Block `n` of the keys, or of the values. -/
def kv {w : ℕ} (x : Vec F ⟨3, ![32, 512, w]⟩ .bf16) (n : ℕ) : Vec F ⟨3, ![1, 512, w]⟩ .bf16 :=
  fun y => x (ix3 (⟨n % 32, Nat.mod_lt _ (by decide)⟩ : Fin 32) (y 1) (y 2))

/-- The running maximum, sum and accumulator. -/
structure St (F : FTy → Type) where
  mx : Vec F S512x1 .f32
  ln : Vec F S512x1 .f32
  an : Vec F S512x128 .f32

/-- They before any key, -/
def st0 : St F := ⟨k0_pay15, k0_pay16, k0_pay17⟩

/-- and after a block of scores `s` with its values `v`. -/
def step (s : FVec F S512x512 .f32) (v : FVec F S512x128 .bf16) (z : St F) : St F :=
  ⟨k0_pay25 s z.mx, k0_pay23 s z.mx z.ln, k0_pay24 s v z.mx z.an⟩

/-- They after the first `n` blocks, whole. -/
def st (v0 : Vec F S512x256 .bf16) (x1 : Vec F S32x512x256 .bf16) (x2 : Vec F S32x512x128 .bf16) : ℕ → St F
  | 0 => st0
  | n + 1 => step (k0_pay1 v0 (kv x1 n)) (k0_pay19 (kv x2 n)) (st v0 x1 x2 n)

/-- They after the diagonal block `n` too. -/
def fin (v0 : Vec F S512x256 .bf16) (x1 : Vec F S32x512x256 .bf16) (x2 : Vec F S32x512x128 .bf16) (n : ℕ) : St F :=
  step (k0_pay18 v0 (kv x1 n)) (k0_pay19 (kv x2 n)) (st v0 x1 x2 n)

theorem trips1_nat : ∀ n < 32, Scf.trips 0#32
    (Scalar.addi 0#32 (Scalar.muli (Scalar.divsi (Scalar.subi (BitVec.ofNat 32 n) 0#32) 1#32) 1#32)) 1#32 = n := by
  decide +kernel

theorem trips2_nat : ∀ n < 32, Scf.trips
    (Scalar.addi 0#32 (Scalar.muli (Scalar.divsi (Scalar.subi (BitVec.ofNat 32 n) 0#32) 1#32) 1#32))
    (Scalar.addi 0#32 (Scalar.subi (BitVec.ofNat 32 n) 0#32)) 1#32 = 0 := by
  decide +kernel

theorem off1_nat : ∀ k < 32, (Scalar.indexCast (Scf.iv 0#32 1#32 k)).toNat = k := by decide +kernel

theorem off5_nat : ∀ n < 32, BitVec.toNat (Scalar.indexCast (BitVec.ofNat 32 n)) = n := by decide +kernel

/-- Query block `i` makes one trip per earlier key block, -/
theorem trips1 (i : grid0.Coords) : (k0_t1_loop i).trips = (i 1).val := trips1_nat _ (i 1).isLt

/-- none of the remainder loop, -/
theorem trips2 (i : grid0.Coords) : (k0_t2_loop i).trips = 0 := trips2_nat _ (i 1).isLt

/-- trip `k` reads key block `k` -/
theorem off1_val (i : grid0.Coords) (k : Fin (k0_t1_loop i).trips) : k0_off1 i k = ![k.val, 0, 0] :=
  congrArg (fun n : ℕ => ![n, 0, 0]) (off1_nat _ ((lt_of_lt_of_eq k.isLt (trips1 i)).trans (i 1).isLt))

/-- and value block `k`. -/
theorem off2_val (i : grid0.Coords) (k : Fin (k0_t1_loop i).trips) : k0_off2 i k = ![k.val, 0, 0] :=
  congrArg (fun n : ℕ => ![n, 0, 0]) (off1_nat _ ((lt_of_lt_of_eq k.isLt (trips1 i)).trans (i 1).isLt))

/-- A load of block `n` reads `kv`. -/
theorem ld_kv (w : ℕ) (x : Vec F ⟨3, ![32, 512, w]⟩ .bf16) (off : Fin 3 → ℕ) (n : ℕ) (hn : n < 32) (h : off = ![n, 0, 0])
    (inb : ∀ a, off a + (⟨3, ![1, 512, w]⟩ : Shape).size a ≤ (⟨3, ![32, 512, w]⟩ : Shape).size a) :
    View.ld (Val := Elt F) (S := ⟨3, ![32, 512, w]⟩) (e' := .bf16) x
      (Rect.unit (s := ⟨3, ![32, 512, w]⟩) off (⟨3, ![1, 512, w]⟩ : Shape).size inb) = kv x n := by
  subst h
  funext y
  unfold kv
  refine congrArg x ?_
  funext a
  refine Fin.ext ?_
  have h0 : (y 0).val = 0 := by have := (y 0).isLt; change (y 0).val < 1 at this; omega
  fin_cases a
  · show n + 1 * (y 0).val = n % 32
    rw [h0, Nat.mod_eq_of_lt hn]; rfl
  · show 0 + 1 * (y 1).val = (y 1).val
    omega
  · show 0 + 1 * (y 2).val = (y 2).val
    omega

section
variable (𝒱 : Variants) (c : Dev nD) (bd : Option 𝒱.V) (i : grid0.Coords) (arg2 : Memref sig .tc .vmem S512x256 .bf16) (harg2 : arg2.IsWhole) (arg3 : Memref sig .tc .vmem S32x512x256 .bf16) (harg3 : arg3.IsWhole) (arg4 : Memref sig .tc .vmem S32x512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole)
  (v0 : Vec F S512x256 .bf16) (X3 : BufTy.Contents (Elt F) arg3.view.ty) (X4 : BufTy.Contents (Elt F) arg4.view.ty)

theorem trip_eq (k : Fin (k0_t1_loop i).trips) (f6 : BufTy.Contents (Elt F) arg6.view.ty) (f7 : BufTy.Contents (Elt F) arg7.view.ty)
    (f8 : BufTy.Contents (Elt F) arg8.view.ty) (z : St F) (hM : arg6.view.read (Elt F) f6 = z.mx)
    (hL : arg7.view.read (Elt F) f7 = z.ln) (hA : arg8.view.read (Elt F) f8 = z.an) :
    tripL_k0_t1 (F := F) 𝒱 c bd i arg2 harg2 arg3 harg3 arg4 harg4 arg5 harg5 arg6 harg6 arg7 harg7 arg8 harg8 v0 X3 X4 k f6 f7 f8
      = ([⟨Rect.unit ![0, 0] S512x1.size inb_S512x1_S512x1_0_0,
            (step (k0_pay1 v0 (kv (arg3.view.read (Elt F) X3) k.val)) (k0_pay19 (kv (arg4.view.read (Elt F) X4) k.val)) z).mx⟩],
          [⟨Rect.unit ![0, 0] S512x1.size inb_S512x1_S512x1_0_0,
            (step (k0_pay1 v0 (kv (arg3.view.read (Elt F) X3) k.val)) (k0_pay19 (kv (arg4.view.read (Elt F) X4) k.val)) z).ln⟩],
          [⟨Rect.unit ![0, 0] S512x128.size inb_S512x128_S512x128_0_0,
            (step (k0_pay1 v0 (kv (arg3.view.read (Elt F) X3) k.val)) (k0_pay19 (kv (arg4.view.read (Elt F) X4) k.val)) z).an⟩]) := by
  have hz : (![0, 0] : Fin 2 → Nat) = fun _ => 0 := funext fun a => by fin_cases a <;> rfl
  have hk : k.val < 32 := (lt_of_lt_of_eq k.isLt (trips1 i)).trans (i 1).isLt
  unfold tripL_k0_t1 trip_k0_t1
  dsimp only
  have e6 : View.readAt (Elt F) arg6.view (Rect.unit (s := S512x1) ![0, 0] S512x1.size inb_S512x1_S512x1_0_0).toLoadRect f6 = z.mx :=
    (View.ld_unit_zero (S := S512x1) hz _ _).trans hM
  have e7 : View.readAt (Elt F) arg7.view (Rect.unit (s := S512x1) ![0, 0] S512x1.size inb_S512x1_S512x1_0_0).toLoadRect f7 = z.ln :=
    (View.ld_unit_zero (S := S512x1) hz _ _).trans hL
  have e8 : View.readAt (Elt F) arg8.view (Rect.unit (s := S512x128) ![0, 0] S512x128.size inb_S512x128_S512x128_0_0).toLoadRect f8 = z.an :=
    (View.ld_unit_zero (S := S512x128) hz _ _).trans hA
  have e3 : View.readAt (Elt F) arg3.view (Rect.unit (s := S32x512x256) (k0_off1 i k) S1x512x256.size (k0_off1_inb i k)).toLoadRect X3
      = kv (arg3.view.read (Elt F) X3) k.val := ld_kv 256 (arg3.view.read (Elt F) X3) _ _ hk (off1_val i k) _
  have e4 : View.readAt (Elt F) arg4.view (Rect.unit (s := S32x512x128) (k0_off2 i k) S1x512x128.size (k0_off2_inb i k)).toLoadRect X4
      = kv (arg4.view.read (Elt F) X4) k.val := ld_kv 128 (arg4.view.read (Elt F) X4) _ _ hk (off2_val i k) _
  rw [← e3, ← e4]
  unfold step
  rw [← e6, ← e7, ← e8]
  rfl

theorem loop_eq (G6 : BufTy.Contents (Elt F) arg6.view.ty) (G7 : BufTy.Contents (Elt F) arg7.view.ty) (G8 : BufTy.Contents (Elt F) arg8.view.ty)
    (hM : arg6.view.read (Elt F) G6 = (st0 (F := F)).mx) (hL : arg7.view.read (Elt F) G7 = (st0 (F := F)).ln)
    (hA : arg8.view.read (Elt F) G8 = (st0 (F := F)).an) :
    ∀ n, n ≤ (k0_t1_loop i).trips →
      arg6.view.read (Elt F) (arg6.view.writes (Elt F) G6
        (pb_k0_t1 (F := F) 𝒱 c bd i arg2 harg2 arg3 harg3 arg4 harg4 arg5 harg5 arg6 harg6 arg7 harg7 arg8 harg8 v0 X3 X4 G6 G7 G8 n).1)
        = (st v0 (arg3.view.read (Elt F) X3) (arg4.view.read (Elt F) X4) n).mx
      ∧ arg7.view.read (Elt F) (arg7.view.writes (Elt F) G7
        (pb_k0_t1 (F := F) 𝒱 c bd i arg2 harg2 arg3 harg3 arg4 harg4 arg5 harg5 arg6 harg6 arg7 harg7 arg8 harg8 v0 X3 X4 G6 G7 G8 n).2.1)
        = (st v0 (arg3.view.read (Elt F) X3) (arg4.view.read (Elt F) X4) n).ln
      ∧ arg8.view.read (Elt F) (arg8.view.writes (Elt F) G8
        (pb_k0_t1 (F := F) 𝒱 c bd i arg2 harg2 arg3 harg3 arg4 harg4 arg5 harg5 arg6 harg6 arg7 harg7 arg8 harg8 v0 X3 X4 G6 G7 G8 n).2.2)
        = (st v0 (arg3.view.read (Elt F) X3) (arg4.view.read (Elt F) X4) n).an
  | 0, _ => by
    rw [show pb_k0_t1 (F := F) 𝒱 c bd i arg2 harg2 arg3 harg3 arg4 harg4 arg5 harg5 arg6 harg6 arg7 harg7 arg8 harg8 v0 X3 X4 G6 G7 G8 0 = ([], [], []) from rfl]
    exact ⟨hM, hL, hA⟩
  | n + 1, h => by
    obtain ⟨ih1, ih2, ih3⟩ := loop_eq G6 G7 G8 hM hL hA n (by omega)
    rw [pb_k0_t1_succ 𝒱 c bd i arg2 harg2 arg3 harg3 arg4 harg4 arg5 harg5 arg6 harg6 arg7 harg7 arg8 harg8 v0 X3 X4 G6 G7 G8 ⟨n, h⟩,
      trip_eq 𝒱 c bd i arg2 harg2 arg3 harg3 arg4 harg4 arg5 harg5 arg6 harg6 arg7 harg7 arg8 harg8 v0 X3 X4 ⟨n, h⟩ _ _ _ _ ih1 ih2 ih3]
    exact ⟨View.read_writes_full arg6.view _ _ _ _, View.read_writes_full arg7.view _ _ _ _, View.read_writes_full arg8.view _ _ _ _⟩

end

section
variable (c : Dev nD) (i : grid0.Coords) (arg2 : Memref sig .tc .vmem S512x256 .bf16) (harg2 : arg2.IsWhole) (arg3 : Memref sig .tc .vmem S32x512x256 .bf16) (harg3 : arg3.IsWhole) (arg4 : Memref sig .tc .vmem S32x512x128 .bf16) (harg4 : arg4.IsWhole) (arg5 : Memref sig .tc .vmem S512x128 .bf16) (harg5 : arg5.IsWhole) (arg6 : Memref sig .tc .vmem S512x1 .f32) (harg6 : arg6.IsWhole) (arg7 : Memref sig .tc .vmem S512x1 .f32) (harg7 : arg7.IsWhole) (arg8 : Memref sig .tc .vmem S512x128 .f32) (harg8 : arg8.IsWhole)
    (x0 : Vec F S512x256 .bf16) (x1 : Vec F S32x512x256 .bf16) (x2 : Vec F S32x512x128 .bf16)

/-- THE BLOCK: the accumulator over the sum, after the block's own keys and all earlier ones. -/
theorem run_block : out0_A_3 c i arg2 harg2 arg3 harg3 arg4 harg4 arg5 harg5 arg6 harg6 arg7 harg7 arg8 harg8 x0 x1 x2 = k0_pay26 (fin x0 x1 x2 (i 1).val).an (fin x0 x1 x2 (i 1).val).ln := by
  have hz : (![0, 0] : Fin 2 → Nat) = fun _ => 0 := funext fun a => by fin_cases a <;> rfl
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_unit_zero hz]
  unfold kernelRun0_A.sl.v59 kernelRun0_A.sl.v60 View.readCov
  rw [View.readAt_eq_ld, View.readAt_eq_ld, View.ld_unit_zero (S := S512x128) hz, View.ld_unit_zero (S := S512x1) hz]
  unfold kernelRun0_A.sl.HS2_1_1 kernelRun0_A.sl.HS1_1_1
  rw [View.read_writes_full, View.read_writes_full]
  have hoff : k0_off5 i = ![(i 1).val, 0, 0] := congrArg (fun n : ℕ => ![n, 0, 0]) (off5_nat _ (i 1).isLt)
  have e2 : View.readAt (Elt F) arg2.view (Rect.unit (s := S512x256) ![0, 0] S512x256.size inb_S512x256_S512x256_0_0).toLoadRect (harg2.unread x0) = x0 :=
    (View.ld_unit_zero (S := S512x256) hz _ _).trans (harg2.read_unread x0)
  have hs : kernelRun0_A.sl.r c i arg2 harg2 arg3 harg3 x0 x1 = k0_pay18 x0 (kv x1 (i 1).val) := by
    unfold kernelRun0_A.sl.r
    rw [e2, View.readAt_eq_ld, harg3.read_unread, ← ld_kv 256 x1 (k0_off5 i) (i 1).val (i 1).isLt hoff (k0_off5_inb i)]
  have hv : kernelRun0_A.sl.r_1 i arg4 harg4 x2 = k0_pay19 (kv x2 (i 1).val) := by
    unfold kernelRun0_A.sl.r_1
    rw [View.readAt_eq_ld, harg4.read_unread, ← ld_kv 128 x2 (k0_off6 i) (i 1).val (i 1).isLt hoff (k0_off6_inb i)]
  obtain ⟨h6, h7, h8⟩ := loop_eq Variants.none c none i arg2 harg2 arg3 harg3 arg4 harg4 arg5 harg5 arg6 harg6 arg7 harg7 arg8 harg8 x0 (harg3.unread x1) (harg4.unread x2)
    (arg6.view.writes (Elt F) arg6.view.junk kernelRun0_A.sl.HS0_1) (arg7.view.writes (Elt F) arg7.view.junk kernelRun0_A.sl.HS1_1)
    (arg8.view.writes (Elt F) arg8.view.junk kernelRun0_A.sl.HS2_1)
    (View.read_writes_full arg6.view _ _ _ _) (View.read_writes_full arg7.view _ _ _ _) (View.read_writes_full arg8.view _ _ _ _)
    (i 1).val (le_of_eq (trips1 i).symm)
  rw [harg3.read_unread, harg4.read_unread] at h6 h7 h8
  have t1 : Scf.trips (k0_t1_loop i).lb (k0_t1_loop i).ub (k0_t1_loop i).st = (i 1).val := trips1 i
  have t2 : Scf.trips (k0_t2_loop i).lb (k0_t2_loop i).ub (k0_t2_loop i).st = 0 := trips2 i
  have h30 : kernelRun0_A.sl.v30 c i arg2 harg2 arg3 harg3 arg4 harg4 arg5 harg5 arg6 harg6 arg7 harg7 arg8 harg8 x0 x1 x2 = (st x0 x1 x2 (i 1).val).mx := by
    unfold kernelRun0_A.sl.v30
    rw [t1, t2, pb_k0_t2.eq_1, List.nil_append, e2]
    unfold View.readCov
    rw [View.writes_append, View.readAt_eq_ld, View.ld_unit_zero (S := S512x1) hz]
    exact h6
  have h39 : kernelRun0_A.sl.v39 c i arg2 harg2 arg3 harg3 arg4 harg4 arg5 harg5 arg6 harg6 arg7 harg7 arg8 harg8 x0 x1 x2 = (st x0 x1 x2 (i 1).val).ln := by
    unfold kernelRun0_A.sl.v39
    rw [t1, t2, pb_k0_t2.eq_1, List.nil_append, e2]
    unfold View.readCov
    rw [View.writes_append, View.readAt_eq_ld, View.ld_unit_zero (S := S512x1) hz]
    exact h7
  have h47 : kernelRun0_A.sl.v47 c i arg2 harg2 arg3 harg3 arg4 harg4 arg5 harg5 arg6 harg6 arg7 harg7 arg8 harg8 x0 x1 x2 = (st x0 x1 x2 (i 1).val).an := by
    unfold kernelRun0_A.sl.v47
    rw [t1, t2, pb_k0_t2.eq_1, List.nil_append, e2]
    unfold View.readCov
    rw [View.writes_append, View.readAt_eq_ld, View.ld_unit_zero (S := S512x128) hz]
    exact h8
  rw [hs, hv, h30, h39, h47]
  rfl

end

end Cert.Kernel11Ideal.Mla

end
-- ==== Proof.MlaMath.lean ====
/-
  The softmax of a row taken block by block, over the extended reals. `mx n` is the largest of the first `n` scores, `ln n`
  and `an v n` the sums of the exponentials below it, alone and times the values. A block of scores takes the three from
  `n` to `n + 512` (`mx_step`, `ln_step`, `an_step`) for any scores at all; the quotient of the last two is the sum of the
  normalized weights times the values where the largest score is a number (`quot`).
-/
module

public import Idealize.ShloMosaic.PureOps.Ideal.Laws
public import Idealize.ShloMosaic.Lib.Pointwise

@[expose] public section

noncomputable section

namespace Cert.Mla

open Idealize.ShloMosaic

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- A sum of products of numbers is a number. -/
theorem sum_mul_ne {n : ℕ} (a b : Fin n → EReal) (ha : ∀ d, a d ≠ ⊤ ∧ a d ≠ ⊥) (hb : ∀ d, b d ≠ ⊤ ∧ b d ≠ ⊥) :
    ∑ d, a d * b d ≠ ⊤ ∧ ∑ d, a d * b d ≠ ⊥ := by
  obtain ⟨r, hr⟩ : ∃ r : ℝ, (r : EReal) = ∑ d, a d * b d := by
    refine Finset.sum_induction _ (fun x => ∃ r : ℝ, (r : EReal) = x) ?_ ⟨0, rfl⟩ fun d _ => ?_
    · rintro _ _ ⟨x, rfl⟩ ⟨y, rfl⟩
      exact ⟨x + y, EReal.coe_add x y⟩
    · refine ⟨(a d).toReal * (b d).toReal, ?_⟩
      rw [EReal.coe_mul, EReal.coe_toReal (ha d).1 (ha d).2, EReal.coe_toReal (hb d).1 (hb d).2]
  rw [← hr]
  exact ⟨EReal.coe_ne_top r, EReal.coe_ne_bot r⟩

theorem exp_nonneg (x : EReal) : 0 ≤ Ideal.exp x := by
  induction x with
  | bot => exact le_refl _
  | coe r => exact EReal.coe_nonneg.2 (Real.exp_pos r).le
  | top => exact le_top

theorem exp_coe (r : ℝ) : Ideal.exp (r : EReal) = (Real.exp r : EReal) := rfl

theorem exp_bot : Ideal.exp ⊥ = 0 := rfl

/-- A difference from something larger is no more than zero, so its exponential is a number. -/
theorem exp_sub_ne_top (a b : EReal) (h : a ≤ b) : Ideal.exp (a - b) ≠ ⊤ := by
  induction a with
  | bot => rw [EReal.bot_sub, exp_bot]; exact EReal.zero_ne_top
  | coe r =>
    induction b with
    | bot => exact absurd (le_bot_iff.1 h) (EReal.coe_ne_bot r)
    | coe q => rw [← EReal.coe_sub, exp_coe]; exact EReal.coe_ne_top _
    | top => rw [EReal.sub_top, exp_bot]; exact EReal.zero_ne_top
  | top =>
    rw [top_le_iff.1 h, EReal.sub_top, exp_bot]
    exact EReal.zero_ne_top

/-- The factor that takes exponentials below `m` to exponentials below `m'`. -/
theorem exp_shift (s m m' : EReal) (h : s ≤ m) (h' : m ≤ m') :
    Ideal.exp (m - m') * Ideal.exp (s - m) = Ideal.exp (s - m') := by
  induction m' with
  | bot =>
    have hm : m = ⊥ := le_bot_iff.1 h'
    have hs : s = ⊥ := le_bot_iff.1 (hm ▸ h)
    rw [hs, EReal.bot_sub, EReal.bot_sub, exp_bot, mul_zero]
  | top => rw [EReal.sub_top, EReal.sub_top, exp_bot, zero_mul]
  | coe q =>
    induction m with
    | bot => rw [le_bot_iff.1 h, EReal.bot_sub, EReal.bot_sub, exp_bot, mul_zero]
    | top => exact absurd (top_le_iff.1 h') (EReal.coe_ne_top q)
    | coe p =>
      induction s with
      | bot => rw [EReal.bot_sub, EReal.bot_sub, exp_bot, mul_zero]
      | top => exact absurd (top_le_iff.1 h) (EReal.coe_ne_top p)
      | coe r =>
        rw [← EReal.coe_sub, ← EReal.coe_sub, ← EReal.coe_sub, exp_coe, exp_coe, exp_coe, ← EReal.coe_mul, ← Real.exp_add]
        congr 2
        ring

theorem mul_sum {ι : Type} (t : Finset ι) (a : EReal) (h0 : 0 ≤ a) (ht : a ≠ ⊤) (f : ι → EReal) :
    a * ∑ k ∈ t, f k = ∑ k ∈ t, a * f k := by
  classical
  induction t using Finset.induction_on with
  | empty => simp
  | insert k t hk ih =>
    rw [Finset.sum_insert hk, Finset.sum_insert hk, EReal.left_distrib_of_nonneg_of_ne_top h0 ht, ih]

variable (s v : ℕ → EReal)

def mx (n : ℕ) : EReal := (Finset.range n).sup s
def ln (n : ℕ) : EReal := ∑ k ∈ Finset.range n, Ideal.exp (s k - mx s n)
def an (n : ℕ) : EReal := ∑ k ∈ Finset.range n, Ideal.exp (s k - mx s n) * v k

theorem le_mx {k n : ℕ} (h : k < n) : s k ≤ mx s n := Finset.le_sup (f := s) (Finset.mem_range.2 h)

theorem mx_mono {n n' : ℕ} (h : n ≤ n') : mx s n ≤ mx s n' :=
  Finset.sup_mono fun _ hk => Finset.mem_range.2 (lt_of_lt_of_le (Finset.mem_range.1 hk) h)

/-- The largest of a block's scores, as the fold that takes it. -/
theorem fold_block (n w : ℕ) :
    Finset.fold max ⊥ (fun c : Fin w => s (n + c.val)) Finset.univ = (Finset.range w).sup fun c => s (n + c) := by
  rw [show Finset.fold max ⊥ (fun c : Fin w => s (n + c.val)) Finset.univ
      = Finset.univ.sup fun c : Fin w => s (n + c.val) from rfl]
  refine le_antisymm (Finset.sup_le fun c _ => ?_) (Finset.sup_le fun c hc => ?_)
  · exact Finset.le_sup (f := fun c => s (n + c)) (Finset.mem_range.2 c.isLt)
  · exact Finset.le_sup (f := fun c : Fin w => s (n + c.val)) (Finset.mem_univ ⟨c, Finset.mem_range.1 hc⟩)

theorem mx_step (n w : ℕ) :
    max (mx s n) (Finset.fold max ⊥ (fun c : Fin w => s (n + c.val)) Finset.univ) = mx s (n + w) := by
  rw [fold_block]
  refine le_antisymm (max_le (mx_mono s (Nat.le_add_right _ _)) (Finset.sup_le fun c hc => ?_)) (Finset.sup_le fun k hk => ?_)
  · exact le_mx s (Nat.add_lt_add_left (Finset.mem_range.1 hc) n)
  · rw [Finset.mem_range] at hk
    by_cases h : k < n
    · exact le_max_of_le_left (le_mx s h)
    · refine le_max_of_le_right ?_
      have := Finset.le_sup (f := fun c => s (n + c)) (Finset.mem_range.2 (show k - n < w by omega))
      simpa only [show n + (k - n) = k by omega] using this

theorem sum_step (f : ℕ → EReal) (n w : ℕ) (a : EReal) (h0 : 0 ≤ a) (ht : a ≠ ⊤) (g : ℕ → EReal) (hg : ∀ k < n, a * g k = f k) :
    a * ∑ k ∈ Finset.range n, g k + ∑ c : Fin w, f (n + c.val) = ∑ k ∈ Finset.range (n + w), f k := by
  rw [mul_sum _ _ h0 ht, Finset.sum_range_add, Fin.sum_univ_eq_sum_range (fun c => f (n + c))]
  exact congrArg (· + _) (Finset.sum_congr rfl fun k hk => hg k (Finset.mem_range.1 hk))

theorem ln_step (n w : ℕ) :
    Ideal.exp (mx s n - mx s (n + w)) * ln s n + ∑ c : Fin w, Ideal.exp (s (n + c.val) - mx s (n + w)) = ln s (n + w) :=
  sum_step (fun k => Ideal.exp (s k - mx s (n + w))) n w _ (exp_nonneg _)
    (exp_sub_ne_top _ _ (mx_mono s (Nat.le_add_right _ _))) _ fun k hk =>
      exp_shift _ _ _ (le_mx s hk) (mx_mono s (Nat.le_add_right _ _))

theorem an_step (n w : ℕ) :
    Ideal.exp (mx s n - mx s (n + w)) * an s v n + ∑ c : Fin w, Ideal.exp (s (n + c.val) - mx s (n + w)) * v (n + c.val)
      = an s v (n + w) :=
  sum_step (fun k => Ideal.exp (s k - mx s (n + w)) * v k) n w _ (exp_nonneg _)
    (exp_sub_ne_top _ _ (mx_mono s (Nat.le_add_right _ _))) _ fun k hk => by
      rw [← mul_assoc, exp_shift _ _ _ (le_mx s hk) (mx_mono s (Nat.le_add_right _ _))]

/-- Scores at the bottom past `n` change nothing. -/
theorem mx_ext (n N : ℕ) (h : n ≤ N) (hb : ∀ k, n ≤ k → s k = ⊥) : mx s N = mx s n := by
  refine le_antisymm (Finset.sup_le fun k _ => ?_) (mx_mono s h)
  by_cases hk : k < n
  · exact le_mx s hk
  · rw [hb k (not_lt.1 hk)]; exact bot_le

theorem sum_ext (n N : ℕ) (h : n ≤ N) (hb : ∀ k, n ≤ k → s k = ⊥) (m : EReal) (f : EReal → ℕ → EReal) (hf : ∀ k, f 0 k = 0) :
    ∑ k ∈ Finset.range N, f (Ideal.exp (s k - m)) k = ∑ k ∈ Finset.range n, f (Ideal.exp (s k - m)) k := by
  symm
  refine Finset.sum_subset (fun k hk => Finset.mem_range.2 (lt_of_lt_of_le (Finset.mem_range.1 hk) h)) fun k _ hk => ?_
  rw [Finset.mem_range, not_lt] at hk
  rw [hb k hk, EReal.bot_sub, exp_bot, hf]

theorem inv_ne_top (x : EReal) : x⁻¹ ≠ ⊤ := by
  induction x with
  | bot => rw [EReal.inv_bot]; exact EReal.zero_ne_top
  | coe r => rw [← EReal.coe_inv]; exact EReal.coe_ne_top _
  | top => rw [EReal.inv_top]; exact EReal.zero_ne_top

/-- The sum below a maximum that is a number is positive. -/
theorem ln_pos (n : ℕ) (hn : 0 < n) (h0 : s 0 ≠ ⊥) (ht : ∀ k < n, s k ≠ ⊤) : 0 < ln s n := by
  have hm : mx s n ≠ ⊤ := by
    refine ne_of_lt ((Finset.sup_lt_iff (bot_lt_top)).2 fun k hk => ?_)
    exact lt_top_iff_ne_top.2 (ht k (Finset.mem_range.1 hk))
  have hb : mx s n ≠ ⊥ := fun e => h0 (le_bot_iff.1 (e ▸ le_mx s hn))
  refine lt_of_lt_of_le ?_ (Finset.single_le_sum (f := fun k => Ideal.exp (s k - mx s n))
    (fun k _ => exp_nonneg _) (Finset.mem_range.2 hn))
  obtain ⟨a, ha⟩ : ∃ a : ℝ, (a : EReal) = s 0 := ⟨_, EReal.coe_toReal (ht 0 hn) h0⟩
  obtain ⟨b, hb⟩ : ∃ b : ℝ, (b : EReal) = mx s n := ⟨_, EReal.coe_toReal hm hb⟩
  show 0 < Ideal.exp (s 0 - mx s n)
  rw [← ha, ← hb, ← EReal.coe_sub, exp_coe]
  exact EReal.coe_pos.2 (Real.exp_pos _)

/-- The quotient of the two sums, and the normalized weights with the values, over as many keys more as are masked. -/
theorem quot (n N : ℕ) (h : n ≤ N) (hn : 0 < n) (hb : ∀ k, n ≤ k → s k = ⊥) (h0 : s 0 ≠ ⊥) (ht : ∀ k < n, s k ≠ ⊤) :
    Ideal.div (an s v n) (ln s n) = ∑ k ∈ Finset.range N, Ideal.div (Ideal.exp (s k - mx s N)) (ln s N) * v k := by
  have hl : ln s N = ln s n := by
    unfold ln
    rw [mx_ext s n N h hb]
    exact sum_ext s n N h hb _ (fun x _ => x) fun _ => rfl
  have hp := ln_pos s n hn h0 ht
  have hd : ∀ x, Ideal.div x (ln s n) = x * (ln s n)⁻¹ := fun x => if_neg (ne_of_gt hp)
  rw [hl, mx_ext s n N h hb]
  simp only [hd]
  rw [sum_ext s n N h hb _ (fun x k => x * (ln s n)⁻¹ * v k) fun k => by rw [zero_mul, zero_mul], mul_comm, an,
    mul_sum _ _ (EReal.inv_nonneg_of_nonneg hp.le) (inv_ne_top _)]
  refine Finset.sum_congr rfl fun k _ => ?_
  rw [← mul_assoc, mul_comm _ (Ideal.exp _)]

end Cert.Mla

end
-- ==== Proof.MlaAt.lean ====
/-
  The latent attention's blocks at a row and a column, over the extended reals: a block of scores and of values by key
  (`zN`, `kvN`), the step at a row (`step_at`), and the state after the row's keys as the softmax of the masked scores
  `sN` (`block_at`).
-/
module

public import proofs.«01_k».proof.Proof.MlaRun
public import proofs.«01_k».proof.Proof.MlaMath
public import Idealize.ShloMosaic.PureOps.Ideal.Laws
public import Idealize.ShloMosaic.Lib.Pointwise
public import Idealize.ShloMosaic.Lib.WordCmp

@[expose] public section

set_option maxRecDepth 16384

noncomputable section

namespace Cert.Kernel11Ideal.Mla

open Cert.Kernel11Ideal Cert.Kernel11Ideal.Gen Idealize.ShloMosaic Idealize.ShloMosaic.TcCoe Idealize.SL.Sem

theorem mask_eq : (Named.named (F := Ideal) κ "mask" (φ := .f32) 0xF149F2CA#32 : EReal) = ⊥ :=
  IdealRules.named_const.ideal_named_scalar _ _ _ _ rfl

/-- Key `k`'s row of the keys, or of the values. -/
def kvN {w : ℕ} (x : FVec Ideal ⟨3, ![32, 512, w]⟩ .bf16) (k : ℕ) (d : Fin w) : EReal :=
  x (ix3 (⟨k / 512 % 32, Nat.mod_lt _ (by decide)⟩ : Fin 32) (⟨k % 512, Nat.mod_lt _ (by decide)⟩ : Fin 512) d)

theorem kv_at {w : ℕ} (x : FVec Ideal ⟨3, ![32, 512, w]⟩ .bf16) (n : ℕ) (c : Fin 512) (d : Fin w) :
    kv (F := Ideal) x n (ix3 (0 : Fin 1) c d) = kvN x (512 * n + c.val) d := by
  unfold kv kvN
  refine congrArg x ?_
  have h1 : (512 * n + c.val) / 512 = n := by have := c.isLt; omega
  have h2 : (512 * n + c.val) % 512 = c.val := by have := c.isLt; omega
  funext a
  match a with
  | ⟨0, _⟩ => exact Fin.ext (by show n % 32 = (512 * n + c.val) / 512 % 32; rw [h1])
  | ⟨1, _⟩ => exact Fin.ext (by show c.val = (512 * n + c.val) % 512; rw [h2])
  | ⟨2, _⟩ => rfl

variable (v0 : FVec Ideal S512x256 .bf16) (x1 : FVec Ideal S32x512x256 .bf16) (x2 : FVec Ideal S32x512x128 .bf16)

/-- A query's score of a key, -/
def zN (r : Fin 512) (k : ℕ) : EReal := ∑ d : Fin 256, v0 (ix2 r d) * kvN x1 k d

/-- and the same with the later keys masked. -/
def sN (i : ℕ) (r : Fin 512) (k : ℕ) : EReal := if k ≤ 512 * i + r.val then zN v0 x1 r k else ⊥

theorem pay1_at (kb : FVec Ideal S1x512x256 .bf16) (r c : Fin 512) :
    k0_pay1 (F := Ideal) v0 kb (ix2 r c) = ∑ d : Fin 256, v0 (ix2 r d) * kb (ix3 (0 : Fin 1) c d) := by
  pointwise [k0_pay1]

theorem pay18_at (kb : FVec Ideal S1x512x256 .bf16) (r c : Fin 512) :
    k0_pay18 (F := Ideal) v0 kb (ix2 r c) = if c.val ≤ r.val then ∑ d : Fin 256, v0 (ix2 r d) * kb (ix3 (0 : Fin 1) c d) else ⊥ := by
  pointwise [k0_pay18]
  rw [mask_eq]
  unfold Scalar.select
  have e : IntOp.cmpi .sle (BitVec.ofNat 32 c.val) (BitVec.ofNat 32 r.val) = 1#1 ↔ c.val ≤ r.val :=
    WordCmp.cmpi_sle_ofNat_eq_one_iff (w := 32) (lt_trans c.isLt (by norm_num)) (lt_trans r.isLt (by norm_num))
  by_cases hk : c.val ≤ r.val
  · rw [if_pos hk]; exact if_pos (e.2 hk)
  · rw [if_neg hk]; exact if_neg fun h => hk (e.1 h)

theorem pay19_at (vb : FVec Ideal S1x512x128 .bf16) (c : Fin 512) (d : Fin 128) :
    k0_pay19 (F := Ideal) vb (ix2 c d) = vb (ix3 (0 : Fin 1) c d) := by
  pointwise [k0_pay19]

variable (s : FVec Ideal S512x512 .f32) (v : FVec Ideal S512x128 .bf16) (m l : FVec Ideal S512x1 .f32) (a : FVec Ideal S512x128 .f32)

theorem pay20_at (r : Fin 512) :
    k0_pay20 (F := Ideal) s m (ix2 r (0 : Fin 1)) = max (m (ix2 r (0 : Fin 1))) (Finset.fold max ⊥ (fun c : Fin 512 => s (ix2 r c)) Finset.univ) := by
  pointwise [k0_pay20]
  rw [Cert.Mla.neg_inf]

theorem pay21_at (r : Fin 512) :
    k0_pay21 (F := Ideal) s m (ix2 r (0 : Fin 1)) = Ideal.exp (m (ix2 r (0 : Fin 1)) - k0_pay20 (F := Ideal) s m (ix2 r (0 : Fin 1))) := by
  pointwise [k0_pay21]

theorem pay22_at (r c : Fin 512) :
    k0_pay22 (F := Ideal) s m (ix2 r c) = Ideal.exp (s (ix2 r c) - k0_pay20 (F := Ideal) s m (ix2 r (0 : Fin 1))) := by
  pointwise [k0_pay22]

theorem pay23_at (r : Fin 512) :
    k0_pay23 (F := Ideal) s m l (ix2 r (0 : Fin 1)) = k0_pay21 (F := Ideal) s m (ix2 r (0 : Fin 1)) * l (ix2 r (0 : Fin 1))
      + ∑ c : Fin 512, k0_pay22 (F := Ideal) s m (ix2 r c) := by
  pointwise [k0_pay23]

theorem pay24_at (r : Fin 512) (d : Fin 128) :
    k0_pay24 (F := Ideal) s v m a (ix2 r d) = k0_pay21 (F := Ideal) s m (ix2 r (0 : Fin 1)) * a (ix2 r d)
      + ∑ c : Fin 512, k0_pay22 (F := Ideal) s m (ix2 r c) * v (ix2 c d) := by
  pointwise [k0_pay24]

theorem pay25_at (r : Fin 512) :
    k0_pay25 (F := Ideal) s m (ix2 r (0 : Fin 1)) = k0_pay20 (F := Ideal) s m (ix2 r (0 : Fin 1)) := by
  pointwise [k0_pay25]

theorem pay26_at (r : Fin 512) (d : Fin 128) :
    k0_pay26 (F := Ideal) a l (ix2 r d) = Ideal.div (a (ix2 r d)) (l (ix2 r (0 : Fin 1))) := by
  pointwise [k0_pay26]

/-- The state at a row is the softmax of the first `n` of the scores `S` with the values `V`. -/
structure IsAt (z : St Ideal) (S : ℕ → EReal) (V : Fin 128 → ℕ → EReal) (r : Fin 512) (n : ℕ) : Prop where
  mx : (z.mx : FVec Ideal S512x1 .f32) (ix2 r (0 : Fin 1)) = Cert.Mla.mx S n
  ln : (z.ln : FVec Ideal S512x1 .f32) (ix2 r (0 : Fin 1)) = Cert.Mla.ln S n
  an : ∀ d, (z.an : FVec Ideal S512x128 .f32) (ix2 r d) = Cert.Mla.an S (V d) n

theorem step_at (z : St Ideal) (S : ℕ → EReal) (V : Fin 128 → ℕ → EReal) (r : Fin 512) (n : ℕ) (hz : IsAt z S V r n)
    (hs : ∀ c : Fin 512, s (ix2 r c) = S (n + c.val)) (hv : ∀ (c : Fin 512) d, v (ix2 c d) = V d (n + c.val)) :
    IsAt (step s v z) S V r (n + 512) := by
  have h20 : k0_pay20 (F := Ideal) s z.mx (ix2 r (0 : Fin 1)) = Cert.Mla.mx S (n + 512) := by
    rw [pay20_at, hz.mx]
    simp only [hs]
    exact Cert.Mla.mx_step S n 512
  have h21 : k0_pay21 (F := Ideal) s z.mx (ix2 r (0 : Fin 1)) = Ideal.exp (Cert.Mla.mx S n - Cert.Mla.mx S (n + 512)) := by
    rw [pay21_at, h20, hz.mx]
  have h22 : ∀ c, k0_pay22 (F := Ideal) s z.mx (ix2 r c) = Ideal.exp (S (n + c.val) - Cert.Mla.mx S (n + 512)) := fun c => by
    rw [pay22_at, h20, hs]
  refine ⟨(pay25_at s z.mx r).trans h20, ?_, fun d => ?_⟩
  · refine (pay23_at s z.mx z.ln r).trans ?_
    rw [h21, hz.ln]
    simp only [h22]
    exact Cert.Mla.ln_step S n 512
  · refine (pay24_at s v z.mx z.an r d).trans ?_
    rw [h21, hz.an]
    simp only [h22, hv]
    exact Cert.Mla.an_step S (V d) n 512

theorem st0_at (S : ℕ → EReal) (V : Fin 128 → ℕ → EReal) (r : Fin 512) : IsAt st0 S V r 0 := by
  refine ⟨?_, ?_, fun d => ?_⟩
  · refine Eq.trans (?_ : k0_pay15 (F := Ideal) (ix2 r (0 : Fin 1)) = ⊥) (by simp [Cert.Mla.mx])
    pointwise [k0_pay15]
    exact mask_eq
  · refine Eq.trans (?_ : k0_pay16 (F := Ideal) (ix2 r (0 : Fin 1)) = 0) (by simp [Cert.Mla.ln])
    pointwise [k0_pay16]
  · refine Eq.trans (?_ : k0_pay17 (F := Ideal) (ix2 r d) = 0) (by simp [Cert.Mla.an])
    pointwise [k0_pay17]

/-- After the earlier blocks, -/
theorem st_at (i : ℕ) (r : Fin 512) : ∀ n ≤ i, IsAt (st v0 x1 x2 n) (sN v0 x1 i r) (fun d k => kvN x2 k d) r (512 * n)
  | 0, _ => st0_at _ _ r
  | n + 1, h => by
    refine step_at _ _ _ _ _ r (512 * n) (st_at i r n (by omega)) (fun c => ?_) fun c d => ?_
    · rw [pay1_at]
      simp only [kv_at]
      unfold sN
      rw [if_pos (by have := c.isLt; omega)]
      rfl
    · rw [pay19_at, kv_at]

/-- and after the row's own. -/
theorem fin_at (i : ℕ) (r : Fin 512) :
    IsAt (fin v0 x1 x2 i) (sN v0 x1 i r) (fun d k => kvN x2 k d) r (512 * i + 512) := by
  refine step_at _ _ _ _ _ r _ (st_at v0 x1 x2 i r i le_rfl) (fun c => ?_) fun c d => ?_
  · rw [pay18_at]
    simp only [kv_at]
    unfold sN
    exact if_congr (by omega) rfl rfl
  · rw [pay19_at, kv_at]

/-- What the block's rows are. -/
theorem block_at (i : ℕ) (r : Fin 512) (d : Fin 128) :
    k0_pay26 (F := Ideal) (fin v0 x1 x2 i).an (fin v0 x1 x2 i).ln (ix2 r d)
      = Ideal.div (Cert.Mla.an (sN v0 x1 i r) (fun k => kvN x2 k d) (512 * i + 512)) (Cert.Mla.ln (sN v0 x1 i r) (512 * i + 512)) := by
  rw [pay26_at, (fin_at v0 x1 x2 i r).ln, (fin_at v0 x1 x2 i r).an]

end Cert.Kernel11Ideal.Mla

end
-- ==== Proof.MlaRef.lean ====
/-
  The reference of the latent attention at an index, over the extended reals: its operations one by one (`Zr` the masked
  scores, `Mr` their maxima, `Er` the exponentials below these, `Pr` the normalized weights, `Or` the weighted sum of the
  values), then as sums over the keys.
-/
module

public import proofs.«01_k».proof.Proof.Gen.Reference11Ideal.Run
public import proofs.«01_k».proof.Proof.MlaMath
public import Idealize.ShloMosaic.Lib.Pointwise
public import Idealize.ShloMosaic.Lib.WordCmp

@[expose] public section

set_option maxRecDepth 16384

noncomputable section

namespace Cert.Reference11Ideal.Mla

open Cert.Reference11Ideal Cert.Reference11Ideal.Gen Idealize.ShloMosaic Idealize.ShloMosaic.TcCoe Idealize.SL.Sem

abbrev T := FVec Ideal S1x8x16384x16384 .f32

variable (Q K : FVec Ideal S16384x2048 .bf16) (V : FVec Ideal S16384x1024 .bf16)

def Qr : FVec Ideal S1x16384x8x256 .f32 :=
  shapeCast _ (extf .f32 Q bitsLt_bf16_f32) shapeCasts_S16384x2048_S1x16384x8x256
def Vr : FVec Ideal S1x16384x8x128 .f32 :=
  shapeCast _ (extf .f32 V bitsLt_bf16_f32) shapeCasts_S16384x1024_S1x16384x8x128

def past : IVec S1x8x16384x16384 1 :=
  broadcastInDim S1x8x16384x16384 ![2, 3] bcast_S16384x16384_S1x8x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

def Zr : T :=
  select past (Host.dotGeneral dot_S1x16384x8x256_S1x16384x8x256_S1x8x16384x16384_3_3_1_1_02_02 none (Qr Q) (Qr K))
    (broadcastInDim S1x8x16384x16384 ![] bcast_S_S1x8x16384x16384 (id (constant S_ .f32 0xFF800000#32)))

def bcr (x : FVec Ideal S1x8x16384 .f32) : T :=
  broadcastInDim S1x8x16384x16384 ![0, 1, 2, 3] bcast_S1x8x16384x1_S1x8x16384x16384_0_1_2_3
    (broadcastInDim S1x8x16384x1 ![0, 1, 2] bcast_S1x8x16384_S1x8x16384x1_0_1_2 x)

def Mr (z : T) : FVec Ideal S1x8x16384 .f32 :=
  maximumf (broadcastInDim S1x8x16384 ![] bcast_S_S1x8x16384 (constant S_ .f32 0xFF800000#32))
    (Host.reduce FloatOps.maximumf z (constant S_ .f32 0xFF800000#32) reducesTo_S1x8x16384x16384_S1x8x16384_d3 h_S_)

def Er (z : T) : T := Host.exp (subf z (bcr (Mr z)))

def Lr (e : T) : FVec Ideal S1x8x16384 .f32 :=
  Host.reduceAdd e (constant S_ .f32 0x00000000#32) reducesTo_S1x8x16384x16384_S1x8x16384_d3 h_S_

def Pr (e : T) : T := extf .f32 (truncf .bf16 (Host.divf e (bcr (Lr e))) bitsLt_bf16_f32) bitsLt_bf16_f32

def Or (v : FVec Ideal S1x16384x8x128 .f32) (p : T) : FVec Ideal S16384x1024 .bf16 :=
  truncf .bf16 (shapeCast _ (transpose S1x16384x8x128 [0, 3, 1, 2] (Host.dotGeneral dot_S1x16384x8x128_S1x8x16384x16384_S1x8x128x16384_1_3_3_2_02_01 none v p) transposes_S1x8x128x16384_S1x16384x8x128_0_3_1_2) shapeCasts_S1x16384x8x128_S16384x1024) bitsLt_bf16_f32

/-- The reference's result as a function of its arguments. -/
def REF : FVec Ideal S16384x1024 .bf16 := Or (Vr V) (Pr (Er (Zr Q K)))

theorem res_eq (m : (ℓ : Loc nD τ sig) → Buf (Elt Ideal) ℓ) (c : Dev nD) :
    Value.res_out0 m c = REF (m ((c.tc : Thread nD τ).loc main_arg0)) (m ((c.tc : Thread nD τ).loc main_arg1)) (m ((c.tc : Thread nD τ).loc main_arg2)) := rfl

theorem Q_at (q : Fin 16384) (h : Fin 8) (d : Fin 256) :
    Qr Q (ix4 (0 : Fin 1) q h d) = Q (ix2 q (⟨256 * h.val + d.val, by omega⟩ : Fin 2048)) := by
  pointwise [Qr]
  congr 2
  exact Fin.ext (by dsimp only; omega)

theorem V_at (k : Fin 16384) (h : Fin 8) (d : Fin 128) :
    Vr V (ix4 (0 : Fin 1) k h d) = V (ix2 k (⟨128 * h.val + d.val, by omega⟩ : Fin 1024)) := by
  pointwise [Vr]
  congr 2
  exact Fin.ext (by dsimp only; omega)

theorem Z_at (h : Fin 8) (q k : Fin 16384) :
    Zr Q K (ix4 (0 : Fin 1) h q k)
      = if k.val ≤ q.val then ∑ d : Fin 256, Qr Q (ix4 (0 : Fin 1) q h d) * Qr K (ix4 (0 : Fin 1) k h d) else ⊥ := by
  pointwise [Zr, past]
  rw [show (id (constant (F := Ideal) S_ .f32 0xFF800000#32) : FVec Ideal S_ .f32) ix0 = ⊥ from Cert.Mla.neg_inf]
  unfold Scalar.select
  have e : IntOp.cmpi .sle (BitVec.ofNat 32 k.val) (BitVec.ofNat 32 q.val) = 1#1 ↔ k.val ≤ q.val :=
    WordCmp.cmpi_sle_ofNat_eq_one_iff (w := 32) (lt_trans k.isLt (by norm_num)) (lt_trans q.isLt (by norm_num))
  by_cases hk : k.val ≤ q.val
  · rw [if_pos hk]; exact if_pos (e.2 hk)
  · rw [if_neg hk]; exact if_neg fun h => hk (e.1 h)

theorem red : S1x8x16384x16384.Reduces [3] S1x8x16384 := by decide

theorem max_fold {n : ℕ} (f : Fin n → EReal) (b : EReal) (hb : b = ⊥) :
    max b (Finset.fold (FloatOps.maximumf (F := Ideal) (φ := .f32)) b f Finset.univ) = Finset.fold max ⊥ f Finset.univ := by
  subst hb
  exact max_eq_right bot_le

theorem maximumf_at {s : Shape} (a b : FVec Ideal s .f32) (j : s.Idx) (u : EReal) (hu : a j = u) : maximumf a b j = max u (b j) := by
  subst hu
  rfl

theorem Mr_eq (z : T) (j : S1x8x16384.Idx) :
    Mr z j = max (Ideal.ofBits .f32 0xFF800000#32) (Host.reduce FloatOps.maximumf z (constant S_ .f32 0xFF800000#32) reducesTo_S1x8x16384x16384_S1x8x16384_d3 h_S_ j) := by
  unfold Mr
  exact maximumf_at _ _ j _ rfl

theorem M_at (z : T) (h : Fin 8) (q : Fin 16384) :
    Mr z (ix3 (0 : Fin 1) h q) = Finset.fold max ⊥ (fun k : Fin 16384 => z (ix4 (0 : Fin 1) h q k)) Finset.univ := by
  have hf : (z ∘ red.lift (ix3 (0 : Fin 1) h q)) = fun k : Fin 16384 => z (ix4 (0 : Fin 1) h q k) :=
    funext fun k => congrArg z (by funext c; apply Fin.ext; fin_cases c <;> rfl)
  rw [Mr_eq, Host.reduce_eq_fold_single FloatOps.maximumf z _ _ red, hf]
  exact max_fold (n := 16384) _ _ Cert.Mla.neg_inf

theorem E_at (z : T) (h : Fin 8) (q k : Fin 16384) :
    Er z (ix4 (0 : Fin 1) h q k) = Ideal.exp (z (ix4 (0 : Fin 1) h q k) - Mr z (ix3 (0 : Fin 1) h q)) := by
  pointwise [Er, bcr]

theorem L_at (e : T) (h : Fin 8) (q : Fin 16384) :
    Lr e (ix3 (0 : Fin 1) h q) = ∑ k : Fin 16384, e (ix4 (0 : Fin 1) h q k) := by
  pointwise [Lr]

theorem P_at (e : T) (h : Fin 8) (q k : Fin 16384) :
    Pr e (ix4 (0 : Fin 1) h q k) = Ideal.div (e (ix4 (0 : Fin 1) h q k)) (Lr e (ix3 (0 : Fin 1) h q)) := by
  pointwise [Pr, bcr]

theorem O_at (v : FVec Ideal S1x16384x8x128 .f32) (p : T) (q : Fin 16384) (h : Fin 8) (d : Fin 128) :
    Or v p (ix2 q (⟨128 * h.val + d.val, by omega⟩ : Fin 1024)) = ∑ k : Fin 16384, v (ix4 (0 : Fin 1) k h d) * p (ix4 (0 : Fin 1) h q k) := by
  pointwise [Or]

/-- The masked scores of a query of a head, by key. -/
def sR (h : Fin 8) (q : Fin 16384) (k : ℕ) : EReal :=
  if k ≤ q.val then ∑ d : Fin 256, Q (ix2 q ⟨256 * h.val + d.val, by omega⟩)
    * K (ix2 ⟨k % 16384, Nat.mod_lt _ (by norm_num)⟩ ⟨256 * h.val + d.val, by omega⟩) else ⊥

/-- The values of a head, by key. -/
def vR (h : Fin 8) (d : Fin 128) (k : ℕ) : EReal :=
  V (ix2 ⟨k % 16384, Nat.mod_lt _ (by norm_num)⟩ ⟨128 * h.val + d.val, by omega⟩)

theorem REF_at (q : Fin 16384) (h : Fin 8) (d : Fin 128) :
    REF Q K V (ix2 q ⟨128 * h.val + d.val, by omega⟩)
      = ∑ k ∈ Finset.range 16384, Ideal.div (Ideal.exp (sR Q K h q k - Cert.Mla.mx (sR Q K h q) 16384)) (Cert.Mla.ln (sR Q K h q) 16384)
          * vR V h d k := by
  have hz : ∀ k : Fin 16384, Zr Q K (ix4 (0 : Fin 1) h q k) = sR Q K h q k.val := by
    intro k
    rw [Z_at]
    unfold sR
    refine if_congr Iff.rfl (Finset.sum_congr rfl fun d _ => ?_) rfl
    rw [Q_at, Q_at]
    congr 3
    exact Fin.ext (Nat.mod_eq_of_lt k.isLt).symm
  have hm : Mr (Zr Q K) (ix3 (0 : Fin 1) h q) = Cert.Mla.mx (sR Q K h q) 16384 := by
    rw [M_at]
    simp only [hz]
    have := Cert.Mla.mx_step (sR Q K h q) 0 16384
    rw [show Cert.Mla.mx (sR Q K h q) 0 = ⊥ by simp [Cert.Mla.mx], max_eq_right bot_le] at this
    simpa only [Nat.zero_add] using this
  have he : ∀ k : Fin 16384, Er (Zr Q K) (ix4 (0 : Fin 1) h q k) = Ideal.exp (sR Q K h q k.val - Cert.Mla.mx (sR Q K h q) 16384) := fun k => by
    rw [E_at, hm, hz]
  have hl : Lr (Er (Zr Q K)) (ix3 (0 : Fin 1) h q) = Cert.Mla.ln (sR Q K h q) 16384 := by
    rw [L_at]
    simp only [he]
    exact Fin.sum_univ_eq_sum_range (fun k => Ideal.exp (sR Q K h q k - Cert.Mla.mx (sR Q K h q) 16384)) 16384
  unfold REF
  rw [O_at, ← Fin.sum_univ_eq_sum_range]
  refine Finset.sum_congr rfl fun k _ => ?_
  rw [P_at, hl, he, V_at, mul_comm]
  refine congrArg (Ideal.div (Ideal.exp (sR Q K h q k.val - Cert.Mla.mx (sR Q K h q) 16384)) (Cert.Mla.ln (sR Q K h q) 16384) * ·) ?_
  unfold vR
  exact congrArg V (congrArg (fun i : Fin 16384 => ix2 i (⟨128 * h.val + d.val, by omega⟩ : Fin 1024)) (Fin.ext (Nat.mod_eq_of_lt k.isLt).symm))

end Cert.Reference11Ideal.Mla

end
-- ==== Proof.MlaFinal.lean ====
/-
  The latent attention's output array: each block is written once, from the blocks of the arguments, and is the
  reference's result where the queries and the keys are numbers.
-/
module

public import proofs.«01_k».proof.Proof.Gen.Kernel11Ideal.Value
public import proofs.«01_k».proof.Proof.MlaAt
public import proofs.«01_k».proof.Proof.MlaRef
public import Idealize.ShloMosaic.Lib.Pipeline.ValueKit
public import Idealize.ShloMosaic.Lib.Pipeline.Covers
public import Idealize.ShloMosaic.Lib.Claim

@[expose] public section

noncomputable section

namespace Cert.Kernel11Ideal.Mla

open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- Where the windows lie at each point. -/
theorem idx : ∀ t : Fin cfg0.N, win0_0.index t = ![(grid0.coords t 1).val, (grid0.coords t 0).val]
    ∧ win0_1.index t = ![0, 0, (grid0.coords t 0).val] ∧ win0_2.index t = ![0, 0, (grid0.coords t 0).val]
    ∧ win0_3.index t = ![(grid0.coords t 1).val, (grid0.coords t 0).val] :=
  (by decide +kernel : ∀ t : Fin grid0.N, _)

/-- The argument arrays: the queries, the keys and the values. -/
abbrev argQ : FVec Ideal S16384x2048 .bf16 := m ((c : Thread nD τ).loc main_arg0)
abbrev argK : FVec Ideal S16384x2048 .bf16 := m ((c : Thread nD τ).loc main_arg1)
abbrev argV : FVec Ideal S16384x1024 .bf16 := m ((c : Thread nD τ).loc main_arg2)

theorem head_lt (t : Fin cfg0.N) : (grid0.coords t 0).val < 8 := (grid0.coords t 0).isLt
theorem blk_lt (t : Fin cfg0.N) : (grid0.coords t 1).val < 32 := (grid0.coords t 1).isLt

theorem q_blk (t : Fin cfg0.N) (r : Fin 512) (d : Fin 256) :
    (iblk m c 0 t : FVec Ideal S512x256 .bf16) (ix2 r d)
      = argQ m c (ix2 ⟨512 * (grid0.coords t 1).val + r.val, by have := blk_lt t; omega⟩
          ⟨256 * (grid0.coords t 0).val + d.val, by have := head_lt t; omega⟩) := by
  blk_point [iblk, V, idx t]

theorem k_blk (t : Fin cfg0.N) (b : Fin 32) (r : Fin 512) (d : Fin 256) :
    (iblk m c 1 t : FVec Ideal S32x512x256 .bf16) (ix3 b r d)
      = argK m c (ix2 ⟨512 * b.val + r.val, by omega⟩ ⟨256 * (grid0.coords t 0).val + d.val, by have := head_lt t; omega⟩) := by
  blk_point [iblk, idx t]

theorem v_blk (t : Fin cfg0.N) (b : Fin 32) (r : Fin 512) (d : Fin 128) :
    (iblk m c 2 t : FVec Ideal S32x512x128 .bf16) (ix3 b r d)
      = argV m c (ix2 ⟨512 * b.val + r.val, by omega⟩ ⟨128 * (grid0.coords t 0).val + d.val, by have := head_lt t; omega⟩) := by
  blk_point [iblk, idx t]

variable (hq : ∀ i, argQ m c i ≠ ⊤ ∧ argQ m c i ≠ ⊥) (hk : ∀ i, argK m c i ≠ ⊤ ∧ argK m c i ≠ ⊥)

include hq hk in
/-- What a grid point leaves in the output block, at a row and a column. -/
theorem point (t : Fin cfg0.N) (r : Fin 512) (d : Fin 128) :
    (outsAt0 m c t : FVec Ideal S512x128 .bf16) (ix2 r d)
      = Cert.Reference11Ideal.Mla.REF (argQ m c) (argK m c) (argV m c) (ix2 ⟨512 * (grid0.coords t 1).val + r.val, by have := blk_lt t; omega⟩
          ⟨128 * (grid0.coords t 0).val + d.val, by have := head_lt t; omega⟩) := by
  have hb := blk_lt t
  have hr := r.isLt
  have hs : sN (iblk m c 0 t) (iblk m c 1 t) (grid0.coords t 1).val r = Cert.Reference11Ideal.Mla.sR (argQ m c) (argK m c) (grid0.coords t 0)
      ⟨512 * (grid0.coords t 1).val + r.val, by omega⟩ := by
    funext k
    unfold sN zN Cert.Reference11Ideal.Mla.sR
    refine if_congr Iff.rfl (Finset.sum_congr rfl fun e _ => ?_) rfl
    rw [q_blk, kvN, k_blk]
    congr 3
    exact Fin.ext (by dsimp only; omega)
  have hv : (fun k => kvN (iblk m c 2 t) k d) = Cert.Reference11Ideal.Mla.vR (argV m c) (grid0.coords t 0) d := by
    funext k
    unfold Cert.Reference11Ideal.Mla.vR
    rw [kvN, v_blk]
    congr 2
    exact Fin.ext (by dsimp only; omega)
  have hf : ∀ k, k ≤ 512 * (grid0.coords t 1).val + r.val → Cert.Reference11Ideal.Mla.sR (argQ m c) (argK m c) (grid0.coords t 0)
      ⟨512 * (grid0.coords t 1).val + r.val, by omega⟩ k ≠ ⊤ ∧ Cert.Reference11Ideal.Mla.sR (argQ m c) (argK m c) (grid0.coords t 0)
      ⟨512 * (grid0.coords t 1).val + r.val, by omega⟩ k ≠ ⊥ := by
    intro k h
    unfold Cert.Reference11Ideal.Mla.sR
    rw [if_pos h]
    exact Cert.Mla.sum_mul_ne _ _ (fun d => hq _) fun d => hk _
  simp only [outsAt0]
  rw [run_block, block_at]
  refine Eq.trans ?_ (Cert.Reference11Ideal.Mla.REF_at (argQ m c) (argK m c) (argV m c) _ (grid0.coords t 0) d).symm
  rw [hs, hv]
  refine Cert.Mla.quot _ _ _ _ (by omega) (by omega) (fun k h => ?_) (hf 0 (by omega)).2 fun k _ => ?_
  · unfold Cert.Reference11Ideal.Mla.sR
    exact if_neg (by dsimp only; omega)
  · by_cases h : k ≤ 512 * (grid0.coords t 1).val + r.val
    · exact (hf k h).1
    · unfold Cert.Reference11Ideal.Mla.sR
      rw [if_neg h]
      exact bot_ne_top

include hq hk in
/-- The output array after the run is the reference's result. -/
theorem final : (dats m 0 c).arrAt 3 (cfgs 0).N = Cert.Reference11Ideal.Mla.REF (argQ m c) (argK m c) (argV m c) := by
  refine (dats m 0 c).arrAt_eq_of_covers 3 _ (by decide +kernel) fun t _ y => ?_
  blk_simp
  rw [after0_3]
  idx_vars y
  refine (point m c hq hk t _ _).trans ?_
  refine congrArg _ ?_
  blk_ext [idx t]

end Cert.Kernel11Ideal.Mla

end
-- ==== Proof.MlaPre.lean ====
/-
  The precondition read back: every entry of the queries and of the keys is a number.
-/
module

public import proofs.«01_k».proof.Proof.Gen.Pre_finite_scores
public import proofs.«01_k».proof.Proof.MlaMath
public import Idealize.ShloMosaic.Lib.ReduceAll
public import Idealize.ShloMosaic.Lib.Pointwise

@[expose] public section

noncomputable section

namespace Cert.Pre_finite_scores.Mla

open Cert.Pre_finite_scores Cert.Pre_finite_scores.Gen Idealize.ShloMosaic

theorem ne_of_abs_lt (x : EReal) (h : max x (-x) < ⊤) : x ≠ ⊤ ∧ x ≠ ⊥ := by
  refine ⟨fun e => ?_, fun e => ?_⟩
  · rw [e] at h; exact absurd (lt_of_le_of_lt (le_max_left _ _) h) (lt_irrefl _)
  · rw [e, EReal.neg_bot] at h; exact absurd (lt_of_le_of_lt (le_max_right _ _) h) (lt_irrefl _)

instance : Subsingleton S_.Idx := ⟨fun a b => funext fun i => i.elim0⟩

/-- Where every entry's size is below infinity, every entry is a number. -/
theorem all_at (x : FVec Ideal S16384x2048 .bf16)
    (e : Host.reduce IntOp.andi (cmpf .olt (Host.absf ((extf .f32 · Facts.bitsLt_bf16_f32) x : FVec Ideal S16384x2048 .f32))
      (broadcastInDim S16384x2048 ![] Facts.bcast_S_S16384x2048 (constant S_ .f32 0x7F800000#32))) (constantI S_ 1 1#1)
      Facts.reducesTo_S16384x2048_S_d0_1 Facts.h_S_ ix0 = 1#1) (i : S16384x2048.Idx) : x i ≠ ⊤ ∧ x i ≠ ⊥ := by
  have h : Ideal.cmp .olt (max (x i) (-x i)) (Ideal.ofBits .f32 0x7F800000#32) = 1#1 := Host.reduce_andi_all _ _ _ _ _ e i
  rw [Cert.Mla.pos_inf] at h
  refine ne_of_abs_lt (x i) ?_
  by_contra hn
  have : Ideal.cmp .olt (max (x i) (-x i)) ⊤ = 0#1 := by
    unfold Ideal.cmp
    dsimp only
    rw [decide_eq_false hn]; rfl
  rw [this] at h
  exact absurd h (by decide)

theorem finite (q k : FVec Ideal S16384x2048 .bf16) (v : FVec Ideal S16384x1024 .bf16)
    (h : fn (F := Ideal) q k v = fun _ => 1#1) : (∀ i, q i ≠ ⊤ ∧ q i ≠ ⊥) ∧ ∀ i, k i ≠ ⊤ ∧ k i ≠ ⊥ := by
  have h0 : IntOp.andi _ _ = 1#1 := congrFun h ix0
  obtain ⟨h1, h2⟩ := IntOp.andi_eq_one.1 h0
  exact ⟨all_at q h1, all_at k h2⟩

end Cert.Pre_finite_scores.Mla

end
-- ==== Proof.MlaClaim.lean ====
/-
  The latent attention: kernel and reference end with the same result over the extended reals, where the queries and the
  keys are numbers.
-/
module

public import proofs.«01_k».proof.Defs
public import proofs.«01_k».proof.Proof.Gen.Kernel11.Frame
public import proofs.«01_k».proof.Proof.MlaFinal
public import proofs.«01_k».proof.Proof.MlaPre
public import Idealize.ShloMosaic.Lib.Quiescent

@[expose] public section

noncomputable section

namespace Cert.Proof.MlaClaim

open Idealize.ShloMosaic Idealize.SL.Sem

/-- The reference terminates, leaves its arguments unchanged, and declares no semaphore. -/
theorem reference_frame : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- Over the extended reals kernel and reference compute the same function of such queries and keys. -/
theorem algebraic : Cert.algebraic_Kernel11Ideal_Reference11Ideal_pre_finite_scores := by
  intro m g m' g' hpre hagree
  refine ⟨fun c => Cert.Reference11Ideal.Mla.REF (Cert.Kernel11Ideal.Mla.argQ m c) (Cert.Kernel11Ideal.Mla.argK m c)
    (Cert.Kernel11Ideal.Mla.argV m c), ?_, ?_⟩
  · refine (θ_run Cert.Kernel11Ideal.defs _ _).mono (fun _ h c => ⟨(h c).1.trans ?_, (h c).2⟩)
      (Cert.Kernel11Ideal.Value.run_blocks (F := Ideal) m g)
    obtain ⟨hq, hk⟩ := Cert.Pre_finite_scores.Mla.finite _ _ _ (hpre c)
    exact Cert.Kernel11Ideal.Mla.final m c hq hk
  · refine (θ_run Cert.Reference11Ideal.defs _ _).mono (fun _ h c => ⟨(h c).1.trans ?_, (h c).2⟩)
      (Cert.Reference11Ideal.Value.run (F := Ideal) m' g')
    refine (Cert.Reference11Ideal.Mla.res_eq m' c).trans ?_
    obtain ⟨h0, h1, h2⟩ := hagree c
    rw [h0, h1, h2]

end Cert.Proof.MlaClaim

end
-- ==== Proof.XaMath.lean ====
/-
  The cross-attention of one row over the extended reals: the norms' factors (`rs`), the softmax of a row of scores times
  the values (`soft`), one head's output (`att`). The score's scale may stand before the sum or after it (`score_scale`).
-/
module

public import proofs.«01_k».proof.Proof.MlaMath

@[expose] public section

noncomputable section

namespace Cert.Xa

open Idealize.ShloMosaic

/-- The reciprocal root of a row's mean square, `n` as the float that divides. -/
def rs {k : ℕ} (n : EReal) (f : Fin k → EReal) : EReal :=
  Ideal.rsqrt (Ideal.div (∑ i, f i * f i) n + Ideal.ofBits .f32 0x358637BD#32)

/-- A row of scores' softmax, times the values. -/
def soft (s v : Fin 256 → EReal) : EReal :=
  ∑ m, Ideal.div (Ideal.exp (s m - Finset.fold max ⊥ s Finset.univ)) (∑ m', Ideal.exp (s m' - Finset.fold max ⊥ s Finset.univ)) * v m

/-- A head's row, normalized and scaled. -/
def nrm (x g : Fin 128 → EReal) (d : Fin 128) : EReal := x d * rs (Ideal.ofBits .f32 0x43000000#32) x * g d

/-- The scale of the scores. -/
def sc : EReal := Ideal.ofBits .f32 0x3DB504F3#32

/-- One head's output at a row: its query, the keys, the values at a column. -/
def att (q gq : Fin 128 → EReal) (k : Fin 256 → Fin 128 → EReal) (gk : Fin 128 → EReal) (v : Fin 256 → EReal) : EReal :=
  soft (fun m => (∑ d, nrm q gq d * nrm (k m) gk d) * sc) v

/-- The first norm of a row. -/
def hid (x g : Fin 4096 → EReal) (k : Fin 4096) : EReal := x k * rs (Ideal.ofBits .f32 0x45800000#32) x * g k

theorem sc_real : ∃ r : ℝ, 0 ≤ r ∧ sc = (r : EReal) := by
  refine ⟨_, ?_, by simp [sc, Ideal.ofBits, Ideal.ieee]; rfl⟩
  positivity

/-- The scale taken into the query before the product. -/
theorem score_scale {n : ℕ} (q g k : Fin n → EReal) (r : EReal) :
    ∑ d, q d * (r * sc) * g d * k d = (∑ d, q d * r * g d * k d) * sc := by
  obtain ⟨c, h0, hc⟩ := sc_real
  rw [hc, mul_comm (∑ d, q d * r * g d * k d), Cert.Mla.mul_sum _ _ (EReal.coe_nonneg.2 h0) (EReal.coe_ne_top c)]
  refine Finset.sum_congr rfl fun d _ => ?_
  rw [mul_comm r, ← mul_assoc (q d), mul_comm (q d) (c : EReal), mul_assoc (c : EReal), mul_assoc (c : EReal), mul_assoc (c : EReal)]

end Cert.Xa

end
-- ==== Proof.XaAt.lean ====
/-
  The body of the cross-attention at an index, over the extended reals. The four heads are the same function `head` of a
  slice of the queries, of a slice of the keys and of one of the values (`heads_eq`).
-/
module

public import proofs.«01_k».proof.Proof.Gen.Kernel12Ideal.Value
public import proofs.«01_k».proof.Proof.XaMath
public import Idealize.ShloMosaic.Lib.Pointwise
public import Idealize.ShloMosaic.Lib.Pipeline.ValueKit

@[expose] public section

set_option maxRecDepth 16384

noncomputable section

namespace Cert.Kernel12Ideal.Xa

open Cert.Kernel12Ideal Cert.Kernel12Ideal.Gen Idealize.ShloMosaic Idealize.ShloMosaic.TcCoe Idealize.SL.Sem

/-- The reciprocal roots of the rows' mean squares. -/
def rsv (x : FVec Ideal S256x128 .f32) : FVec Ideal S256x1 .f32 :=
  rsqrt (addf (divf (shapeCast S256x1 (multiReduction .add [1] S256 (mulf x x) 0x00000000#32 reduces_S256x128_S256 (.inl rfl) rfl) shapeCasts_S256_S256x1)
    (broadcast S256x1 (Scalar.ofBits .f32 0x43000000#32 : Ideal .f32))) (broadcast S256x1 (Scalar.ofBits .f32 0x358637BD#32 : Ideal .f32)))

/-- Rows times their factors and the columns' scales. -/
def nv (x : FVec Ideal S256x128 .f32) (r : FVec Ideal S256x1 .f32) (g : FVec Ideal S1x128 .f32) : FVec Ideal S256x128 .f32 :=
  mulf (mulf x (broadcastTo S256x128 r broadcasts_S256x1_S256x128))
    (broadcastTo S256x128 (shapeCast S1x128 g shapeCasts_S1x128_S1x128) broadcasts_S1x128_S256x128)

/-- The normalized and scaled queries. -/
def qv (x : FVec Ideal S256x128 .f32) (g : FVec Ideal S1x128 .f32) : FVec Ideal S256x128 .f32 :=
  nv x (mulf (rsv x) (broadcast S256x1 (Scalar.ofBits .f32 0x3DB504F3#32 : Ideal .f32))) g

def zv (q k : FVec Ideal S256x128 .f32) : FVec Ideal S256x256 .f32 :=
  matmul dot_S256x128_S256x128_S256x256_1_1_0_0_n_n none (truncf .bf16 q bitsLt_bf16_f32 : FVec Ideal S256x128 .bf16) (truncf .bf16 k bitsLt_bf16_f32 : FVec Ideal S256x128 .bf16)
    (constant S256x256 .f32 0x00000000#32)

def mv (z : FVec Ideal S256x256 .f32) : FVec Ideal S256x1 .f32 :=
  shapeCast S256x1 (multiReduction .maximumf [1] S256 z 0xFF800000#32 reduces_S256x256_S256 (.inl rfl) rfl) shapeCasts_S256_S256x1

def ev (z : FVec Ideal S256x256 .f32) : FVec Ideal S256x256 .f32 := exp (subf z (broadcastTo S256x256 (mv z) broadcasts_S256x1_S256x256))

def pv (e : FVec Ideal S256x256 .f32) : FVec Ideal S256x256 .f32 :=
  divf e (broadcastTo S256x256 (shapeCast S256x1 (multiReduction .add [1] S256 e 0x00000000#32 reduces_S256x256_S256 (.inl rfl) rfl) shapeCasts_S256_S256x1)
    broadcasts_S256x1_S256x256)

def ov (p : FVec Ideal S256x256 .f32) (v : FVec Ideal S256x128 .bf16) : FVec Ideal S256x128 .bf16 :=
  truncf .bf16 (matmul dot_S256x256_S256x128_S256x128_1_0_0_1_n_n none (truncf .bf16 p bitsLt_bf16_f32 : FVec Ideal S256x256 .bf16) v (constant S256x128 .f32 0x00000000#32)) bitsLt_bf16_f32

/-- One head: its rows' queries, the keys, the values. -/
def head (q : FVec Ideal S256x128 .f32) (gq : FVec Ideal S1x128 .f32) (k : FVec Ideal S256x128 .f32) (gk : FVec Ideal S1x128 .f32)
    (v : FVec Ideal S256x128 .bf16) : FVec Ideal S256x128 .bf16 :=
  ov (pv (ev (zv (qv q gq) (nv k (rsv k) gk)))) v

def cat4 (a0 a1 a2 a3 : FVec Ideal S256x128 .bf16) : FVec Ideal S256x512 .bf16 :=
  concatenate S256x512 1 [⟨S256x128, a0⟩, ⟨S256x128, a1⟩, ⟨S256x128, a2⟩, ⟨S256x128, a3⟩]
    concatenates_S256x128_S256x128_S256x128_S256x128_S256x512_d1

section
variable (x : FVec Ideal S256x4096 .f32) (g : FVec Ideal S1x4096 .f32) (w : FVec Ideal S4096x512 .bf16) (gq gk : FVec Ideal S1x128 .f32)
  (q : FVec Ideal S256x512 .f32) (k : FVec Ideal S256x128 .f32) (v a0 a1 a2 : FVec Ideal S256x128 .bf16)

def q0 : FVec Ideal S256x128 .f32 := extractStridedSlice S256x128 ![0, 0] q slices_S256x512_o0_0_S256x128
def q1 : FVec Ideal S256x128 .f32 := extractStridedSlice S256x128 ![0, 128] q slices_S256x512_o0_128_S256x128
def q2 : FVec Ideal S256x128 .f32 := extractStridedSlice S256x128 ![0, 256] q slices_S256x512_o0_256_S256x128
def q3 : FVec Ideal S256x128 .f32 := extractStridedSlice S256x128 ![0, 384] q slices_S256x512_o0_384_S256x128

theorem head0 : k0_pay5 (F := Ideal) (k0_pay3 x g w gq) k (k0_pay4 k) gk v = head (q0 (k0_pay2 x g w)) gq k gk v := rfl
theorem head1 : k0_pay7 (F := Ideal) (k0_pay6 q gq) k gk v = head (q1 q) gq k gk v := rfl
theorem head2 : k0_pay10 (F := Ideal) (k0_pay8 q) (k0_pay9 q) gq k gk v = head (q2 q) gq k gk v := rfl
theorem head3 : k0_pay13 (F := Ideal) a0 a1 a2 (k0_pay11 q) (k0_pay12 q) (Scalar.ofBits .f32 0x358637BD#32) gq k gk v
    = cat4 a0 a1 a2 (head (q3 q) gq k gk v) := rfl
end

theorem rsv_at (x : FVec Ideal S256x128 .f32) (r : Fin 256) :
    rsv x (ix2 r (0 : Fin 1)) = Cert.Xa.rs (Ideal.ofBits .f32 0x43000000#32) (fun d => x (ix2 r d)) := by
  pointwise [rsv]
  rfl

theorem nv_at (x : FVec Ideal S256x128 .f32) (y : FVec Ideal S256x1 .f32) (g : FVec Ideal S1x128 .f32) (r : Fin 256) (d : Fin 128) :
    nv x y g (ix2 r d) = x (ix2 r d) * y (ix2 r (0 : Fin 1)) * g (ix2 (0 : Fin 1) d) := by
  pointwise [nv]

theorem qv_at (x : FVec Ideal S256x128 .f32) (g : FVec Ideal S1x128 .f32) (r : Fin 256) (d : Fin 128) :
    qv x g (ix2 r d) = x (ix2 r d) * (Cert.Xa.rs (Ideal.ofBits .f32 0x43000000#32) (fun d => x (ix2 r d)) * Cert.Xa.sc) * g (ix2 (0 : Fin 1) d) := by
  unfold qv
  rw [nv_at, ← rsv_at]
  rfl

theorem zv_at (q k : FVec Ideal S256x128 .f32) (r m : Fin 256) : zv q k (ix2 r m) = ∑ d : Fin 128, q (ix2 r d) * k (ix2 m d) := by
  pointwise [zv]

theorem mv_at (z : FVec Ideal S256x256 .f32) (r : Fin 256) :
    mv z (ix2 r (0 : Fin 1)) = Finset.fold max ⊥ (fun m : Fin 256 => z (ix2 r m)) Finset.univ := by
  pointwise [mv]
  rw [Cert.Mla.neg_inf]

theorem ev_at (z : FVec Ideal S256x256 .f32) (r m : Fin 256) :
    ev z (ix2 r m) = Ideal.exp (z (ix2 r m) - mv z (ix2 r (0 : Fin 1))) := by
  pointwise [ev]

theorem pv_at (e : FVec Ideal S256x256 .f32) (r m : Fin 256) :
    pv e (ix2 r m) = Ideal.div (e (ix2 r m)) (∑ m' : Fin 256, e (ix2 r m')) := by
  pointwise [pv]

theorem ov_at (p : FVec Ideal S256x256 .f32) (v : FVec Ideal S256x128 .bf16) (r : Fin 256) (d : Fin 128) :
    ov p v (ix2 r d) = ∑ m : Fin 256, p (ix2 r m) * v (ix2 m d) := by
  pointwise [ov]

theorem head_at (q : FVec Ideal S256x128 .f32) (gq : FVec Ideal S1x128 .f32) (k : FVec Ideal S256x128 .f32) (gk : FVec Ideal S1x128 .f32)
    (v : FVec Ideal S256x128 .bf16) (r : Fin 256) (d : Fin 128) :
    head q gq k gk v (ix2 r d) = Cert.Xa.att (fun d => q (ix2 r d)) (fun d => gq (ix2 (0 : Fin 1) d)) (fun m d => k (ix2 m d))
      (fun d => gk (ix2 (0 : Fin 1) d)) (fun m => v (ix2 m d)) := by
  have hz : ∀ m : Fin 256, zv (qv q gq) (nv k (rsv k) gk) (ix2 r m)
      = (∑ d, Cert.Xa.nrm (fun d => q (ix2 r d)) (fun d => gq (ix2 (0 : Fin 1) d)) d
          * Cert.Xa.nrm (fun d => k (ix2 m d)) (fun d => gk (ix2 (0 : Fin 1) d)) d) * Cert.Xa.sc := by
    intro m
    rw [zv_at]
    simp only [qv_at, nv_at, rsv_at]
    exact Cert.Xa.score_scale _ _ _ _
  unfold head
  rw [ov_at]
  simp only [pv_at, ev_at, mv_at, hz]
  rfl

theorem cat4_at (a0 a1 a2 a3 : FVec Ideal S256x128 .bf16) (r : Fin 256) (f : Fin 4 → Fin 128 → EReal)
    (h0 : ∀ d, a0 (ix2 r d) = f 0 d) (h1 : ∀ d, a1 (ix2 r d) = f 1 d) (h2 : ∀ d, a2 (ix2 r d) = f 2 d) (h3 : ∀ d, a3 (ix2 r d) = f 3 d)
    (h : Fin 4) (d : Fin 128) : cat4 a0 a1 a2 a3 (ix2 r ⟨128 * h.val + d.val, by omega⟩) = f h d := by
  pointwise [cat4]
  simp only [h0, h1, h2, h3]
  split_ifs <;> exact congrArg₂ f (Fin.ext (by simp only [Fin.isValue, Fin.coe_ofNat_eq_mod]; omega)) (Fin.ext (by dsimp only; omega))

theorem pay2_at (x : FVec Ideal S256x4096 .f32) (g : FVec Ideal S1x4096 .f32) (w : FVec Ideal S4096x512 .bf16) (r : Fin 256) (j : Fin 512) :
    k0_pay2 (F := Ideal) x g w (ix2 r j)
      = ∑ k : Fin 4096, Cert.Xa.hid (fun k => x (ix2 r k)) (fun k => g (ix2 (0 : Fin 1) k)) k * w (ix2 k j) := by
  pointwise [k0_pay2]
  rfl

theorem pay1_at (x : FVec Ideal S256x4096 .f32) (o : FVec Ideal S256x512 .bf16) (w : FVec Ideal S512x4096 .bf16) (r : Fin 256) (j : Fin 4096) :
    k0_pay1 (F := Ideal) x o w (ix2 r j) = x (ix2 r j) + ∑ e : Fin 512, o (ix2 r e) * w (ix2 e j) := by
  pointwise [k0_pay1]

section
variable (q : FVec Ideal S256x512 .f32) (r : Fin 256) (d : Fin 128)
theorem q0_at : q0 q (ix2 r d) = q (ix2 r ⟨128 * (0 : Fin 4).val + d.val, by omega⟩) := by pointwise [q0]
theorem q1_at : q1 q (ix2 r d) = q (ix2 r ⟨128 * (1 : Fin 4).val + d.val, by omega⟩) := by pointwise [q1]
theorem q2_at : q2 q (ix2 r d) = q (ix2 r ⟨128 * (2 : Fin 4).val + d.val, by omega⟩) := by pointwise [q2]
theorem q3_at : q3 q (ix2 r d) = q (ix2 r ⟨128 * (3 : Fin 4).val + d.val, by omega⟩) := by pointwise [q3]
end

/-- A head's columns of a block read through the rectangle that starts at them. -/
theorem ld_at {e : EltTy} (h : Fin 4) (inb) (X : Vec Ideal S256x512 e) (r : Fin 256) (d : Fin 128) :
    (View.ld X (Rect.unit (s := S256x512) ![0, 128 * h.val] S256x128.size inb) : Vec Ideal S256x128 e) (ix2 r d)
      = X (ix2 r (⟨128 * h.val + d.val, by omega⟩ : Fin 512)) :=
  View.ld_unit_apply_of X ![0, 128 * h.val] S256x128.size inb (ix2 r d) (ix2 r (⟨128 * h.val + d.val, by omega⟩ : Fin 512))
    fun a => by fin_cases a <;> simp [ix2]

/-- Head `h`, its keys and values read at its columns. -/
theorem head_ld (h : Fin 4) (inb inb') (qh : FVec Ideal S256x128 .f32) (q : FVec Ideal S256x512 .f32) (gq : FVec Ideal S1x128 .f32)
    (kr : FVec Ideal S256x512 .f32) (gk : FVec Ideal S1x128 .f32) (v : FVec Ideal S256x512 .bf16) (r : Fin 256) (d : Fin 128)
    (hq : ∀ d : Fin 128, qh (ix2 r d) = q (ix2 r ⟨128 * h.val + d.val, by omega⟩)) :
    head qh gq (View.ld (Val := Elt Ideal) (e' := .f32) kr (Rect.unit (s := S256x512) ![0, 128 * h.val] S256x128.size inb)) gk
        (View.ld (Val := Elt Ideal) (e' := .bf16) v (Rect.unit (s := S256x512) ![0, 128 * h.val] S256x128.size inb')) (ix2 r d)
      = Cert.Xa.att (fun d => q (ix2 r ⟨128 * h.val + d.val, by omega⟩)) (fun d => gq (ix2 (0 : Fin 1) d))
          (fun m d => kr (ix2 m ⟨128 * h.val + d.val, by omega⟩)) (fun d => gk (ix2 (0 : Fin 1) d)) (fun m => v (ix2 m ⟨128 * h.val + d.val, by omega⟩)) := by
  rw [head_at]
  simp only [hq]
  exact congrArg₂ (fun a b => Cert.Xa.att _ _ a _ b) (funext fun m => funext fun d => ld_at (e := .f32) h _ kr m d)
    (funext fun m => ld_at (e := .bf16) h _ v m d)

end Cert.Kernel12Ideal.Xa

end
-- ==== Proof.XaRef.lean ====
/-
  The reference of the cross-attention at an index, over the extended reals: its operations one by one (`Hr` the normalized
  rows, `Qr` their queries by head, `Nq` and `Nk` the normalized queries and keys, `Zr` the scores, `Mr`, `Er`, `Pr` their
  softmax, `Or` the heads' outputs, `Yr` the projection added to the residual stream), then the row's cross-attention.
-/
module

public import proofs.«01_k».proof.Proof.Gen.Reference12Ideal.Run
public import proofs.«01_k».proof.Proof.XaMath
public import Idealize.ShloMosaic.Lib.Pointwise

@[expose] public section

set_option maxRecDepth 16384

noncomputable section

namespace Cert.Reference12Ideal.Xa

open Cert.Reference12Ideal Cert.Reference12Ideal.Gen Idealize.ShloMosaic Idealize.ShloMosaic.TcCoe Idealize.SL.Sem

abbrev T := FVec Ideal S4x16384x256 .f32

variable (x : FVec Ideal S16384x4096 .f32) (g : FVec Ideal S4096 .f32) (wq : FVec Ideal S4096x512 .f32) (gq gk : FVec Ideal S128 .f32)
  (kr : FVec Ideal S256x512 .f32) (v : FVec Ideal S256x512 .bf16) (wo : FVec Ideal S512x4096 .f32)

def Hr : FVec Ideal S16384x4096 .f32 :=
  mulf (mulf x (broadcastInDim S16384x4096 ![0, 1] bcast_S16384x1_S16384x4096_0_1 (Host.rsqrt (addf (Host.divf (broadcastInDim S16384x1 ![0] bcast_S16384_S16384x1_0 (Host.reduceAdd (mulf x x) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))

def Qr (h : FVec Ideal S16384x4096 .f32) : FVec Ideal S16384x4x128 .f32 :=
  shapeCast _ (Host.dotGeneral dot_S16384x4096_S4096x512_S16384x512_1_0_0_1_n_n none h wq) shapeCasts_S16384x512_S16384x4x128

def Nq (q : FVec Ideal S16384x4x128 .f32) : FVec Ideal S16384x4x128 .f32 :=
  mulf (mulf q (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf q q) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 gq))

def Kr : FVec Ideal S256x4x128 .f32 := shapeCast _ kr shapeCasts_S256x512_S256x4x128

def Nk (k : FVec Ideal S256x4x128 .f32) : FVec Ideal S256x4x128 .f32 :=
  mulf (mulf k (broadcastInDim S256x4x128 ![0, 1, 2] bcast_S256x4x1_S256x4x128_0_1_2 (Host.rsqrt (addf (Host.divf (broadcastInDim S256x4x1 ![0, 1] bcast_S256x4_S256x4x1_0_1 (Host.reduceAdd (mulf k k) (constant S_ .f32 0x00000000#32) reducesTo_S256x4x128_S256x4_d2 h_S_)) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![2] bcast_S128_S1x1x128_2 gk))

def Vr : FVec Ideal S256x4x128 .f32 := shapeCast _ (extf .f32 v bitsLt_bf16_f32) shapeCasts_S256x512_S256x4x128

def Zr (q : FVec Ideal S16384x4x128 .f32) (k : FVec Ideal S256x4x128 .f32) : T :=
  mulf (Host.dotGeneral dot_S16384x4x128_S256x4x128_S4x16384x256_2_2_0_0_1_1 none q k)
    (broadcastInDim S4x16384x256 ![] bcast_S_S4x16384x256 (constant S_ .f32 0x3DB504F3#32))

def bcr (y : FVec Ideal S4x16384 .f32) : T :=
  broadcastInDim S4x16384x256 ![0, 1, 2] bcast_S4x16384x1_S4x16384x256_0_1_2 (broadcastInDim S4x16384x1 ![0, 1] bcast_S4x16384_S4x16384x1_0_1 y)

def Mr (z : T) : FVec Ideal S4x16384 .f32 :=
  maximumf (broadcastInDim S4x16384 ![] bcast_S_S4x16384 (constant S_ .f32 0xFF800000#32))
    (Host.reduce FloatOps.maximumf z (constant S_ .f32 0xFF800000#32) reducesTo_S4x16384x256_S4x16384_d2 h_S_)

def Er (z : T) : T := Host.exp (subf z (bcr (Mr z)))

def Lr (e : T) : FVec Ideal S4x16384 .f32 := Host.reduceAdd e (constant S_ .f32 0x00000000#32) reducesTo_S4x16384x256_S4x16384_d2 h_S_

def Pr (e : T) : T := Host.divf e (bcr (Lr e))

def Or (v : FVec Ideal S256x4x128 .f32) (p : T) : FVec Ideal S16384x512 .f32 :=
  shapeCast _ (transpose S16384x4x128 [2, 0, 1] (Host.dotGeneral dot_S256x4x128_S4x16384x256_S4x128x16384_0_2_2_1_1_0 none v p) transposes_S4x128x16384_S16384x4x128_2_0_1) shapeCasts_S16384x4x128_S16384x512

def Yr (o : FVec Ideal S16384x512 .f32) : FVec Ideal S16384x4096 .f32 :=
  addf x (Host.dotGeneral dot_S16384x512_S512x4096_S16384x4096_1_0_0_1_n_n none o wo)

/-- The heads' outputs side by side. -/
def heads : FVec Ideal S16384x512 .f32 := Or (Vr v) (Pr (Er (Zr (Nq gq (Qr wq (Hr x g))) (Nk gk (Kr kr)))))

/-- The reference's result as a function of its arguments. -/
def REF : FVec Ideal S16384x4096 .f32 := Yr x wo (heads x g wq gq gk kr v)

theorem res_eq (m : (ℓ : Loc nD τ sig) → Buf (Elt Ideal) ℓ) (c : Dev nD) :
    Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5))
      (m ((c.tc : Thread nD τ).loc main_arg4)) (m ((c.tc : Thread nD τ).loc main_arg6)) (m ((c.tc : Thread nD τ).loc main_arg7)) := rfl

abbrev hcol (h : Fin 4) (d : Fin 128) : Fin 512 := ⟨128 * h.val + d.val, by omega⟩

theorem H_at (i : Fin 16384) (k : Fin 4096) :
    Hr x g (ix2 i k) = Cert.Xa.hid (fun k => x (ix2 i k)) (fun k => g (ix1 k)) k := by
  pointwise [Hr]
  rfl

theorem Q_at (y : FVec Ideal S16384x4096 .f32) (i : Fin 16384) (h : Fin 4) (d : Fin 128) :
    Qr wq y (ix3 i h d) = ∑ k : Fin 4096, y (ix2 i k) * wq (ix2 k (hcol h d)) := by
  pointwise [Qr]
  exact Finset.sum_congr rfl fun k _ => congrArg (fun j => y (ix2 i k) * wq (ix2 k j)) (Fin.ext (by dsimp only; omega))

theorem Nq_at (q : FVec Ideal S16384x4x128 .f32) (i : Fin 16384) (h : Fin 4) (d : Fin 128) :
    Nq gq q (ix3 i h d) = Cert.Xa.nrm (fun d => q (ix3 i h d)) (fun d => gq (ix1 d)) d := by
  pointwise [Nq]
  rfl

theorem Nk_at (k : FVec Ideal S256x4x128 .f32) (i : Fin 256) (h : Fin 4) (d : Fin 128) :
    Nk gk k (ix3 i h d) = Cert.Xa.nrm (fun d => k (ix3 i h d)) (fun d => gk (ix1 d)) d := by
  pointwise [Nk]
  rfl

theorem K_at (i : Fin 256) (h : Fin 4) (d : Fin 128) : Kr kr (ix3 i h d) = kr (ix2 i (hcol h d)) := by
  pointwise [Kr]
  exact congrArg (fun j => kr (ix2 i j)) (Fin.ext (by dsimp only; omega))

theorem V_at (i : Fin 256) (h : Fin 4) (d : Fin 128) : Vr v (ix3 i h d) = v (ix2 i (hcol h d)) := by
  pointwise [Vr]
  exact congrArg (fun j => v (ix2 i j)) (Fin.ext (by dsimp only; omega))

theorem Z_at (q : FVec Ideal S16384x4x128 .f32) (k : FVec Ideal S256x4x128 .f32) (h : Fin 4) (i : Fin 16384) (m : Fin 256) :
    Zr q k (ix3 h i m) = (∑ d : Fin 128, q (ix3 i h d) * k (ix3 m h d)) * Cert.Xa.sc := by
  pointwise [Zr]
  rfl

theorem red : S4x16384x256.Reduces [2] S4x16384 := by decide

theorem max_fold {n : ℕ} (f : Fin n → EReal) (b : EReal) (hb : b = ⊥) :
    max b (Finset.fold (FloatOps.maximumf (F := Ideal) (φ := .f32)) b f Finset.univ) = Finset.fold max ⊥ f Finset.univ := by
  subst hb
  exact max_eq_right bot_le

theorem maximumf_at {s : Shape} (a b : FVec Ideal s .f32) (j : s.Idx) (u : EReal) (hu : a j = u) : maximumf a b j = max u (b j) := by
  subst hu
  rfl

theorem Mr_eq (z : T) (j : S4x16384.Idx) :
    Mr z j = max (Ideal.ofBits .f32 0xFF800000#32) (Host.reduce FloatOps.maximumf z (constant S_ .f32 0xFF800000#32) reducesTo_S4x16384x256_S4x16384_d2 h_S_ j) := by
  unfold Mr
  exact maximumf_at _ _ j _ rfl

theorem M_at (z : T) (h : Fin 4) (i : Fin 16384) :
    Mr z (ix2 h i) = Finset.fold max ⊥ (fun m : Fin 256 => z (ix3 h i m)) Finset.univ := by
  have hf : (z ∘ red.lift (ix2 h i)) = fun m : Fin 256 => z (ix3 h i m) :=
    funext fun k => congrArg z (by funext c; apply Fin.ext; fin_cases c <;> rfl)
  rw [Mr_eq, Host.reduce_eq_fold_single FloatOps.maximumf z _ _ red, hf]
  exact max_fold (n := 256) _ _ Cert.Mla.neg_inf

theorem E_at (z : T) (h : Fin 4) (i : Fin 16384) (m : Fin 256) :
    Er z (ix3 h i m) = Ideal.exp (z (ix3 h i m) - Mr z (ix2 h i)) := by
  pointwise [Er, bcr]

theorem L_at (e : T) (h : Fin 4) (i : Fin 16384) : Lr e (ix2 h i) = ∑ m : Fin 256, e (ix3 h i m) := by
  pointwise [Lr]

theorem P_at (e : T) (h : Fin 4) (i : Fin 16384) (m : Fin 256) :
    Pr e (ix3 h i m) = Ideal.div (e (ix3 h i m)) (Lr e (ix2 h i)) := by
  pointwise [Pr, bcr]

theorem O_at (v : FVec Ideal S256x4x128 .f32) (p : T) (i : Fin 16384) (h : Fin 4) (d : Fin 128) :
    Or v p (ix2 i (⟨128 * h.val + d.val, by omega⟩ : Fin 512)) = ∑ m : Fin 256, v (ix3 m h d) * p (ix3 h i m) := by
  pointwise [Or]

theorem Y_at (o : FVec Ideal S16384x512 .f32) (i : Fin 16384) (j : Fin 4096) :
    Yr x wo o (ix2 i j) = x (ix2 i j) + ∑ e : Fin 512, o (ix2 i e) * wo (ix2 e j) := by
  pointwise [Yr]

/-- The softmax of the scores times the values, at a row, a head and a column. -/
theorem soft_at (v : FVec Ideal S256x4x128 .f32) (z : T) (i : Fin 16384) (h : Fin 4) (d : Fin 128) :
    Or v (Pr (Er z)) (ix2 i (hcol h d)) = Cert.Xa.soft (fun m => z (ix3 h i m)) (fun m => v (ix3 m h d)) := by
  rw [O_at]
  unfold Cert.Xa.soft
  refine Finset.sum_congr rfl fun m _ => ?_
  rw [P_at, L_at, mul_comm]
  simp only [E_at, M_at]

/-- The heads' outputs before the last projection. -/
theorem heads_at (i : Fin 16384) (h : Fin 4) (d : Fin 128) :
    heads x g wq gq gk kr v (ix2 i (hcol h d))
      = Cert.Xa.att (fun d => ∑ k : Fin 4096, Cert.Xa.hid (fun k => x (ix2 i k)) (fun k => g (ix1 k)) k * wq (ix2 k (hcol h d)))
          (fun d => gq (ix1 d)) (fun m d => kr (ix2 m (hcol h d))) (fun d => gk (ix1 d)) (fun m => v (ix2 m (hcol h d))) := by
  unfold heads
  rw [soft_at]
  simp only [Z_at, Nq_at, Nk_at, Q_at, H_at, K_at, V_at]
  rfl

end Cert.Reference12Ideal.Xa

end
-- ==== Proof.XaClaim.lean ====
/-
  The cross-attention of a block of rows from the body and the windows' blocks, and the claims about it: kernel and reference
  end with the same array over the extended reals.
-/
module

public import proofs.«01_k».proof.Defs
public import proofs.«01_k».proof.Proof.Gen.Kernel12.Frame
public import proofs.«01_k».proof.Proof.XaAt
public import proofs.«01_k».proof.Proof.XaRef
public import Idealize.ShloMosaic.Lib.Pipeline.Covers
public import Idealize.ShloMosaic.Lib.Claim
public import Idealize.ShloMosaic.Lib.Quiescent

@[expose] public section

set_option maxRecDepth 16384

noncomputable section

namespace Cert.Kernel12Ideal.Xa

open Cert.Kernel12Ideal Cert.Kernel12Ideal.Gen Idealize.ShloMosaic Idealize.ShloMosaic.TcCoe Idealize.SL.Sem

/-- The output block from the windows' blocks, at a row and a column. -/
theorem out_at (x : FVec Ideal S256x4096 .f32) (g : FVec Ideal S1x4096 .f32) (w : FVec Ideal S4096x512 .bf16) (gq : FVec Ideal S1x128 .f32)
    (kr : FVec Ideal S256x512 .f32) (gk : FVec Ideal S1x128 .f32) (v : FVec Ideal S256x512 .bf16) (wo : FVec Ideal S512x4096 .bf16)
    (r : Fin 256) (j : Fin 4096) (o : Fin 512 → EReal)
    (ho : ∀ (h : Fin 4) (d : Fin 128), Cert.Xa.att
        (fun d => ∑ k : Fin 4096, Cert.Xa.hid (fun k => x (ix2 r k)) (fun k => g (ix2 (0 : Fin 1) k)) k * w (ix2 k (⟨128 * h.val + d.val, by omega⟩ : Fin 512)))
        (fun d => gq (ix2 (0 : Fin 1) d)) (fun m d => kr (ix2 m (⟨128 * h.val + d.val, by omega⟩ : Fin 512))) (fun d => gk (ix2 (0 : Fin 1) d))
        (fun m => v (ix2 m (⟨128 * h.val + d.val, by omega⟩ : Fin 512))) = o ⟨128 * h.val + d.val, by omega⟩) :
    (out0_8 (F := Ideal) x g w gq kr gk v wo : FVec Ideal S256x4096 .f32) (ix2 r j) = x (ix2 r j) + ∑ e : Fin 512, o e * wo (ix2 e j) := by
  unfold_out out0_8
  frame_out
  rw [pay1_at]
  refine congrArg (x (ix2 r j) + ·) (Finset.sum_congr rfl fun e _ => congrArg (· * wo (ix2 e j)) ?_)
  obtain ⟨h, d, rfl⟩ : ∃ (h : Fin 4) (d : Fin 128), e = ⟨128 * h.val + d.val, by omega⟩ :=
    ⟨⟨e.val / 128, by omega⟩, ⟨e.val % 128, Nat.mod_lt _ (by norm_num)⟩, Fin.ext (by dsimp only; omega)⟩
  rw [head0, head1, head2, head3]
  simp only [← pay2_at] at ho
  exact cat4_at _ _ _ _ r (fun h d => o ⟨128 * h.val + d.val, by omega⟩)
    (fun d => (head_ld 0 _ _ _ (k0_pay2 x g w) gq kr gk v r d (q0_at _ r)).trans (ho 0 d))
    (fun d => (head_ld 1 _ _ _ (k0_pay2 x g w) gq kr gk v r d (q1_at _ r)).trans (ho 1 d))
    (fun d => (head_ld 2 _ _ _ (k0_pay2 x g w) gq kr gk v r d (q2_at _ r)).trans (ho 2 d))
    (fun d => (head_ld 3 _ _ _ (k0_pay2 x g w) gq kr gk v r d (q3_at _ r)).trans (ho 3 d)) h d

variable (m : (ℓ : Loc nD τ sig) → Buf (Elt Ideal) ℓ) (c : Dev nD)

/-- Where the windows lie at each point. -/
theorem idx : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![(grid0.coords t 0).val, 0] :=
  (by decide +kernel : ∀ t : Fin grid0.N, _)

abbrev arg0 : FVec Ideal S16384x4096 .f32 := m ((c : Thread nD τ).loc main_arg0)
abbrev arg1 : FVec Ideal S4096 .f32 := m ((c : Thread nD τ).loc main_arg1)
abbrev arg2 : FVec Ideal S4096x512 .f32 := m ((c : Thread nD τ).loc main_arg2)
abbrev arg3 : FVec Ideal S128 .f32 := m ((c : Thread nD τ).loc main_arg3)
abbrev arg4 : FVec Ideal S256x512 .f32 := m ((c : Thread nD τ).loc main_arg4)
abbrev arg5 : FVec Ideal S128 .f32 := m ((c : Thread nD τ).loc main_arg5)
abbrev arg6 : FVec Ideal S256x512 .bf16 := m ((c : Thread nD τ).loc main_arg6)
abbrev arg7 : FVec Ideal S512x4096 .f32 := m ((c : Thread nD τ).loc main_arg7)

theorem row_lt (t : Fin cfg0.N) : (grid0.coords t 0).val < 64 := (grid0.coords t 0).isLt

abbrev row (t : Fin cfg0.N) (r : Fin 256) : Fin 16384 := ⟨256 * (grid0.coords t 0).val + r.val, by have := row_lt t; omega⟩

abbrev hg : FVec Ideal S1x4096 .f32 := V m c main_v2
abbrev hwq : FVec Ideal S4096x512 .bf16 := V m c main_v0
abbrev hgq : FVec Ideal S1x128 .f32 := V m c main_v3
abbrev hgk : FVec Ideal S1x128 .f32 := V m c main_v4
abbrev hwo : FVec Ideal S512x4096 .bf16 := V m c main_v1

theorem hg_at (k : Fin 4096) : hg m c (ix2 (0 : Fin 1) k) = arg1 m c (ix1 k) := by
  unfold hg
  entry_read
  pointwise

theorem hwq_at (k : Fin 4096) (j : Fin 512) : hwq m c (ix2 k j) = arg2 m c (ix2 k j) := by
  unfold hwq
  entry_read
  pointwise

theorem hgq_at (d : Fin 128) : hgq m c (ix2 (0 : Fin 1) d) = arg3 m c (ix1 d) := by
  unfold hgq
  entry_read
  pointwise

theorem hgk_at (d : Fin 128) : hgk m c (ix2 (0 : Fin 1) d) = arg5 m c (ix1 d) := by
  unfold hgk
  entry_read
  pointwise

theorem hwo_at (e : Fin 512) (j : Fin 4096) : hwo m c (ix2 e j) = arg7 m c (ix2 e j) := by
  unfold hwo
  entry_read
  pointwise

section
variable (t : Fin cfg0.N)

theorem x_blk (r : Fin 256) (k : Fin 4096) :
    (iblk m c 0 t : FVec Ideal S256x4096 .f32) (ix2 r k) = arg0 m c (ix2 (row t r) k) := by blk_point [iblk, V, idx t]

theorem g_blk (k : Fin 4096) : (iblk m c 1 t : FVec Ideal S1x4096 .f32) (ix2 (0 : Fin 1) k) = arg1 m c (ix1 k) := by
  refine Eq.trans ?_ (hg_at m c k)
  blk_ext [iblk, idx t]

theorem wq_blk (k : Fin 4096) (j : Fin 512) : (iblk m c 2 t : FVec Ideal S4096x512 .bf16) (ix2 k j) = arg2 m c (ix2 k j) := by
  refine Eq.trans ?_ (hwq_at m c k j)
  blk_ext [iblk, idx t]

theorem gq_blk (d : Fin 128) : (iblk m c 3 t : FVec Ideal S1x128 .f32) (ix2 (0 : Fin 1) d) = arg3 m c (ix1 d) := by
  refine Eq.trans ?_ (hgq_at m c d)
  blk_ext [iblk, idx t]

theorem k_blk (i : Fin 256) (j : Fin 512) : (iblk m c 4 t : FVec Ideal S256x512 .f32) (ix2 i j) = arg4 m c (ix2 i j) := by
  blk_point [iblk, V, idx t]

theorem gk_blk (d : Fin 128) : (iblk m c 5 t : FVec Ideal S1x128 .f32) (ix2 (0 : Fin 1) d) = arg5 m c (ix1 d) := by
  refine Eq.trans ?_ (hgk_at m c d)
  blk_ext [iblk, idx t]

theorem v_blk (i : Fin 256) (j : Fin 512) : (iblk m c 6 t : FVec Ideal S256x512 .bf16) (ix2 i j) = arg6 m c (ix2 i j) := by
  blk_point [iblk, V, idx t]

theorem wo_blk (e : Fin 512) (j : Fin 4096) : (iblk m c 7 t : FVec Ideal S512x4096 .bf16) (ix2 e j) = arg7 m c (ix2 e j) := by
  refine Eq.trans ?_ (hwo_at m c e j)
  blk_ext [iblk, idx t]
end

/-- The reference's function of the kernel's arguments. -/
abbrev REF : FVec Ideal S16384x4096 .f32 :=
  Cert.Reference12Ideal.Xa.REF (arg0 m c) (arg1 m c) (arg2 m c) (arg3 m c) (arg5 m c) (arg4 m c) (arg6 m c) (arg7 m c)

/-- What a grid point leaves in the output block, at a row and a column. -/
theorem point (t : Fin cfg0.N) (r : Fin 256) (j : Fin 4096) :
    (out0_8 (iblk m c 0 t) (iblk m c 1 t) (iblk m c 2 t) (iblk m c 3 t) (iblk m c 4 t) (iblk m c 5 t) (iblk m c 6 t) (iblk m c 7 t)
      : FVec Ideal S256x4096 .f32) (ix2 r j) = REF m c (ix2 (row t r) j) := by
  unfold REF Cert.Reference12Ideal.Xa.REF
  rw [Cert.Reference12Ideal.Xa.Y_at]
  refine (out_at _ _ _ _ _ _ _ _ r j
    (fun e => Cert.Reference12Ideal.Xa.heads (arg0 m c) (arg1 m c) (arg2 m c) (arg3 m c) (arg5 m c) (arg4 m c) (arg6 m c) (ix2 (row t r) e))
    fun h d => Eq.trans ?_ (Cert.Reference12Ideal.Xa.heads_at _ _ _ _ _ _ _ (row t r) h d).symm).trans ?_
  · simp only [x_blk, g_blk, wq_blk, gq_blk, k_blk, gk_blk, v_blk]
  · simp only [x_blk, wo_blk]

/-- The output array after the run is the reference's result. -/
theorem final : (dats m 0 c).arrAt 8 (cfgs 0).N = REF m c := by
  refine (dats m 0 c).arrAt_eq_of_covers 8 _ (by decide +kernel) fun t _ y => ?_
  blk_simp
  rw [after0_8]
  idx_vars y
  refine (point m c t _ _).trans ?_
  refine congrArg _ ?_
  blk_ext [idx t]

end Cert.Kernel12Ideal.Xa

namespace Cert.Proof.XaClaim

open Idealize.ShloMosaic Idealize.SL.Sem

/-- The reference terminates, leaves its arguments unchanged, and declares no semaphore. -/
theorem reference_frame : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- Over the extended reals kernel and reference compute the same function. -/
theorem algebraic : Cert.algebraic_Kernel12Ideal_Reference12Ideal := by
  intro m g m' g' _ hagree
  refine ⟨fun c => Cert.Kernel12Ideal.Xa.REF m c, ?_, ?_⟩
  · exact (θ_run Cert.Kernel12Ideal.defs _ _).mono
      (fun _ h c => ⟨(h c).1.trans (Cert.Kernel12Ideal.Xa.final m c), (h c).2⟩) (Cert.Kernel12Ideal.Value.run_blocks (F := Ideal) m g)
  · refine (θ_run Cert.Reference12Ideal.defs _ _).mono (fun _ h c => ⟨(h c).1.trans ?_, (h c).2⟩)
      (Cert.Reference12Ideal.Value.run (F := Ideal) m' g')
    refine (Cert.Reference12Ideal.Xa.res_eq m' c).trans ?_
    obtain ⟨h0, h1, h2, h3, h4, h5, h6, h7⟩ := hagree c
    rw [h0, h1, h2, h3, h4, h5, h6, h7]

end Cert.Proof.XaClaim

end
-- ==== Proof.Norm.lean ====
/-
  The norm of the rows: kernel and reference end with the same array over the extended reals.
-/
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.XaMath
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference13Ideal.Norm

open Cert.Reference13Ideal Cert.Reference13Ideal.Gen Idealize.ShloMosaic Idealize.ShloMosaic.TcCoe Idealize.SL.Sem

variable (x : FVec Ideal S16384x4096 .f32) (g : FVec Ideal S4096 .f32)

/-- The reference's result as a function of its arguments. -/
def REF : FVec Ideal S16384x4096 .bf16 :=
  truncf .bf16 (mulf (mulf x (broadcastInDim S16384x4096 ![0, 1] bcast_S16384x1_S16384x4096_0_1 (Host.rsqrt (addf
    (Host.divf (broadcastInDim S16384x1 ![0] bcast_S16384_S16384x1_0
      (Host.reduceAdd (mulf x x) (constant S_ .f32 0x00000000#32) reducesTo_S16384x4096_S16384_d1 h_S_))
      (broadcastInDim S16384x1 ![] bcast_S_S16384x1 (constant S_ .f32 0x45800000#32)))
    (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 g)) : FVec Ideal S16384x4096 .f32)
    bitsLt_bf16_f32

theorem REF_at (i : Fin 16384) (j : Fin 4096) :
    REF x g (ix2 i j) = Cert.Xa.hid (fun k => x (ix2 i k)) (fun k => g (ix1 k)) j := by
  pointwise [REF]
  rfl

end Cert.Reference13Ideal.Norm

namespace Cert.Kernel13Ideal.Norm

open Cert.Kernel13Ideal Cert.Kernel13Ideal.Gen Idealize.ShloMosaic Idealize.ShloMosaic.TcCoe Idealize.SL.Sem

theorem pay_at (x : FVec Ideal S512x4096 .f32) (g : FVec Ideal S1x4096 .f32) (r : Fin 512) (j : Fin 4096) :
    k0_pay1 (F := Ideal) x g (ix2 r j) = Cert.Xa.hid (fun k => x (ix2 r k)) (fun k => g (ix2 (0 : Fin 1) k)) j := by
  pointwise [k0_pay1]
  rfl

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

abbrev arg0 : FVec Ideal S16384x4096 .f32 := m ((c : Thread nD τ).loc main_arg0)
abbrev arg1 : FVec Ideal S4096 .f32 := m ((c : Thread nD τ).loc main_arg1)

theorem row_lt (t : Fin cfg0.N) : (grid0.coords t 0).val < 32 := (grid0.coords t 0).isLt

abbrev row (t : Fin cfg0.N) (r : Fin 512) : Fin 16384 := ⟨512 * (grid0.coords t 0).val + r.val, by have := row_lt t; omega⟩

theorem x_blk (t : Fin cfg0.N) (r : Fin 512) (k : Fin 4096) :
    (iblk m c 0 t : FVec Ideal S512x4096 .f32) (ix2 r k) = arg0 m c (ix2 (row t r) k) := by blk_point [iblk, V, idx t]

/-- The scale as a row. -/
abbrev hg : FVec Ideal S1x4096 .f32 := V m c main_v0

theorem hg_at (k : Fin 4096) : hg m c (ix2 (0 : Fin 1) k) = arg1 m c (ix1 k) := by
  unfold hg
  entry_read
  pointwise

theorem g_blk (t : Fin cfg0.N) (k : Fin 4096) : (iblk m c 1 t : FVec Ideal S1x4096 .f32) (ix2 (0 : Fin 1) k) = arg1 m c (ix1 k) := by
  refine Eq.trans ?_ (hg_at m c k)
  blk_ext [iblk, idx t]

/-- What a grid point leaves in the output block, at a row and a column. -/
theorem point (t : Fin cfg0.N) (r : Fin 512) (j : Fin 4096) :
    (out0_2 (iblk m c 0 t) (iblk m c 1 t) : FVec Ideal S512x4096 .bf16) (ix2 r j)
      = Cert.Reference13Ideal.Norm.REF (arg0 m c) (arg1 m c) (ix2 (row t r) j) := by
  frame_out
  rw [pay_at, Cert.Reference13Ideal.Norm.REF_at]
  simp only [x_blk, g_blk]

/-- The output array after the run is the reference's result. -/
theorem final : (dats m 0 c).arrAt 2 (cfgs 0).N = Cert.Reference13Ideal.Norm.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel13Ideal.Norm

namespace Cert.Proof.Norm

open Idealize.ShloMosaic Idealize.SL.Sem

theorem reference_frame : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- Over the extended reals kernel and reference compute the same function. -/
theorem algebraic : Cert.algebraic_Kernel13Ideal_Reference13Ideal := by
  intro m g m' g' _ hagree
  refine ⟨fun c => Cert.Reference13Ideal.Norm.REF (Cert.Kernel13Ideal.Norm.arg0 m c) (Cert.Kernel13Ideal.Norm.arg1 m c), ?_, ?_⟩
  · exact (θ_run Cert.Kernel13Ideal.defs _ _).mono
      (fun _ h c => ⟨(h c).1.trans (Cert.Kernel13Ideal.Norm.final m c), (h c).2⟩) (Cert.Kernel13Ideal.Value.run_blocks (F := Ideal) m g)
  · refine (θ_run Cert.Reference13Ideal.defs _ _).mono (fun _ h c => ⟨(h c).1.trans ?_, (h c).2⟩)
      (Cert.Reference13Ideal.Value.run (F := Ideal) m' g')
    rw [(hagree c).1, (hagree c).2]
    rfl

end Cert.Proof.Norm

end
-- ==== Proof.ProjIdx.lean ====
/-
  The indexer's columns of the input projection, each part padded: kernel and reference end with the same array over the extended reals.
-/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference14Ideal.Proj

open Cert.Reference14Ideal Cert.Reference14Ideal.Gen Idealize.ShloMosaic Idealize.ShloMosaic.TcCoe Idealize.SL.Sem

/-- The layout of the columns: queries and key (576 columns), 64 zeros, the heads' weights (8), 120 zeros. -/
def lay (f : Fin 9224 → EReal) (j : Fin 768) : EReal :=
  if h : j.val < 576 then f ⟨8640 + j.val, by omega⟩
  else if h' : 640 ≤ j.val ∧ j.val < 648 then f ⟨9216 + (j.val - 640), by omega⟩ else 0

/-- The layout of products is the product with the layout. -/
theorem sum_lay {n : ℕ} (a : Fin n → EReal) (w : Fin n → Fin 9224 → EReal) (j : Fin 768) :
    ∑ k, a k * lay (w k) j = lay (fun q => ∑ k, a k * w k q) j := by
  unfold lay
  split_ifs <;> simp

/-- The layout as two padded pieces. -/
theorem lay_pad (f : Fin 9224 → EReal) {z : EReal} (hz : z = 0) (j : Fin 768) :
    (if h : j.val < 640 then if h' : j.val < 576 then f ⟨8640 + j.val, by omega⟩ else z
      else if h' : j.val - 640 < 8 then f ⟨9216 + (j.val - 640), by omega⟩ else z) = lay f j := by
  unfold lay
  subst hz
  split_ifs <;> first | rfl | omega

/-- The layout as four pieces side by side. -/
theorem lay_cat (f : Fin 9224 → EReal) (j : Fin 768) :
    (if h : j.val < 576 then f ⟨8640 + j.val, by omega⟩
      else if h' : j.val - 576 < 64 then 0 else if h'' : j.val - 576 - 64 < 8 then f ⟨9216 + (j.val - 576 - 64), by omega⟩ else 0) = lay f j := by
  unfold lay
  split_ifs <;> first | rfl | omega | exact congrArg f (Fin.ext (by dsimp only; omega))

variable (a : FVec Ideal S16384x4096 .bf16) (w : FVec Ideal S4096x9224 .f32)

/-- The reference's result as a function of its arguments. -/
def REF : FVec Ideal S16384x768 .f32 :=
  concatenate S16384x768 1 [⟨S16384x640, (pad S16384x640 ![0, 0] ![0, 64] ![0, 0] (extractStridedSlice S16384x576 ![0, 8640]
      (Host.dotGeneral dot_S16384x4096_S4096x9224_S16384x9224_1_0_0_1_n_n none (extf .f32 a bitsLt_bf16_f32) w)
      slices_S16384x9224_S16384x576_0_8640 : FVec Ideal S16384x576 .f32)
      (sitofp .f32 (constantI S_ 32 0#32) : FVec Ideal S_ .f32) pads_S16384x576_S16384x640_000_0640 h_S_)⟩,
    ⟨S16384x128, (pad S16384x128 ![0, 0] ![0, 120] ![0, 0] (extractStridedSlice S16384x8 ![0, 9216]
      (Host.dotGeneral dot_S16384x4096_S4096x9224_S16384x9224_1_0_0_1_n_n none (extf .f32 a bitsLt_bf16_f32) w)
      slices_S16384x9224_S16384x8_0_9216 : FVec Ideal S16384x8 .f32)
      (sitofp .f32 (constantI S_ 32 0#32) : FVec Ideal S_ .f32) pads_S16384x8_S16384x128_000_01200 h_S_)⟩]
    concatenates_S16384x640_S16384x128_S16384x768_d1

theorem zero_int : (((0#32 : BitVec 32).toInt : ℝ) : EReal) = 0 := by simp

theorem REF_at (i : Fin 16384) (j : Fin 768) :
    REF a w (ix2 i j) = lay (fun q => ∑ k : Fin 4096, a (ix2 i k) * w (ix2 k q)) j := by
  pointwise [REF]
  exact lay_pad (fun q => ∑ k : Fin 4096, a (ix2 i k) * w (ix2 k q)) zero_int j

end Cert.Reference14Ideal.Proj

namespace Cert.Kernel14Ideal.Proj

open Cert.Kernel14Ideal Cert.Kernel14Ideal.Gen Idealize.ShloMosaic Idealize.ShloMosaic.TcCoe Idealize.SL.Sem

theorem pay_at (a : FVec Ideal S1024x4096 .bf16) (w : FVec Ideal S4096x256 .bf16) (r : Fin 1024) (d : Fin 256) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x4096 .bf16 := m ((c : Thread nD τ).loc main_arg0)
abbrev arg1 : FVec Ideal S4096x9224 .f32 := m ((c : Thread nD τ).loc main_arg1)

theorem row_lt (t : Fin cfg0.N) : (grid0.coords t 0).val < 16 := (grid0.coords t 0).isLt
theorem col_lt (t : Fin cfg0.N) : (grid0.coords t 1).val < 3 := (grid0.coords t 1).isLt

abbrev row (t : Fin cfg0.N) (r : Fin 1024) : Fin 16384 := ⟨1024 * (grid0.coords t 0).val + r.val, by have := row_lt t; omega⟩
abbrev col (t : Fin cfg0.N) (d : Fin 256) : Fin 768 := ⟨256 * (grid0.coords t 1).val + d.val, by have := col_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]

/-- The weight the kernel reads: the pieces side by side. -/
abbrev wt : FVec Ideal S4096x768 .bf16 := V m c main_v15

/-- The last host operations put the pieces side by side. -/
theorem last (σ : Valuation τ sig (Elt Ideal)) : StableHlo.after (hostOps0.drop 13) σ main_v15
    = (truncf .bf16 (concatenate S4096x768 1 [⟨S4096x576, (σ main_v6 : FVec Ideal S4096x576 .f32)⟩, ⟨S4096x64, (σ main_v7 : FVec Ideal S4096x64 .f32)⟩,
        ⟨S4096x8, (σ main_v8 : FVec Ideal S4096x8 .f32)⟩, ⟨S4096x120, (σ main_v9 : FVec Ideal S4096x120 .f32)⟩]
        concatenates_S4096x576_S4096x64_S4096x8_S4096x120_S4096x768_d1 : FVec Ideal S4096x768 .f32) bitsLt_bf16_f32 : FVec Ideal S4096x768 .bf16) := by
  simp only [hostOps0, List.drop]
  after_results_simp
  rfl

theorem wt_at (k : Fin 4096) (j : Fin 768) :
    wt m c (ix2 k j) = Cert.Reference14Ideal.Proj.lay (fun q => arg1 m c (ix2 k q)) j := by
  refine (congrFun (last (fun b => StableHlo.after (hostOps0.take 13) (fun b => m (c, b)) b)) (ix2 k j)).trans ?_
  simp only [hostOps0, List.take]
  entry_read
  pointwise
  exact Cert.Reference14Ideal.Proj.lay_cat (fun q => arg1 m c (ix2 k q)) j

theorem w_blk (t : Fin cfg0.N) (k : Fin 4096) (d : Fin 256) :
    (iblk m c 1 t : FVec Ideal S4096x256 .bf16) (ix2 k d) = Cert.Reference14Ideal.Proj.lay (fun q => arg1 m c (ix2 k q)) (col t d) := by
  refine Eq.trans ?_ (wt_at m c k (col t d))
  blk_ext [iblk, idx t]

/-- What a grid point leaves in the output block, at a row and a column. -/
theorem point (t : Fin cfg0.N) (r : Fin 1024) (d : Fin 256) :
    (out0_2 (iblk m c 0 t) (iblk m c 1 t) : FVec Ideal S1024x256 .f32) (ix2 r d)
      = Cert.Reference14Ideal.Proj.REF (arg0 m c) (arg1 m c) (ix2 (row t r) (col t d)) := by
  frame_out
  rw [pay_at, Cert.Reference14Ideal.Proj.REF_at, ← Cert.Reference14Ideal.Proj.sum_lay]
  simp only [a_blk, w_blk]

/-- The output array after the run is the reference's result. -/
theorem final : (dats m 0 c).arrAt 2 (cfgs 0).N = Cert.Reference14Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel14Ideal.Proj

namespace Cert.Proof.ProjIdx

open Idealize.ShloMosaic Idealize.SL.Sem

theorem reference_frame : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- Over the extended reals kernel and reference compute the same function. -/
theorem algebraic : Cert.algebraic_Kernel14Ideal_Reference14Ideal := by
  intro m g m' g' _ hagree
  refine ⟨fun c => Cert.Reference14Ideal.Proj.REF (Cert.Kernel14Ideal.Proj.arg0 m c) (Cert.Kernel14Ideal.Proj.arg1 m c), ?_, ?_⟩
  · exact (θ_run Cert.Kernel14Ideal.defs _ _).mono
      (fun _ h c => ⟨(h c).1.trans (Cert.Kernel14Ideal.Proj.final m c), (h c).2⟩) (Cert.Kernel14Ideal.Value.run_blocks (F := Ideal) m g)
  · refine (θ_run Cert.Reference14Ideal.defs _ _).mono (fun _ h c => ⟨(h c).1.trans ?_, (h c).2⟩)
      (Cert.Reference14Ideal.Value.run (F := Ideal) m' g')
    rw [(hagree c).1, (hagree c).2]
    rfl

end Cert.Proof.ProjIdx

end
-- ==== Proof.ProjGate.lean ====
/-
  The gate latents: kernel and reference end with the same array over the extended reals.
-/
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference15Ideal.Proj

open Cert.Reference15Ideal Cert.Reference15Ideal.Gen Idealize.ShloMosaic Idealize.ShloMosaic.TcCoe Idealize.SL.Sem

variable (a : FVec Ideal S16384x4096 .bf16) (w : FVec Ideal S4096x256 .f32)

/-- The reference's result as a function of its arguments. -/
def REF : FVec Ideal S16384x256 .bf16 :=
  truncf .bf16 (Host.dotGeneral dot_S16384x4096_S4096x256_S16384x256_1_0_0_1_n_n none (extf .f32 a bitsLt_bf16_f32) w : FVec Ideal S16384x256 .f32)
    bitsLt_bf16_f32

theorem REF_at (i : Fin 16384) (j : Fin 256) : REF a w (ix2 i j) = ∑ k : Fin 4096, a (ix2 i k) * w (ix2 k j) := by
  pointwise [REF]

end Cert.Reference15Ideal.Proj

namespace Cert.Kernel15Ideal.Proj

open Cert.Kernel15Ideal Cert.Kernel15Ideal.Gen Idealize.ShloMosaic Idealize.ShloMosaic.TcCoe Idealize.SL.Sem

theorem pay_at (a : FVec Ideal S1024x4096 .bf16) (w : FVec Ideal S4096x256 .bf16) (r : Fin 1024) (d : Fin 256) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- Where the windows lie at each point: the 256 columns are one block. -/
theorem idx : ∀ t : Fin cfg0.N, win0_0.index t = ![(grid0.coords t 0).val, 0]
    ∧ win0_1.index t = ![0, 0] ∧ win0_2.index t = ![(grid0.coords t 0).val, 0] :=
  (by decide +kernel : ∀ t : Fin grid0.N, _)

abbrev arg0 : FVec Ideal S16384x4096 .bf16 := m ((c : Thread nD τ).loc main_arg0)
abbrev arg1 : FVec Ideal S4096x256 .f32 := m ((c : Thread nD τ).loc main_arg1)

theorem row_lt (t : Fin cfg0.N) : (grid0.coords t 0).val < 16 := (grid0.coords t 0).isLt

abbrev row (t : Fin cfg0.N) (r : Fin 1024) : Fin 16384 := ⟨1024 * (grid0.coords t 0).val + r.val, by have := row_lt t; omega⟩

theorem a_blk (t : Fin cfg0.N) (r : Fin 1024) (k : Fin 4096) :
    (iblk m c 0 t : FVec Ideal S1024x4096 .bf16) (ix2 r k) = arg0 m c (ix2 (row t r) k) := by blk_point [iblk, V, idx t]
theorem w_blk (t : Fin cfg0.N) (k : Fin 4096) (d : Fin 256) :
    (iblk m c 1 t : FVec Ideal S4096x256 .bf16) (ix2 k d) = arg1 m c (ix2 k d) := by
  blk_point [iblk, idx t]

/-- What a grid point leaves in the output block, at a row and a column. -/
theorem point (t : Fin cfg0.N) (r : Fin 1024) (d : Fin 256) :
    (out0_2 (iblk m c 0 t) (iblk m c 1 t) : FVec Ideal S1024x256 .bf16) (ix2 r d)
      = Cert.Reference15Ideal.Proj.REF (arg0 m c) (arg1 m c) (ix2 (row t r) d) := by
  frame_out
  rw [pay_at, Cert.Reference15Ideal.Proj.REF_at]
  simp only [a_blk, w_blk]

/-- The output array after the run is the reference's result. -/
theorem final : (dats m 0 c).arrAt 2 (cfgs 0).N = Cert.Reference15Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel15Ideal.Proj

namespace Cert.Proof.ProjGate

open Idealize.ShloMosaic Idealize.SL.Sem

theorem reference_frame : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- Over the extended reals kernel and reference compute the same function. -/
theorem algebraic : Cert.algebraic_Kernel15Ideal_Reference15Ideal := by
  intro m g m' g' _ hagree
  refine ⟨fun c => Cert.Reference15Ideal.Proj.REF (Cert.Kernel15Ideal.Proj.arg0 m c) (Cert.Kernel15Ideal.Proj.arg1 m c), ?_, ?_⟩
  · exact (θ_run Cert.Kernel15Ideal.defs _ _).mono
      (fun _ h c => ⟨(h c).1.trans (Cert.Kernel15Ideal.Proj.final m c), (h c).2⟩) (Cert.Kernel15Ideal.Value.run_blocks (F := Ideal) m g)
  · refine (θ_run Cert.Reference15Ideal.defs _ _).mono (fun _ h c => ⟨(h c).1.trans ?_, (h c).2⟩)
      (Cert.Reference15Ideal.Value.run (F := Ideal) m' g')
    rw [(hagree c).1, (hagree c).2]
    rfl

end Cert.Proof.ProjGate

end
-- ==== Proof.UpQ.lean ====
/-
  The latent mixer's queries from their normed latents, each head's 192 channels padded to 256: kernel and reference end with
  the same array over the extended reals.
-/
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference16Ideal.Up

open Cert.Reference16Ideal Cert.Reference16Ideal.Gen Idealize.ShloMosaic Idealize.ShloMosaic.TcCoe Idealize.SL.Sem

/-- The layout of the columns: each head's 192 channels, then 64 zeros. -/
def lay (f : Fin 1536 → EReal) (j : Fin 2048) : EReal :=
  if h : j.val % 256 < 192 then f ⟨192 * (j.val / 256) + j.val % 256, by omega⟩ else 0

/-- The layout of products is the product with the layout. -/
theorem sum_lay {n : ℕ} (a : Fin n → EReal) (w : Fin n → Fin 1536 → EReal) (j : Fin 2048) :
    ∑ k, a k * lay (w k) j = lay (fun q => ∑ k, a k * w k q) j := by
  unfold lay
  split_ifs <;> simp

variable (a : FVec Ideal S16384x896 .bf16) (w : FVec Ideal S896x1536 .f32)

/-- The reference's result as a function of its arguments. -/
def REF : FVec Ideal S16384x2048 .f32 :=
  shapeCast _ (pad S16384x8x256 ![0, 0, 0] ![0, 0, 64] ![0, 0, 0] (shapeCast _
    (Host.dotGeneral dot_S16384x896_S896x1536_S16384x1536_1_0_0_1_n_n none (extf .f32 a bitsLt_bf16_f32) w : FVec Ideal S16384x1536 .f32)
    shapeCasts_S16384x1536_S16384x8x192 : FVec Ideal S16384x8x192 .f32) (sitofp .f32 (constantI S_ 32 0#32) : FVec Ideal S_ .f32)
    pads_S16384x8x192_S16384x8x256_000_000_0640 h_S_ : FVec Ideal S16384x8x256 .f32) shapeCasts_S16384x8x256_S16384x2048

theorem zero_int : (((0#32 : BitVec 32).toInt : ℝ) : EReal) = 0 := by simp

theorem REF_at (i : Fin 16384) (j : Fin 2048) :
    REF a w (ix2 i j) = lay (fun q => ∑ k : Fin 896, a (ix2 i k) * w (ix2 k q)) j := by
  unfold lay
  pointwise [REF]
  by_cases h : j.val % 256 < 192
  · rw [dif_pos h, dif_pos ⟨by omega, h⟩]
    exact congrArg (fun q => ∑ k : Fin 896, a (ix2 i k) * w (ix2 k q)) (Fin.ext (by dsimp only; omega))
  · rw [dif_neg h, dif_neg fun h' => h h'.2]
    exact zero_int

end Cert.Reference16Ideal.Up

namespace Cert.Kernel16Ideal.Up

open Cert.Kernel16Ideal Cert.Kernel16Ideal.Gen Idealize.ShloMosaic Idealize.ShloMosaic.TcCoe Idealize.SL.Sem

theorem pay_at (a : FVec Ideal S1024x896 .bf16) (w : FVec Ideal S896x512 .bf16) (r : Fin 1024) (d : Fin 512) :
    k0_pay1 (F := Ideal) a w (ix2 r d) = ∑ k : Fin 896, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x896 .bf16 := m ((c : Thread nD τ).loc main_arg0)
abbrev arg1 : FVec Ideal S896x1536 .f32 := m ((c : Thread nD τ).loc main_arg1)

theorem row_lt (t : Fin cfg0.N) : (grid0.coords t 0).val < 16 := (grid0.coords t 0).isLt
theorem col_lt (t : Fin cfg0.N) : (grid0.coords t 1).val < 4 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 2048 := ⟨512 * (grid0.coords t 1).val + d.val, by have := col_lt t; omega⟩

theorem a_blk (t : Fin cfg0.N) (r : Fin 1024) (k : Fin 896) :
    (iblk m c 0 t : FVec Ideal S1024x896 .bf16) (ix2 r k) = arg0 m c (ix2 (row t r) k) := by blk_point [iblk, V, idx t]

/-- The weight the kernel reads: the heads' columns in the layout. -/
abbrev wt : FVec Ideal S896x2048 .bf16 := V m c main_v10

theorem wt_at (k : Fin 896) (j : Fin 2048) :
    wt m c (ix2 k j) = Cert.Reference16Ideal.Up.lay (fun q => arg1 m c (ix2 k q)) j := by
  unfold wt Cert.Reference16Ideal.Up.lay
  entry_read
  pointwise
  exact dite_congr rfl (fun h => congrArg (fun q => arg1 m c (ix2 k q)) (Fin.ext (by dsimp only; omega))) fun _ => rfl

theorem w_blk (t : Fin cfg0.N) (k : Fin 896) (d : Fin 512) :
    (iblk m c 1 t : FVec Ideal S896x512 .bf16) (ix2 k d) = Cert.Reference16Ideal.Up.lay (fun q => arg1 m c (ix2 k q)) (col t d) := by
  refine Eq.trans ?_ (wt_at m c k (col t d))
  blk_ext [iblk, idx t]

/-- What a grid point leaves in the output block, at a row and a column. -/
theorem point (t : Fin cfg0.N) (r : Fin 1024) (d : Fin 512) :
    (out0_2 (iblk m c 0 t) (iblk m c 1 t) : FVec Ideal S1024x512 .f32) (ix2 r d)
      = Cert.Reference16Ideal.Up.REF (arg0 m c) (arg1 m c) (ix2 (row t r) (col t d)) := by
  frame_out
  rw [pay_at, Cert.Reference16Ideal.Up.REF_at, ← Cert.Reference16Ideal.Up.sum_lay]
  simp only [a_blk, w_blk]

/-- The output array after the run is the reference's result. -/
theorem final : (dats m 0 c).arrAt 2 (cfgs 0).N = Cert.Reference16Ideal.Up.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel16Ideal.Up

namespace Cert.Proof.UpQ

open Idealize.ShloMosaic Idealize.SL.Sem

theorem reference_frame : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- Over the extended reals kernel and reference compute the same function. -/
theorem algebraic : Cert.algebraic_Kernel16Ideal_Reference16Ideal := by
  intro m g m' g' _ hagree
  refine ⟨fun c => Cert.Reference16Ideal.Up.REF (Cert.Kernel16Ideal.Up.arg0 m c) (Cert.Kernel16Ideal.Up.arg1 m c), ?_, ?_⟩
  · exact (θ_run Cert.Kernel16Ideal.defs _ _).mono
      (fun _ h c => ⟨(h c).1.trans (Cert.Kernel16Ideal.Up.final m c), (h c).2⟩) (Cert.Kernel16Ideal.Value.run_blocks (F := Ideal) m g)
  · refine (θ_run Cert.Reference16Ideal.defs _ _).mono (fun _ h c => ⟨(h c).1.trans ?_, (h c).2⟩)
      (Cert.Reference16Ideal.Value.run (F := Ideal) m' g')
    rw [(hagree c).1, (hagree c).2.1]
    rfl

end Cert.Proof.UpQ

end
-- ==== Proof.UpKv.lean ====
/-
  The latent mixer's keys and values from their normed latents, the heads' keys first, then the heads' values: kernel and
  reference end with the same array over the extended reals.
-/
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference17Ideal.Up

open Cert.Reference17Ideal Cert.Reference17Ideal.Gen Idealize.ShloMosaic Idealize.ShloMosaic.TcCoe Idealize.SL.Sem

/-- The column of the projection at a column of the result: half `j / 1024`, head `j % 1024 / 128`, channel `j % 128`. -/
def src (j : Fin 2048) : Fin 2048 := ⟨256 * (j.val % 1024 / 128) + 128 * (j.val / 1024) + j.val % 128, by omega⟩

variable (a : FVec Ideal S16384x256 .bf16) (w : FVec Ideal S256x2048 .f32)

/-- The reference's result as a function of its arguments. -/
def REF : FVec Ideal S16384x2048 .f32 :=
  concatenate S16384x2048 1 [⟨S16384x1024, (shapeCast _ (extractStridedSlice S16384x8x128 ![0, 0, 0] (shapeCast _
      (Host.dotGeneral dot_S16384x256_S256x2048_S16384x2048_1_0_0_1_n_n none (extf .f32 a bitsLt_bf16_f32) w : FVec Ideal S16384x2048 .f32)
      shapeCasts_S16384x2048_S16384x8x256 : FVec Ideal S16384x8x256 .f32) slices_S16384x8x256_S16384x8x128_0_0_0 : FVec Ideal S16384x8x128 .f32)
      shapeCasts_S16384x8x128_S16384x1024)⟩,
    ⟨S16384x1024, (shapeCast _ (extractStridedSlice S16384x8x128 ![0, 0, 128] (shapeCast _
      (Host.dotGeneral dot_S16384x256_S256x2048_S16384x2048_1_0_0_1_n_n none (extf .f32 a bitsLt_bf16_f32) w : FVec Ideal S16384x2048 .f32)
      shapeCasts_S16384x2048_S16384x8x256 : FVec Ideal S16384x8x256 .f32) slices_S16384x8x256_S16384x8x128_0_0_128 : FVec Ideal S16384x8x128 .f32)
      shapeCasts_S16384x8x128_S16384x1024)⟩] concatenates_S16384x1024_S16384x1024_S16384x2048_d1

theorem REF_at (i : Fin 16384) (j : Fin 2048) :
    REF a w (ix2 i j) = ∑ k : Fin 256, a (ix2 i k) * w (ix2 k (src j)) := by
  pointwise [REF]
  unfold src
  split_ifs <;> exact congrArg (fun q => ∑ k : Fin 256, a (ix2 i k) * w (ix2 k q)) (Fin.ext (by dsimp only; omega))

end Cert.Reference17Ideal.Up

namespace Cert.Kernel17Ideal.Up

open Cert.Kernel17Ideal Cert.Kernel17Ideal.Gen Idealize.ShloMosaic Idealize.ShloMosaic.TcCoe Idealize.SL.Sem

theorem pay_at (a : FVec Ideal S1024x256 .bf16) (w : FVec Ideal S256x512 .bf16) (r : Fin 1024) (d : Fin 512) :
    k0_pay1 (F := Ideal) a w (ix2 r d) = ∑ k : Fin 256, a (ix2 r k) * w (ix2 k d) := by
  pointwise [k0_pay1]

variable (m : (ℓ : Loc nD τ sig) → Buf (Elt Ideal) ℓ) (c : Dev nD)

/-- Where the windows lie at each point. -/
theorem idx : ∀ t : Fin cfg0.N, win0_0.index t = ![(grid0.coords t 0).val, 0]
    ∧ win0_1.index t = ![0, (grid0.coords t 1).val] ∧ win0_2.index t = ![(grid0.coords t 0).val, (grid0.coords t 1).val] :=
  (by decide +kernel : ∀ t : Fin grid0.N, _)

abbrev arg0 : FVec Ideal S16384x256 .bf16 := m ((c : Thread nD τ).loc main_arg0)
abbrev arg2 : FVec Ideal S256x2048 .f32 := m ((c : Thread nD τ).loc main_arg2)

theorem row_lt (t : Fin cfg0.N) : (grid0.coords t 0).val < 16 := (grid0.coords t 0).isLt
theorem col_lt (t : Fin cfg0.N) : (grid0.coords t 1).val < 4 := (grid0.coords t 1).isLt

abbrev row (t : Fin cfg0.N) (r : Fin 1024) : Fin 16384 := ⟨1024 * (grid0.coords t 0).val + r.val, by have := row_lt t; omega⟩
abbrev col (t : Fin cfg0.N) (d : Fin 512) : Fin 2048 := ⟨512 * (grid0.coords t 1).val + d.val, by have := col_lt t; omega⟩

theorem a_blk (t : Fin cfg0.N) (r : Fin 1024) (k : Fin 256) :
    (iblk m c 0 t : FVec Ideal S1024x256 .bf16) (ix2 r k) = arg0 m c (ix2 (row t r) k) := by blk_point [iblk, V, idx t]

/-- The weight the kernel reads: the projection's columns, keys before values. -/
abbrev wt : FVec Ideal S256x2048 .bf16 := V m c main_v11

theorem wt_at (k : Fin 256) (j : Fin 2048) :
    wt m c (ix2 k j) = arg2 m c (ix2 k (Cert.Reference17Ideal.Up.src j)) := by
  unfold wt
  entry_read
  pointwise
  unfold Cert.Reference17Ideal.Up.src
  split_ifs <;> exact congrArg (fun q => arg2 m c (ix2 k q)) (Fin.ext (by dsimp only; omega))

theorem w_blk (t : Fin cfg0.N) (k : Fin 256) (d : Fin 512) :
    (iblk m c 1 t : FVec Ideal S256x512 .bf16) (ix2 k d) = arg2 m c (ix2 k (Cert.Reference17Ideal.Up.src (col t d))) := by
  refine Eq.trans ?_ (wt_at m c k (col t d))
  blk_ext [iblk, idx t]

/-- What a grid point leaves in the output block, at a row and a column. -/
theorem point (t : Fin cfg0.N) (r : Fin 1024) (d : Fin 512) :
    (out0_2 (iblk m c 0 t) (iblk m c 1 t) : FVec Ideal S1024x512 .f32) (ix2 r d)
      = Cert.Reference17Ideal.Up.REF (arg0 m c) (arg2 m c) (ix2 (row t r) (col t d)) := by
  frame_out
  rw [pay_at, Cert.Reference17Ideal.Up.REF_at]
  simp only [a_blk, w_blk]

/-- The output array after the run is the reference's result. -/
theorem final : (dats m 0 c).arrAt 2 (cfgs 0).N = Cert.Reference17Ideal.Up.REF (arg0 m c) (arg2 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel17Ideal.Up

namespace Cert.Proof.UpKv

open Idealize.ShloMosaic Idealize.SL.Sem

theorem reference_frame : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- Over the extended reals kernel and reference compute the same function. -/
theorem algebraic : Cert.algebraic_Kernel17Ideal_Reference17Ideal := by
  intro m g m' g' _ hagree
  refine ⟨fun c => Cert.Reference17Ideal.Up.REF (Cert.Kernel17Ideal.Up.arg0 m c) (Cert.Kernel17Ideal.Up.arg2 m c), ?_, ?_⟩
  · exact (θ_run Cert.Kernel17Ideal.defs _ _).mono
      (fun _ h c => ⟨(h c).1.trans (Cert.Kernel17Ideal.Up.final m c), (h c).2⟩) (Cert.Kernel17Ideal.Value.run_blocks (F := Ideal) m g)
  · refine (θ_run Cert.Reference17Ideal.defs _ _).mono (fun _ h c => ⟨(h c).1.trans ?_, (h c).2⟩)
      (Cert.Reference17Ideal.Value.run (F := Ideal) m' g')
    rw [(hagree c).1, (hagree c).2.2]
    rfl

end Cert.Proof.UpKv

end
-- ==== Proof.PrepLatent.lean ====
/-
  The latent mixer's norms: from its columns of the input projection the normed query latents, the normed key and value
  latents, and the rotary key's columns as they are. Kernel and reference end with the same three arrays over the extended reals.
-/
module

public import proofs.«01_k».proof.Defs
public import proofs.«01_k».proof.Proof.Gen.Kernel18.Frame
public import proofs.«01_k».proof.Proof.Gen.Kernel18Ideal.Value
public import proofs.«01_k».proof.Proof.Gen.Reference18Ideal.Run
public import proofs.«01_k».proof.Proof.XaMath
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference18Ideal.Lat

open Cert.Reference18Ideal Cert.Reference18Ideal.Gen Idealize.ShloMosaic Idealize.ShloMosaic.TcCoe Idealize.SL.Sem

/-- A row of 896 or of 256 numbers, normalized and scaled. -/
def nq (x g : Fin 896 → EReal) (k : Fin 896) : EReal := x k * Cert.Xa.rs (Ideal.ofBits .f32 0x44600000#32) x * g k
def nkv (x g : Fin 256 → EReal) (k : Fin 256) : EReal := x k * Cert.Xa.rs (Ideal.ofBits .f32 0x43800000#32) x * g k

variable (p : FVec Ideal S16384x1280 .f32) (gq : FVec Ideal S896 .f32) (gkv : FVec Ideal S256 .f32)

/-- The columns of the query latents, and of the key and value latents. -/
def Pq : FVec Ideal S16384x896 .f32 := extractStridedSlice S16384x896 ![0, 0] p slices_S16384x1280_S16384x896_0_0
def Pkv : FVec Ideal S16384x256 .f32 := extractStridedSlice S16384x256 ![0, 896] p slices_S16384x1280_S16384x256_0_896

/-- The reference's three results as functions of its arguments. -/
def Rq : FVec Ideal S16384x896 .bf16 :=
  truncf .bf16 (mulf (mulf (Pq p) (broadcastInDim S16384x896 ![0, 1] bcast_S16384x1_S16384x896_0_1 (Host.rsqrt (addf
    (Host.divf (broadcastInDim S16384x1 ![0] bcast_S16384_S16384x1_0
      (Host.reduceAdd (mulf (Pq p) (Pq p)) (constant S_ .f32 0x00000000#32) reducesTo_S16384x896_S16384_d1 h_S_))
      (broadcastInDim S16384x1 ![] bcast_S_S16384x1 (constant S_ .f32 0x44600000#32)))
    (broadcastInDim S16384x1 ![] bcast_S_S16384x1 (constant S_ .f32 0x358637BD#32))))))
    (broadcastInDim S16384x896 ![0, 1] bcast_S1x896_S16384x896_0_1 (broadcastInDim S1x896 ![1] bcast_S896_S1x896_1 gq)) : FVec Ideal S16384x896 .f32)
    bitsLt_bf16_f32
def Rkv : FVec Ideal S16384x256 .bf16 :=
  truncf .bf16 (mulf (mulf (Pkv p) (broadcastInDim S16384x256 ![0, 1] bcast_S16384x1_S16384x256_0_1 (Host.rsqrt (addf
    (Host.divf (broadcastInDim S16384x1 ![0] bcast_S16384_S16384x1_0
      (Host.reduceAdd (mulf (Pkv p) (Pkv p)) (constant S_ .f32 0x00000000#32) reducesTo_S16384x256_S16384_d1 h_S_))
      (broadcastInDim S16384x1 ![] bcast_S_S16384x1 (constant S_ .f32 0x43800000#32)))
    (broadcastInDim S16384x1 ![] bcast_S_S16384x1 (constant S_ .f32 0x358637BD#32))))))
    (broadcastInDim S16384x256 ![0, 1] bcast_S1x256_S16384x256_0_1 (broadcastInDim S1x256 ![1] bcast_S256_S1x256_1 gkv)) : FVec Ideal S16384x256 .f32)
    bitsLt_bf16_f32
def Rpe : FVec Ideal S16384x128 .f32 := extractStridedSlice S16384x128 ![0, 1152] p slices_S16384x1280_S16384x128_0_1152

theorem Pq_at (i : Fin 16384) (k : Fin 896) : Pq p (ix2 i k) = p (ix2 i ⟨k.val, by omega⟩) := by pointwise [Pq]
theorem Pkv_at (i : Fin 16384) (k : Fin 256) : Pkv p (ix2 i k) = p (ix2 i ⟨896 + k.val, by omega⟩) := by pointwise [Pkv]

theorem Rq_at (i : Fin 16384) (j : Fin 896) :
    Rq p gq (ix2 i j) = nq (fun k => p (ix2 i ⟨k.val, by omega⟩)) (fun k => gq (ix1 k)) j := by
  simp only [← Pq_at]
  pointwise [Rq]
  rfl

theorem Rkv_at (i : Fin 16384) (j : Fin 256) :
    Rkv p gkv (ix2 i j) = nkv (fun k => p (ix2 i ⟨896 + k.val, by omega⟩)) (fun k => gkv (ix1 k)) j := by
  simp only [← Pkv_at]
  pointwise [Rkv]
  rfl

theorem Rpe_at (i : Fin 16384) (j : Fin 128) : Rpe p (ix2 i j) = p (ix2 i ⟨1152 + j.val, by omega⟩) := by pointwise [Rpe]

end Cert.Reference18Ideal.Lat

namespace Cert.Kernel18Ideal.Lat

open Cert.Kernel18Ideal Cert.Kernel18Ideal.Gen Idealize.ShloMosaic Idealize.ShloMosaic.TcCoe Idealize.SL.Sem
open Cert.Reference18Ideal.Lat (nq nkv Rq Rkv Rpe)

theorem pay1_at (x : FVec Ideal S512x896 .f32) (g : FVec Ideal S1x896 .f32) (r : Fin 512) (j : Fin 896) :
    k0_pay1 (F := Ideal) x g (ix2 r j) = nq (fun k => x (ix2 r k)) (fun k => g (ix2 (0 : Fin 1) k)) j := by
  pointwise [k0_pay1]
  rfl

theorem pay2_at (x : FVec Ideal S512x256 .f32) (g : FVec Ideal S1x256 .f32) (r : Fin 512) (j : Fin 256) :
    k0_pay2 (F := Ideal) x g (ix2 r j) = nkv (fun k => x (ix2 r k)) (fun k => g (ix2 (0 : Fin 1) k)) j := by
  pointwise [k0_pay2]
  rfl

/-- The block's columns as the body reads them. -/
theorem ldq_at {e : EltTy} (inb) (X : Vec Ideal S512x1280 e) (r : Fin 512) (k : Fin 896) :
    (View.ld X (Rect.unit (s := S512x1280) ![0, 0] S512x896.size inb) : Vec Ideal S512x896 e) (ix2 r k) = X (ix2 r (⟨k.val, by omega⟩ : Fin 1280)) :=
  View.ld_unit_apply_of X ![0, 0] S512x896.size inb (ix2 r k) (ix2 r (⟨k.val, by omega⟩ : Fin 1280))
    fun a => by fin_cases a <;> simp [ix2]
theorem ldkv_at {e : EltTy} (inb) (X : Vec Ideal S512x1280 e) (r : Fin 512) (k : Fin 256) :
    (View.ld X (Rect.unit (s := S512x1280) ![0, 896] S512x256.size inb) : Vec Ideal S512x256 e) (ix2 r k) = X (ix2 r (⟨896 + k.val, by omega⟩ : Fin 1280)) :=
  View.ld_unit_apply_of X ![0, 896] S512x256.size inb (ix2 r k) (ix2 r (⟨896 + k.val, by omega⟩ : Fin 1280))
    fun a => by fin_cases a <;> simp [ix2]
theorem ldpe_at {e : EltTy} (inb) (X : Vec Ideal S512x1280 e) (r : Fin 512) (k : Fin 128) :
    (View.ld X (Rect.unit (s := S512x1280) ![0, 1152] S512x128.size inb) : Vec Ideal S512x128 e) (ix2 r k) = X (ix2 r (⟨1152 + k.val, by omega⟩ : Fin 1280)) :=
  View.ld_unit_apply_of X ![0, 1152] S512x128.size inb (ix2 r k) (ix2 r (⟨1152 + k.val, by omega⟩ : Fin 1280))
    fun a => by fin_cases a <;> simp [ix2]

variable (m : (ℓ : Loc nD τ sig) → Buf (Elt Ideal) ℓ) (c : Dev nD)

/-- Where the windows lie at each point. -/
theorem idx : ∀ t : Fin cfg0.N, win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0]
    ∧ win0_5.index t = ![(grid0.coords t 0).val, 0] :=
  (by decide +kernel : ∀ t : Fin grid0.N, _)

abbrev arg0 : FVec Ideal S16384x1280 .f32 := m ((c : Thread nD τ).loc main_arg0)
abbrev arg1 : FVec Ideal S896 .f32 := m ((c : Thread nD τ).loc main_arg1)
abbrev arg2 : FVec Ideal S256 .f32 := m ((c : Thread nD τ).loc main_arg2)

theorem row_lt (t : Fin cfg0.N) : (grid0.coords t 0).val < 32 := (grid0.coords t 0).isLt

abbrev row (t : Fin cfg0.N) (r : Fin 512) : Fin 16384 := ⟨512 * (grid0.coords t 0).val + r.val, by have := row_lt t; omega⟩

theorem p_blk (t : Fin cfg0.N) (r : Fin 512) (k : Fin 1280) :
    (iblk m c 0 t : FVec Ideal S512x1280 .f32) (ix2 r k) = arg0 m c (ix2 (row t r) k) := by blk_point [iblk, V, idx t]

/-- The scales as rows. -/
abbrev hq : FVec Ideal S1x896 .f32 := V m c main_v0
abbrev hkv : FVec Ideal S1x256 .f32 := V m c main_v1

theorem hq_at (k : Fin 896) : hq m c (ix2 (0 : Fin 1) k) = arg1 m c (ix1 k) := by
  unfold hq
  entry_read
  pointwise

theorem hkv_at (k : Fin 256) : hkv m c (ix2 (0 : Fin 1) k) = arg2 m c (ix1 k) := by
  unfold hkv
  entry_read
  pointwise

theorem gq_blk (t : Fin cfg0.N) (k : Fin 896) : (iblk m c 1 t : FVec Ideal S1x896 .f32) (ix2 (0 : Fin 1) k) = arg1 m c (ix1 k) := by
  refine Eq.trans ?_ (hq_at m c k)
  blk_ext [iblk, idx t]

theorem gkv_blk (t : Fin cfg0.N) (k : Fin 256) : (iblk m c 2 t : FVec Ideal S1x256 .f32) (ix2 (0 : Fin 1) k) = arg2 m c (ix1 k) := by
  refine Eq.trans ?_ (hkv_at m c k)
  blk_ext [iblk, idx t]

/-- What a grid point leaves in each output block, at a row and a column. -/
theorem point3 (t : Fin cfg0.N) (r : Fin 512) (j : Fin 896) :
    (out0_3 (iblk m c 0 t) (iblk m c 1 t) (iblk m c 2 t) : FVec Ideal S512x896 .bf16) (ix2 r j) = Rq (arg0 m c) (arg1 m c) (ix2 (row t r) j) := by
  frame_out
  rw [pay1_at, Cert.Reference18Ideal.Lat.Rq_at]
  simp only [gq_blk]
  exact congrArg (fun f => nq f _ j) (funext fun k => (ldq_at (e := .f32) _ (iblk m c 0 t : FVec Ideal S512x1280 .f32) r k).trans (p_blk m c t r _))

theorem point4 (t : Fin cfg0.N) (r : Fin 512) (j : Fin 256) :
    (out0_4 (iblk m c 0 t) (iblk m c 1 t) (iblk m c 2 t) : FVec Ideal S512x256 .bf16) (ix2 r j) = Rkv (arg0 m c) (arg2 m c) (ix2 (row t r) j) := by
  frame_out
  rw [pay2_at, Cert.Reference18Ideal.Lat.Rkv_at]
  simp only [gkv_blk]
  exact congrArg (fun f => nkv f _ j) (funext fun k => (ldkv_at (e := .f32) _ (iblk m c 0 t : FVec Ideal S512x1280 .f32) r k).trans (p_blk m c t r _))

theorem point5 (t : Fin cfg0.N) (r : Fin 512) (j : Fin 128) :
    (out0_5 (iblk m c 0 t) (iblk m c 1 t) (iblk m c 2 t) : FVec Ideal S512x128 .f32) (ix2 r j) = Rpe (arg0 m c) (ix2 (row t r) j) := by
  frame_out
  rw [Cert.Reference18Ideal.Lat.Rpe_at]
  exact (ldpe_at (e := .f32) _ (iblk m c 0 t : FVec Ideal S512x1280 .f32) r j).trans (p_blk m c t r _)

/-- The output arrays after the run are the reference's results. -/
theorem final3 : (dats m 0 c).arrAt 3 (cfgs 0).N = Rq (arg0 m c) (arg1 m c) := by
  refine (dats m 0 c).arrAt_eq_of_covers 3 _ (by decide +kernel) fun t _ y => ?_
  blk_simp
  rw [after0_3]
  idx_vars y
  refine (point3 m c t _ _).trans ?_
  refine congrArg _ ?_
  blk_ext [idx t]

theorem final4 : (dats m 0 c).arrAt 4 (cfgs 0).N = Rkv (arg0 m c) (arg2 m c) := by
  refine (dats m 0 c).arrAt_eq_of_covers 4 _ (by decide +kernel) fun t _ y => ?_
  blk_simp
  rw [after0_4]
  idx_vars y
  refine (point4 m c t _ _).trans ?_
  refine congrArg _ ?_
  blk_ext [idx t]

theorem final5 : (dats m 0 c).arrAt 5 (cfgs 0).N = Rpe (arg0 m c) := by
  refine (dats m 0 c).arrAt_eq_of_covers 5 _ (by decide +kernel) fun t _ y => ?_
  blk_simp
  rw [after0_5]
  idx_vars y
  refine (point5 m c t _ _).trans ?_
  refine congrArg _ ?_
  blk_ext [idx t]

end Cert.Kernel18Ideal.Lat

namespace Cert.Proof.PrepLatent

open Idealize.ShloMosaic Idealize.SL.Sem

theorem reference_frame : Cert.quiescent_Reference18Ideal := fun m g _ =>
  (θ_run Cert.Reference18Ideal.defs _ _).mono (fun r h => ⟨fun c => (h c).2.2.2, sem_eq_zero_of_no_sems (by decide) r.2⟩)
    (Cert.Reference18Ideal.Value.run (F := Ideal) m g)

/-- Over the extended reals kernel and reference compute the same functions. -/
theorem algebraic : Cert.algebraic_Kernel18Ideal_Reference18Ideal := by
  intro m g m' g' _ hagree
  refine ⟨fun c => Cert.Reference18Ideal.Lat.Rq (Cert.Kernel18Ideal.Lat.arg0 m c) (Cert.Kernel18Ideal.Lat.arg1 m c),
    fun c => Cert.Reference18Ideal.Lat.Rkv (Cert.Kernel18Ideal.Lat.arg0 m c) (Cert.Kernel18Ideal.Lat.arg2 m c),
    fun c => Cert.Reference18Ideal.Lat.Rpe (Cert.Kernel18Ideal.Lat.arg0 m c), ?_, ?_⟩
  · exact (θ_run Cert.Kernel18Ideal.defs _ _).mono
      (fun _ h c => ⟨(h c).1.trans (Cert.Kernel18Ideal.Lat.final3 m c), (h c).2.1.trans (Cert.Kernel18Ideal.Lat.final4 m c),
        (h c).2.2.1.trans (Cert.Kernel18Ideal.Lat.final5 m c), (h c).2.2.2⟩) (Cert.Kernel18Ideal.Value.run_blocks (F := Ideal) m g)
  · refine (θ_run Cert.Reference18Ideal.defs _ _).mono (fun _ h c => ⟨(h c).1.trans ?_, (h c).2.1.trans ?_, (h c).2.2.1.trans ?_, (h c).2.2.2⟩)
      (Cert.Reference18Ideal.Value.run (F := Ideal) m' g')
    · rw [(hagree c).1, (hagree c).2.1]
      rfl
    · rw [(hagree c).1, (hagree c).2.2]
      rfl
    · rw [(hagree c).1]
      rfl

end Cert.Proof.PrepLatent

end
-- ==== Proof.MemK.lean ====
/-
  The memory's key projection: kernel and reference end with the same array over the extended reals.
-/
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference19Ideal.Proj

open Cert.Reference19Ideal Cert.Reference19Ideal.Gen Idealize.ShloMosaic Idealize.ShloMosaic.TcCoe Idealize.SL.Sem

variable (a : FVec Ideal S256x4096 .bf16) (w : FVec Ideal S4096x512 .f32)

/-- The reference's result as a function of its arguments. -/
def REF : FVec Ideal S256x512 .f32 :=
  Host.dotGeneral dot_S256x4096_S4096x512_S256x512_1_0_0_1_n_n none (extf .f32 a bitsLt_bf16_f32) w

theorem REF_at (i : Fin 256) (j : Fin 512) : REF a w (ix2 i j) = ∑ k : Fin 4096, a (ix2 i k) * w (ix2 k j) := by
  pointwise [REF]

end Cert.Reference19Ideal.Proj

namespace Cert.Kernel19Ideal.Proj

open Cert.Kernel19Ideal Cert.Kernel19Ideal.Gen Idealize.ShloMosaic Idealize.ShloMosaic.TcCoe Idealize.SL.Sem

theorem pay_at (a : FVec Ideal S256x4096 .bf16) (w : FVec Ideal S4096x512 .bf16) (r : Fin 256) (d : Fin 512) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- The one grid point has the whole arrays. -/
theorem idx : ∀ t : Fin cfg0.N, win0_0.index t = ![0, 0]
    ∧ win0_1.index t = ![0, 0] ∧ win0_2.index t = ![0, 0] :=
  (by decide +kernel : ∀ t : Fin grid0.N, _)

abbrev arg0 : FVec Ideal S256x4096 .bf16 := m ((c : Thread nD τ).loc main_arg0)
abbrev arg1 : FVec Ideal S4096x512 .f32 := m ((c : Thread nD τ).loc main_arg1)

theorem a_blk (t : Fin cfg0.N) (r : Fin 256) (k : Fin 4096) :
    (iblk m c 0 t : FVec Ideal S256x4096 .bf16) (ix2 r k) = arg0 m c (ix2 r k) := by blk_point [iblk, V, idx t]
theorem w_blk (t : Fin cfg0.N) (k : Fin 4096) (d : Fin 512) :
    (iblk m c 1 t : FVec Ideal S4096x512 .bf16) (ix2 k d) = arg1 m c (ix2 k d) := by
  blk_point [iblk, idx t]

/-- What a grid point leaves in the output block, at a row and a column. -/
theorem point (t : Fin cfg0.N) (r : Fin 256) (d : Fin 512) :
    (out0_2 (iblk m c 0 t) (iblk m c 1 t) : FVec Ideal S256x512 .f32) (ix2 r d)
      = Cert.Reference19Ideal.Proj.REF (arg0 m c) (arg1 m c) (ix2 r d) := by
  frame_out
  rw [pay_at, Cert.Reference19Ideal.Proj.REF_at]
  simp only [a_blk, w_blk]

/-- The output array after the run is the reference's result. -/
theorem final : (dats m 0 c).arrAt 2 (cfgs 0).N = Cert.Reference19Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel19Ideal.Proj

namespace Cert.Proof.MemK

open Idealize.ShloMosaic Idealize.SL.Sem

theorem reference_frame : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

/-- Over the extended reals kernel and reference compute the same function. -/
theorem algebraic : Cert.algebraic_Kernel19Ideal_Reference19Ideal := by
  intro m g m' g' _ hagree
  refine ⟨fun c => Cert.Reference19Ideal.Proj.REF (Cert.Kernel19Ideal.Proj.arg0 m c) (Cert.Kernel19Ideal.Proj.arg1 m c), ?_, ?_⟩
  · exact (θ_run Cert.Kernel19Ideal.defs _ _).mono
      (fun _ h c => ⟨(h c).1.trans (Cert.Kernel19Ideal.Proj.final m c), (h c).2⟩) (Cert.Kernel19Ideal.Value.run_blocks (F := Ideal) m g)
  · refine (θ_run Cert.Reference19Ideal.defs _ _).mono (fun _ h c => ⟨(h c).1.trans ?_, (h c).2⟩)
      (Cert.Reference19Ideal.Value.run (F := Ideal) m' g')
    rw [(hagree c).1, (hagree c).2]
    rfl

end Cert.Proof.MemK

end
-- ==== Proof.MemV.lean ====
/-
  The memory's value projection: kernel and reference end with the same array over the extended reals.
-/
module

public import proofs.«01_k».proof.Defs
public import proofs.«01_k».proof.Proof.Gen.Kernel20.Frame
public import proofs.«01_k».proof.Proof.Gen.Kernel20Ideal.Value
public import proofs.«01_k».proof.Proof.Gen.Reference20Ideal.Run
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference20Ideal.Proj

open Cert.Reference20Ideal Cert.Reference20Ideal.Gen Idealize.ShloMosaic Idealize.ShloMosaic.TcCoe Idealize.SL.Sem

variable (a : FVec Ideal S256x4096 .bf16) (w : FVec Ideal S4096x512 .f32)

/-- The reference's result as a function of its arguments. -/
def REF : FVec Ideal S256x512 .bf16 :=
  truncf .bf16 (Host.dotGeneral dot_S256x4096_S4096x512_S256x512_1_0_0_1_n_n none (extf .f32 a bitsLt_bf16_f32) w : FVec Ideal S256x512 .f32)
    bitsLt_bf16_f32

theorem REF_at (i : Fin 256) (j : Fin 512) : REF a w (ix2 i j) = ∑ k : Fin 4096, a (ix2 i k) * w (ix2 k j) := by
  pointwise [REF]

end Cert.Reference20Ideal.Proj

namespace Cert.Kernel20Ideal.Proj

open Cert.Kernel20Ideal Cert.Kernel20Ideal.Gen Idealize.ShloMosaic Idealize.ShloMosaic.TcCoe Idealize.SL.Sem

theorem pay_at (a : FVec Ideal S256x4096 .bf16) (w : FVec Ideal S4096x512 .bf16) (r : Fin 256) (d : Fin 512) :
    k0_pay1 (F := Ideal) a w (ix2 r d) = ∑ k : Fin 4096, a (ix2 r k) * w (ix2 k d) := by
  pointwise [k0_pay1]

variable (m : (ℓ : Loc nD τ sig) → Buf (Elt Ideal) ℓ) (c : Dev nD)

/-- The one grid point has the whole arrays. -/
theorem idx : ∀ t : Fin cfg0.N, win0_0.index t = ![0, 0]
    ∧ win0_1.index t = ![0, 0] ∧ win0_2.index t = ![0, 0] :=
  (by decide +kernel : ∀ t : Fin grid0.N, _)

abbrev arg0 : FVec Ideal S256x4096 .bf16 := m ((c : Thread nD τ).loc main_arg0)
abbrev arg1 : FVec Ideal S4096x512 .f32 := m ((c : Thread nD τ).loc main_arg1)

theorem a_blk (t : Fin cfg0.N) (r : Fin 256) (k : Fin 4096) :
    (iblk m c 0 t : FVec Ideal S256x4096 .bf16) (ix2 r k) = arg0 m c (ix2 r k) := by blk_point [iblk, V, idx t]
theorem w_blk (t : Fin cfg0.N) (k : Fin 4096) (d : Fin 512) :
    (iblk m c 1 t : FVec Ideal S4096x512 .bf16) (ix2 k d) = arg1 m c (ix2 k d) := by
  blk_point [iblk, idx t]

/-- What a grid point leaves in the output block, at a row and a column. -/
theorem point (t : Fin cfg0.N) (r : Fin 256) (d : Fin 512) :
    (out0_2 (iblk m c 0 t) (iblk m c 1 t) : FVec Ideal S256x512 .bf16) (ix2 r d)
      = Cert.Reference20Ideal.Proj.REF (arg0 m c) (arg1 m c) (ix2 r d) := by
  frame_out
  rw [pay_at, Cert.Reference20Ideal.Proj.REF_at]
  simp only [a_blk, w_blk]

/-- The output array after the run is the reference's result. -/
theorem final : (dats m 0 c).arrAt 2 (cfgs 0).N = Cert.Reference20Ideal.Proj.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel20Ideal.Proj

namespace Cert.Proof.MemV

open Idealize.ShloMosaic Idealize.SL.Sem

theorem reference_frame : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

/-- Over the extended reals kernel and reference compute the same function. -/
theorem algebraic : Cert.algebraic_Kernel20Ideal_Reference20Ideal := by
  intro m g m' g' _ hagree
  refine ⟨fun c => Cert.Reference20Ideal.Proj.REF (Cert.Kernel20Ideal.Proj.arg0 m c) (Cert.Kernel20Ideal.Proj.arg1 m c), ?_, ?_⟩
  · exact (θ_run Cert.Kernel20Ideal.defs _ _).mono
      (fun _ h c => ⟨(h c).1.trans (Cert.Kernel20Ideal.Proj.final m c), (h c).2⟩) (Cert.Kernel20Ideal.Value.run_blocks (F := Ideal) m g)
  · refine (θ_run Cert.Reference20Ideal.defs _ _).mono (fun _ h c => ⟨(h c).1.trans ?_, (h c).2⟩)
      (Cert.Reference20Ideal.Value.run (F := Ideal) m' g')
    rw [(hagree c).1, (hagree c).2]
    rfl

end Cert.Proof.MemV

end
-- ==== Proof.MemNorm.lean ====
/-
  The norm of the memory's rows: kernel and reference end with the same array over the extended reals.
-/
module

public import proofs.«01_k».proof.Defs
public import proofs.«01_k».proof.Proof.Gen.Kernel21.Frame
public import proofs.«01_k».proof.Proof.Gen.Kernel21Ideal.Value
public import proofs.«01_k».proof.Proof.Gen.Reference21Ideal.Run
public import proofs.«01_k».proof.Proof.XaMath
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference21Ideal.Norm

open Cert.Reference21Ideal Cert.Reference21Ideal.Gen Idealize.ShloMosaic Idealize.ShloMosaic.TcCoe Idealize.SL.Sem

variable (x : FVec Ideal S256x4096 .f32) (g : FVec Ideal S4096 .f32)

/-- The reference's result as a function of its arguments. -/
def REF : FVec Ideal S256x4096 .bf16 :=
  truncf .bf16 (mulf (mulf x (broadcastInDim S256x4096 ![0, 1] bcast_S256x1_S256x4096_0_1 (Host.rsqrt (addf
    (Host.divf (broadcastInDim S256x1 ![0] bcast_S256_S256x1_0
      (Host.reduceAdd (mulf x x) (constant S_ .f32 0x00000000#32) reducesTo_S256x4096_S256_d1 h_S_))
      (broadcastInDim S256x1 ![] bcast_S_S256x1 (constant S_ .f32 0x45800000#32)))
    (broadcastInDim S256x1 ![] bcast_S_S256x1 (constant S_ .f32 0x358637BD#32))))))
    (broadcastInDim S256x4096 ![0, 1] bcast_S1x4096_S256x4096_0_1 (broadcastInDim S1x4096 ![1] bcast_S4096_S1x4096_1 g)) : FVec Ideal S256x4096 .f32)
    bitsLt_bf16_f32

theorem REF_at (i : Fin 256) (j : Fin 4096) :
    REF x g (ix2 i j) = Cert.Xa.hid (fun k => x (ix2 i k)) (fun k => g (ix1 k)) j := by
  pointwise [REF]
  rfl

end Cert.Reference21Ideal.Norm

namespace Cert.Kernel21Ideal.Norm

open Cert.Kernel21Ideal Cert.Kernel21Ideal.Gen Idealize.ShloMosaic Idealize.ShloMosaic.TcCoe Idealize.SL.Sem

theorem pay_at (x : FVec Ideal S256x4096 .f32) (g : FVec Ideal S1x4096 .f32) (r : Fin 256) (j : Fin 4096) :
    k0_pay1 (F := Ideal) x g (ix2 r j) = Cert.Xa.hid (fun k => x (ix2 r k)) (fun k => g (ix2 (0 : Fin 1) k)) j := by
  pointwise [k0_pay1]
  rfl

variable (m : (ℓ : Loc nD τ sig) → Buf (Elt Ideal) ℓ) (c : Dev nD)

/-- The one grid point has the whole arrays. -/
theorem idx : ∀ t : Fin cfg0.N, win0_0.index t = ![0, 0]
    ∧ win0_1.index t = ![0, 0] ∧ win0_2.index t = ![0, 0] :=
  (by decide +kernel : ∀ t : Fin grid0.N, _)

abbrev arg0 : FVec Ideal S256x4096 .f32 := m ((c : Thread nD τ).loc main_arg0)
abbrev arg1 : FVec Ideal S4096 .f32 := m ((c : Thread nD τ).loc main_arg1)

theorem x_blk (t : Fin cfg0.N) (r : Fin 256) (k : Fin 4096) :
    (iblk m c 0 t : FVec Ideal S256x4096 .f32) (ix2 r k) = arg0 m c (ix2 r k) := by blk_point [iblk, V, idx t]

/-- The scale as a row. -/
abbrev hg : FVec Ideal S1x4096 .f32 := V m c main_v0

theorem hg_at (k : Fin 4096) : hg m c (ix2 (0 : Fin 1) k) = arg1 m c (ix1 k) := by
  unfold hg
  entry_read
  pointwise

theorem g_blk (t : Fin cfg0.N) (k : Fin 4096) : (iblk m c 1 t : FVec Ideal S1x4096 .f32) (ix2 (0 : Fin 1) k) = arg1 m c (ix1 k) := by
  refine Eq.trans ?_ (hg_at m c k)
  blk_ext [iblk, idx t]

/-- What a grid point leaves in the output block, at a row and a column. -/
theorem point (t : Fin cfg0.N) (r : Fin 256) (j : Fin 4096) :
    (out0_2 (iblk m c 0 t) (iblk m c 1 t) : FVec Ideal S256x4096 .bf16) (ix2 r j)
      = Cert.Reference21Ideal.Norm.REF (arg0 m c) (arg1 m c) (ix2 r j) := by
  frame_out
  rw [pay_at, Cert.Reference21Ideal.Norm.REF_at]
  simp only [x_blk, g_blk]

/-- The output array after the run is the reference's result. -/
theorem final : (dats m 0 c).arrAt 2 (cfgs 0).N = Cert.Reference21Ideal.Norm.REF (arg0 m c) (arg1 m c) := by
  refine (dats m 0 c).arrAt_eq_of_covers 2 _ (by decide +kernel) fun t _ y => ?_
  blk_simp
  rw [after0_2]
  idx_vars y
  refine (point m c t _ _).trans ?_
  refine congrArg _ ?_
  blk_ext [idx t]

end Cert.Kernel21Ideal.Norm

namespace Cert.Proof.MemNorm

open Idealize.ShloMosaic Idealize.SL.Sem

theorem reference_frame : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

/-- Over the extended reals kernel and reference compute the same function. -/
theorem algebraic : Cert.algebraic_Kernel21Ideal_Reference21Ideal := by
  intro m g m' g' _ hagree
  refine ⟨fun c => Cert.Reference21Ideal.Norm.REF (Cert.Kernel21Ideal.Norm.arg0 m c) (Cert.Kernel21Ideal.Norm.arg1 m c), ?_, ?_⟩
  · exact (θ_run Cert.Kernel21Ideal.defs _ _).mono
      (fun _ h c => ⟨(h c).1.trans (Cert.Kernel21Ideal.Norm.final m c), (h c).2⟩) (Cert.Kernel21Ideal.Value.run_blocks (F := Ideal) m g)
  · refine (θ_run Cert.Reference21Ideal.defs _ _).mono (fun _ h c => ⟨(h c).1.trans ?_, (h c).2⟩)
      (Cert.Reference21Ideal.Value.run (F := Ideal) m' g')
    rw [(hagree c).1, (hagree c).2]
    rfl

end Cert.Proof.MemNorm

end
-- ==== Proof.PrepDsa.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import proofs.«01_k».proof.Proof.XaMath
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Rope

open Idealize.ShloMosaic

/-- The rotary embedding of the first 32 of 128 numbers. -/
def rot (y : Fin 128 → EReal) (c s : Fin 16 → EReal) (k : Fin 128) : EReal :=
  if h : k.val < 16 then y k * c ⟨k.val, h⟩ - y ⟨k.val + 16, by omega⟩ * s ⟨k.val, h⟩
  else if h2 : k.val < 32 then y k * c ⟨k.val - 16, by omega⟩ + y ⟨k.val - 16, by omega⟩ * s ⟨k.val - 16, by omega⟩
  else y k

/-- The table's rows: cosines, negated sines, sines. -/
def t0 (c : Fin 16 → EReal) (k : Fin 128) : EReal :=
  if h : k.val < 16 then c ⟨k.val, h⟩ else if h2 : k.val < 32 then c ⟨k.val - 16, by omega⟩ else 1
def t1 (s : Fin 16 → EReal) (k : Fin 128) : EReal := if h : k.val < 16 then -s ⟨k.val, h⟩ else 0
def t2 (s : Fin 16 → EReal) (k : Fin 128) : EReal :=
  if h : k.val < 16 then 0 else if h2 : k.val < 32 then s ⟨k.val - 16, by omega⟩ else 0

/-- The kernel's form: the numbers and their rotations by the table's rows. -/
def krot (y : Fin 128 → EReal) (u0 u1 u2 : Fin 128 → EReal) (k : Fin 128) : EReal :=
  y k * u0 k + y ⟨(k.val + 16) % 128, by omega⟩ * u1 k + y ⟨(k.val + 112) % 128, by omega⟩ * u2 k

theorem krot_eq (y : Fin 128 → EReal) (c s : Fin 16 → EReal) (k : Fin 128) : krot y (t0 c) (t1 s) (t2 s) k = rot y c s k := by
  unfold krot rot t0 t1 t2
  by_cases h : k.val < 16
  · have e : (⟨(k.val + 16) % 128, by omega⟩ : Fin 128) = ⟨k.val + 16, by omega⟩ := Fin.ext (by dsimp only; omega)
    simp only [h, dif_pos, e, mul_zero, add_zero, sub_eq_add_neg, mul_neg]
  · by_cases h2 : k.val < 32
    · have e : (⟨(k.val + 112) % 128, by omega⟩ : Fin 128) = ⟨k.val - 16, by omega⟩ := Fin.ext (by dsimp only; omega)
      simp only [h, h2, dif_pos, dif_neg, not_false_eq_true, e, mul_zero, add_zero]
    · simp only [h, h2, dif_neg, not_false_eq_true, mul_zero, add_zero, mul_one]

theorem add_sc (a b : EReal) : a * Cert.Xa.sc + b * Cert.Xa.sc = (a + b) * Cert.Xa.sc := by
  obtain ⟨c, h0, hc⟩ := Cert.Xa.sc_real
  rw [hc, EReal.right_distrib_of_nonneg_of_ne_top (EReal.coe_nonneg.2 h0) (EReal.coe_ne_top c)]

/-- The scale goes through the embedding. -/
theorem krot_sc (y u0 u1 u2 : Fin 128 → EReal) (k : Fin 128) :
    krot (fun j => y j * Cert.Xa.sc) u0 u1 u2 k = krot y u0 u1 u2 k * Cert.Xa.sc := by
  unfold krot
  rw [← add_sc, ← add_sc, mul_right_comm (y k), mul_right_comm (y _) _ (u1 k), mul_right_comm (y _) _ (u2 k)]

/-- The table's rows as their pieces give them. -/
theorem t0_cat (c : Fin 16 → EReal) (k : Fin 128) :
    (if h : k.val < 16 then c ⟨k.val, h⟩ else if h2 : k.val - 16 < 16 then c ⟨k.val - 16, h2⟩ else 1) = t0 c k := by
  unfold t0
  by_cases h : k.val < 16
  · simp only [h, dif_pos]
  · have e : k.val - 16 < 16 ↔ k.val < 32 := by omega
    by_cases h2 : k.val < 32 <;> simp only [h, h2, e, dif_pos, dif_neg, not_false_eq_true]
theorem t1_cat (s : Fin 16 → EReal) (k : Fin 128) :
    (if h : k.val < 16 then -s ⟨k.val, h⟩ else if h2 : k.val - 16 < 16 then (0 : EReal) else 0) = t1 s k := by
  unfold t1
  by_cases h : k.val < 16
  · simp only [h, dif_pos]
  · simp only [h, dif_neg, not_false_eq_true, dite_eq_ite, ite_self]
theorem t2_cat (s : Fin 16 → EReal) (k : Fin 128) :
    (if h : k.val < 16 then 0 else if h2 : k.val - 16 < 16 then s ⟨k.val - 16, h2⟩ else 0) = t2 s k := by
  unfold t2
  by_cases h : k.val < 16
  · simp only [h, dif_pos]
  · have e : k.val - 16 < 16 ↔ k.val < 32 := by omega
    by_cases h2 : k.val < 32 <;> simp only [h, h2, e, dif_pos, dif_neg, not_false_eq_true]

/-- A head's row, normalized and scaled. -/
def nrm (x g : Fin 128 → EReal) (k : Fin 128) : EReal := x k * Cert.Xa.rs (Ideal.ofBits .f32 0x43000000#32) x * g k

end Cert.Rope

namespace Cert.Reference22Ideal.Dsa

open Cert.Reference22Ideal Cert.Reference22Ideal.Gen Idealize.ShloMosaic Idealize.ShloMosaic.TcCoe Idealize.SL.Sem

/-- The angles. -/
def ANG : FVec Ideal S16384x16 .f32 :=
  mulf (broadcastInDim S16384x16 ![0, 1] bcast_S16384x1_S16384x16_0_1 (broadcastInDim S16384x1 ![0] bcast_S16384_S16384x1_0 (sitofp .f32 (iotaInDim S16384 32 0))))
    (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

def COS : FVec Ideal S16384x16 .f32 := Host.cos ANG
def SIN : FVec Ideal S16384x16 .f32 := Host.sin ANG

variable (p : FVec Ideal S16384x1280 .f32) (gq gk : FVec Ideal S128 .f32)

/-- The heads' rows normalized, and the same of the key's. -/
def XQ : FVec Ideal S16384x8x128 .f32 :=
  shapeCast _ (extractStridedSlice S16384x1024 ![0, 0] p slices_S16384x1280_S16384x1024_0_0) shapeCasts_S16384x1024_S16384x8x128
def NX (x : FVec Ideal S16384x8x128 .f32) (gq : FVec Ideal S128 .f32) : FVec Ideal S16384x8x128 .f32 :=
  mulf (mulf x (broadcastInDim S16384x8x128 ![0, 1, 2] bcast_S16384x8x1_S16384x8x128_0_1_2 (Host.rsqrt (addf (Host.divf (broadcastInDim S16384x8x1 ![0, 1] bcast_S16384x8_S16384x8x1_0_1 (Host.reduceAdd (mulf x x) (constant S_ .f32 0x00000000#32) reducesTo_S16384x8x128_S16384x8_d2 h_S_)) (broadcastInDim S16384x8x1 ![] bcast_S_S16384x8x1 (constant S_ .f32 0x43000000#32))) (broadcastInDim S16384x8x1 ![] bcast_S_S16384x8x1 (constant S_ .f32 0x358637BD#32))))))
    (broadcastInDim S16384x8x128 ![0, 1, 2] bcast_S1x1x128_S16384x8x128_0_1_2 (broadcastInDim S1x1x128 ![2] bcast_S128_S1x1x128_2 gq))
theorem NX_at (x : FVec Ideal S16384x8x128 .f32) (gq : FVec Ideal S128 .f32) (i : Fin 16384) (h : Fin 8) (k : Fin 128) :
    NX x gq (ix3 i h k) = Cert.Rope.nrm (fun k => x (ix3 i h k)) (fun k => gq (ix1 k)) k := by
  pointwise [NX]
  rfl
def NQ : FVec Ideal S16384x8x128 .f32 := NX (XQ p) gq

theorem XQ_at (i : Fin 16384) (h : Fin 8) (k : Fin 128) : XQ p (ix3 i h k) = p (ix2 i ⟨128 * h.val + k.val, by omega⟩) := by
  pointwise [XQ]
  exact congrArg p (congrArg (ix2 i) (Fin.ext (by dsimp only; omega)))
theorem NQ_at (i : Fin 16384) (h : Fin 8) (k : Fin 128) :
    NQ p gq (ix3 i h k) = Cert.Rope.nrm (fun k => p (ix2 i ⟨128 * h.val + k.val, by omega⟩)) (fun k => gq (ix1 k)) k := by
  simp only [← XQ_at]
  exact NX_at (XQ p) gq i h k

/-- The rotary embedding of the heads. -/
def RQ (y : FVec Ideal S16384x8x128 .f32) : FVec Ideal S16384x8x128 .f32 :=
  concatenate S16384x8x128 2 [⟨S16384x8x16, (subf (mulf (extractStridedSlice S16384x8x16 ![0, 0, 0] y slices_S16384x8x128_S16384x8x16_0_0_0) (broadcastInDim S16384x8x16 ![0, 1, 2] bcast_S16384x1x16_S16384x8x16_0_1_2 (broadcastInDim S16384x1x16 ![0, 2] bcast_S16384x16_S16384x1x16_0_2 COS))) (mulf (extractStridedSlice S16384x8x16 ![0, 0, 16] y slices_S16384x8x128_S16384x8x16_0_0_16) (broadcastInDim S16384x8x16 ![0, 1, 2] bcast_S16384x1x16_S16384x8x16_0_1_2 (broadcastInDim S16384x1x16 ![0, 2] bcast_S16384x16_S16384x1x16_0_2 SIN))) : FVec Ideal S16384x8x16 .f32)⟩, ⟨S16384x8x16, (addf (mulf (extractStridedSlice S16384x8x16 ![0, 0, 16] y slices_S16384x8x128_S16384x8x16_0_0_16) (broadcastInDim S16384x8x16 ![0, 1, 2] bcast_S16384x1x16_S16384x8x16_0_1_2 (broadcastInDim S16384x1x16 ![0, 2] bcast_S16384x16_S16384x1x16_0_2 COS))) (mulf (extractStridedSlice S16384x8x16 ![0, 0, 0] y slices_S16384x8x128_S16384x8x16_0_0_0) (broadcastInDim S16384x8x16 ![0, 1, 2] bcast_S16384x1x16_S16384x8x16_0_1_2 (broadcastInDim S16384x1x16 ![0, 2] bcast_S16384x16_S16384x1x16_0_2 SIN))) : FVec Ideal S16384x8x16 .f32)⟩, ⟨S16384x8x96, (extractStridedSlice S16384x8x96 ![0, 0, 32] y slices_S16384x8x128_S16384x8x96_0_0_32 : FVec Ideal S16384x8x96 .f32)⟩] concatenates_S16384x8x16_S16384x8x16_S16384x8x96_S16384x8x128_d2

/-- The embedding as its pieces give it. -/
theorem rot_cat (y : Fin 128 → EReal) (c s : Fin 16 → EReal) (k : Fin 128) :
    (if h : k.val < 16 then y k * c ⟨k.val, h⟩ - y ⟨16 + k.val, by omega⟩ * s ⟨k.val, h⟩
      else if h2 : k.val - 16 < 16 then
        y ⟨16 + (k.val - 16), by omega⟩ * c ⟨k.val - 16, h2⟩ + y ⟨k.val - 16, by omega⟩ * s ⟨k.val - 16, h2⟩
      else y ⟨32 + (k.val - 16 - 16), by omega⟩) = Cert.Rope.rot y c s k := by
  unfold Cert.Rope.rot
  by_cases h : k.val < 16
  · simp only [h, dif_pos, Nat.add_comm]
  · by_cases h2 : k.val < 32
    · have h3 : k.val - 16 < 16 := by omega
      have e : (⟨16 + (k.val - 16), by omega⟩ : Fin 128) = k := Fin.ext (by dsimp only; omega)
      simp only [h, h2, h3, dif_pos, dif_neg, not_false_eq_true, e]
    · have h3 : ¬ k.val - 16 < 16 := by omega
      have e : (⟨32 + (k.val - 16 - 16), by omega⟩ : Fin 128) = k := Fin.ext (by dsimp only; omega)
      simp only [h, h2, h3, dif_neg, not_false_eq_true, e]

theorem RQ_at (y : FVec Ideal S16384x8x128 .f32) (i : Fin 16384) (h : Fin 8) (k : Fin 128) :
    RQ y (ix3 i h k) = Cert.Rope.rot (fun k => y (ix3 i h k)) (fun j => COS (ix2 i j)) (fun j => SIN (ix2 i j)) k := by
  pointwise [RQ]
  exact rot_cat (fun k => y (ix3 i h k)) (fun j => COS (ix2 i j)) (fun j => SIN (ix2 i j)) k

def XK : FVec Ideal S16384x1x128 .f32 :=
  shapeCast _ (extractStridedSlice S16384x128 ![0, 1024] p slices_S16384x1280_S16384x128_0_1024) shapeCasts_S16384x128_S16384x1x128
def NK : FVec Ideal S16384x1x128 .f32 :=
  mulf (mulf (XK p) (broadcastInDim S16384x1x128 ![0, 1, 2] bcast_S16384x1x1_S16384x1x128_0_1_2 (Host.rsqrt (addf (Host.divf (broadcastInDim S16384x1x1 ![0, 1] bcast_S16384x1_S16384x1x1_0_1 (Host.reduceAdd (mulf (XK p) (XK p)) (constant S_ .f32 0x00000000#32) reducesTo_S16384x1x128_S16384x1_d2 h_S_)) (broadcastInDim S16384x1x1 ![] bcast_S_S16384x1x1 (constant S_ .f32 0x43000000#32))) (broadcastInDim S16384x1x1 ![] bcast_S_S16384x1x1 (constant S_ .f32 0x358637BD#32))))))
    (broadcastInDim S16384x1x128 ![0, 1, 2] bcast_S1x1x128_S16384x1x128_0_1_2 (broadcastInDim S1x1x128 ![2] bcast_S128_S1x1x128_2 gk))

theorem XK_at (i : Fin 16384) (k : Fin 128) : XK p (ix3 i (0 : Fin 1) k) = p (ix2 i ⟨1024 + k.val, by omega⟩) := by
  pointwise [XK]
theorem NK_at (i : Fin 16384) (k : Fin 128) :
    NK p gk (ix3 i (0 : Fin 1) k) = Cert.Rope.nrm (fun k => p (ix2 i ⟨1024 + k.val, by omega⟩)) (fun k => gk (ix1 k)) k := by
  simp only [← XK_at]
  pointwise [NK]
  rfl

/-- The rotary embedding of the key. -/
def RK (y : FVec Ideal S16384x1x128 .f32) : FVec Ideal S16384x1x128 .f32 :=
  concatenate S16384x1x128 2 [⟨S16384x1x16, (subf (mulf (extractStridedSlice S16384x1x16 ![0, 0, 0] y slices_S16384x1x128_S16384x1x16_0_0_0) (broadcastInDim S16384x1x16 ![0, 2] bcast_S16384x16_S16384x1x16_0_2 COS)) (mulf (extractStridedSlice S16384x1x16 ![0, 0, 16] y slices_S16384x1x128_S16384x1x16_0_0_16) (broadcastInDim S16384x1x16 ![0, 2] bcast_S16384x16_S16384x1x16_0_2 SIN)) : FVec Ideal S16384x1x16 .f32)⟩,
    ⟨S16384x1x16, (addf (mulf (extractStridedSlice S16384x1x16 ![0, 0, 16] y slices_S16384x1x128_S16384x1x16_0_0_16) (broadcastInDim S16384x1x16 ![0, 2] bcast_S16384x16_S16384x1x16_0_2 COS)) (mulf (extractStridedSlice S16384x1x16 ![0, 0, 0] y slices_S16384x1x128_S16384x1x16_0_0_0) (broadcastInDim S16384x1x16 ![0, 2] bcast_S16384x16_S16384x1x16_0_2 SIN)) : FVec Ideal S16384x1x16 .f32)⟩,
    ⟨S16384x1x96, (extractStridedSlice S16384x1x96 ![0, 0, 32] y slices_S16384x1x128_S16384x1x96_0_0_32 : FVec Ideal S16384x1x96 .f32)⟩] concatenates_S16384x1x16_S16384x1x16_S16384x1x96_S16384x1x128_d2

theorem RK_at (y : FVec Ideal S16384x1x128 .f32) (i : Fin 16384) (k : Fin 128) :
    RK y (ix3 i (0 : Fin 1) k) = Cert.Rope.rot (fun k => y (ix3 i (0 : Fin 1) k)) (fun j => COS (ix2 i j)) (fun j => SIN (ix2 i j)) k := by
  pointwise [RK]
  exact rot_cat (fun k => y (ix3 i (0 : Fin 1) k)) (fun j => COS (ix2 i j)) (fun j => SIN (ix2 i j)) k

/-- The three results: the heads' queries, the keys, the values. -/
def Rq : FVec Ideal S8x16384x128 .bf16 :=
  truncf .bf16 (transpose S8x16384x128 [1, 0, 2] (mulf (RQ (NQ p gq)) (broadcastInDim S16384x8x128 ![] bcast_S_S16384x8x128 (constant S_ .f32 0x3DB504F3#32))) transposes_S16384x8x128_S8x16384x128_1_0_2) bitsLt_bf16_f32
def Rk : FVec Ideal S16384x128 .bf16 := truncf .bf16 (shapeCast _ (RK (NK p gk)) shapeCasts_S16384x1x128_S16384x128) bitsLt_bf16_f32
def Rv : FVec Ideal S16384x128 .bf16 := truncf .bf16 (extractStridedSlice S16384x128 ![0, 1152] p slices_S16384x1280_S16384x128_0_1152) bitsLt_bf16_f32

theorem Rq_at (h : Fin 8) (i : Fin 16384) (k : Fin 128) : Rq p gq (ix3 h i k)
    = Cert.Rope.rot (Cert.Rope.nrm (fun k => p (ix2 i ⟨128 * h.val + k.val, by omega⟩)) (fun k => gq (ix1 k))) (fun j => COS (ix2 i j)) (fun j => SIN (ix2 i j)) k * Cert.Xa.sc := by
  pointwise [Rq]
  rw [RQ_at]
  simp only [NQ_at]
  rfl
theorem Rk_at (i : Fin 16384) (k : Fin 128) : Rk p gk (ix2 i k)
    = Cert.Rope.rot (Cert.Rope.nrm (fun k => p (ix2 i ⟨1024 + k.val, by omega⟩)) (fun k => gk (ix1 k))) (fun j => COS (ix2 i j)) (fun j => SIN (ix2 i j)) k := by
  pointwise [Rk]
  refine (RK_at _ i k).trans ?_
  simp only [NK_at]
theorem Rv_at (i : Fin 16384) (k : Fin 128) : Rv p (ix2 i k) = p (ix2 i ⟨1152 + k.val, by omega⟩) := by
  pointwise [Rv]

end Cert.Reference22Ideal.Dsa

namespace Cert.Kernel22Ideal.Dsa

open Cert.Kernel22Ideal Cert.Kernel22Ideal.Gen Idealize.ShloMosaic Idealize.ShloMosaic.TcCoe Idealize.SL.Sem

variable (m : (ℓ : Loc nD τ sig) → Buf (Elt Ideal) ℓ) (c : Dev nD)

open Cert.Reference22Ideal.Dsa (COS SIN)

/-- The host operations that build the table: the cosines and sines, its three rows, the rows side by side. -/
theorem ops1_cos (σ : Valuation τ sig (Elt Ideal)) : StableHlo.after (hostOps0.take 28) σ main_v16 = (COS : FVec Ideal S16384x16 .f32) := by
  simp only [hostOps0, List.take]
  after_results_simp
  rfl
theorem ops1_sin (σ : Valuation τ sig (Elt Ideal)) : StableHlo.after (hostOps0.take 30) σ main_v17 = (SIN : FVec Ideal S16384x16 .f32) := by
  simp only [hostOps0, List.take]
  after_results_simp
  rfl
theorem ops1_neg (σ : Valuation τ sig (Elt Ideal)) : StableHlo.after (hostOps0.take 30) σ main_v22 = (Host.negf SIN : FVec Ideal S16384x16 .f32) := by
  simp only [hostOps0, List.take]
  after_results_simp
  rfl
theorem ops1_one (σ : Valuation τ sig (Elt Ideal)) : StableHlo.after (hostOps0.take 28) σ main_v18 = (broadcastInDim S16384x96 ![] bcast_S_S16384x96 (constant S_ .f32 0x3F800000#32) : FVec Ideal S16384x96 .f32) := by
  simp only [hostOps0, List.take]
  after_results_simp
theorem ops1_z (σ : Valuation τ sig (Elt Ideal)) : StableHlo.after (hostOps0.take 30) σ main_v20 = (broadcastInDim S16384x16 ![] bcast_S_S16384x16 (constant S_ .f32 0x00000000#32) : FVec Ideal S16384x16 .f32) := by
  simp only [hostOps0, List.take]
  after_results_simp
theorem ops1_zz (σ : Valuation τ sig (Elt Ideal)) : StableHlo.after (hostOps0.take 30) σ main_v19 = (broadcastInDim S16384x96 ![] bcast_S_S16384x96 (constant S_ .f32 0x00000000#32) : FVec Ideal S16384x96 .f32) := by
  simp only [hostOps0, List.take]
  after_results_simp

/-- Three columns' blocks side by side. -/
def cat3 (a b : FVec Ideal S16384x16 .f32) (d : FVec Ideal S16384x96 .f32) : FVec Ideal S16384x128 .f32 :=
  concatenate S16384x128 1 [⟨S16384x16, a⟩, ⟨S16384x16, b⟩, ⟨S16384x96, d⟩] concatenates_S16384x16_S16384x16_S16384x96_S16384x128_d1

theorem ops2_0 (σ : Valuation τ sig (Elt Ideal)) : StableHlo.after ((hostOps0.drop 28).take 4) σ main_v21
    = cat3 (σ main_v16 : FVec Ideal S16384x16 .f32) (σ main_v16 : FVec Ideal S16384x16 .f32) (σ main_v18 : FVec Ideal S16384x96 .f32) := by
  simp only [hostOps0, List.take, List.drop]
  after_results_simp
  rfl
theorem ops2_1 (σ : Valuation τ sig (Elt Ideal)) : StableHlo.after ((hostOps0.drop 30).take 2) σ main_v23
    = cat3 (σ main_v22 : FVec Ideal S16384x16 .f32) (σ main_v20 : FVec Ideal S16384x16 .f32) (σ main_v19 : FVec Ideal S16384x96 .f32) := by
  simp only [hostOps0, List.take, List.drop]
  after_results_simp
  rfl
theorem ops2_2 (σ : Valuation τ sig (Elt Ideal)) : StableHlo.after ((hostOps0.drop 30).take 2) σ main_v24
    = cat3 (σ main_v20 : FVec Ideal S16384x16 .f32) (σ main_v17 : FVec Ideal S16384x16 .f32) (σ main_v19 : FVec Ideal S16384x96 .f32) := by
  simp only [hostOps0, List.take, List.drop]
  after_results_simp
  rfl

/-- The table's rows after the operations that make them. -/
theorem row0 (σ : Valuation τ sig (Elt Ideal)) (i : Fin 16384) (k : Fin 128) :
    (StableHlo.after (hostOps0.take 32) σ main_v21 : FVec Ideal S16384x128 .f32) (ix2 i k) = Cert.Rope.t0 (fun j => COS (ix2 i j)) k := by
  refine (congrFun (ops2_0 (StableHlo.after (hostOps0.take 28) σ)) (ix2 i k)).trans ?_
  rw [ops1_cos, ops1_one]
  pointwise [cat3]
  exact Cert.Rope.t0_cat (fun j => COS (ix2 i j)) k
theorem row1 (σ : Valuation τ sig (Elt Ideal)) (i : Fin 16384) (k : Fin 128) :
    (StableHlo.after (hostOps0.take 32) σ main_v23 : FVec Ideal S16384x128 .f32) (ix2 i k) = Cert.Rope.t1 (fun j => SIN (ix2 i j)) k := by
  refine (congrFun (ops2_1 (StableHlo.after (hostOps0.take 30) σ)) (ix2 i k)).trans ?_
  rw [ops1_neg, ops1_z, ops1_zz]
  pointwise [cat3]
  exact Cert.Rope.t1_cat (fun j => SIN (ix2 i j)) k
theorem row2 (σ : Valuation τ sig (Elt Ideal)) (i : Fin 16384) (k : Fin 128) :
    (StableHlo.after (hostOps0.take 32) σ main_v24 : FVec Ideal S16384x128 .f32) (ix2 i k) = Cert.Rope.t2 (fun j => SIN (ix2 i j)) k := by
  refine (congrFun (ops2_2 (StableHlo.after (hostOps0.take 30) σ)) (ix2 i k)).trans ?_
  rw [ops1_sin, ops1_z, ops1_zz]
  pointwise [cat3]
  exact Cert.Rope.t2_cat (fun j => SIN (ix2 i j)) k

theorem ops4 (σ : Valuation τ sig (Elt Ideal)) : StableHlo.after (hostOps0.drop 44) σ main_v37
    = (concatenate S3x16384x128 0 [⟨S1x16384x128, (σ main_v34 : FVec Ideal S1x16384x128 .f32)⟩, ⟨S1x16384x128, (σ main_v35 : FVec Ideal S1x16384x128 .f32)⟩,
        ⟨S1x16384x128, (σ main_v36 : FVec Ideal S1x16384x128 .f32)⟩] concatenates_S1x16384x128_S1x16384x128_S1x16384x128_S3x16384x128_d0 : FVec Ideal S3x16384x128 .f32) := by
  simp only [hostOps0, List.drop]
  after_results_simp
  rfl
theorem ops3_0 (σ : Valuation τ sig (Elt Ideal)) (i : Fin 16384) (k : Fin 128) :
    (StableHlo.after ((hostOps0.drop 32).take 12) σ main_v34 : FVec Ideal S1x16384x128 .f32) (ix3 (0 : Fin 1) i k)
      = (σ main_v21 : FVec Ideal S16384x128 .f32) (ix2 i k) := by
  simp only [hostOps0, List.drop, List.take]
  after_results_simp
  pointwise
theorem ops3_1 (σ : Valuation τ sig (Elt Ideal)) (i : Fin 16384) (k : Fin 128) :
    (StableHlo.after ((hostOps0.drop 32).take 12) σ main_v35 : FVec Ideal S1x16384x128 .f32) (ix3 (0 : Fin 1) i k)
      = (σ main_v23 : FVec Ideal S16384x128 .f32) (ix2 i k) := by
  simp only [hostOps0, List.drop, List.take]
  after_results_simp
  pointwise
theorem ops3_2 (σ : Valuation τ sig (Elt Ideal)) (i : Fin 16384) (k : Fin 128) :
    (StableHlo.after ((hostOps0.drop 32).take 12) σ main_v36 : FVec Ideal S1x16384x128 .f32) (ix3 (0 : Fin 1) i k)
      = (σ main_v24 : FVec Ideal S16384x128 .f32) (ix2 i k) := by
  simp only [hostOps0, List.drop, List.take]
  after_results_simp
  pointwise

/-- The table the body reads. -/
abbrev hT : FVec Ideal S3x16384x128 .f32 := V m c main_v37

theorem hT_eq : hT m c = StableHlo.after (hostOps0.drop 44) (StableHlo.after (hostOps0.take 44) (fun b => m (c, b))) main_v37 := rfl

theorem hT0 (i : Fin 16384) (k : Fin 128) : hT m c (ix3 (0 : Fin 3) i k) = Cert.Rope.t0 (fun j => COS (ix2 i j)) k := by
  rw [hT_eq, ops4]
  pointwise
  exact (ops3_0 (StableHlo.after (hostOps0.take 32) (fun b => m (c, b))) i k).trans (row0 _ i k)
theorem hT1 (i : Fin 16384) (k : Fin 128) : hT m c (ix3 (1 : Fin 3) i k) = Cert.Rope.t1 (fun j => SIN (ix2 i j)) k := by
  rw [hT_eq, ops4]
  pointwise
  exact (ops3_1 (StableHlo.after (hostOps0.take 32) (fun b => m (c, b))) i k).trans (row1 _ i k)
theorem hT2 (i : Fin 16384) (k : Fin 128) : hT m c (ix3 (2 : Fin 3) i k) = Cert.Rope.t2 (fun j => SIN (ix2 i j)) k := by
  rw [hT_eq, ops4]
  pointwise
  exact (ops3_2 (StableHlo.after (hostOps0.take 32) (fun b => m (c, b))) i k).trans (row2 _ i k)

/-- A head of the body: its columns, the scale, the table's rows. -/
def hd (x : FVec Ideal S256x128 .f32) (g : FVec Ideal S1x128 .f32) (u0 u1 u2 : FVec Ideal S1x256x128 .f32) : FVec Ideal S1x256x128 .bf16 :=
  k0_pay5 (k0_pay4 g x u0 u1 u2)

variable (x : FVec Ideal S256x128 .f32) (g : FVec Ideal S1x128 .f32) (u0 u1 u2 : FVec Ideal S1x256x128 .f32)

theorem nrm_sc (x g : Fin 128 → EReal) (k : Fin 128) :
    Cert.Rope.nrm x g k * Cert.Xa.sc = x k * (Cert.Xa.rs (Ideal.ofBits .f32 0x43000000#32) x * Cert.Xa.sc) * g k := by
  unfold Cert.Rope.nrm
  rw [mul_right_comm, mul_assoc (x k)]

theorem turns (y u0 u1 u2 : Fin 128 → EReal) (k : Fin 128) :
    y k * u0 k + y ⟨(k.val + 128 - 112) % 128, by omega⟩ * u1 k + y ⟨(k.val + 128 - 16) % 128, by omega⟩ * u2 k = Cert.Rope.krot y u0 u1 u2 k := rfl

theorem hd_at (r : Fin 256) (k : Fin 128) : hd x g u0 u1 u2 (ix3 (0 : Fin 1) r k)
    = Cert.Rope.krot (Cert.Rope.nrm (fun k => x (ix2 r k)) (fun k => g (ix2 (0 : Fin 1) k)))
        (fun k => u0 (ix3 (0 : Fin 1) r k)) (fun k => u1 (ix3 (0 : Fin 1) r k)) (fun k => u2 (ix3 (0 : Fin 1) r k)) k * Cert.Xa.sc := by
  rw [← Cert.Rope.krot_sc]
  simp only [nrm_sc]
  pointwise [hd, k0_pay5, k0_pay4, k0_pay2]
  exact turns (fun j => x (ix2 r j) * (Cert.Xa.rs (Ideal.ofBits .f32 0x43000000#32) (fun k => x (ix2 r k)) * Cert.Xa.sc) * g (ix2 (0 : Fin 1) j)) (fun k => u0 (ix3 (0 : Fin 1) r k)) (fun k => u1 (ix3 (0 : Fin 1) r k)) (fun k => u2 (ix3 (0 : Fin 1) r k)) k

theorem key_at (r : Fin 256) (k : Fin 128) : k0_pay25 (F := Ideal) (k0_pay3 g) x u0 u1 u2 (ix2 r k)
    = Cert.Rope.krot (Cert.Rope.nrm (fun k => x (ix2 r k)) (fun k => g (ix2 (0 : Fin 1) k)))
        (fun k => u0 (ix3 (0 : Fin 1) r k)) (fun k => u1 (ix3 (0 : Fin 1) r k)) (fun k => u2 (ix3 (0 : Fin 1) r k)) k := by
  pointwise [k0_pay25, k0_pay3]
  exact turns (Cert.Rope.nrm (fun k => x (ix2 r k)) (fun k => g (ix2 (0 : Fin 1) k))) (fun k => u0 (ix3 (0 : Fin 1) r k)) (fun k => u1 (ix3 (0 : Fin 1) r k)) (fun k => u2 (ix3 (0 : Fin 1) r k)) k

/-- The blocks' columns and the table's rows as the body reads them. -/
theorem ldp_at {e : EltTy} (o : Nat) (ho : o + 128 ≤ 1280) (inb) (X : Vec Ideal S256x1280 e) (r : Fin 256) (k : Fin 128) :
    (View.ld X (Rect.unit (s := S256x1280) ![0, o] S256x128.size inb) : Vec Ideal S256x128 e) (ix2 r k) = X (ix2 r (⟨o + k.val, by omega⟩ : Fin 1280)) :=
  View.ld_unit_apply_of X ![0, o] S256x128.size inb (ix2 r k) (ix2 r (⟨o + k.val, by omega⟩ : Fin 1280))
    fun a => by fin_cases a <;> simp [ix2]
theorem ldt_at {e : EltTy} (o : Nat) (ho : o < 3) (inb) (X : Vec Ideal S3x256x128 e) (r : Fin 256) (k : Fin 128) :
    (View.ld X (Rect.unit (s := S3x256x128) ![o, 0, 0] S1x256x128.size inb) : Vec Ideal S1x256x128 e) (ix3 (0 : Fin 1) r k) = X (ix3 (⟨o, ho⟩ : Fin 3) r k) :=
  View.ld_unit_apply_of X ![o, 0, 0] S1x256x128.size inb (ix3 (0 : Fin 1) r k) (ix3 (⟨o, ho⟩ : Fin 3) r k)
    fun a => by fin_cases a <;> simp [ix3]
theorem ldg_at {e : EltTy} (inb) (X : Vec Ideal S1x128 e) (k : Fin 128) :
    (View.ld X (Rect.unit (s := S1x128) ![0, 0] S1x128.size inb) : Vec Ideal S1x128 e) (ix2 (0 : Fin 1) k) = X (ix2 (0 : Fin 1) k) :=
  View.ld_unit_apply_of X ![0, 0] S1x128.size inb (ix2 (0 : Fin 1) k) (ix2 (0 : Fin 1) k)
    fun a => by fin_cases a <;> simp [ix2]
/-- A head's place in the output block. -/
theorem emb_at (o : Nat) (ho : o < 8) (inb) (r : Fin 256) (k : Fin 128) :
    (Rect.unit (s := S8x256x128) ![o, 0, 0] S1x256x128.size inb).emb (ix3 (0 : Fin 1) r k) = ix3 (⟨o, ho⟩ : Fin 8) r k :=
  funext fun a => Fin.ext (by fin_cases a <;> simp [ix3])

/-- Where the windows lie at each point. -/
theorem idx : ∀ t : Fin cfg0.N, win0_0.index t = ![(grid0.coords t 0).val, 0] ∧ win0_1.index t = ![0, 0] ∧ win0_2.index t = ![0, 0]
    ∧ win0_3.index t = ![0, (grid0.coords t 0).val, 0] ∧ win0_4.index t = ![0, (grid0.coords t 0).val, 0]
    ∧ win0_5.index t = ![(grid0.coords t 0).val, 0] ∧ win0_6.index t = ![(grid0.coords t 0).val, 0] :=
  (by decide +kernel : ∀ t : Fin grid0.N, _)

abbrev arg0 : FVec Ideal S16384x1280 .f32 := m ((c : Thread nD τ).loc main_arg0)
abbrev arg1 : FVec Ideal S128 .f32 := m ((c : Thread nD τ).loc main_arg1)
abbrev arg2 : FVec Ideal S128 .f32 := m ((c : Thread nD τ).loc main_arg2)

theorem row_lt (t : Fin cfg0.N) : (grid0.coords t 0).val < 64 := (grid0.coords t 0).isLt

abbrev row (t : Fin cfg0.N) (r : Fin 256) : Fin 16384 := ⟨256 * (grid0.coords t 0).val + r.val, by have := row_lt t; omega⟩

theorem ops0_a0 (σ : Valuation τ sig (Elt Ideal)) : StableHlo.after hostOps0 σ main_arg0 = σ main_arg0 := by
  simp only [hostOps0]
  after_results_simp
theorem ops0_a1 (σ : Valuation τ sig (Elt Ideal)) : StableHlo.after (hostOps0.take 45) σ main_arg1 = σ main_arg1 := by
  simp only [hostOps0, List.take]
  after_results_simp
theorem ops0_a2 (σ : Valuation τ sig (Elt Ideal)) : StableHlo.after (hostOps0.take 45) σ main_arg2 = σ main_arg2 := by
  simp only [hostOps0, List.take]
  after_results_simp
theorem ops5_1 (σ : Valuation τ sig (Elt Ideal)) (k : Fin 128) :
    (StableHlo.after (hostOps0.drop 45) σ main_v38 : FVec Ideal S1x128 .f32) (ix2 (0 : Fin 1) k) = (σ main_arg1 : FVec Ideal S128 .f32) (ix1 k) := by
  simp only [hostOps0, List.drop]
  after_results_simp
  pointwise
theorem ops5_2 (σ : Valuation τ sig (Elt Ideal)) (k : Fin 128) :
    (StableHlo.after (hostOps0.drop 45) σ main_v39 : FVec Ideal S1x128 .f32) (ix2 (0 : Fin 1) k) = (σ main_arg2 : FVec Ideal S128 .f32) (ix1 k) := by
  simp only [hostOps0, List.drop]
  after_results_simp
  pointwise

/-- The scales as rows. -/
abbrev hq : FVec Ideal S1x128 .f32 := V m c main_v38
abbrev hk : FVec Ideal S1x128 .f32 := V m c main_v39

theorem hq_at (k : Fin 128) : hq m c (ix2 (0 : Fin 1) k) = arg1 m c (ix1 k) :=
  (ops5_1 (StableHlo.after (hostOps0.take 45) (fun b => m (c, b))) k).trans (congrFun (ops0_a1 _) (ix1 k))
theorem hk_at (k : Fin 128) : hk m c (ix2 (0 : Fin 1) k) = arg2 m c (ix1 k) :=
  (ops5_2 (StableHlo.after (hostOps0.take 45) (fun b => m (c, b))) k).trans (congrFun (ops0_a2 _) (ix1 k))

abbrev hp : FVec Ideal S16384x1280 .f32 := V m c main_arg0

theorem p_blk (t : Fin cfg0.N) (r : Fin 256) (k : Fin 1280) :
    (iblk m c 0 t : FVec Ideal S256x1280 .f32) (ix2 r k) = arg0 m c (ix2 (row t r) k) := by
  refine Eq.trans (b := hp m c (ix2 (row t r) k)) ?_ (congrFun (ops0_a0 (fun b => m (c, b))) _)
  blk_ext [iblk, idx t]
theorem gq_blk (t : Fin cfg0.N) (k : Fin 128) : (iblk m c 1 t : FVec Ideal S1x128 .f32) (ix2 (0 : Fin 1) k) = arg1 m c (ix1 k) := by
  refine Eq.trans ?_ (hq_at m c k)
  blk_ext [iblk, idx t]
theorem gk_blk (t : Fin cfg0.N) (k : Fin 128) : (iblk m c 2 t : FVec Ideal S1x128 .f32) (ix2 (0 : Fin 1) k) = arg2 m c (ix1 k) := by
  refine Eq.trans ?_ (hk_at m c k)
  blk_ext [iblk, idx t]
theorem t_blk (t : Fin cfg0.N) (o : Fin 3) (r : Fin 256) (k : Fin 128) :
    (iblk m c 3 t : FVec Ideal S3x256x128 .f32) (ix3 o r k) = hT m c (ix3 o (row t r) k) := by
  blk_ext [iblk, idx t]

theorem x_row (t : Fin cfg0.N) (o : Nat) (ho : o + 128 ≤ 1280) (inb) (r : Fin 256) :
    (fun k => (View.ld (iblk m c 0 t) (Rect.unit (s := S256x1280) ![0, o] S256x128.size inb) : FVec Ideal S256x128 .f32) (ix2 r k))
      = fun k : Fin 128 => arg0 m c (ix2 (row t r) ⟨o + k.val, by omega⟩) :=
  funext fun k => (ldp_at (e := .f32) o ho inb (iblk m c 0 t) r k).trans (p_blk m c t r _)
theorem gq_row (t : Fin cfg0.N) : (fun k => (View.ld (iblk m c 1 t) r0_0 : FVec Ideal S1x128 .f32) (ix2 (0 : Fin 1) k)) = fun k => arg1 m c (ix1 k) :=
  funext fun k => (ldg_at (e := .f32) _ (iblk m c 1 t) k).trans (gq_blk m c t k)
theorem gk_row (t : Fin cfg0.N) : (fun k => (View.ld (iblk m c 2 t) r0_0 : FVec Ideal S1x128 .f32) (ix2 (0 : Fin 1) k)) = fun k => arg2 m c (ix1 k) :=
  funext fun k => (ldg_at (e := .f32) _ (iblk m c 2 t) k).trans (gk_blk m c t k)
theorem u0_row (t : Fin cfg0.N) (r : Fin 256) : (fun k => (View.ld (iblk m c 3 t) r0_2 : FVec Ideal S1x256x128 .f32) (ix3 (0 : Fin 1) r k))
    = Cert.Rope.t0 (fun j => COS (ix2 (row t r) j)) :=
  funext fun k => ((ldt_at (e := .f32) 0 (by decide) _ (iblk m c 3 t) r k).trans (t_blk m c t _ r k)).trans (hT0 m c (row t r) k)
theorem u1_row (t : Fin cfg0.N) (r : Fin 256) : (fun k => (View.ld (iblk m c 3 t) r0_3 : FVec Ideal S1x256x128 .f32) (ix3 (0 : Fin 1) r k))
    = Cert.Rope.t1 (fun j => SIN (ix2 (row t r) j)) :=
  funext fun k => ((ldt_at (e := .f32) 1 (by decide) _ (iblk m c 3 t) r k).trans (t_blk m c t _ r k)).trans (hT1 m c (row t r) k)
theorem u2_row (t : Fin cfg0.N) (r : Fin 256) : (fun k => (View.ld (iblk m c 3 t) r0_4 : FVec Ideal S1x256x128 .f32) (ix3 (0 : Fin 1) r k))
    = Cert.Rope.t2 (fun j => SIN (ix2 (row t r) j)) :=
  funext fun k => ((ldt_at (e := .f32) 2 (by decide) _ (iblk m c 3 t) r k).trans (t_blk m c t _ r k)).trans (hT2 m c (row t r) k)

open Cert.Reference22Ideal.Dsa (Rq Rk Rv)

/-- What a grid point leaves in the heads' block, as a function of the block's index. -/
def G (t : Fin cfg0.N) : FVec Ideal S8x256x128 .bf16 := fun y => Rq (arg0 m c) (arg1 m c) (ix3 (y 0) (row t (y 1)) (y 2))

theorem G_at (t : Fin cfg0.N) (h : Fin 8) (r : Fin 256) (k : Fin 128) : G m c t (ix3 h r k)
    = Cert.Rope.rot (Cert.Rope.nrm (fun k => arg0 m c (ix2 (row t r) ⟨128 * h.val + k.val, by omega⟩)) (fun k => arg1 m c (ix1 k)))
        (fun j => COS (ix2 (row t r) j)) (fun j => SIN (ix2 (row t r) j)) k * Cert.Xa.sc :=
  Cert.Reference22Ideal.Dsa.Rq_at _ _ h (row t r) k

/-- A head's piece of that block. -/
theorem piece (t : Fin cfg0.N) (o : Nat) (ho : o < 8) (inbx) (inb) (x : S1x256x128.Idx) :
    hd (View.ld (iblk m c 0 t) (Rect.unit (s := S256x1280) ![0, 128 * o] S256x128.size inbx)) (View.ld (iblk m c 1 t) r0_0)
        (View.ld (iblk m c 3 t) r0_2) (View.ld (iblk m c 3 t) r0_3) (View.ld (iblk m c 3 t) r0_4) x
      = G m c t ((Rect.unit (s := S8x256x128) ![o, 0, 0] S1x256x128.size inb).emb x) := by
  obtain ⟨r, k, rfl⟩ : ∃ (r : Fin 256) (k : Fin 128), x = ix3 (0 : Fin 1) r k :=
    ⟨x 1, x 2, funext fun a => Fin.ext (by fin_cases a <;> simp [ix3])⟩
  rw [emb_at o ho, hd_at, G_at, x_row m c t (128 * o) (by omega), gq_row, u0_row, u1_row, u2_row, Cert.Rope.krot_eq]

theorem point4 (t : Fin cfg0.N) (y : S8x256x128.Idx) :
    (out0_4 (iblk m c 0 t) (iblk m c 1 t) (iblk m c 2 t) (iblk m c 3 t) : FVec Ideal S8x256x128 .bf16) y = G m c t y := by
  refine View.canon_apply_of_pieces (Val := Elt Ideal) (G m c t) _ (fun p hp x => ?_) y (cover0_4 _ _ _ _ _ _ _ _ y)
  simp only [List.mem_cons, List.not_mem_nil, or_false] at hp
  rcases hp with rfl | rfl | rfl | rfl | rfl | rfl | rfl | rfl
  · exact piece m c t 7 (by decide) inb_S256x1280_S256x128_0_896 inb_S8x256x128_S1x256x128_7_0_0 x
  · exact piece m c t 6 (by decide) inb_S256x1280_S256x128_0_768 inb_S8x256x128_S1x256x128_6_0_0 x
  · exact piece m c t 5 (by decide) inb_S256x1280_S256x128_0_640 inb_S8x256x128_S1x256x128_5_0_0 x
  · exact piece m c t 4 (by decide) inb_S256x1280_S256x128_0_512 inb_S8x256x128_S1x256x128_4_0_0 x
  · exact piece m c t 3 (by decide) inb_S256x1280_S256x128_0_384 inb_S8x256x128_S1x256x128_3_0_0 x
  · exact piece m c t 2 (by decide) inb_S256x1280_S256x128_0_256 inb_S8x256x128_S1x256x128_2_0_0 x
  · exact piece m c t 1 (by decide) inb_S256x1280_S256x128_0_128 inb_S8x256x128_S1x256x128_1_0_0 x
  · exact piece m c t 0 (by decide) inb_S256x1280_S256x128_0_0 inb_S8x256x128_S1x256x128_0_0_0 x

theorem point5 (t : Fin cfg0.N) (r : Fin 256) (j : Fin 128) :
    (out0_5 (iblk m c 0 t) (iblk m c 1 t) (iblk m c 2 t) (iblk m c 3 t) : FVec Ideal S256x128 .bf16) (ix2 r j)
      = Rk (arg0 m c) (arg2 m c) (ix2 (row t r) j) := by
  unfold out0_5
  rw [View.canon_unit_zero (by decide)]
  refine (key_at _ _ _ _ _ _ _).trans ?_
  rw [x_row m c t 1024 (by omega), gk_row, u0_row, u1_row, u2_row, Cert.Rope.krot_eq]
  exact (Cert.Reference22Ideal.Dsa.Rk_at _ _ _ _).symm

theorem point6 (t : Fin cfg0.N) (r : Fin 256) (j : Fin 128) :
    (out0_6 (iblk m c 0 t) (iblk m c 1 t) (iblk m c 2 t) (iblk m c 3 t) : FVec Ideal S256x128 .bf16) (ix2 r j)
      = Rv (arg0 m c) (ix2 (row t r) j) := by
  unfold out0_6
  rw [View.canon_unit_zero (by decide), Cert.Reference22Ideal.Dsa.Rv_at]
  exact congrFun (x_row m c t 1152 (by omega) _ r) j

/-- The output arrays after the run are the reference's results. -/
theorem final4 : (dats m 0 c).arrAt 4 (cfgs 0).N = Rq (arg0 m c) (arg1 m c) := by
  refine (dats m 0 c).arrAt_eq_of_covers 4 _ (by decide +kernel) fun t _ y => ?_
  blk_simp
  rw [after0_4]
  idx_vars y
  refine (point4 m c t (ix3 _ _ _)).trans ?_
  refine congrArg (Rq (arg0 m c) (arg1 m c)) ?_
  dsimp only [ix3_0, ix3_1, ix3_2]
  blk_ext [idx t]

theorem final5 : (dats m 0 c).arrAt 5 (cfgs 0).N = Rk (arg0 m c) (arg2 m c) := by
  refine (dats m 0 c).arrAt_eq_of_covers 5 _ (by decide +kernel) fun t _ y => ?_
  blk_simp
  rw [after0_5]
  idx_vars y
  refine (point5 m c t _ _).trans ?_
  refine congrArg _ ?_
  blk_ext [idx t]

theorem final6 : (dats m 0 c).arrAt 6 (cfgs 0).N = Rv (arg0 m c) := by
  refine (dats m 0 c).arrAt_eq_of_covers 6 _ (by decide +kernel) fun t _ y => ?_
  blk_simp
  rw [after0_6]
  idx_vars y
  refine (point6 m c t _ _).trans ?_
  refine congrArg _ ?_
  blk_ext [idx t]

end Cert.Kernel22Ideal.Dsa

namespace Cert.Proof.PrepDsa

open Idealize.ShloMosaic Idealize.SL.Sem

theorem reference_frame : Cert.quiescent_Reference22Ideal := fun m g _ =>
  (θ_run Cert.Reference22Ideal.defs _ _).mono (fun r h => ⟨fun c => (h c).2.2.2, sem_eq_zero_of_no_sems (by decide) r.2⟩)
    (Cert.Reference22Ideal.Value.run (F := Ideal) m g)

/-- Over the extended reals kernel and reference compute the same functions. -/
theorem algebraic : Cert.algebraic_Kernel22Ideal_Reference22Ideal := by
  intro m g m' g' _ hagree
  refine ⟨fun c => Cert.Reference22Ideal.Dsa.Rq (Cert.Kernel22Ideal.Dsa.arg0 m c) (Cert.Kernel22Ideal.Dsa.arg1 m c),
    fun c => Cert.Reference22Ideal.Dsa.Rk (Cert.Kernel22Ideal.Dsa.arg0 m c) (Cert.Kernel22Ideal.Dsa.arg2 m c),
    fun c => Cert.Reference22Ideal.Dsa.Rv (Cert.Kernel22Ideal.Dsa.arg0 m c), ?_, ?_⟩
  · exact (θ_run Cert.Kernel22Ideal.defs _ _).mono
      (fun _ h c => ⟨(h c).1.trans (Cert.Kernel22Ideal.Dsa.final4 m c), (h c).2.1.trans (Cert.Kernel22Ideal.Dsa.final5 m c),
        (h c).2.2.1.trans (Cert.Kernel22Ideal.Dsa.final6 m c), (h c).2.2.2⟩) (Cert.Kernel22Ideal.Value.run_blocks (F := Ideal) m g)
  · refine (θ_run Cert.Reference22Ideal.defs _ _).mono (fun _ h c => ⟨(h c).1.trans ?_, (h c).2.1.trans ?_, (h c).2.2.1.trans ?_, (h c).2.2.2⟩)
      (Cert.Reference22Ideal.Value.run (F := Ideal) m' g')
    · unfold Cert.Reference22Ideal.Value.res_main_v97
      rw [(hagree c).1, (hagree c).2.1]
      rfl
    · unfold Cert.Reference22Ideal.Value.res_main_v99
      rw [(hagree c).1, (hagree c).2.2]
      rfl
    · rw [(hagree c).1]
      rfl

end Cert.Proof.PrepDsa

end
-- ==== Proof.PrepDil.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import proofs.«01_k».proof.Proof.PrepDsa
public import Idealize.ShloMosaic.Lib.Pointwise
public import Idealize.ShloMosaic.Lib.Pipeline.ValueKit
public import Idealize.ShloMosaic.Lib.Pipeline.Covers
public import Idealize.ShloMosaic.Lib.Claim
public import Idealize.ShloMosaic.Lib.Quiescent

@[expose] public section

noncomputable section

namespace Cert.Reference23Ideal.Dil

open Cert.Reference23Ideal Cert.Reference23Ideal.Gen Idealize.ShloMosaic Idealize.ShloMosaic.TcCoe Idealize.SL.Sem
open Cert.Reference22Ideal.Dsa (COS SIN NX NX_at RQ RQ_at)

variable (p : FVec Ideal S16384x3072 .f32) (gq gk : FVec Ideal S128 .f32)

/-- The heads' columns of the queries and of the keys. -/
def XQ : FVec Ideal S16384x8x128 .f32 :=
  shapeCast _ (extractStridedSlice S16384x1024 ![0, 0] p slices_S16384x3072_S16384x1024_0_0) shapeCasts_S16384x1024_S16384x8x128
def XK : FVec Ideal S16384x8x128 .f32 :=
  shapeCast _ (extractStridedSlice S16384x1024 ![0, 1024] p slices_S16384x3072_S16384x1024_0_1024) shapeCasts_S16384x1024_S16384x8x128

theorem XQ_at (i : Fin 16384) (h : Fin 8) (k : Fin 128) : XQ p (ix3 i h k) = p (ix2 i ⟨128 * h.val + k.val, by omega⟩) := by
  pointwise [XQ]
  exact congrArg p (congrArg (ix2 i) (Fin.ext (by dsimp only; omega)))
theorem XK_at (i : Fin 16384) (h : Fin 8) (k : Fin 128) : XK p (ix3 i h k) = p (ix2 i ⟨1024 + 128 * h.val + k.val, by omega⟩) := by
  pointwise [XK]
  exact congrArg p (congrArg (ix2 i) (Fin.ext (by dsimp only; omega)))

/-- The heads side by side. -/
def flat (y : FVec Ideal S16384x8x128 .f32) : FVec Ideal S16384x1024 .bf16 := truncf .bf16 (shapeCast _ y shapeCasts_S16384x8x128_S16384x1024) bitsLt_bf16_f32

theorem flat_at (y : FVec Ideal S16384x8x128 .f32) (i : Fin 16384) (h : Fin 8) (k : Fin 128) :
    flat y (ix2 i ⟨128 * h.val + k.val, by omega⟩) = y (ix3 i h k) := by
  pointwise [flat]

/-- The three results: the queries, the keys, the values. -/
def Rq : FVec Ideal S16384x1024 .bf16 :=
  flat (mulf (RQ (NX (XQ p) gq)) (broadcastInDim S16384x8x128 ![] bcast_S_S16384x8x128 (constant S_ .f32 0x3DB504F3#32)))
def Rk : FVec Ideal S16384x1024 .bf16 := flat (RQ (NX (XK p) gk))
def Rv : FVec Ideal S16384x1024 .bf16 := truncf .bf16 (extractStridedSlice S16384x1024 ![0, 2048] p slices_S16384x3072_S16384x1024_0_2048) bitsLt_bf16_f32

theorem Rq_at (h : Fin 8) (i : Fin 16384) (k : Fin 128) : Rq p gq (ix2 i ⟨128 * h.val + k.val, by omega⟩)
    = Cert.Rope.rot (Cert.Rope.nrm (fun k => p (ix2 i ⟨128 * h.val + k.val, by omega⟩)) (fun k => gq (ix1 k))) (fun j => COS (ix2 i j)) (fun j => SIN (ix2 i j)) k * Cert.Xa.sc := by
  refine (flat_at _ i h k).trans ?_
  pointwise
  rw [RQ_at]
  simp only [NX_at, XQ_at]
  rfl
theorem Rk_at (h : Fin 8) (i : Fin 16384) (k : Fin 128) : Rk p gk (ix2 i ⟨128 * h.val + k.val, by omega⟩)
    = Cert.Rope.rot (Cert.Rope.nrm (fun k => p (ix2 i ⟨1024 + 128 * h.val + k.val, by omega⟩)) (fun k => gk (ix1 k))) (fun j => COS (ix2 i j)) (fun j => SIN (ix2 i j)) k := by
  refine (flat_at _ i h k).trans ?_
  rw [RQ_at]
  simp only [NX_at, XK_at]
theorem Rv_at (i : Fin 16384) (k : Fin 1024) : Rv p (ix2 i k) = p (ix2 i ⟨2048 + k.val, by omega⟩) := by
  pointwise [Rv]

end Cert.Reference23Ideal.Dil

namespace Cert.Kernel23Ideal.Dil

open Cert.Kernel23Ideal Cert.Kernel23Ideal.Gen Idealize.ShloMosaic Idealize.ShloMosaic.TcCoe Idealize.SL.Sem

variable (m : (ℓ : Loc nD τ sig) → Buf (Elt Ideal) ℓ) (c : Dev nD)

open Cert.Reference22Ideal.Dsa (COS SIN)

/-- The host operations that build the table: the cosines and sines, its three rows, the rows side by side. -/
theorem ops1_cos (σ : Valuation τ sig (Elt Ideal)) : StableHlo.after (hostOps0.take 28) σ main_v16 = (COS : FVec Ideal S16384x16 .f32) := by
  simp only [hostOps0, List.take]
  after_results_simp
  rfl
theorem ops1_sin (σ : Valuation τ sig (Elt Ideal)) : StableHlo.after (hostOps0.take 30) σ main_v17 = (SIN : FVec Ideal S16384x16 .f32) := by
  simp only [hostOps0, List.take]
  after_results_simp
  rfl
theorem ops1_neg (σ : Valuation τ sig (Elt Ideal)) : StableHlo.after (hostOps0.take 30) σ main_v22 = (Host.negf SIN : FVec Ideal S16384x16 .f32) := by
  simp only [hostOps0, List.take]
  after_results_simp
  rfl
theorem ops1_one (σ : Valuation τ sig (Elt Ideal)) : StableHlo.after (hostOps0.take 28) σ main_v18 = (broadcastInDim S16384x96 ![] bcast_S_S16384x96 (constant S_ .f32 0x3F800000#32) : FVec Ideal S16384x96 .f32) := by
  simp only [hostOps0, List.take]
  after_results_simp
theorem ops1_z (σ : Valuation τ sig (Elt Ideal)) : StableHlo.after (hostOps0.take 30) σ main_v20 = (broadcastInDim S16384x16 ![] bcast_S_S16384x16 (constant S_ .f32 0x00000000#32) : FVec Ideal S16384x16 .f32) := by
  simp only [hostOps0, List.take]
  after_results_simp
theorem ops1_zz (σ : Valuation τ sig (Elt Ideal)) : StableHlo.after (hostOps0.take 30) σ main_v19 = (broadcastInDim S16384x96 ![] bcast_S_S16384x96 (constant S_ .f32 0x00000000#32) : FVec Ideal S16384x96 .f32) := by
  simp only [hostOps0, List.take]
  after_results_simp

/-- Three columns' blocks side by side. -/
def cat3 (a b : FVec Ideal S16384x16 .f32) (d : FVec Ideal S16384x96 .f32) : FVec Ideal S16384x128 .f32 :=
  concatenate S16384x128 1 [⟨S16384x16, a⟩, ⟨S16384x16, b⟩, ⟨S16384x96, d⟩] concatenates_S16384x16_S16384x16_S16384x96_S16384x128_d1

theorem ops2_0 (σ : Valuation τ sig (Elt Ideal)) : StableHlo.after ((hostOps0.drop 28).take 4) σ main_v21
    = cat3 (σ main_v16 : FVec Ideal S16384x16 .f32) (σ main_v16 : FVec Ideal S16384x16 .f32) (σ main_v18 : FVec Ideal S16384x96 .f32) := by
  simp only [hostOps0, List.take, List.drop]
  after_results_simp
  rfl
theorem ops2_1 (σ : Valuation τ sig (Elt Ideal)) : StableHlo.after ((hostOps0.drop 30).take 2) σ main_v23
    = cat3 (σ main_v22 : FVec Ideal S16384x16 .f32) (σ main_v20 : FVec Ideal S16384x16 .f32) (σ main_v19 : FVec Ideal S16384x96 .f32) := by
  simp only [hostOps0, List.take, List.drop]
  after_results_simp
  rfl
theorem ops2_2 (σ : Valuation τ sig (Elt Ideal)) : StableHlo.after ((hostOps0.drop 30).take 2) σ main_v24
    = cat3 (σ main_v20 : FVec Ideal S16384x16 .f32) (σ main_v17 : FVec Ideal S16384x16 .f32) (σ main_v19 : FVec Ideal S16384x96 .f32) := by
  simp only [hostOps0, List.take, List.drop]
  after_results_simp
  rfl

/-- The table's rows after the operations that make them. -/
theorem row0 (σ : Valuation τ sig (Elt Ideal)) (i : Fin 16384) (k : Fin 128) :
    (StableHlo.after (hostOps0.take 32) σ main_v21 : FVec Ideal S16384x128 .f32) (ix2 i k) = Cert.Rope.t0 (fun j => COS (ix2 i j)) k := by
  refine (congrFun (ops2_0 (StableHlo.after (hostOps0.take 28) σ)) (ix2 i k)).trans ?_
  rw [ops1_cos, ops1_one]
  pointwise [cat3]
  exact Cert.Rope.t0_cat (fun j => COS (ix2 i j)) k
theorem row1 (σ : Valuation τ sig (Elt Ideal)) (i : Fin 16384) (k : Fin 128) :
    (StableHlo.after (hostOps0.take 32) σ main_v23 : FVec Ideal S16384x128 .f32) (ix2 i k) = Cert.Rope.t1 (fun j => SIN (ix2 i j)) k := by
  refine (congrFun (ops2_1 (StableHlo.after (hostOps0.take 30) σ)) (ix2 i k)).trans ?_
  rw [ops1_neg, ops1_z, ops1_zz]
  pointwise [cat3]
  exact Cert.Rope.t1_cat (fun j => SIN (ix2 i j)) k
theorem row2 (σ : Valuation τ sig (Elt Ideal)) (i : Fin 16384) (k : Fin 128) :
    (StableHlo.after (hostOps0.take 32) σ main_v24 : FVec Ideal S16384x128 .f32) (ix2 i k) = Cert.Rope.t2 (fun j => SIN (ix2 i j)) k := by
  refine (congrFun (ops2_2 (StableHlo.after (hostOps0.take 30) σ)) (ix2 i k)).trans ?_
  rw [ops1_sin, ops1_z, ops1_zz]
  pointwise [cat3]
  exact Cert.Rope.t2_cat (fun j => SIN (ix2 i j)) k

theorem ops4 (σ : Valuation τ sig (Elt Ideal)) : StableHlo.after (hostOps0.drop 44) σ main_v37
    = (concatenate S3x16384x128 0 [⟨S1x16384x128, (σ main_v34 : FVec Ideal S1x16384x128 .f32)⟩, ⟨S1x16384x128, (σ main_v35 : FVec Ideal S1x16384x128 .f32)⟩,
        ⟨S1x16384x128, (σ main_v36 : FVec Ideal S1x16384x128 .f32)⟩] concatenates_S1x16384x128_S1x16384x128_S1x16384x128_S3x16384x128_d0 : FVec Ideal S3x16384x128 .f32) := by
  simp only [hostOps0, List.drop]
  after_results_simp
  rfl
theorem ops3_0 (σ : Valuation τ sig (Elt Ideal)) (i : Fin 16384) (k : Fin 128) :
    (StableHlo.after ((hostOps0.drop 32).take 12) σ main_v34 : FVec Ideal S1x16384x128 .f32) (ix3 (0 : Fin 1) i k)
      = (σ main_v21 : FVec Ideal S16384x128 .f32) (ix2 i k) := by
  simp only [hostOps0, List.drop, List.take]
  after_results_simp
  pointwise
theorem ops3_1 (σ : Valuation τ sig (Elt Ideal)) (i : Fin 16384) (k : Fin 128) :
    (StableHlo.after ((hostOps0.drop 32).take 12) σ main_v35 : FVec Ideal S1x16384x128 .f32) (ix3 (0 : Fin 1) i k)
      = (σ main_v23 : FVec Ideal S16384x128 .f32) (ix2 i k) := by
  simp only [hostOps0, List.drop, List.take]
  after_results_simp
  pointwise
theorem ops3_2 (σ : Valuation τ sig (Elt Ideal)) (i : Fin 16384) (k : Fin 128) :
    (StableHlo.after ((hostOps0.drop 32).take 12) σ main_v36 : FVec Ideal S1x16384x128 .f32) (ix3 (0 : Fin 1) i k)
      = (σ main_v24 : FVec Ideal S16384x128 .f32) (ix2 i k) := by
  simp only [hostOps0, List.drop, List.take]
  after_results_simp
  pointwise

/-- The table the body reads. -/
abbrev hT : FVec Ideal S3x16384x128 .f32 := V m c main_v37

theorem hT_eq : hT m c = StableHlo.after (hostOps0.drop 44) (StableHlo.after (hostOps0.take 44) (fun b => m (c, b))) main_v37 := rfl

theorem hT0 (i : Fin 16384) (k : Fin 128) : hT m c (ix3 (0 : Fin 3) i k) = Cert.Rope.t0 (fun j => COS (ix2 i j)) k := by
  rw [hT_eq, ops4]
  pointwise
  exact (ops3_0 (StableHlo.after (hostOps0.take 32) (fun b => m (c, b))) i k).trans (row0 _ i k)
theorem hT1 (i : Fin 16384) (k : Fin 128) : hT m c (ix3 (1 : Fin 3) i k) = Cert.Rope.t1 (fun j => SIN (ix2 i j)) k := by
  rw [hT_eq, ops4]
  pointwise
  exact (ops3_1 (StableHlo.after (hostOps0.take 32) (fun b => m (c, b))) i k).trans (row1 _ i k)
theorem hT2 (i : Fin 16384) (k : Fin 128) : hT m c (ix3 (2 : Fin 3) i k) = Cert.Rope.t2 (fun j => SIN (ix2 i j)) k := by
  rw [hT_eq, ops4]
  pointwise
  exact (ops3_2 (StableHlo.after (hostOps0.take 32) (fun b => m (c, b))) i k).trans (row2 _ i k)

/-- A head of the queries and a head of the keys: its columns, the scale, the table's rows. -/
def hd (x : FVec Ideal S256x128 .f32) (g : FVec Ideal S1x128 .f32) (u0 u1 u2 : FVec Ideal S1x256x128 .f32) : FVec Ideal S256x128 .bf16 := k0_pay5 g x u0 u1 u2
def kd (x : FVec Ideal S256x128 .f32) (g : FVec Ideal S1x128 .f32) (u0 u1 u2 : FVec Ideal S1x256x128 .f32) : FVec Ideal S256x128 .bf16 :=
  k0_pay6 (k0_pay4 g) x u0 u1 u2

variable (x : FVec Ideal S256x128 .f32) (g : FVec Ideal S1x128 .f32) (u0 u1 u2 : FVec Ideal S1x256x128 .f32)

open Cert.Kernel22Ideal.Dsa (nrm_sc turns)

theorem hd_at (r : Fin 256) (k : Fin 128) : hd x g u0 u1 u2 (ix2 r k)
    = Cert.Rope.krot (Cert.Rope.nrm (fun k => x (ix2 r k)) (fun k => g (ix2 (0 : Fin 1) k)))
        (fun k => u0 (ix3 (0 : Fin 1) r k)) (fun k => u1 (ix3 (0 : Fin 1) r k)) (fun k => u2 (ix3 (0 : Fin 1) r k)) k * Cert.Xa.sc := by
  rw [← Cert.Rope.krot_sc]
  simp only [nrm_sc]
  pointwise [hd, k0_pay5, k0_pay3]
  exact turns (fun j => x (ix2 r j) * (Cert.Xa.rs (Ideal.ofBits .f32 0x43000000#32) (fun k => x (ix2 r k)) * Cert.Xa.sc) * g (ix2 (0 : Fin 1) j)) (fun k => u0 (ix3 (0 : Fin 1) r k)) (fun k => u1 (ix3 (0 : Fin 1) r k)) (fun k => u2 (ix3 (0 : Fin 1) r k)) k

theorem kd_at (r : Fin 256) (k : Fin 128) : kd x g u0 u1 u2 (ix2 r k)
    = Cert.Rope.krot (Cert.Rope.nrm (fun k => x (ix2 r k)) (fun k => g (ix2 (0 : Fin 1) k)))
        (fun k => u0 (ix3 (0 : Fin 1) r k)) (fun k => u1 (ix3 (0 : Fin 1) r k)) (fun k => u2 (ix3 (0 : Fin 1) r k)) k := by
  pointwise [kd, k0_pay6, k0_pay4]
  exact turns (Cert.Rope.nrm (fun k => x (ix2 r k)) (fun k => g (ix2 (0 : Fin 1) k))) (fun k => u0 (ix3 (0 : Fin 1) r k)) (fun k => u1 (ix3 (0 : Fin 1) r k)) (fun k => u2 (ix3 (0 : Fin 1) r k)) k

/-- The blocks' columns and the table's rows as the body reads them. -/
theorem ldp_at {e : EltTy} (o : Nat) (ho : o + 128 ≤ 3072) (inb) (X : Vec Ideal S256x3072 e) (r : Fin 256) (k : Fin 128) :
    (View.ld X (Rect.unit (s := S256x3072) ![0, o] S256x128.size inb) : Vec Ideal S256x128 e) (ix2 r k) = X (ix2 r (⟨o + k.val, by omega⟩ : Fin 3072)) :=
  View.ld_unit_apply_of X ![0, o] S256x128.size inb (ix2 r k) (ix2 r (⟨o + k.val, by omega⟩ : Fin 3072))
    fun a => by fin_cases a <;> simp [ix2]
theorem ldt_at {e : EltTy} (o : Nat) (ho : o < 3) (inb) (X : Vec Ideal S3x256x128 e) (r : Fin 256) (k : Fin 128) :
    (View.ld X (Rect.unit (s := S3x256x128) ![o, 0, 0] S1x256x128.size inb) : Vec Ideal S1x256x128 e) (ix3 (0 : Fin 1) r k) = X (ix3 (⟨o, ho⟩ : Fin 3) r k) :=
  View.ld_unit_apply_of X ![o, 0, 0] S1x256x128.size inb (ix3 (0 : Fin 1) r k) (ix3 (⟨o, ho⟩ : Fin 3) r k)
    fun a => by fin_cases a <;> simp [ix3]
theorem ldg_at {e : EltTy} (inb) (X : Vec Ideal S1x128 e) (k : Fin 128) :
    (View.ld X (Rect.unit (s := S1x128) ![0, 0] S1x128.size inb) : Vec Ideal S1x128 e) (ix2 (0 : Fin 1) k) = X (ix2 (0 : Fin 1) k) :=
  View.ld_unit_apply_of X ![0, 0] S1x128.size inb (ix2 (0 : Fin 1) k) (ix2 (0 : Fin 1) k)
    fun a => by fin_cases a <;> simp [ix2]
theorem ldv_at {e : EltTy} (inb) (X : Vec Ideal S256x3072 e) (r : Fin 256) (k : Fin 1024) :
    (View.ld X (Rect.unit (s := S256x3072) ![0, 2048] S256x1024.size inb) : Vec Ideal S256x1024 e) (ix2 r k) = X (ix2 r (⟨2048 + k.val, by omega⟩ : Fin 3072)) :=
  View.ld_unit_apply_of X ![0, 2048] S256x1024.size inb (ix2 r k) (ix2 r (⟨2048 + k.val, by omega⟩ : Fin 3072))
    fun a => by fin_cases a <;> simp [ix2]
/-- A head's place in an output block. -/
theorem emb_at (o : Fin 8) (inb) (r : Fin 256) (k : Fin 128) :
    (Rect.unit (s := S256x1024) ![0, 128 * o.val] S256x128.size inb).emb (ix2 r k) = ix2 r (⟨128 * o.val + k.val, by omega⟩ : Fin 1024) :=
  funext fun a => Fin.ext (by fin_cases a <;> simp [ix2])

/-- Where the windows lie at each point. -/
theorem idx : ∀ t : Fin cfg0.N, win0_0.index t = ![(grid0.coords t 0).val, 0] ∧ win0_1.index t = ![0, 0] ∧ win0_2.index t = ![0, 0]
    ∧ win0_3.index t = ![0, (grid0.coords t 0).val, 0] ∧ win0_4.index t = ![(grid0.coords t 0).val, 0]
    ∧ win0_5.index t = ![(grid0.coords t 0).val, 0] ∧ win0_6.index t = ![(grid0.coords t 0).val, 0] :=
  (by decide +kernel : ∀ t : Fin grid0.N, _)

abbrev arg0 : FVec Ideal S16384x3072 .f32 := m ((c : Thread nD τ).loc main_arg0)
abbrev arg1 : FVec Ideal S128 .f32 := m ((c : Thread nD τ).loc main_arg1)
abbrev arg2 : FVec Ideal S128 .f32 := m ((c : Thread nD τ).loc main_arg2)

theorem row_lt (t : Fin cfg0.N) : (grid0.coords t 0).val < 64 := (grid0.coords t 0).isLt

abbrev row (t : Fin cfg0.N) (r : Fin 256) : Fin 16384 := ⟨256 * (grid0.coords t 0).val + r.val, by have := row_lt t; omega⟩

theorem ops0_a0 (σ : Valuation τ sig (Elt Ideal)) : StableHlo.after hostOps0 σ main_arg0 = σ main_arg0 := by
  simp only [hostOps0]
  after_results_simp
theorem ops0_a1 (σ : Valuation τ sig (Elt Ideal)) : StableHlo.after (hostOps0.take 45) σ main_arg1 = σ main_arg1 := by
  simp only [hostOps0, List.take]
  after_results_simp
theorem ops0_a2 (σ : Valuation τ sig (Elt Ideal)) : StableHlo.after (hostOps0.take 45) σ main_arg2 = σ main_arg2 := by
  simp only [hostOps0, List.take]
  after_results_simp
theorem ops5_1 (σ : Valuation τ sig (Elt Ideal)) (k : Fin 128) :
    (StableHlo.after (hostOps0.drop 45) σ main_v38 : FVec Ideal S1x128 .f32) (ix2 (0 : Fin 1) k) = (σ main_arg1 : FVec Ideal S128 .f32) (ix1 k) := by
  simp only [hostOps0, List.drop]
  after_results_simp
  pointwise
theorem ops5_2 (σ : Valuation τ sig (Elt Ideal)) (k : Fin 128) :
    (StableHlo.after (hostOps0.drop 45) σ main_v39 : FVec Ideal S1x128 .f32) (ix2 (0 : Fin 1) k) = (σ main_arg2 : FVec Ideal S128 .f32) (ix1 k) := by
  simp only [hostOps0, List.drop]
  after_results_simp
  pointwise

/-- The scales as rows. -/
abbrev hq : FVec Ideal S1x128 .f32 := V m c main_v38
abbrev hk : FVec Ideal S1x128 .f32 := V m c main_v39

theorem hq_at (k : Fin 128) : hq m c (ix2 (0 : Fin 1) k) = arg1 m c (ix1 k) :=
  (ops5_1 (StableHlo.after (hostOps0.take 45) (fun b => m (c, b))) k).trans (congrFun (ops0_a1 _) (ix1 k))
theorem hk_at (k : Fin 128) : hk m c (ix2 (0 : Fin 1) k) = arg2 m c (ix1 k) :=
  (ops5_2 (StableHlo.after (hostOps0.take 45) (fun b => m (c, b))) k).trans (congrFun (ops0_a2 _) (ix1 k))

abbrev hp : FVec Ideal S16384x3072 .f32 := V m c main_arg0

theorem p_blk (t : Fin cfg0.N) (r : Fin 256) (k : Fin 3072) :
    (iblk m c 0 t : FVec Ideal S256x3072 .f32) (ix2 r k) = arg0 m c (ix2 (row t r) k) := by
  refine Eq.trans (b := hp m c (ix2 (row t r) k)) ?_ (congrFun (ops0_a0 (fun b => m (c, b))) _)
  blk_ext [iblk, idx t]
theorem gq_blk (t : Fin cfg0.N) (k : Fin 128) : (iblk m c 1 t : FVec Ideal S1x128 .f32) (ix2 (0 : Fin 1) k) = arg1 m c (ix1 k) := by
  refine Eq.trans ?_ (hq_at m c k)
  blk_ext [iblk, idx t]
theorem gk_blk (t : Fin cfg0.N) (k : Fin 128) : (iblk m c 2 t : FVec Ideal S1x128 .f32) (ix2 (0 : Fin 1) k) = arg2 m c (ix1 k) := by
  refine Eq.trans ?_ (hk_at m c k)
  blk_ext [iblk, idx t]
theorem t_blk (t : Fin cfg0.N) (o : Fin 3) (r : Fin 256) (k : Fin 128) :
    (iblk m c 3 t : FVec Ideal S3x256x128 .f32) (ix3 o r k) = hT m c (ix3 o (row t r) k) := by
  blk_ext [iblk, idx t]

theorem x_row (t : Fin cfg0.N) (o : Nat) (ho : o + 128 ≤ 3072) (inb) (r : Fin 256) :
    (fun k => (View.ld (iblk m c 0 t) (Rect.unit (s := S256x3072) ![0, o] S256x128.size inb) : FVec Ideal S256x128 .f32) (ix2 r k))
      = fun k : Fin 128 => arg0 m c (ix2 (row t r) ⟨o + k.val, by omega⟩) :=
  funext fun k => (ldp_at (e := .f32) o ho inb (iblk m c 0 t) r k).trans (p_blk m c t r _)
theorem gq_row (t : Fin cfg0.N) : (fun k => (View.ld (iblk m c 1 t) r0_0 : FVec Ideal S1x128 .f32) (ix2 (0 : Fin 1) k)) = fun k => arg1 m c (ix1 k) :=
  funext fun k => (ldg_at (e := .f32) _ (iblk m c 1 t) k).trans (gq_blk m c t k)
theorem gk_row (t : Fin cfg0.N) : (fun k => (View.ld (iblk m c 2 t) r0_0 : FVec Ideal S1x128 .f32) (ix2 (0 : Fin 1) k)) = fun k => arg2 m c (ix1 k) :=
  funext fun k => (ldg_at (e := .f32) _ (iblk m c 2 t) k).trans (gk_blk m c t k)
theorem u0_row (t : Fin cfg0.N) (r : Fin 256) : (fun k => (View.ld (iblk m c 3 t) r0_2 : FVec Ideal S1x256x128 .f32) (ix3 (0 : Fin 1) r k))
    = Cert.Rope.t0 (fun j => COS (ix2 (row t r) j)) :=
  funext fun k => ((ldt_at (e := .f32) 0 (by decide) _ (iblk m c 3 t) r k).trans (t_blk m c t _ r k)).trans (hT0 m c (row t r) k)
theorem u1_row (t : Fin cfg0.N) (r : Fin 256) : (fun k => (View.ld (iblk m c 3 t) r0_3 : FVec Ideal S1x256x128 .f32) (ix3 (0 : Fin 1) r k))
    = Cert.Rope.t1 (fun j => SIN (ix2 (row t r) j)) :=
  funext fun k => ((ldt_at (e := .f32) 1 (by decide) _ (iblk m c 3 t) r k).trans (t_blk m c t _ r k)).trans (hT1 m c (row t r) k)
theorem u2_row (t : Fin cfg0.N) (r : Fin 256) : (fun k => (View.ld (iblk m c 3 t) r0_4 : FVec Ideal S1x256x128 .f32) (ix3 (0 : Fin 1) r k))
    = Cert.Rope.t2 (fun j => SIN (ix2 (row t r) j)) :=
  funext fun k => ((ldt_at (e := .f32) 2 (by decide) _ (iblk m c 3 t) r k).trans (t_blk m c t _ r k)).trans (hT2 m c (row t r) k)

open Cert.Reference23Ideal.Dil (Rq Rk Rv)

/-- What a grid point leaves in the queries' and in the keys' block. -/
def Gq (t : Fin cfg0.N) : FVec Ideal S256x1024 .bf16 := fun y => Rq (arg0 m c) (arg1 m c) (ix2 (row t (y 0)) (y 1))
def Gk (t : Fin cfg0.N) : FVec Ideal S256x1024 .bf16 := fun y => Rk (arg0 m c) (arg2 m c) (ix2 (row t (y 0)) (y 1))

theorem Gq_at (t : Fin cfg0.N) (h : Fin 8) (r : Fin 256) (k : Fin 128) : Gq m c t (ix2 r (⟨128 * h.val + k.val, by omega⟩ : Fin 1024))
    = Cert.Rope.rot (Cert.Rope.nrm (fun k => arg0 m c (ix2 (row t r) ⟨128 * h.val + k.val, by omega⟩)) (fun k => arg1 m c (ix1 k)))
        (fun j => COS (ix2 (row t r) j)) (fun j => SIN (ix2 (row t r) j)) k * Cert.Xa.sc :=
  Cert.Reference23Ideal.Dil.Rq_at _ _ h (row t r) k
theorem Gk_at (t : Fin cfg0.N) (h : Fin 8) (r : Fin 256) (k : Fin 128) : Gk m c t (ix2 r (⟨128 * h.val + k.val, by omega⟩ : Fin 1024))
    = Cert.Rope.rot (Cert.Rope.nrm (fun k => arg0 m c (ix2 (row t r) ⟨1024 + 128 * h.val + k.val, by omega⟩)) (fun k => arg2 m c (ix1 k)))
        (fun j => COS (ix2 (row t r) j)) (fun j => SIN (ix2 (row t r) j)) k :=
  Cert.Reference23Ideal.Dil.Rk_at _ _ h (row t r) k

/-- A head's piece of each block. -/
theorem piece_q (t : Fin cfg0.N) (o : Fin 8) (inbx) (inb) (x : S256x128.Idx) :
    hd (View.ld (iblk m c 0 t) (Rect.unit (s := S256x3072) ![0, 128 * o.val] S256x128.size inbx)) (View.ld (iblk m c 1 t) r0_0)
        (View.ld (iblk m c 3 t) r0_2) (View.ld (iblk m c 3 t) r0_3) (View.ld (iblk m c 3 t) r0_4) x
      = Gq m c t ((Rect.unit (s := S256x1024) ![0, 128 * o.val] S256x128.size inb).emb x) := by
  obtain ⟨r, k, rfl⟩ : ∃ (r : Fin 256) (k : Fin 128), x = ix2 r k := ⟨x 0, x 1, eq_ix2 x⟩
  rw [emb_at o, hd_at, Gq_at, x_row m c t (128 * o.val) (by omega), gq_row, u0_row, u1_row, u2_row, Cert.Rope.krot_eq]
theorem piece_k (t : Fin cfg0.N) (o : Fin 8) (inbx) (inb) (x : S256x128.Idx) :
    kd (View.ld (iblk m c 0 t) (Rect.unit (s := S256x3072) ![0, 1024 + 128 * o.val] S256x128.size inbx)) (View.ld (iblk m c 2 t) r0_0)
        (View.ld (iblk m c 3 t) r0_2) (View.ld (iblk m c 3 t) r0_3) (View.ld (iblk m c 3 t) r0_4) x
      = Gk m c t ((Rect.unit (s := S256x1024) ![0, 128 * o.val] S256x128.size inb).emb x) := by
  obtain ⟨r, k, rfl⟩ : ∃ (r : Fin 256) (k : Fin 128), x = ix2 r k := ⟨x 0, x 1, eq_ix2 x⟩
  rw [emb_at o, kd_at, Gk_at, x_row m c t (1024 + 128 * o.val) (by omega), gk_row, u0_row, u1_row, u2_row, Cert.Rope.krot_eq]

theorem point4 (t : Fin cfg0.N) (y : S256x1024.Idx) :
    (out0_4 (iblk m c 0 t) (iblk m c 1 t) (iblk m c 2 t) (iblk m c 3 t) : FVec Ideal S256x1024 .bf16) y = Gq m c t y := by
  refine View.canon_apply_of_pieces (Val := Elt Ideal) (Gq m c t) _ (fun p hp x => ?_) y (cover0_4 _ _ _ _ _ _ _ _ y)
  simp only [List.mem_cons, List.not_mem_nil, or_false] at hp
  rcases hp with rfl | rfl | rfl | rfl | rfl | rfl | rfl | rfl
  · exact piece_q m c t 7 inb_S256x3072_S256x128_0_896 inb_S256x1024_S256x128_0_896 x
  · exact piece_q m c t 6 inb_S256x3072_S256x128_0_768 inb_S256x1024_S256x128_0_768 x
  · exact piece_q m c t 5 inb_S256x3072_S256x128_0_640 inb_S256x1024_S256x128_0_640 x
  · exact piece_q m c t 4 inb_S256x3072_S256x128_0_512 inb_S256x1024_S256x128_0_512 x
  · exact piece_q m c t 3 inb_S256x3072_S256x128_0_384 inb_S256x1024_S256x128_0_384 x
  · exact piece_q m c t 2 inb_S256x3072_S256x128_0_256 inb_S256x1024_S256x128_0_256 x
  · exact piece_q m c t 1 inb_S256x3072_S256x128_0_128 inb_S256x1024_S256x128_0_128 x
  · exact piece_q m c t 0 inb_S256x3072_S256x128_0_0 inb_S256x1024_S256x128_0_0 x

theorem point5 (t : Fin cfg0.N) (y : S256x1024.Idx) :
    (out0_5 (iblk m c 0 t) (iblk m c 1 t) (iblk m c 2 t) (iblk m c 3 t) : FVec Ideal S256x1024 .bf16) y = Gk m c t y := by
  refine View.canon_apply_of_pieces (Val := Elt Ideal) (Gk m c t) _ (fun p hp x => ?_) y (cover0_5 _ _ _ _ _ _ _ _ y)
  simp only [List.mem_cons, List.not_mem_nil, or_false] at hp
  rcases hp with rfl | rfl | rfl | rfl | rfl | rfl | rfl | rfl
  · exact piece_k m c t 7 inb_S256x3072_S256x128_0_1920 inb_S256x1024_S256x128_0_896 x
  · exact piece_k m c t 6 inb_S256x3072_S256x128_0_1792 inb_S256x1024_S256x128_0_768 x
  · exact piece_k m c t 5 inb_S256x3072_S256x128_0_1664 inb_S256x1024_S256x128_0_640 x
  · exact piece_k m c t 4 inb_S256x3072_S256x128_0_1536 inb_S256x1024_S256x128_0_512 x
  · exact piece_k m c t 3 inb_S256x3072_S256x128_0_1408 inb_S256x1024_S256x128_0_384 x
  · exact piece_k m c t 2 inb_S256x3072_S256x128_0_1280 inb_S256x1024_S256x128_0_256 x
  · exact piece_k m c t 1 inb_S256x3072_S256x128_0_1152 inb_S256x1024_S256x128_0_128 x
  · exact piece_k m c t 0 inb_S256x3072_S256x128_0_1024 inb_S256x1024_S256x128_0_0 x

theorem point6 (t : Fin cfg0.N) (r : Fin 256) (j : Fin 1024) :
    (out0_6 (iblk m c 0 t) (iblk m c 1 t) (iblk m c 2 t) (iblk m c 3 t) : FVec Ideal S256x1024 .bf16) (ix2 r j)
      = Rv (arg0 m c) (ix2 (row t r) j) := by
  unfold out0_6
  rw [View.canon_unit_zero (by decide), Cert.Reference23Ideal.Dil.Rv_at]
  exact (ldv_at (e := .f32) _ (iblk m c 0 t) r j).trans (p_blk m c t r _)

/-- The output arrays after the run are the reference's results. -/
theorem final4 : (dats m 0 c).arrAt 4 (cfgs 0).N = Rq (arg0 m c) (arg1 m c) := by
  refine (dats m 0 c).arrAt_eq_of_covers 4 _ (by decide +kernel) fun t _ y => ?_
  blk_simp
  rw [after0_4]
  idx_vars y
  refine (point4 m c t (ix2 _ _)).trans ?_
  refine congrArg (Rq (arg0 m c) (arg1 m c)) ?_
  dsimp only [ix2_0, ix2_1]
  blk_ext [idx t]

theorem final5 : (dats m 0 c).arrAt 5 (cfgs 0).N = Rk (arg0 m c) (arg2 m c) := by
  refine (dats m 0 c).arrAt_eq_of_covers 5 _ (by decide +kernel) fun t _ y => ?_
  blk_simp
  rw [after0_5]
  idx_vars y
  refine (point5 m c t (ix2 _ _)).trans ?_
  refine congrArg (Rk (arg0 m c) (arg2 m c)) ?_
  dsimp only [ix2_0, ix2_1]
  blk_ext [idx t]

theorem final6 : (dats m 0 c).arrAt 6 (cfgs 0).N = Rv (arg0 m c) := by
  refine (dats m 0 c).arrAt_eq_of_covers 6 _ (by decide +kernel) fun t _ y => ?_
  blk_simp
  rw [after0_6]
  idx_vars y
  refine (point6 m c t _ _).trans ?_
  refine congrArg _ ?_
  blk_ext [idx t]

end Cert.Kernel23Ideal.Dil

namespace Cert.Proof.PrepDil

open Idealize.ShloMosaic Idealize.SL.Sem

theorem reference_frame : Cert.quiescent_Reference23Ideal := fun m g _ =>
  (θ_run Cert.Reference23Ideal.defs _ _).mono (fun r h => ⟨fun c => (h c).2.2.2, sem_eq_zero_of_no_sems (by decide) r.2⟩)
    (Cert.Reference23Ideal.Value.run (F := Ideal) m g)

/-- Over the extended reals kernel and reference compute the same functions. -/
theorem algebraic : Cert.algebraic_Kernel23Ideal_Reference23Ideal := by
  intro m g m' g' _ hagree
  refine ⟨fun c => Cert.Reference23Ideal.Dil.Rq (Cert.Kernel23Ideal.Dil.arg0 m c) (Cert.Kernel23Ideal.Dil.arg1 m c),
    fun c => Cert.Reference23Ideal.Dil.Rk (Cert.Kernel23Ideal.Dil.arg0 m c) (Cert.Kernel23Ideal.Dil.arg2 m c),
    fun c => Cert.Reference23Ideal.Dil.Rv (Cert.Kernel23Ideal.Dil.arg0 m c), ?_, ?_⟩
  · exact (θ_run Cert.Kernel23Ideal.defs _ _).mono
      (fun _ h c => ⟨(h c).1.trans (Cert.Kernel23Ideal.Dil.final4 m c), (h c).2.1.trans (Cert.Kernel23Ideal.Dil.final5 m c),
        (h c).2.2.1.trans (Cert.Kernel23Ideal.Dil.final6 m c), (h c).2.2.2⟩) (Cert.Kernel23Ideal.Value.run_blocks (F := Ideal) m g)
  · refine (θ_run Cert.Reference23Ideal.defs _ _).mono (fun _ h c => ⟨(h c).1.trans ?_, (h c).2.1.trans ?_, (h c).2.2.1.trans ?_, (h c).2.2.2⟩)
      (Cert.Reference23Ideal.Value.run (F := Ideal) m' g')
    · unfold Cert.Reference23Ideal.Value.res_main_v101
      rw [(hagree c).1, (hagree c).2.1]
      rfl
    · unfold Cert.Reference23Ideal.Value.res_main_v103
      rw [(hagree c).1, (hagree c).2.2]
      rfl
    · rw [(hagree c).1]
      rfl

end Cert.Proof.PrepDil

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.SbClaim
public import proofs.«01_k».proof.Proof.Glu
public import proofs.«01_k».proof.Proof.GluGated
public import proofs.«01_k».proof.Proof.Down
public import proofs.«01_k».proof.Proof.Merge
public import proofs.«01_k».proof.Proof.Out
public import proofs.«01_k».proof.Proof.ProjLat
public import proofs.«01_k».proof.Proof.ProjSb
public import proofs.«01_k».proof.Proof.ProjDil
public import proofs.«01_k».proof.Proof.ProjDsa
public import proofs.«01_k».proof.Proof.MlaClaim
public import proofs.«01_k».proof.Proof.XaClaim
public import proofs.«01_k».proof.Proof.Norm
public import proofs.«01_k».proof.Proof.ProjIdx
public import proofs.«01_k».proof.Proof.ProjGate
public import proofs.«01_k».proof.Proof.UpQ
public import proofs.«01_k».proof.Proof.UpKv
public import proofs.«01_k».proof.Proof.PrepLatent
public import proofs.«01_k».proof.Proof.MemK
public import proofs.«01_k».proof.Proof.MemV
public import proofs.«01_k».proof.Proof.MemNorm
public import proofs.«01_k».proof.Proof.PrepDsa
public import proofs.«01_k».proof.Proof.PrepDil
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite_scores.Gen.facts, by
    exact ⟨fun m ρ _ => Cert.Kernel.Gen.frame m ρ, fun m ρ _ => Cert.KernelIdeal.Gen.frame m ρ, Cert.Proof.SbClaim.reference_frame,
      fun m ρ _ => Cert.Kernel2.Gen.frame m ρ, fun m ρ _ => Cert.Kernel2Ideal.Gen.frame m ρ, Cert.Proof.Glu.reference_frame,
      fun m ρ _ => Cert.Kernel3.Gen.frame m ρ, fun m ρ _ => Cert.Kernel3Ideal.Gen.frame m ρ, Cert.Proof.GluGated.reference_frame,
      fun m ρ _ => Cert.Kernel4.Gen.frame m ρ, fun m ρ _ => Cert.Kernel4Ideal.Gen.frame m ρ, Cert.Proof.Down.reference_frame,
      fun m ρ _ => Cert.Kernel5.Gen.frame m ρ, fun m ρ _ => Cert.Kernel5Ideal.Gen.frame m ρ, Cert.Proof.Merge.reference_frame,
      fun m ρ _ => Cert.Kernel6.Gen.frame m ρ, fun m ρ _ => Cert.Kernel6Ideal.Gen.frame m ρ, Cert.Proof.Out.reference_frame,
      fun m ρ _ => Cert.Kernel7.Gen.frame m ρ, fun m ρ _ => Cert.Kernel7Ideal.Gen.frame m ρ, Cert.Proof.ProjLat.reference_frame,
      fun m ρ _ => Cert.Kernel8.Gen.frame m ρ, fun m ρ _ => Cert.Kernel8Ideal.Gen.frame m ρ, Cert.Proof.ProjSb.reference_frame,
      fun m ρ _ => Cert.Kernel9.Gen.frame m ρ, fun m ρ _ => Cert.Kernel9Ideal.Gen.frame m ρ, Cert.Proof.ProjDil.reference_frame,
      fun m ρ _ => Cert.Kernel10.Gen.frame m ρ, fun m ρ _ => Cert.Kernel10Ideal.Gen.frame m ρ, Cert.Proof.ProjDsa.reference_frame,
      fun m ρ _ => Cert.Kernel11.Gen.frame m ρ, fun m ρ _ => Cert.Kernel11Ideal.Gen.frame m ρ, fun m ρ _ => Cert.Kernel11Ideal.Gen.frame m ρ,
      Cert.Proof.MlaClaim.reference_frame, fun m g _ => Cert.Proof.MlaClaim.reference_frame m g trivial,
      fun m ρ _ => Cert.Kernel12.Gen.frame m ρ, fun m ρ _ => Cert.Kernel12Ideal.Gen.frame m ρ, Cert.Proof.XaClaim.reference_frame,
      fun m ρ _ => Cert.Kernel13.Gen.frame m ρ, fun m ρ _ => Cert.Kernel13Ideal.Gen.frame m ρ, Cert.Proof.Norm.reference_frame,
      fun m ρ _ => Cert.Kernel14.Gen.frame m ρ, fun m ρ _ => Cert.Kernel14Ideal.Gen.frame m ρ, Cert.Proof.ProjIdx.reference_frame,
      fun m ρ _ => Cert.Kernel15.Gen.frame m ρ, fun m ρ _ => Cert.Kernel15Ideal.Gen.frame m ρ, Cert.Proof.ProjGate.reference_frame,
      fun m ρ _ => Cert.Kernel16.Gen.frame m ρ, fun m ρ _ => Cert.Kernel16Ideal.Gen.frame m ρ, Cert.Proof.UpQ.reference_frame,
      fun m ρ _ => Cert.Kernel17.Gen.frame m ρ, fun m ρ _ => Cert.Kernel17Ideal.Gen.frame m ρ, Cert.Proof.UpKv.reference_frame,
      fun m ρ _ => Cert.Kernel18.Gen.frame m ρ, fun m ρ _ => Cert.Kernel18Ideal.Gen.frame m ρ, Cert.Proof.PrepLatent.reference_frame,
      fun m ρ _ => Cert.Kernel19.Gen.frame m ρ, fun m ρ _ => Cert.Kernel19Ideal.Gen.frame m ρ, Cert.Proof.MemK.reference_frame,
      fun m ρ _ => Cert.Kernel20.Gen.frame m ρ, fun m ρ _ => Cert.Kernel20Ideal.Gen.frame m ρ, Cert.Proof.MemV.reference_frame,
      fun m ρ _ => Cert.Kernel21.Gen.frame m ρ, fun m ρ _ => Cert.Kernel21Ideal.Gen.frame m ρ, Cert.Proof.MemNorm.reference_frame,
      fun m ρ _ => Cert.Kernel22.Gen.frame m ρ, fun m ρ _ => Cert.Kernel22Ideal.Gen.frame m ρ, Cert.Proof.PrepDsa.reference_frame,
      fun m ρ _ => Cert.Kernel23.Gen.frame m ρ, fun m ρ _ => Cert.Kernel23Ideal.Gen.frame m ρ, Cert.Proof.PrepDil.reference_frame,
      trivial, Cert.Proof.SbClaim.algebraic,
      trivial, Cert.Proof.Glu.algebraic,
      trivial, Cert.Proof.GluGated.algebraic,
      trivial, Cert.Proof.Down.algebraic,
      trivial, Cert.Proof.Merge.algebraic,
      trivial, Cert.Proof.Out.algebraic,
      trivial, Cert.Proof.ProjLat.algebraic,
      trivial, Cert.Proof.ProjSb.algebraic,
      trivial, Cert.Proof.ProjDil.algebraic,
      trivial, Cert.Proof.ProjDsa.algebraic,
      IdealRules.named_const.statement Cert.Kernel11Ideal.κ "mask" .f32 0xF149F2CA#32 ⊥ rfl, Cert.Proof.MlaClaim.algebraic,
      trivial, Cert.Proof.XaClaim.algebraic,
      trivial, Cert.Proof.Norm.algebraic,
      trivial, Cert.Proof.ProjIdx.algebraic,
      trivial, Cert.Proof.ProjGate.algebraic,
      trivial, Cert.Proof.UpQ.algebraic,
      trivial, Cert.Proof.UpKv.algebraic,
      trivial, Cert.Proof.PrepLatent.algebraic,
      trivial, Cert.Proof.MemK.algebraic,
      trivial, Cert.Proof.MemV.algebraic,
      trivial, Cert.Proof.MemNorm.algebraic,
      trivial, Cert.Proof.PrepDsa.algebraic,
      trivial, Cert.Proof.PrepDil.algebraic⟩⟩

end Cert.Proof

end
